-- ==== Defs.lean ====
def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_AttnRef1Ideal (m : (ℓ : Loc Cert.AttnRef1Ideal.nD Cert.AttnRef1Ideal.τ Cert.AttnRef1Ideal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_QkvRef1Ideal (m : (ℓ : Loc Cert.QkvRef1Ideal.nD Cert.QkvRef1Ideal.τ Cert.QkvRef1Ideal.sig) → Buf (Elt Ideal) ℓ) : Prop :=
  True

def Pre_Qkv4 (m : (ℓ : Loc Cert.Qkv4.nD Cert.Qkv4.τ Cert.Qkv4.sig) → Buf (Elt Bits) ℓ) : Prop :=
  True

def Pre_Qkv4Ideal (m : (ℓ : Loc Cert.Qkv4Ideal.nD Cert.Qkv4Ideal.τ Cert.Qkv4Ideal.sig) → Buf (Elt Ideal) ℓ) : Prop :=
  True

def Pre_QkvRef4Ideal (m : (ℓ : Loc Cert.QkvRef4Ideal.nD Cert.QkvRef4Ideal.τ Cert.QkvRef4Ideal.sig) → Buf (Elt Ideal) ℓ) : Prop :=
  True

def Pre_Qkv16 (m : (ℓ : Loc Cert.Qkv16.nD Cert.Qkv16.τ Cert.Qkv16.sig) → Buf (Elt Bits) ℓ) : Prop :=
  True

def Pre_Qkv16Ideal (m : (ℓ : Loc Cert.Qkv16Ideal.nD Cert.Qkv16Ideal.τ Cert.Qkv16Ideal.sig) → Buf (Elt Ideal) ℓ) : Prop :=
  True

def Pre_QkvRef16Ideal (m : (ℓ : Loc Cert.QkvRef16Ideal.nD Cert.QkvRef16Ideal.τ Cert.QkvRef16Ideal.sig) → Buf (Elt Ideal) ℓ) : Prop :=
  True

def Pre_Attn4 (m : (ℓ : Loc Cert.Attn4.nD Cert.Attn4.τ Cert.Attn4.sig) → Buf (Elt Bits) ℓ) : Prop :=
  True

def Pre_Attn4Ideal (m : (ℓ : Loc Cert.Attn4Ideal.nD Cert.Attn4Ideal.τ Cert.Attn4Ideal.sig) → Buf (Elt Ideal) ℓ) : Prop :=
  True

def Pre_AttnRef4Ideal (m : (ℓ : Loc Cert.AttnRef4Ideal.nD Cert.AttnRef4Ideal.τ Cert.AttnRef4Ideal.sig) → Buf (Elt Ideal) ℓ) : Prop :=
  True

def Pre_Attn16 (m : (ℓ : Loc Cert.Attn16.nD Cert.Attn16.τ Cert.Attn16.sig) → Buf (Elt Bits) ℓ) : Prop :=
  True

def Pre_Attn16Ideal (m : (ℓ : Loc Cert.Attn16Ideal.nD Cert.Attn16Ideal.τ Cert.Attn16Ideal.sig) → Buf (Elt Ideal) ℓ) : Prop :=
  True

def Pre_AttnRef16Ideal (m : (ℓ : Loc Cert.AttnRef16Ideal.nD Cert.AttnRef16Ideal.τ Cert.AttnRef16Ideal.sig) → Buf (Elt Ideal) ℓ) : Prop :=
  True

def Pre_Fnet (m : (ℓ : Loc Cert.Fnet.nD Cert.Fnet.τ Cert.Fnet.sig) → Buf (Elt Bits) ℓ) : Prop :=
  True

def Pre_FnetIdeal (m : (ℓ : Loc Cert.FnetIdeal.nD Cert.FnetIdeal.τ Cert.FnetIdeal.sig) → Buf (Elt Ideal) ℓ) : Prop :=
  True

def Pre_FnetRefIdeal (m : (ℓ : Loc Cert.FnetRefIdeal.nD Cert.FnetRefIdeal.τ Cert.FnetRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_lse_finite [hPre_lse_finite : Cert.Pre_lse_finite.Facts] (m : (ℓ : Loc Cert.MergeIdeal.nD Cert.MergeIdeal.τ Cert.MergeIdeal.sig) → Buf (Elt Ideal) ℓ) : Prop :=
  ∀ c : Dev Cert.MergeIdeal.nD,
    (Cert.Pre_lse_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_lse_finite [hPre_lse_finite : Cert.Pre_lse_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_lse_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14))) = (fun _ => 1#1)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ r.2.sem = fun _ => 0)

def quiescent_AttnRef1Ideal [hAttnRef1Ideal : Cert.AttnRef1Ideal.Facts] : Prop :=
  ∀ (m : (ℓ : Loc Cert.AttnRef1Ideal.nD Cert.AttnRef1Ideal.τ Cert.AttnRef1Ideal.sig) → Buf (Elt Ideal) ℓ) (g : Dev Cert.AttnRef1Ideal.nD → PrngReg), Pre_AttnRef1Ideal m →
    θ_run (Cert.AttnRef1Ideal.defs (F := Ideal)) (onTc (τ := Cert.AttnRef1Ideal.τ) (Cert.AttnRef1Ideal.main (F := Ideal))) ⟨m, fun _ => 0, g⟩ (fun r => (∀ c : Dev Cert.AttnRef1Ideal.nD,
      r.2.mem ((c.tc : Thread Cert.AttnRef1Ideal.nD Cert.AttnRef1Ideal.τ).loc Cert.AttnRef1Ideal.main_arg0) = m ((c.tc : Thread Cert.AttnRef1Ideal.nD Cert.AttnRef1Ideal.τ).loc Cert.AttnRef1Ideal.main_arg0))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1)
      ∧ r.2.mem ((c.tc : Thread Cert.Qkv1.nD Cert.Qkv1.τ).loc Cert.Qkv1.main_arg2) = m ((c.tc : Thread Cert.Qkv1.nD Cert.Qkv1.τ).loc Cert.Qkv1.main_arg2)
      ∧ r.2.mem ((c.tc : Thread Cert.Qkv1.nD Cert.Qkv1.τ).loc Cert.Qkv1.main_arg3) = m ((c.tc : Thread Cert.Qkv1.nD Cert.Qkv1.τ).loc Cert.Qkv1.main_arg3)
      ∧ r.2.mem ((c.tc : Thread Cert.Qkv1.nD Cert.Qkv1.τ).loc Cert.Qkv1.main_arg4) = m ((c.tc : Thread Cert.Qkv1.nD Cert.Qkv1.τ).loc Cert.Qkv1.main_arg4))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
      ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
      ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
      ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4))
      ∧ r.2.sem = fun _ => 0)

def quiescent_QkvRef1Ideal [hQkvRef1Ideal : Cert.QkvRef1Ideal.Facts] : Prop :=
  ∀ (m : (ℓ : Loc Cert.QkvRef1Ideal.nD Cert.QkvRef1Ideal.τ Cert.QkvRef1Ideal.sig) → Buf (Elt Ideal) ℓ) (g : Dev Cert.QkvRef1Ideal.nD → PrngReg), Pre_QkvRef1Ideal m →
    θ_run (Cert.QkvRef1Ideal.defs (F := Ideal)) (onTc (τ := Cert.QkvRef1Ideal.τ) (Cert.QkvRef1Ideal.main (F := Ideal))) ⟨m, fun _ => 0, g⟩ (fun r => (∀ c : Dev Cert.QkvRef1Ideal.nD,
      r.2.mem ((c.tc : Thread Cert.QkvRef1Ideal.nD Cert.QkvRef1Ideal.τ).loc Cert.QkvRef1Ideal.main_arg0) = m ((c.tc : Thread Cert.QkvRef1Ideal.nD Cert.QkvRef1Ideal.τ).loc Cert.QkvRef1Ideal.main_arg0)
      ∧ r.2.mem ((c.tc : Thread Cert.QkvRef1Ideal.nD Cert.QkvRef1Ideal.τ).loc Cert.QkvRef1Ideal.main_arg1) = m ((c.tc : Thread Cert.QkvRef1Ideal.nD Cert.QkvRef1Ideal.τ).loc Cert.QkvRef1Ideal.main_arg1)
      ∧ r.2.mem ((c.tc : Thread Cert.QkvRef1Ideal.nD Cert.QkvRef1Ideal.τ).loc Cert.QkvRef1Ideal.main_arg2) = m ((c.tc : Thread Cert.QkvRef1Ideal.nD Cert.QkvRef1Ideal.τ).loc Cert.QkvRef1Ideal.main_arg2)
      ∧ r.2.mem ((c.tc : Thread Cert.QkvRef1Ideal.nD Cert.QkvRef1Ideal.τ).loc Cert.QkvRef1Ideal.main_arg3) = m ((c.tc : Thread Cert.QkvRef1Ideal.nD Cert.QkvRef1Ideal.τ).loc Cert.QkvRef1Ideal.main_arg3)
      ∧ r.2.mem ((c.tc : Thread Cert.QkvRef1Ideal.nD Cert.QkvRef1Ideal.τ).loc Cert.QkvRef1Ideal.main_arg4) = m ((c.tc : Thread Cert.QkvRef1Ideal.nD Cert.QkvRef1Ideal.τ).loc Cert.QkvRef1Ideal.main_arg4))
      ∧ r.2.sem = fun _ => 0)

def quiescent_Qkv4 [hQkv4 : Cert.Qkv4.Facts] : Prop :=
  ∀ (m : (ℓ : Loc Cert.Qkv4.nD Cert.Qkv4.τ Cert.Qkv4.sig) → Buf (Elt Bits) ℓ) (g : Dev Cert.Qkv4.nD → PrngReg), Pre_Qkv4 m →
    θ_run (Cert.Qkv4.defs (F := Bits)) (onTc (τ := Cert.Qkv4.τ) (Cert.Qkv4.main (F := Bits))) ⟨m, fun _ => 0, g⟩ (fun r => (∀ c : Dev Cert.Qkv4.nD,
      r.2.mem ((c.tc : Thread Cert.Qkv4.nD Cert.Qkv4.τ).loc Cert.Qkv4.main_arg0) = m ((c.tc : Thread Cert.Qkv4.nD Cert.Qkv4.τ).loc Cert.Qkv4.main_arg0)
      ∧ r.2.mem ((c.tc : Thread Cert.Qkv4.nD Cert.Qkv4.τ).loc Cert.Qkv4.main_arg1) = m ((c.tc : Thread Cert.Qkv4.nD Cert.Qkv4.τ).loc Cert.Qkv4.main_arg1)
      ∧ r.2.mem ((c.tc : Thread Cert.Qkv4.nD Cert.Qkv4.τ).loc Cert.Qkv4.main_arg2) = m ((c.tc : Thread Cert.Qkv4.nD Cert.Qkv4.τ).loc Cert.Qkv4.main_arg2)
      ∧ r.2.mem ((c.tc : Thread Cert.Qkv4.nD Cert.Qkv4.τ).loc Cert.Qkv4.main_arg3) = m ((c.tc : Thread Cert.Qkv4.nD Cert.Qkv4.τ).loc Cert.Qkv4.main_arg3)
      ∧ r.2.mem ((c.tc : Thread Cert.Qkv4.nD Cert.Qkv4.τ).loc Cert.Qkv4.main_arg4) = m ((c.tc : Thread Cert.Qkv4.nD Cert.Qkv4.τ).loc Cert.Qkv4.main_arg4))
      ∧ r.2.sem = fun _ => 0)

def quiescent_Qkv4Ideal [hQkv4Ideal : Cert.Qkv4Ideal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg), Pre_Qkv4Ideal m →
    θ_run (Cert.Qkv4Ideal.defs (F := Ideal)) (onTc (τ := Cert.Qkv4Ideal.τ) (Cert.Qkv4Ideal.main (F := Ideal))) ⟨m, fun _ => 0, g⟩ (fun r => (∀ c : Dev Cert.Qkv4Ideal.nD,
      r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
      ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1)
      ∧ r.2.mem ((c.tc : Thread Cert.Qkv4Ideal.nD Cert.Qkv4Ideal.τ).loc Cert.Qkv4Ideal.main_arg2) = m ((c.tc : Thread Cert.Qkv4Ideal.nD Cert.Qkv4Ideal.τ).loc Cert.Qkv4Ideal.main_arg2)
      ∧ r.2.mem ((c.tc : Thread Cert.Qkv4Ideal.nD Cert.Qkv4Ideal.τ).loc Cert.Qkv4Ideal.main_arg3) = m ((c.tc : Thread Cert.Qkv4Ideal.nD Cert.Qkv4Ideal.τ).loc Cert.Qkv4Ideal.main_arg3)
      ∧ r.2.mem ((c.tc : Thread Cert.Qkv4Ideal.nD Cert.Qkv4Ideal.τ).loc Cert.Qkv4Ideal.main_arg4) = m ((c.tc : Thread Cert.Qkv4Ideal.nD Cert.Qkv4Ideal.τ).loc Cert.Qkv4Ideal.main_arg4))
      ∧ r.2.sem = fun _ => 0)

def quiescent_QkvRef4Ideal [hQkvRef4Ideal : Cert.QkvRef4Ideal.Facts] : Prop :=
  ∀ (m : (ℓ : Loc Cert.QkvRef4Ideal.nD Cert.QkvRef4Ideal.τ Cert.QkvRef4Ideal.sig) → Buf (Elt Ideal) ℓ) (g : Dev Cert.QkvRef4Ideal.nD → PrngReg), Pre_QkvRef4Ideal m →
    θ_run (Cert.QkvRef4Ideal.defs (F := Ideal)) (onTc (τ := Cert.QkvRef4Ideal.τ) (Cert.QkvRef4Ideal.main (F := Ideal))) ⟨m, fun _ => 0, g⟩ (fun r => (∀ c : Dev Cert.QkvRef4Ideal.nD,
      r.2.mem ((c.tc : Thread Cert.QkvRef4Ideal.nD Cert.QkvRef4Ideal.τ).loc Cert.QkvRef4Ideal.main_arg0) = m ((c.tc : Thread Cert.QkvRef4Ideal.nD Cert.QkvRef4Ideal.τ).loc Cert.QkvRef4Ideal.main_arg0)
      ∧ r.2.mem ((c.tc : Thread Cert.QkvRef4Ideal.nD Cert.QkvRef4Ideal.τ).loc Cert.QkvRef4Ideal.main_arg1) = m ((c.tc : Thread Cert.QkvRef4Ideal.nD Cert.QkvRef4Ideal.τ).loc Cert.QkvRef4Ideal.main_arg1)
      ∧ r.2.mem ((c.tc : Thread Cert.QkvRef4Ideal.nD Cert.QkvRef4Ideal.τ).loc Cert.QkvRef4Ideal.main_arg2) = m ((c.tc : Thread Cert.QkvRef4Ideal.nD Cert.QkvRef4Ideal.τ).loc Cert.QkvRef4Ideal.main_arg2)
      ∧ r.2.mem ((c.tc : Thread Cert.QkvRef4Ideal.nD Cert.QkvRef4Ideal.τ).loc Cert.QkvRef4Ideal.main_arg3) = m ((c.tc : Thread Cert.QkvRef4Ideal.nD Cert.QkvRef4Ideal.τ).loc Cert.QkvRef4Ideal.main_arg3)
      ∧ r.2.mem ((c.tc : Thread Cert.QkvRef4Ideal.nD Cert.QkvRef4Ideal.τ).loc Cert.QkvRef4Ideal.main_arg4) = m ((c.tc : Thread Cert.QkvRef4Ideal.nD Cert.QkvRef4Ideal.τ).loc Cert.QkvRef4Ideal.main_arg4))
      ∧ r.2.sem = fun _ => 0)

def quiescent_Qkv16 [hQkv16 : Cert.Qkv16.Facts] : Prop :=
  ∀ (m : (ℓ : Loc Cert.Qkv16.nD Cert.Qkv16.τ Cert.Qkv16.sig) → Buf (Elt Bits) ℓ) (g : Dev Cert.Qkv16.nD → PrngReg), Pre_Qkv16 m →
    θ_run (Cert.Qkv16.defs (F := Bits)) (onTc (τ := Cert.Qkv16.τ) (Cert.Qkv16.main (F := Bits))) ⟨m, fun _ => 0, g⟩ (fun r => (∀ c : Dev Cert.Qkv16.nD,
      r.2.mem ((c.tc : Thread Cert.Qkv16.nD Cert.Qkv16.τ).loc Cert.Qkv16.main_arg0) = m ((c.tc : Thread Cert.Qkv16.nD Cert.Qkv16.τ).loc Cert.Qkv16.main_arg0)
      ∧ r.2.mem ((c.tc : Thread Cert.Qkv16.nD Cert.Qkv16.τ).loc Cert.Qkv16.main_arg1) = m ((c.tc : Thread Cert.Qkv16.nD Cert.Qkv16.τ).loc Cert.Qkv16.main_arg1)
      ∧ r.2.mem ((c.tc : Thread Cert.Qkv16.nD Cert.Qkv16.τ).loc Cert.Qkv16.main_arg2) = m ((c.tc : Thread Cert.Qkv16.nD Cert.Qkv16.τ).loc Cert.Qkv16.main_arg2)
      ∧ r.2.mem ((c.tc : Thread Cert.Qkv16.nD Cert.Qkv16.τ).loc Cert.Qkv16.main_arg3) = m ((c.tc : Thread Cert.Qkv16.nD Cert.Qkv16.τ).loc Cert.Qkv16.main_arg3)
      ∧ r.2.mem ((c.tc : Thread Cert.Qkv16.nD Cert.Qkv16.τ).loc Cert.Qkv16.main_arg4) = m ((c.tc : Thread Cert.Qkv16.nD Cert.Qkv16.τ).loc Cert.Qkv16.main_arg4))
      ∧ r.2.sem = fun _ => 0)

def quiescent_Qkv16Ideal [hQkv16Ideal : Cert.Qkv16Ideal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg), Pre_Qkv16Ideal m →
    θ_run (Cert.Qkv16Ideal.defs (F := Ideal)) (onTc (τ := Cert.Qkv16Ideal.τ) (Cert.Qkv16Ideal.main (F := Ideal))) ⟨m, fun _ => 0, g⟩ (fun r => (∀ c : Dev Cert.Qkv16Ideal.nD,
      r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
      ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1)
      ∧ r.2.mem ((c.tc : Thread Cert.Qkv16Ideal.nD Cert.Qkv16Ideal.τ).loc Cert.Qkv16Ideal.main_arg2) = m ((c.tc : Thread Cert.Qkv16Ideal.nD Cert.Qkv16Ideal.τ).loc Cert.Qkv16Ideal.main_arg2)
      ∧ r.2.mem ((c.tc : Thread Cert.Qkv16Ideal.nD Cert.Qkv16Ideal.τ).loc Cert.Qkv16Ideal.main_arg3) = m ((c.tc : Thread Cert.Qkv16Ideal.nD Cert.Qkv16Ideal.τ).loc Cert.Qkv16Ideal.main_arg3)
      ∧ r.2.mem ((c.tc : Thread Cert.Qkv16Ideal.nD Cert.Qkv16Ideal.τ).loc Cert.Qkv16Ideal.main_arg4) = m ((c.tc : Thread Cert.Qkv16Ideal.nD Cert.Qkv16Ideal.τ).loc Cert.Qkv16Ideal.main_arg4))
      ∧ r.2.sem = fun _ => 0)

def quiescent_QkvRef16Ideal [hQkvRef16Ideal : Cert.QkvRef16Ideal.Facts] : Prop :=
  ∀ (m : (ℓ : Loc Cert.QkvRef16Ideal.nD Cert.QkvRef16Ideal.τ Cert.QkvRef16Ideal.sig) → Buf (Elt Ideal) ℓ) (g : Dev Cert.QkvRef16Ideal.nD → PrngReg), Pre_QkvRef16Ideal m →
    θ_run (Cert.QkvRef16Ideal.defs (F := Ideal)) (onTc (τ := Cert.QkvRef16Ideal.τ) (Cert.QkvRef16Ideal.main (F := Ideal))) ⟨m, fun _ => 0, g⟩ (fun r => (∀ c : Dev Cert.QkvRef16Ideal.nD,
      r.2.mem ((c.tc : Thread Cert.QkvRef16Ideal.nD Cert.QkvRef16Ideal.τ).loc Cert.QkvRef16Ideal.main_arg0) = m ((c.tc : Thread Cert.QkvRef16Ideal.nD Cert.QkvRef16Ideal.τ).loc Cert.QkvRef16Ideal.main_arg0)
      ∧ r.2.mem ((c.tc : Thread Cert.QkvRef16Ideal.nD Cert.QkvRef16Ideal.τ).loc Cert.QkvRef16Ideal.main_arg1) = m ((c.tc : Thread Cert.QkvRef16Ideal.nD Cert.QkvRef16Ideal.τ).loc Cert.QkvRef16Ideal.main_arg1)
      ∧ r.2.mem ((c.tc : Thread Cert.QkvRef16Ideal.nD Cert.QkvRef16Ideal.τ).loc Cert.QkvRef16Ideal.main_arg2) = m ((c.tc : Thread Cert.QkvRef16Ideal.nD Cert.QkvRef16Ideal.τ).loc Cert.QkvRef16Ideal.main_arg2)
      ∧ r.2.mem ((c.tc : Thread Cert.QkvRef16Ideal.nD Cert.QkvRef16Ideal.τ).loc Cert.QkvRef16Ideal.main_arg3) = m ((c.tc : Thread Cert.QkvRef16Ideal.nD Cert.QkvRef16Ideal.τ).loc Cert.QkvRef16Ideal.main_arg3)
      ∧ r.2.mem ((c.tc : Thread Cert.QkvRef16Ideal.nD Cert.QkvRef16Ideal.τ).loc Cert.QkvRef16Ideal.main_arg4) = m ((c.tc : Thread Cert.QkvRef16Ideal.nD Cert.QkvRef16Ideal.τ).loc Cert.QkvRef16Ideal.main_arg4))
      ∧ r.2.sem = fun _ => 0)

def quiescent_Attn4 [hAttn4 : Cert.Attn4.Facts] : Prop :=
  ∀ (m : (ℓ : Loc Cert.Attn4.nD Cert.Attn4.τ Cert.Attn4.sig) → Buf (Elt Bits) ℓ) (g : Dev Cert.Attn4.nD → PrngReg), Pre_Attn4 m →
    θ_run (Cert.Attn4.defs (F := Bits)) (onTc (τ := Cert.Attn4.τ) (Cert.Attn4.main (F := Bits))) ⟨m, fun _ => 0, g⟩ (fun r => (∀ c : Dev Cert.Attn4.nD,
      r.2.mem ((c.tc : Thread Cert.Attn4.nD Cert.Attn4.τ).loc Cert.Attn4.main_arg0) = m ((c.tc : Thread Cert.Attn4.nD Cert.Attn4.τ).loc Cert.Attn4.main_arg0))
      ∧ r.2.sem = fun _ => 0)

def quiescent_Attn4Ideal [hAttn4Ideal : Cert.Attn4Ideal.Facts] : Prop :=
  ∀ (m : (ℓ : Loc Cert.Attn4Ideal.nD Cert.Attn4Ideal.τ Cert.Attn4Ideal.sig) → Buf (Elt Ideal) ℓ) (g : Dev Cert.Attn4Ideal.nD → PrngReg), Pre_Attn4Ideal m →
    θ_run (Cert.Attn4Ideal.defs (F := Ideal)) (onTc (τ := Cert.Attn4Ideal.τ) (Cert.Attn4Ideal.main (F := Ideal))) ⟨m, fun _ => 0, g⟩ (fun r => (∀ c : Dev Cert.Attn4Ideal.nD,
      r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0))
      ∧ r.2.sem = fun _ => 0)

def quiescent_AttnRef4Ideal [hAttnRef4Ideal : Cert.AttnRef4Ideal.Facts] : Prop :=
  ∀ (m : (ℓ : Loc Cert.AttnRef4Ideal.nD Cert.AttnRef4Ideal.τ Cert.AttnRef4Ideal.sig) → Buf (Elt Ideal) ℓ) (g : Dev Cert.AttnRef4Ideal.nD → PrngReg), Pre_AttnRef4Ideal m →
    θ_run (Cert.AttnRef4Ideal.defs (F := Ideal)) (onTc (τ := Cert.AttnRef4Ideal.τ) (Cert.AttnRef4Ideal.main (F := Ideal))) ⟨m, fun _ => 0, g⟩ (fun r => (∀ c : Dev Cert.AttnRef4Ideal.nD,
      r.2.mem ((c.tc : Thread Cert.AttnRef4Ideal.nD Cert.AttnRef4Ideal.τ).loc Cert.AttnRef4Ideal.main_arg0) = m ((c.tc : Thread Cert.AttnRef4Ideal.nD Cert.AttnRef4Ideal.τ).loc Cert.AttnRef4Ideal.main_arg0))
      ∧ r.2.sem = fun _ => 0)

def quiescent_Attn16 [hAttn16 : Cert.Attn16.Facts] : Prop :=
  ∀ (m : (ℓ : Loc Cert.Attn16.nD Cert.Attn16.τ Cert.Attn16.sig) → Buf (Elt Bits) ℓ) (g : Dev Cert.Attn16.nD → PrngReg), Pre_Attn16 m →
    θ_run (Cert.Attn16.defs (F := Bits)) (onTc (τ := Cert.Attn16.τ) (Cert.Attn16.main (F := Bits))) ⟨m, fun _ => 0, g⟩ (fun r => (∀ c : Dev Cert.Attn16.nD,
      r.2.mem ((c.tc : Thread Cert.Attn16.nD Cert.Attn16.τ).loc Cert.Attn16.main_arg0) = m ((c.tc : Thread Cert.Attn16.nD Cert.Attn16.τ).loc Cert.Attn16.main_arg0))
      ∧ r.2.sem = fun _ => 0)

def quiescent_Attn16Ideal [hAttn16Ideal : Cert.Attn16Ideal.Facts] : Prop :=
  ∀ (m : (ℓ : Loc Cert.Attn16Ideal.nD Cert.Attn16Ideal.τ Cert.Attn16Ideal.sig) → Buf (Elt Ideal) ℓ) (g : Dev Cert.Attn16Ideal.nD → PrngReg), Pre_Attn16Ideal m →
    θ_run (Cert.Attn16Ideal.defs (F := Ideal)) (onTc (τ := Cert.Attn16Ideal.τ) (Cert.Attn16Ideal.main (F := Ideal))) ⟨m, fun _ => 0, g⟩ (fun r => (∀ c : Dev Cert.Attn16Ideal.nD,
      r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0))
      ∧ r.2.sem = fun _ => 0)

def quiescent_AttnRef16Ideal [hAttnRef16Ideal : Cert.AttnRef16Ideal.Facts] : Prop :=
  ∀ (m : (ℓ : Loc Cert.AttnRef16Ideal.nD Cert.AttnRef16Ideal.τ Cert.AttnRef16Ideal.sig) → Buf (Elt Ideal) ℓ) (g : Dev Cert.AttnRef16Ideal.nD → PrngReg), Pre_AttnRef16Ideal m →
    θ_run (Cert.AttnRef16Ideal.defs (F := Ideal)) (onTc (τ := Cert.AttnRef16Ideal.τ) (Cert.AttnRef16Ideal.main (F := Ideal))) ⟨m, fun _ => 0, g⟩ (fun r => (∀ c : Dev Cert.AttnRef16Ideal.nD,
      r.2.mem ((c.tc : Thread Cert.AttnRef16Ideal.nD Cert.AttnRef16Ideal.τ).loc Cert.AttnRef16Ideal.main_arg0) = m ((c.tc : Thread Cert.AttnRef16Ideal.nD Cert.AttnRef16Ideal.τ).loc Cert.AttnRef16Ideal.main_arg0))
      ∧ r.2.sem = fun _ => 0)

def quiescent_Fnet [hFnet : Cert.Fnet.Facts] : Prop :=
  ∀ (m : (ℓ : Loc Cert.Fnet.nD Cert.Fnet.τ Cert.Fnet.sig) → Buf (Elt Bits) ℓ) (g : Dev Cert.Fnet.nD → PrngReg), Pre_Fnet m →
    θ_run (Cert.Fnet.defs (F := Bits)) (onTc (τ := Cert.Fnet.τ) (Cert.Fnet.main (F := Bits))) ⟨m, fun _ => 0, g⟩ (fun r => (∀ c : Dev Cert.Fnet.nD,
      r.2.mem ((c.tc : Thread Cert.Fnet.nD Cert.Fnet.τ).loc Cert.Fnet.main_arg0) = m ((c.tc : Thread Cert.Fnet.nD Cert.Fnet.τ).loc Cert.Fnet.main_arg0)
      ∧ r.2.mem ((c.tc : Thread Cert.Fnet.nD Cert.Fnet.τ).loc Cert.Fnet.main_arg1) = m ((c.tc : Thread Cert.Fnet.nD Cert.Fnet.τ).loc Cert.Fnet.main_arg1)
      ∧ r.2.mem ((c.tc : Thread Cert.Fnet.nD Cert.Fnet.τ).loc Cert.Fnet.main_arg2) = m ((c.tc : Thread Cert.Fnet.nD Cert.Fnet.τ).loc Cert.Fnet.main_arg2))
      ∧ r.2.sem = fun _ => 0)

def quiescent_FnetIdeal [hFnetIdeal : Cert.FnetIdeal.Facts] : Prop :=
  ∀ (m : (ℓ : Loc Cert.FnetIdeal.nD Cert.FnetIdeal.τ Cert.FnetIdeal.sig) → Buf (Elt Ideal) ℓ) (g : Dev Cert.FnetIdeal.nD → PrngReg), Pre_FnetIdeal m →
    θ_run (Cert.FnetIdeal.defs (F := Ideal)) (onTc (τ := Cert.FnetIdeal.τ) (Cert.FnetIdeal.main (F := Ideal))) ⟨m, fun _ => 0, g⟩ (fun r => (∀ c : Dev Cert.FnetIdeal.nD,
      r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0)
      ∧ r.2.mem ((c.tc : Thread Cert.FnetIdeal.nD Cert.FnetIdeal.τ).loc Cert.FnetIdeal.main_arg1) = m ((c.tc : Thread Cert.FnetIdeal.nD Cert.FnetIdeal.τ).loc Cert.FnetIdeal.main_arg1)
      ∧ r.2.mem ((c.tc : Thread Cert.FnetIdeal.nD Cert.FnetIdeal.τ).loc Cert.FnetIdeal.main_arg2) = m ((c.tc : Thread Cert.FnetIdeal.nD Cert.FnetIdeal.τ).loc Cert.FnetIdeal.main_arg2))
      ∧ r.2.sem = fun _ => 0)

def quiescent_FnetRefIdeal [hFnetRefIdeal : Cert.FnetRefIdeal.Facts] : Prop :=
  ∀ (m : (ℓ : Loc Cert.FnetRefIdeal.nD Cert.FnetRefIdeal.τ Cert.FnetRefIdeal.sig) → Buf (Elt Ideal) ℓ) (g : Dev Cert.FnetRefIdeal.nD → PrngReg), Pre_FnetRefIdeal m →
    θ_run (Cert.FnetRefIdeal.defs (F := Ideal)) (onTc (τ := Cert.FnetRefIdeal.τ) (Cert.FnetRefIdeal.main (F := Ideal))) ⟨m, fun _ => 0, g⟩ (fun r => (∀ c : Dev Cert.FnetRefIdeal.nD,
      r.2.mem ((c.tc : Thread Cert.FnetRefIdeal.nD Cert.FnetRefIdeal.τ).loc Cert.FnetRefIdeal.main_arg0) = m ((c.tc : Thread Cert.FnetRefIdeal.nD Cert.FnetRefIdeal.τ).loc Cert.FnetRefIdeal.main_arg0)
      ∧ r.2.mem ((c.tc : Thread Cert.FnetRefIdeal.nD Cert.FnetRefIdeal.τ).loc Cert.FnetRefIdeal.main_arg1) = m ((c.tc : Thread Cert.FnetRefIdeal.nD Cert.FnetRefIdeal.τ).loc Cert.FnetRefIdeal.main_arg1)
      ∧ r.2.mem ((c.tc : Thread Cert.FnetRefIdeal.nD Cert.FnetRefIdeal.τ).loc Cert.FnetRefIdeal.main_arg2) = m ((c.tc : Thread Cert.FnetRefIdeal.nD Cert.FnetRefIdeal.τ).loc Cert.FnetRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeIdeal_pre_lse_finite [hMergeIdeal : Cert.MergeIdeal.Facts] [hPre_lse_finite : Cert.Pre_lse_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_lse_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_MergeRefIdeal_pre_lse_finite [hMergeRefIdeal : Cert.MergeRefIdeal.Facts] [hPre_lse_finite : Cert.Pre_lse_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_lse_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def preserves_Attn1_Attn1Ideal : Prop :=
  IdealRules.named_const.Statement Cert.Attn1Ideal.κ "mask" .f32 0xF149F2CA#32 ⊥

def algebraic_Attn1Ideal_AttnRef1Ideal [hAttn1Ideal : Cert.Attn1Ideal.Facts] [hAttnRef1Ideal : Cert.AttnRef1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.AttnRef1Ideal.nD Cert.AttnRef1Ideal.τ Cert.AttnRef1Ideal.sig) → Buf (Elt Ideal) ℓ) (g' : Dev Cert.AttnRef1Ideal.nD → PrngReg), Pre_Attn1Ideal m →
    (∀ c : Dev Cert.Attn1Ideal.nD,
      m' ((c.tc : Thread Cert.AttnRef1Ideal.nD Cert.AttnRef1Ideal.τ).loc Cert.AttnRef1Ideal.main_arg0) = m ((c.tc : Thread Cert.Attn1Ideal.nD Cert.Attn1Ideal.τ).loc Cert.Attn1Ideal.main_arg0)) →
    ∃ (v0 : (c : Dev Cert.Attn1Ideal.nD) → Buf (Elt Ideal) ((c.tc : Thread Cert.Attn1Ideal.nD Cert.Attn1Ideal.τ).loc Cert.Attn1Ideal.main_v0_0)) (v1 : (c : Dev Cert.Attn1Ideal.nD) → Buf (Elt Ideal) ((c.tc : Thread Cert.Attn1Ideal.nD Cert.Attn1Ideal.τ).loc Cert.Attn1Ideal.main_v0_1)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v0_0) = v0 c
          ∧ r.2.mem ((c.tc : Thread Cert.Attn1Ideal.nD Cert.Attn1Ideal.τ).loc Cert.Attn1Ideal.main_v0_1) = v1 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ θ_run (Cert.AttnRef1Ideal.defs (F := Ideal)) (onTc (τ := Cert.AttnRef1Ideal.τ) (Cert.AttnRef1Ideal.main (F := Ideal))) ⟨m', fun _ => 0, g'⟩ (fun r => ∀ c : Dev Cert.AttnRef1Ideal.nD,
          r.2.mem ((c.tc : Thread Cert.AttnRef1Ideal.nD Cert.AttnRef1Ideal.τ).loc Cert.AttnRef1Ideal.main_v38) = v0 c
          ∧ r.2.mem ((c.tc : Thread Cert.AttnRef1Ideal.nD Cert.AttnRef1Ideal.τ).loc Cert.AttnRef1Ideal.main_v39) = v1 c
          ∧ r.2.mem ((c.tc : Thread Cert.AttnRef1Ideal.nD Cert.AttnRef1Ideal.τ).loc Cert.AttnRef1Ideal.main_arg0) = m' ((c.tc : Thread Cert.AttnRef1Ideal.nD Cert.AttnRef1Ideal.τ).loc Cert.AttnRef1Ideal.main_arg0))

def preserves_Qkv1_Qkv1Ideal : Prop :=
  True

def algebraic_Qkv1Ideal_QkvRef1Ideal [hQkv1Ideal : Cert.Qkv1Ideal.Facts] [hQkvRef1Ideal : Cert.QkvRef1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.QkvRef1Ideal.nD Cert.QkvRef1Ideal.τ Cert.QkvRef1Ideal.sig) → Buf (Elt Ideal) ℓ) (g' : Dev Cert.QkvRef1Ideal.nD → PrngReg), Pre_Qkv1Ideal m →
    (∀ c : Dev Cert.Qkv1Ideal.nD,
      m' ((c.tc : Thread Cert.QkvRef1Ideal.nD Cert.QkvRef1Ideal.τ).loc Cert.QkvRef1Ideal.main_arg0) = m ((c.tc : Thread Cert.Qkv1Ideal.nD Cert.Qkv1Ideal.τ).loc Cert.Qkv1Ideal.main_arg0)
      ∧ m' ((c.tc : Thread Cert.QkvRef1Ideal.nD Cert.QkvRef1Ideal.τ).loc Cert.QkvRef1Ideal.main_arg1) = m ((c.tc : Thread Cert.Qkv1Ideal.nD Cert.Qkv1Ideal.τ).loc Cert.Qkv1Ideal.main_arg1)
      ∧ m' ((c.tc : Thread Cert.QkvRef1Ideal.nD Cert.QkvRef1Ideal.τ).loc Cert.QkvRef1Ideal.main_arg2) = m ((c.tc : Thread Cert.Qkv1Ideal.nD Cert.Qkv1Ideal.τ).loc Cert.Qkv1Ideal.main_arg2)
      ∧ m' ((c.tc : Thread Cert.QkvRef1Ideal.nD Cert.QkvRef1Ideal.τ).loc Cert.QkvRef1Ideal.main_arg3) = m ((c.tc : Thread Cert.Qkv1Ideal.nD Cert.Qkv1Ideal.τ).loc Cert.Qkv1Ideal.main_arg3)
      ∧ m' ((c.tc : Thread Cert.QkvRef1Ideal.nD Cert.QkvRef1Ideal.τ).loc Cert.QkvRef1Ideal.main_arg4) = m ((c.tc : Thread Cert.Qkv1Ideal.nD Cert.Qkv1Ideal.τ).loc Cert.Qkv1Ideal.main_arg4)) →
    ∃ (v0 : (c : Dev Cert.Qkv1Ideal.nD) → Buf (Elt Ideal) ((c.tc : Thread Cert.Qkv1Ideal.nD Cert.Qkv1Ideal.τ).loc Cert.Qkv1Ideal.main_v0)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v0) = v0 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
          ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
          ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
          ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4))
      ∧ θ_run (Cert.QkvRef1Ideal.defs (F := Ideal)) (onTc (τ := Cert.QkvRef1Ideal.τ) (Cert.QkvRef1Ideal.main (F := Ideal))) ⟨m', fun _ => 0, g'⟩ (fun r => ∀ c : Dev Cert.QkvRef1Ideal.nD,
          r.2.mem ((c.tc : Thread Cert.QkvRef1Ideal.nD Cert.QkvRef1Ideal.τ).loc Cert.QkvRef1Ideal.main_v36) = v0 c
          ∧ r.2.mem ((c.tc : Thread Cert.QkvRef1Ideal.nD Cert.QkvRef1Ideal.τ).loc Cert.QkvRef1Ideal.main_arg0) = m' ((c.tc : Thread Cert.QkvRef1Ideal.nD Cert.QkvRef1Ideal.τ).loc Cert.QkvRef1Ideal.main_arg0)
          ∧ r.2.mem ((c.tc : Thread Cert.QkvRef1Ideal.nD Cert.QkvRef1Ideal.τ).loc Cert.QkvRef1Ideal.main_arg1) = m' ((c.tc : Thread Cert.QkvRef1Ideal.nD Cert.QkvRef1Ideal.τ).loc Cert.QkvRef1Ideal.main_arg1)
          ∧ r.2.mem ((c.tc : Thread Cert.QkvRef1Ideal.nD Cert.QkvRef1Ideal.τ).loc Cert.QkvRef1Ideal.main_arg2) = m' ((c.tc : Thread Cert.QkvRef1Ideal.nD Cert.QkvRef1Ideal.τ).loc Cert.QkvRef1Ideal.main_arg2)
          ∧ r.2.mem ((c.tc : Thread Cert.QkvRef1Ideal.nD Cert.QkvRef1Ideal.τ).loc Cert.QkvRef1Ideal.main_arg3) = m' ((c.tc : Thread Cert.QkvRef1Ideal.nD Cert.QkvRef1Ideal.τ).loc Cert.QkvRef1Ideal.main_arg3)
          ∧ r.2.mem ((c.tc : Thread Cert.QkvRef1Ideal.nD Cert.QkvRef1Ideal.τ).loc Cert.QkvRef1Ideal.main_arg4) = m' ((c.tc : Thread Cert.QkvRef1Ideal.nD Cert.QkvRef1Ideal.τ).loc Cert.QkvRef1Ideal.main_arg4))

def preserves_Qkv4_Qkv4Ideal : Prop :=
  True

def algebraic_Qkv4Ideal_QkvRef4Ideal [hQkv4Ideal : Cert.Qkv4Ideal.Facts] [hQkvRef4Ideal : Cert.QkvRef4Ideal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg)
    (m' : (ℓ : Loc Cert.QkvRef4Ideal.nD Cert.QkvRef4Ideal.τ Cert.QkvRef4Ideal.sig) → Buf (Elt Ideal) ℓ) (g' : Dev Cert.QkvRef4Ideal.nD → PrngReg), Pre_Qkv4Ideal m →
    (∀ c : Dev Cert.Qkv4Ideal.nD,
      m' ((c.tc : Thread Cert.QkvRef4Ideal.nD Cert.QkvRef4Ideal.τ).loc Cert.QkvRef4Ideal.main_arg0) = m ((c.tc : Thread Cert.Qkv4Ideal.nD Cert.Qkv4Ideal.τ).loc Cert.Qkv4Ideal.main_arg0)
      ∧ m' ((c.tc : Thread Cert.QkvRef4Ideal.nD Cert.QkvRef4Ideal.τ).loc Cert.QkvRef4Ideal.main_arg1) = m ((c.tc : Thread Cert.Qkv4Ideal.nD Cert.Qkv4Ideal.τ).loc Cert.Qkv4Ideal.main_arg1)
      ∧ m' ((c.tc : Thread Cert.QkvRef4Ideal.nD Cert.QkvRef4Ideal.τ).loc Cert.QkvRef4Ideal.main_arg2) = m ((c.tc : Thread Cert.Qkv4Ideal.nD Cert.Qkv4Ideal.τ).loc Cert.Qkv4Ideal.main_arg2)
      ∧ m' ((c.tc : Thread Cert.QkvRef4Ideal.nD Cert.QkvRef4Ideal.τ).loc Cert.QkvRef4Ideal.main_arg3) = m ((c.tc : Thread Cert.Qkv4Ideal.nD Cert.Qkv4Ideal.τ).loc Cert.Qkv4Ideal.main_arg3)
      ∧ m' ((c.tc : Thread Cert.QkvRef4Ideal.nD Cert.QkvRef4Ideal.τ).loc Cert.QkvRef4Ideal.main_arg4) = m ((c.tc : Thread Cert.Qkv4Ideal.nD Cert.Qkv4Ideal.τ).loc Cert.Qkv4Ideal.main_arg4)) →
    ∃ (v0 : (c : Dev Cert.Qkv4Ideal.nD) → Buf (Elt Ideal) ((c.tc : Thread Cert.Qkv4Ideal.nD Cert.Qkv4Ideal.τ).loc Cert.Qkv4Ideal.main_v0)),
      θ_run (Cert.Qkv4Ideal.defs (F := Ideal)) (onTc (τ := Cert.Qkv4Ideal.τ) (Cert.Qkv4Ideal.main (F := Ideal))) ⟨m, fun _ => 0, g⟩ (fun r => ∀ c : Dev Cert.Qkv4Ideal.nD,
          r.2.mem ((c.tc : Thread Cert.Qkv4Ideal.nD Cert.Qkv4Ideal.τ).loc Cert.Qkv4Ideal.main_v0) = v0 c
          ∧ r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
          ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1)
          ∧ r.2.mem ((c.tc : Thread Cert.Qkv4Ideal.nD Cert.Qkv4Ideal.τ).loc Cert.Qkv4Ideal.main_arg2) = m ((c.tc : Thread Cert.Qkv4Ideal.nD Cert.Qkv4Ideal.τ).loc Cert.Qkv4Ideal.main_arg2)
          ∧ r.2.mem ((c.tc : Thread Cert.Qkv4Ideal.nD Cert.Qkv4Ideal.τ).loc Cert.Qkv4Ideal.main_arg3) = m ((c.tc : Thread Cert.Qkv4Ideal.nD Cert.Qkv4Ideal.τ).loc Cert.Qkv4Ideal.main_arg3)
          ∧ r.2.mem ((c.tc : Thread Cert.Qkv4Ideal.nD Cert.Qkv4Ideal.τ).loc Cert.Qkv4Ideal.main_arg4) = m ((c.tc : Thread Cert.Qkv4Ideal.nD Cert.Qkv4Ideal.τ).loc Cert.Qkv4Ideal.main_arg4))
      ∧ θ_run (Cert.QkvRef4Ideal.defs (F := Ideal)) (onTc (τ := Cert.QkvRef4Ideal.τ) (Cert.QkvRef4Ideal.main (F := Ideal))) ⟨m', fun _ => 0, g'⟩ (fun r => ∀ c : Dev Cert.QkvRef4Ideal.nD,
          r.2.mem ((c.tc : Thread Cert.QkvRef4Ideal.nD Cert.QkvRef4Ideal.τ).loc Cert.QkvRef4Ideal.main_v36) = v0 c
          ∧ r.2.mem ((c.tc : Thread Cert.QkvRef4Ideal.nD Cert.QkvRef4Ideal.τ).loc Cert.QkvRef4Ideal.main_arg0) = m' ((c.tc : Thread Cert.QkvRef4Ideal.nD Cert.QkvRef4Ideal.τ).loc Cert.QkvRef4Ideal.main_arg0)
          ∧ r.2.mem ((c.tc : Thread Cert.QkvRef4Ideal.nD Cert.QkvRef4Ideal.τ).loc Cert.QkvRef4Ideal.main_arg1) = m' ((c.tc : Thread Cert.QkvRef4Ideal.nD Cert.QkvRef4Ideal.τ).loc Cert.QkvRef4Ideal.main_arg1)
          ∧ r.2.mem ((c.tc : Thread Cert.QkvRef4Ideal.nD Cert.QkvRef4Ideal.τ).loc Cert.QkvRef4Ideal.main_arg2) = m' ((c.tc : Thread Cert.QkvRef4Ideal.nD Cert.QkvRef4Ideal.τ).loc Cert.QkvRef4Ideal.main_arg2)
          ∧ r.2.mem ((c.tc : Thread Cert.QkvRef4Ideal.nD Cert.QkvRef4Ideal.τ).loc Cert.QkvRef4Ideal.main_arg3) = m' ((c.tc : Thread Cert.QkvRef4Ideal.nD Cert.QkvRef4Ideal.τ).loc Cert.QkvRef4Ideal.main_arg3)
          ∧ r.2.mem ((c.tc : Thread Cert.QkvRef4Ideal.nD Cert.QkvRef4Ideal.τ).loc Cert.QkvRef4Ideal.main_arg4) = m' ((c.tc : Thread Cert.QkvRef4Ideal.nD Cert.QkvRef4Ideal.τ).loc Cert.QkvRef4Ideal.main_arg4))

def preserves_Qkv16_Qkv16Ideal : Prop :=
  True

def algebraic_Qkv16Ideal_QkvRef16Ideal [hQkv16Ideal : Cert.Qkv16Ideal.Facts] [hQkvRef16Ideal : Cert.QkvRef16Ideal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg)
    (m' : (ℓ : Loc Cert.QkvRef16Ideal.nD Cert.QkvRef16Ideal.τ Cert.QkvRef16Ideal.sig) → Buf (Elt Ideal) ℓ) (g' : Dev Cert.QkvRef16Ideal.nD → PrngReg), Pre_Qkv16Ideal m →
    (∀ c : Dev Cert.Qkv16Ideal.nD,
      m' ((c.tc : Thread Cert.QkvRef16Ideal.nD Cert.QkvRef16Ideal.τ).loc Cert.QkvRef16Ideal.main_arg0) = m ((c.tc : Thread Cert.Qkv16Ideal.nD Cert.Qkv16Ideal.τ).loc Cert.Qkv16Ideal.main_arg0)
      ∧ m' ((c.tc : Thread Cert.QkvRef16Ideal.nD Cert.QkvRef16Ideal.τ).loc Cert.QkvRef16Ideal.main_arg1) = m ((c.tc : Thread Cert.Qkv16Ideal.nD Cert.Qkv16Ideal.τ).loc Cert.Qkv16Ideal.main_arg1)
      ∧ m' ((c.tc : Thread Cert.QkvRef16Ideal.nD Cert.QkvRef16Ideal.τ).loc Cert.QkvRef16Ideal.main_arg2) = m ((c.tc : Thread Cert.Qkv16Ideal.nD Cert.Qkv16Ideal.τ).loc Cert.Qkv16Ideal.main_arg2)
      ∧ m' ((c.tc : Thread Cert.QkvRef16Ideal.nD Cert.QkvRef16Ideal.τ).loc Cert.QkvRef16Ideal.main_arg3) = m ((c.tc : Thread Cert.Qkv16Ideal.nD Cert.Qkv16Ideal.τ).loc Cert.Qkv16Ideal.main_arg3)
      ∧ m' ((c.tc : Thread Cert.QkvRef16Ideal.nD Cert.QkvRef16Ideal.τ).loc Cert.QkvRef16Ideal.main_arg4) = m ((c.tc : Thread Cert.Qkv16Ideal.nD Cert.Qkv16Ideal.τ).loc Cert.Qkv16Ideal.main_arg4)) →
    ∃ (v0 : (c : Dev Cert.Qkv16Ideal.nD) → Buf (Elt Ideal) ((c.tc : Thread Cert.Qkv16Ideal.nD Cert.Qkv16Ideal.τ).loc Cert.Qkv16Ideal.main_v0)),
      θ_run (Cert.Qkv16Ideal.defs (F := Ideal)) (onTc (τ := Cert.Qkv16Ideal.τ) (Cert.Qkv16Ideal.main (F := Ideal))) ⟨m, fun _ => 0, g⟩ (fun r => ∀ c : Dev Cert.Qkv16Ideal.nD,
          r.2.mem ((c.tc : Thread Cert.Qkv16Ideal.nD Cert.Qkv16Ideal.τ).loc Cert.Qkv16Ideal.main_v0) = v0 c
          ∧ r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
          ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1)
          ∧ r.2.mem ((c.tc : Thread Cert.Qkv16Ideal.nD Cert.Qkv16Ideal.τ).loc Cert.Qkv16Ideal.main_arg2) = m ((c.tc : Thread Cert.Qkv16Ideal.nD Cert.Qkv16Ideal.τ).loc Cert.Qkv16Ideal.main_arg2)
          ∧ r.2.mem ((c.tc : Thread Cert.Qkv16Ideal.nD Cert.Qkv16Ideal.τ).loc Cert.Qkv16Ideal.main_arg3) = m ((c.tc : Thread Cert.Qkv16Ideal.nD Cert.Qkv16Ideal.τ).loc Cert.Qkv16Ideal.main_arg3)
          ∧ r.2.mem ((c.tc : Thread Cert.Qkv16Ideal.nD Cert.Qkv16Ideal.τ).loc Cert.Qkv16Ideal.main_arg4) = m ((c.tc : Thread Cert.Qkv16Ideal.nD Cert.Qkv16Ideal.τ).loc Cert.Qkv16Ideal.main_arg4))
      ∧ θ_run (Cert.QkvRef16Ideal.defs (F := Ideal)) (onTc (τ := Cert.QkvRef16Ideal.τ) (Cert.QkvRef16Ideal.main (F := Ideal))) ⟨m', fun _ => 0, g'⟩ (fun r => ∀ c : Dev Cert.QkvRef16Ideal.nD,
          r.2.mem ((c.tc : Thread Cert.QkvRef16Ideal.nD Cert.QkvRef16Ideal.τ).loc Cert.QkvRef16Ideal.main_v36) = v0 c
          ∧ r.2.mem ((c.tc : Thread Cert.QkvRef16Ideal.nD Cert.QkvRef16Ideal.τ).loc Cert.QkvRef16Ideal.main_arg0) = m' ((c.tc : Thread Cert.QkvRef16Ideal.nD Cert.QkvRef16Ideal.τ).loc Cert.QkvRef16Ideal.main_arg0)
          ∧ r.2.mem ((c.tc : Thread Cert.QkvRef16Ideal.nD Cert.QkvRef16Ideal.τ).loc Cert.QkvRef16Ideal.main_arg1) = m' ((c.tc : Thread Cert.QkvRef16Ideal.nD Cert.QkvRef16Ideal.τ).loc Cert.QkvRef16Ideal.main_arg1)
          ∧ r.2.mem ((c.tc : Thread Cert.QkvRef16Ideal.nD Cert.QkvRef16Ideal.τ).loc Cert.QkvRef16Ideal.main_arg2) = m' ((c.tc : Thread Cert.QkvRef16Ideal.nD Cert.QkvRef16Ideal.τ).loc Cert.QkvRef16Ideal.main_arg2)
          ∧ r.2.mem ((c.tc : Thread Cert.QkvRef16Ideal.nD Cert.QkvRef16Ideal.τ).loc Cert.QkvRef16Ideal.main_arg3) = m' ((c.tc : Thread Cert.QkvRef16Ideal.nD Cert.QkvRef16Ideal.τ).loc Cert.QkvRef16Ideal.main_arg3)
          ∧ r.2.mem ((c.tc : Thread Cert.QkvRef16Ideal.nD Cert.QkvRef16Ideal.τ).loc Cert.QkvRef16Ideal.main_arg4) = m' ((c.tc : Thread Cert.QkvRef16Ideal.nD Cert.QkvRef16Ideal.τ).loc Cert.QkvRef16Ideal.main_arg4))

def preserves_Attn4_Attn4Ideal : Prop :=
  IdealRules.named_const.Statement Cert.Attn4Ideal.κ "mask" .f32 0xF149F2CA#32 ⊥

def algebraic_Attn4Ideal_AttnRef4Ideal [hAttn4Ideal : Cert.Attn4Ideal.Facts] [hAttnRef4Ideal : Cert.AttnRef4Ideal.Facts] : Prop :=
  ∀ (m : (ℓ : Loc Cert.Attn4Ideal.nD Cert.Attn4Ideal.τ Cert.Attn4Ideal.sig) → Buf (Elt Ideal) ℓ) (g : Dev Cert.Attn4Ideal.nD → PrngReg)
    (m' : (ℓ : Loc Cert.AttnRef4Ideal.nD Cert.AttnRef4Ideal.τ Cert.AttnRef4Ideal.sig) → Buf (Elt Ideal) ℓ) (g' : Dev Cert.AttnRef4Ideal.nD → PrngReg), Pre_Attn4Ideal m →
    (∀ c : Dev Cert.Attn4Ideal.nD,
      m' ((c.tc : Thread Cert.AttnRef4Ideal.nD Cert.AttnRef4Ideal.τ).loc Cert.AttnRef4Ideal.main_arg0) = m ((c.tc : Thread Cert.Attn4Ideal.nD Cert.Attn4Ideal.τ).loc Cert.Attn4Ideal.main_arg0)) →
    ∃ (v0 : (c : Dev Cert.Attn4Ideal.nD) → Buf (Elt Ideal) ((c.tc : Thread Cert.Attn4Ideal.nD Cert.Attn4Ideal.τ).loc Cert.Attn4Ideal.main_v0_0)) (v1 : (c : Dev Cert.Attn4Ideal.nD) → Buf (Elt Ideal) ((c.tc : Thread Cert.Attn4Ideal.nD Cert.Attn4Ideal.τ).loc Cert.Attn4Ideal.main_v0_1)),
      θ_run (Cert.Attn4Ideal.defs (F := Ideal)) (onTc (τ := Cert.Attn4Ideal.τ) (Cert.Attn4Ideal.main (F := Ideal))) ⟨m, fun _ => 0, g⟩ (fun r => ∀ c : Dev Cert.Attn4Ideal.nD,
          r.2.mem ((c.tc : Thread Cert.Attn4Ideal.nD Cert.Attn4Ideal.τ).loc Cert.Attn4Ideal.main_v0_0) = v0 c
          ∧ r.2.mem ((c.tc : Thread Cert.Attn4Ideal.nD Cert.Attn4Ideal.τ).loc Cert.Attn4Ideal.main_v0_1) = v1 c
          ∧ r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0))
      ∧ θ_run (Cert.AttnRef4Ideal.defs (F := Ideal)) (onTc (τ := Cert.AttnRef4Ideal.τ) (Cert.AttnRef4Ideal.main (F := Ideal))) ⟨m', fun _ => 0, g'⟩ (fun r => ∀ c : Dev Cert.AttnRef4Ideal.nD,
          r.2.mem ((c.tc : Thread Cert.AttnRef4Ideal.nD Cert.AttnRef4Ideal.τ).loc Cert.AttnRef4Ideal.main_v38) = v0 c
          ∧ r.2.mem ((c.tc : Thread Cert.AttnRef4Ideal.nD Cert.AttnRef4Ideal.τ).loc Cert.AttnRef4Ideal.main_v39) = v1 c
          ∧ r.2.mem ((c.tc : Thread Cert.AttnRef4Ideal.nD Cert.AttnRef4Ideal.τ).loc Cert.AttnRef4Ideal.main_arg0) = m' ((c.tc : Thread Cert.AttnRef4Ideal.nD Cert.AttnRef4Ideal.τ).loc Cert.AttnRef4Ideal.main_arg0))

def preserves_Attn16_Attn16Ideal : Prop :=
  IdealRules.named_const.Statement Cert.Attn16Ideal.κ "mask" .f32 0xF149F2CA#32 ⊥

def algebraic_Attn16Ideal_AttnRef16Ideal [hAttn16Ideal : Cert.Attn16Ideal.Facts] [hAttnRef16Ideal : Cert.AttnRef16Ideal.Facts] : Prop :=
  ∀ (m : (ℓ : Loc Cert.Attn16Ideal.nD Cert.Attn16Ideal.τ Cert.Attn16Ideal.sig) → Buf (Elt Ideal) ℓ) (g : Dev Cert.Attn16Ideal.nD → PrngReg)
    (m' : (ℓ : Loc Cert.AttnRef16Ideal.nD Cert.AttnRef16Ideal.τ Cert.AttnRef16Ideal.sig) → Buf (Elt Ideal) ℓ) (g' : Dev Cert.AttnRef16Ideal.nD → PrngReg), Pre_Attn16Ideal m →
    (∀ c : Dev Cert.Attn16Ideal.nD,
      m' ((c.tc : Thread Cert.AttnRef16Ideal.nD Cert.AttnRef16Ideal.τ).loc Cert.AttnRef16Ideal.main_arg0) = m ((c.tc : Thread Cert.Attn16Ideal.nD Cert.Attn16Ideal.τ).loc Cert.Attn16Ideal.main_arg0)) →
    ∃ (v0 : (c : Dev Cert.Attn16Ideal.nD) → Buf (Elt Ideal) ((c.tc : Thread Cert.Attn16Ideal.nD Cert.Attn16Ideal.τ).loc Cert.Attn16Ideal.main_v0_0)) (v1 : (c : Dev Cert.Attn16Ideal.nD) → Buf (Elt Ideal) ((c.tc : Thread Cert.Attn16Ideal.nD Cert.Attn16Ideal.τ).loc Cert.Attn16Ideal.main_v0_1)),
      θ_run (Cert.Attn16Ideal.defs (F := Ideal)) (onTc (τ := Cert.Attn16Ideal.τ) (Cert.Attn16Ideal.main (F := Ideal))) ⟨m, fun _ => 0, g⟩ (fun r => ∀ c : Dev Cert.Attn16Ideal.nD,
          r.2.mem ((c.tc : Thread Cert.Attn16Ideal.nD Cert.Attn16Ideal.τ).loc Cert.Attn16Ideal.main_v0_0) = v0 c
          ∧ r.2.mem ((c.tc : Thread Cert.Attn16Ideal.nD Cert.Attn16Ideal.τ).loc Cert.Attn16Ideal.main_v0_1) = v1 c
          ∧ r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0))
      ∧ θ_run (Cert.AttnRef16Ideal.defs (F := Ideal)) (onTc (τ := Cert.AttnRef16Ideal.τ) (Cert.AttnRef16Ideal.main (F := Ideal))) ⟨m', fun _ => 0, g'⟩ (fun r => ∀ c : Dev Cert.AttnRef16Ideal.nD,
          r.2.mem ((c.tc : Thread Cert.AttnRef16Ideal.nD Cert.AttnRef16Ideal.τ).loc Cert.AttnRef16Ideal.main_v38) = v0 c
          ∧ r.2.mem ((c.tc : Thread Cert.AttnRef16Ideal.nD Cert.AttnRef16Ideal.τ).loc Cert.AttnRef16Ideal.main_v39) = v1 c
          ∧ r.2.mem ((c.tc : Thread Cert.AttnRef16Ideal.nD Cert.AttnRef16Ideal.τ).loc Cert.AttnRef16Ideal.main_arg0) = m' ((c.tc : Thread Cert.AttnRef16Ideal.nD Cert.AttnRef16Ideal.τ).loc Cert.AttnRef16Ideal.main_arg0))

def preserves_Fnet_FnetIdeal : Prop :=
  True

def algebraic_FnetIdeal_FnetRefIdeal [hFnetIdeal : Cert.FnetIdeal.Facts] [hFnetRefIdeal : Cert.FnetRefIdeal.Facts] : Prop :=
  ∀ (m : (ℓ : Loc Cert.FnetIdeal.nD Cert.FnetIdeal.τ Cert.FnetIdeal.sig) → Buf (Elt Ideal) ℓ) (g : Dev Cert.FnetIdeal.nD → PrngReg)
    (m' : (ℓ : Loc Cert.FnetRefIdeal.nD Cert.FnetRefIdeal.τ Cert.FnetRefIdeal.sig) → Buf (Elt Ideal) ℓ) (g' : Dev Cert.FnetRefIdeal.nD → PrngReg), Pre_FnetIdeal m →
    (∀ c : Dev Cert.FnetIdeal.nD,
      m' ((c.tc : Thread Cert.FnetRefIdeal.nD Cert.FnetRefIdeal.τ).loc Cert.FnetRefIdeal.main_arg0) = m ((c.tc : Thread Cert.FnetIdeal.nD Cert.FnetIdeal.τ).loc Cert.FnetIdeal.main_arg0)
      ∧ m' ((c.tc : Thread Cert.FnetRefIdeal.nD Cert.FnetRefIdeal.τ).loc Cert.FnetRefIdeal.main_arg1) = m ((c.tc : Thread Cert.FnetIdeal.nD Cert.FnetIdeal.τ).loc Cert.FnetIdeal.main_arg1)
      ∧ m' ((c.tc : Thread Cert.FnetRefIdeal.nD Cert.FnetRefIdeal.τ).loc Cert.FnetRefIdeal.main_arg2) = m ((c.tc : Thread Cert.FnetIdeal.nD Cert.FnetIdeal.τ).loc Cert.FnetIdeal.main_arg2)) →
    ∃ (v0 : (c : Dev Cert.FnetIdeal.nD) → Buf (Elt Ideal) ((c.tc : Thread Cert.FnetIdeal.nD Cert.FnetIdeal.τ).loc Cert.FnetIdeal.main_v0)),
      θ_run (Cert.FnetIdeal.defs (F := Ideal)) (onTc (τ := Cert.FnetIdeal.τ) (Cert.FnetIdeal.main (F := Ideal))) ⟨m, fun _ => 0, g⟩ (fun r => ∀ c : Dev Cert.FnetIdeal.nD,
          r.2.mem ((c.tc : Thread Cert.FnetIdeal.nD Cert.FnetIdeal.τ).loc Cert.FnetIdeal.main_v0) = v0 c
          ∧ r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0)
          ∧ r.2.mem ((c.tc : Thread Cert.FnetIdeal.nD Cert.FnetIdeal.τ).loc Cert.FnetIdeal.main_arg1) = m ((c.tc : Thread Cert.FnetIdeal.nD Cert.FnetIdeal.τ).loc Cert.FnetIdeal.main_arg1)
          ∧ r.2.mem ((c.tc : Thread Cert.FnetIdeal.nD Cert.FnetIdeal.τ).loc Cert.FnetIdeal.main_arg2) = m ((c.tc : Thread Cert.FnetIdeal.nD Cert.FnetIdeal.τ).loc Cert.FnetIdeal.main_arg2))
      ∧ θ_run (Cert.FnetRefIdeal.defs (F := Ideal)) (onTc (τ := Cert.FnetRefIdeal.τ) (Cert.FnetRefIdeal.main (F := Ideal))) ⟨m', fun _ => 0, g'⟩ (fun r => ∀ c : Dev Cert.FnetRefIdeal.nD,
          r.2.mem ((c.tc : Thread Cert.FnetRefIdeal.nD Cert.FnetRefIdeal.τ).loc Cert.FnetRefIdeal.main_v9) = v0 c
          ∧ r.2.mem ((c.tc : Thread Cert.FnetRefIdeal.nD Cert.FnetRefIdeal.τ).loc Cert.FnetRefIdeal.main_arg0) = m' ((c.tc : Thread Cert.FnetRefIdeal.nD Cert.FnetRefIdeal.τ).loc Cert.FnetRefIdeal.main_arg0)
          ∧ r.2.mem ((c.tc : Thread Cert.FnetRefIdeal.nD Cert.FnetRefIdeal.τ).loc Cert.FnetRefIdeal.main_arg1) = m' ((c.tc : Thread Cert.FnetRefIdeal.nD Cert.FnetRefIdeal.τ).loc Cert.FnetRefIdeal.main_arg1)
          ∧ r.2.mem ((c.tc : Thread Cert.FnetRefIdeal.nD Cert.FnetRefIdeal.τ).loc Cert.FnetRefIdeal.main_arg2) = m' ((c.tc : Thread Cert.FnetRefIdeal.nD Cert.FnetRefIdeal.τ).loc Cert.FnetRefIdeal.main_arg2))

def preserves_Proj_ProjIdeal : Prop :=
  IdealRules.bf16_pair.BufferStatement Cert.ProjIdeal.S65536x2x128 Cert.ProjIdeal.S65536x1x128
  ∧ IdealRules.bf16_pair.BufferStatement Cert.ProjIdeal.S4096x2x128 Cert.ProjIdeal.S4096x1x128
  ∧ IdealRules.bf16_pair.Statement Cert.ProjIdeal.S512x2x128 Cert.ProjIdeal.S512x1x128
  ∧ IdealRules.bf16_pack.Statement Cert.ProjIdeal.S512x128

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v0_0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v32) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9))

def preserves_Merge_MergeIdeal : Prop :=
  IdealRules.bf16_pair.BufferStatement Cert.MergeIdeal.S65536x2x128 Cert.MergeIdeal.S65536x1x128
  ∧ IdealRules.bf16_pair.BufferStatement Cert.MergeIdeal.S2048x2x128 Cert.MergeIdeal.S2048x1x128
  ∧ IdealRules.bf16_pair.Statement Cert.MergeIdeal.S256x2x128 Cert.MergeIdeal.S256x1x128
  ∧ IdealRules.bf16_pack.Statement Cert.MergeIdeal.S256x128

def algebraic_MergeIdeal_MergeRefIdeal_pre_lse_finite [hMergeIdeal : Cert.MergeIdeal.Facts] [hMergeRefIdeal : Cert.MergeRefIdeal.Facts] [hPre_lse_finite : Cert.Pre_lse_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_lse_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v0_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v71) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def Claim : Prop :=
  ∃ (hAttn1 : Cert.Attn1.Facts) (hAttn1Ideal : Cert.Attn1Ideal.Facts) (hAttnRef1Ideal : Cert.AttnRef1Ideal.Facts) (hQkv1 : Cert.Qkv1.Facts) (hQkv1Ideal : Cert.Qkv1Ideal.Facts) (hQkvRef1Ideal : Cert.QkvRef1Ideal.Facts) (hQkv4 : Cert.Qkv4.Facts) (hQkv4Ideal : Cert.Qkv4Ideal.Facts) (hQkvRef4Ideal : Cert.QkvRef4Ideal.Facts) (hQkv16 : Cert.Qkv16.Facts) (hQkv16Ideal : Cert.Qkv16Ideal.Facts) (hQkvRef16Ideal : Cert.QkvRef16Ideal.Facts) (hAttn4 : Cert.Attn4.Facts) (hAttn4Ideal : Cert.Attn4Ideal.Facts) (hAttnRef4Ideal : Cert.AttnRef4Ideal.Facts) (hAttn16 : Cert.Attn16.Facts) (hAttn16Ideal : Cert.Attn16Ideal.Facts) (hAttnRef16Ideal : Cert.AttnRef16Ideal.Facts) (hFnet : Cert.Fnet.Facts) (hFnetIdeal : Cert.FnetIdeal.Facts) (hFnetRefIdeal : Cert.FnetRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hPre_lse_finite : Cert.Pre_lse_finite.Facts),
    quiescent_Attn1 (hAttn1 := hAttn1)
    ∧ quiescent_Attn1Ideal (hAttn1Ideal := hAttn1Ideal)
    ∧ quiescent_AttnRef1Ideal (hAttnRef1Ideal := hAttnRef1Ideal)
    ∧ quiescent_Qkv1 (hQkv1 := hQkv1)
    ∧ quiescent_Qkv1Ideal (hQkv1Ideal := hQkv1Ideal)
    ∧ quiescent_QkvRef1Ideal (hQkvRef1Ideal := hQkvRef1Ideal)
    ∧ quiescent_Qkv4 (hQkv4 := hQkv4)
    ∧ quiescent_Qkv4Ideal (hQkv4Ideal := hQkv4Ideal)
    ∧ quiescent_QkvRef4Ideal (hQkvRef4Ideal := hQkvRef4Ideal)
    ∧ quiescent_Qkv16 (hQkv16 := hQkv16)
    ∧ quiescent_Qkv16Ideal (hQkv16Ideal := hQkv16Ideal)
    ∧ quiescent_QkvRef16Ideal (hQkvRef16Ideal := hQkvRef16Ideal)
    ∧ quiescent_Attn4 (hAttn4 := hAttn4)
    ∧ quiescent_Attn4Ideal (hAttn4Ideal := hAttn4Ideal)
    ∧ quiescent_AttnRef4Ideal (hAttnRef4Ideal := hAttnRef4Ideal)
    ∧ quiescent_Attn16 (hAttn16 := hAttn16)
    ∧ quiescent_Attn16Ideal (hAttn16Ideal := hAttn16Ideal)
    ∧ quiescent_AttnRef16Ideal (hAttnRef16Ideal := hAttnRef16Ideal)
    ∧ quiescent_Fnet (hFnet := hFnet)
    ∧ quiescent_FnetIdeal (hFnetIdeal := hFnetIdeal)
    ∧ quiescent_FnetRefIdeal (hFnetRefIdeal := hFnetRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeIdeal_pre_lse_finite (hMergeIdeal := hMergeIdeal) (hPre_lse_finite := hPre_lse_finite)
    ∧ quiescent_MergeRefIdeal (hMergeRefIdeal := hMergeRefIdeal)
    ∧ quiescent_MergeRefIdeal_pre_lse_finite (hMergeRefIdeal := hMergeRefIdeal) (hPre_lse_finite := hPre_lse_finite)
    ∧ preserves_Attn1_Attn1Ideal
    ∧ algebraic_Attn1Ideal_AttnRef1Ideal (hAttn1Ideal := hAttn1Ideal) (hAttnRef1Ideal := hAttnRef1Ideal)
    ∧ preserves_Qkv1_Qkv1Ideal
    ∧ algebraic_Qkv1Ideal_QkvRef1Ideal (hQkv1Ideal := hQkv1Ideal) (hQkvRef1Ideal := hQkvRef1Ideal)
    ∧ preserves_Qkv4_Qkv4Ideal
    ∧ algebraic_Qkv4Ideal_QkvRef4Ideal (hQkv4Ideal := hQkv4Ideal) (hQkvRef4Ideal := hQkvRef4Ideal)
    ∧ preserves_Qkv16_Qkv16Ideal
    ∧ algebraic_Qkv16Ideal_QkvRef16Ideal (hQkv16Ideal := hQkv16Ideal) (hQkvRef16Ideal := hQkvRef16Ideal)
    ∧ preserves_Attn4_Attn4Ideal
    ∧ algebraic_Attn4Ideal_AttnRef4Ideal (hAttn4Ideal := hAttn4Ideal) (hAttnRef4Ideal := hAttnRef4Ideal)
    ∧ preserves_Attn16_Attn16Ideal
    ∧ algebraic_Attn16Ideal_AttnRef16Ideal (hAttn16Ideal := hAttn16Ideal) (hAttnRef16Ideal := hAttnRef16Ideal)
    ∧ preserves_Fnet_FnetIdeal
    ∧ algebraic_FnetIdeal_FnetRefIdeal (hFnetIdeal := hFnetIdeal) (hFnetRefIdeal := hFnetRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal_pre_lse_finite (hMergeIdeal := hMergeIdeal) (hMergeRefIdeal := hMergeRefIdeal) (hPre_lse_finite := hPre_lse_finite)
-- ==== Pre_lse_finite.lean ====
abbrev S2x1x4096x2048 : Shape := ⟨4, ![2, 1, 4096, 2048]⟩
abbrev S2x4x1024x2048 : Shape := ⟨4, ![2, 4, 1024, 2048]⟩
abbrev S2x16x256x2048 : Shape := ⟨4, ![2, 16, 256, 2048]⟩
abbrev S2x1x4096x128 : Shape := ⟨4, ![2, 1, 4096, 128]⟩
abbrev S2x4x1024x128 : Shape := ⟨4, ![2, 4, 1024, 128]⟩
abbrev S2x16x256x128 : Shape := ⟨4, ![2, 16, 256, 128]⟩
abbrev S2048x2048 : Shape := ⟨2, ![2048, 2048]⟩
abbrev S8192x2048 : Shape := ⟨2, ![8192, 2048]⟩
abbrev S2x1x2048 : Shape := ⟨3, ![2, 1, 2048]⟩
abbrev S1x2048 : Shape := ⟨2, ![1, 2048]⟩
abbrev S2048x128 : Shape := ⟨2, ![2048, 128]⟩
abbrev S1x128 : Shape := ⟨2, ![1, 128]⟩
abbrev S2x1x4096x16 : Shape := ⟨4, ![2, 1, 4096, 16]⟩
abbrev S_ : Shape := ⟨0, ![]⟩
abbrev S2x4x1024x16 : Shape := ⟨4, ![2, 4, 1024, 16]⟩
abbrev S2x16x256x16 : Shape := ⟨4, ![2, 16, 256, 16]⟩

class Facts : Prop where
  slices_S2x1x4096x128_S2x1x4096x16_0_0_0_0 : S2x1x4096x128.Slices ![0, 0, 0, 0] S2x1x4096x16
  bcast_S_S2x1x4096x16 : S_.BroadcastsInDim S2x1x4096x16 (![] : Fin 0 → Fin S2x1x4096x16.rank)
  reducesTo_S2x1x4096x16_S_d0_1_2_3 : S2x1x4096x16.ReducesTo [0, 1, 2, 3] S_
  h_S_ : 0 < S_.numel
  slices_S2x4x1024x128_S2x4x1024x16_0_0_0_0 : S2x4x1024x128.Slices ![0, 0, 0, 0] S2x4x1024x16
  bcast_S_S2x4x1024x16 : S_.BroadcastsInDim S2x4x1024x16 (![] : Fin 0 → Fin S2x4x1024x16.rank)
  reducesTo_S2x4x1024x16_S_d0_1_2_3 : S2x4x1024x16.ReducesTo [0, 1, 2, 3] S_
  slices_S2x16x256x128_S2x16x256x16_0_0_0_0 : S2x16x256x128.Slices ![0, 0, 0, 0] S2x16x256x16
  bcast_S_S2x16x256x16 : S_.BroadcastsInDim S2x16x256x16 (![] : Fin 0 → Fin S2x16x256x16.rank)
  reducesTo_S2x16x256x16_S_d0_1_2_3 : S2x16x256x16.ReducesTo [0, 1, 2, 3] S_

variable [Facts]

def fn {F : FTy → Type} [FloatOps F] (main_arg0 : FVec F S2x1x4096x2048 .bf16) (main_arg1 : FVec F S2x4x1024x2048 .bf16) (main_arg2 : FVec F S2x16x256x2048 .bf16) (main_arg3 : FVec F S2x1x4096x128 .f32) (main_arg4 : FVec F S2x4x1024x128 .f32) (main_arg5 : FVec F S2x16x256x128 .f32) (main_arg6 : FVec F S2048x2048 .bf16) (main_arg7 : FVec F S8192x2048 .f32) (main_arg8 : FVec F S2x1x2048 .f32) (main_arg9 : FVec F S1x2048 .f32) (main_arg10 : FVec F S1x2048 .f32) (main_arg11 : FVec F S2x1x2048 .f32) (main_arg12 : FVec F S2x1x2048 .f32) (main_arg13 : FVec F S2048x128 .f32) (main_arg14 : FVec F S1x128 .f32) : IVec S_ 1 :=
  let main_v0 : FVec F S2x1x4096x16 .f32 := (extractStridedSlice S2x1x4096x16 ![0, 0, 0, 0] · slices_S2x1x4096x128_S2x1x4096x16_0_0_0_0) main_arg3
  let main_v1 : FVec F S2x1x4096x16 .f32 := Host.absf main_v0
  let main_cst : FVec F S_ .f32 := constant S_ .f32 0x7F800000#32
  let main_v2 : FVec F S2x1x4096x16 .f32 := broadcastInDim S2x1x4096x16 ![] bcast_S_S2x1x4096x16 main_cst
  let main_v3 : IVec S2x1x4096x16 1 := cmpf .olt main_v1 main_v2
  let main_c : IVec S_ 1 := constantI S_ 1 1#1
  let main_v4 : IVec S_ 1 := (fun x v => Host.reduce IntOp.andi x v reducesTo_S2x1x4096x16_S_d0_1_2_3 h_S_) main_v3 main_c
  let main_v5 : FVec F S2x4x1024x16 .f32 := (extractStridedSlice S2x4x1024x16 ![0, 0, 0, 0] · slices_S2x4x1024x128_S2x4x1024x16_0_0_0_0) main_arg4
  let main_v6 : FVec F S2x4x1024x16 .f32 := Host.absf main_v5
  let main_cst_0 : FVec F S_ .f32 := constant S_ .f32 0x7F800000#32
  let main_v7 : FVec F S2x4x1024x16 .f32 := broadcastInDim S2x4x1024x16 ![] bcast_S_S2x4x1024x16 main_cst_0
  let main_v8 : IVec S2x4x1024x16 1 := cmpf .olt main_v6 main_v7
  let main_c_1 : IVec S_ 1 := constantI S_ 1 1#1
  let main_v9 : IVec S_ 1 := (fun x v => Host.reduce IntOp.andi x v reducesTo_S2x4x1024x16_S_d0_1_2_3 h_S_) main_v8 main_c_1
  let main_v10 : IVec S_ 1 := andi main_v4 main_v9
  let main_v11 : FVec F S2x16x256x16 .f32 := (extractStridedSlice S2x16x256x16 ![0, 0, 0, 0] · slices_S2x16x256x128_S2x16x256x16_0_0_0_0) main_arg5
  let main_v12 : FVec F S2x16x256x16 .f32 := Host.absf main_v11
  let main_cst_2 : FVec F S_ .f32 := constant S_ .f32 0x7F800000#32
  let main_v13 : FVec F S2x16x256x16 .f32 := broadcastInDim S2x16x256x16 ![] bcast_S_S2x16x256x16 main_cst_2
  let main_v14 : IVec S2x16x256x16 1 := cmpf .olt main_v12 main_v13
  let main_c_3 : IVec S_ 1 := constantI S_ 1 1#1
  let main_v15 : IVec S_ 1 := (fun x v => Host.reduce IntOp.andi x v reducesTo_S2x16x256x16_S_d0_1_2_3 h_S_) main_v14 main_c_3
  let main_v16 : IVec S_ 1 := andi main_v10 main_v15
  main_v16
-- ==== Attn1.lean ====
abbrev S2x1x4096x6144 : Shape := ⟨4, ![2, 1, 4096, 6144]⟩
abbrev S2x1x4096x2048 : Shape := ⟨4, ![2, 1, 4096, 2048]⟩
abbrev S2x1x4096x128 : Shape := ⟨4, ![2, 1, 4096, 128]⟩
abbrev S1x1x128x2048 : Shape := ⟨4, ![1, 1, 128, 2048]⟩
abbrev S1x1x64x2048 : Shape := ⟨4, ![1, 1, 64, 2048]⟩
abbrev S1x1x128x128 : Shape := ⟨4, ![1, 1, 128, 128]⟩
abbrev S256x2048 : Shape := ⟨2, ![256, 2048]⟩
abbrev S64x2048 : Shape := ⟨2, ![64, 2048]⟩
abbrev S128x2048 : Shape := ⟨2, ![128, 2048]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 20
  | .smem => 0
  | _ => 0

abbrev bufTy : (tb : Table) → Fin (tcTables nBuf tb) → BufTy
  | .hbm, ⟨0, _⟩ => ⟨S2x1x4096x6144, .bf16⟩
  | .hbm, ⟨1, _⟩ => ⟨S2x1x4096x2048, .bf16⟩
  | .hbm, ⟨2, _⟩ => ⟨S2x1x4096x128, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S1x1x64x2048, .bf16⟩
  | .local _ .vmem, ⟨3, _⟩ => ⟨S1x1x64x2048, .bf16⟩
  | .local _ .vmem, ⟨4, _⟩ => ⟨S1x1x128x2048, .bf16⟩
  | .local _ .vmem, ⟨5, _⟩ => ⟨S1x1x128x2048, .bf16⟩
  | .local _ .vmem, ⟨6, _⟩ => ⟨S1x1x64x2048, .bf16⟩
  | .local _ .vmem, ⟨7, _⟩ => ⟨S1x1x64x2048, .bf16⟩
  | .local _ .vmem, ⟨8, _⟩ => ⟨S1x1x64x2048, .bf16⟩
  | .local _ .vmem, ⟨9, _⟩ => ⟨S1x1x64x2048, .bf16⟩
  | .local _ .vmem, ⟨10, _⟩ => ⟨S1x1x128x2048, .bf16⟩
  | .local _ .vmem, ⟨11, _⟩ => ⟨S1x1x128x2048, .bf16⟩
  | .local _ .vmem, ⟨12, _⟩ => ⟨S1x1x64x2048, .bf16⟩
  | .local _ .vmem, ⟨13, _⟩ => ⟨S1x1x64x2048, .bf16⟩
  | .local _ .vmem, ⟨14, _⟩ => ⟨S1x1x128x2048, .bf16⟩
  | .local _ .vmem, ⟨15, _⟩ => ⟨S1x1x128x2048, .bf16⟩
  | .local _ .vmem, ⟨16, _⟩ => ⟨S1x1x128x128, .f32⟩
  | .local _ .vmem, ⟨17, _⟩ => ⟨S1x1x128x128, .f32⟩
  | .local _ .vmem, ⟨18, _⟩ => ⟨S256x2048, .bf16⟩
  | .local _ .vmem, ⟨19, _⟩ => ⟨S256x2048, .bf16⟩
  | _, _ => ⟨S2x1x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c63_i32 : BitVec 32 := 63#32
  let v2 : BitVec 32 := Scalar.minsi v1 c63_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![arg0.toNat, arg1.toNat, v2.toNat, c2_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c63_i32 : BitVec 32 := 63#32
  let v2 : BitVec 32 := Scalar.minsi v1 c63_i32
  let c2_i32_0 : BitVec 32 := 2#32
  let c0_i32 : BitVec 32 := 0#32
  ![arg0.toNat, arg1.toNat, v2.toNat, c2_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Attn1Ideal.lean ====
variable {F : FTy → Type} [FloatOps F] [Named F]
def κ : String → Option EReal := fun
  | "mask" => some ⊥
  | _ => none
-- ==== AttnRef1Ideal.lean ====
abbrev S2x1x4096x6144 : Shape := ⟨4, ![2, 1, 4096, 6144]⟩
abbrev S2x4096x3x16x128 : Shape := ⟨5, ![2, 4096, 3, 16, 128]⟩
abbrev S2x4096x1x16x128 : Shape := ⟨5, ![2, 4096, 1, 16, 128]⟩
abbrev S2x4096x16x128 : Shape := ⟨4, ![2, 4096, 16, 128]⟩
abbrev S2x16x4096x4096 : Shape := ⟨4, ![2, 16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x1x4096x4096 : Shape := ⟨4, ![1, 1, 4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S2x4096x16x1 : Shape := ⟨4, ![2, 4096, 16, 1]⟩
abbrev S2x4096x16 : Shape := ⟨3, ![2, 4096, 16]⟩
abbrev S2x4096x128 : Shape := ⟨3, ![2, 4096, 128]⟩
abbrev S2x1x4096x2048 : Shape := ⟨4, ![2, 1, 4096, 2048]⟩
abbrev S2x1x4096x128 : Shape := ⟨4, ![2, 1, 4096, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x1x4096x6144, .bf16⟩
  | .hbm, ⟨1, _⟩ => ⟨S2x1x4096x6144, .f32⟩
  | .hbm, ⟨2, _⟩ => ⟨S2x4096x3x16x128, .f32⟩
  | .hbm, ⟨3, _⟩ => ⟨S2x4096x1x16x128, .f32⟩
  | .hbm, ⟨4, _⟩ => ⟨S2x4096x16x128, .f32⟩
  | .hbm, ⟨5, _⟩ => ⟨S2x4096x1x16x128, .f32⟩
  | .hbm, ⟨6, _⟩ => ⟨S2x4096x16x128, .f32⟩
  | .hbm, ⟨7, _⟩ => ⟨S2x4096x1x16x128, .f32⟩
  | .hbm, ⟨8, _⟩ => ⟨S2x4096x16x128, .f32⟩
  | .hbm, ⟨9, _⟩ => ⟨S2x16x4096x4096, .f32⟩
  | .hbm, ⟨10, _⟩ => ⟨S4096, .i32⟩
  | .hbm, ⟨11, _⟩ => ⟨S4096x1, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S1x1x4096x4096, .i1⟩
  | .hbm, ⟨21, _⟩ => ⟨S_, .f32⟩
  | .hbm, ⟨22, _⟩ => ⟨S_, .f32⟩
  | .hbm, ⟨23, _⟩ => ⟨S2x16x4096x4096, .i1⟩
  | .hbm, ⟨24, _⟩ => ⟨S2x16x4096x4096, .f32⟩
  | .hbm, ⟨25, _⟩ => ⟨S2x16x4096x4096, .f32⟩
  | .hbm, ⟨26, _⟩ => ⟨S_, .f32⟩
  | .hbm, ⟨27, _⟩ => ⟨S2x16x4096, .f32⟩
  | .hbm, ⟨28, _⟩ => ⟨S2x16x4096x1, .f32⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S_, .f32⟩
  | .hbm, ⟨33, _⟩ => ⟨S2x16x4096, .f32⟩
  | .hbm, ⟨34, _⟩ => ⟨S2x16x4096x1, .f32⟩
  | .hbm, ⟨35, _⟩ => ⟨S2x16x128x4096, .f32⟩
  | .hbm, ⟨36, _⟩ => ⟨S2x4096x16x128, .f32⟩
  | .hbm, ⟨37, _⟩ => ⟨S2x4096x16x1, .f32⟩
  | .hbm, ⟨38, _⟩ => ⟨S2x4096x16x128, .f32⟩
  | .hbm, ⟨39, _⟩ => ⟨S2x4096x16x128, .f32⟩
  | .hbm, ⟨40, _⟩ => ⟨S2x16x4096x1, .f32⟩
  | .hbm, ⟨41, _⟩ => ⟨S2x16x4096x1, .f32⟩
  | .hbm, ⟨42, _⟩ => ⟨S2x16x4096, .f32⟩
  | .hbm, ⟨43, _⟩ => ⟨S2x4096x16, .f32⟩
  | .hbm, ⟨44, _⟩ => ⟨S_, .i32⟩
  | .hbm, ⟨45, _⟩ => ⟨S_, .f32⟩
  | .hbm, ⟨46, _⟩ => ⟨S2x4096x128, .f32⟩
  | .hbm, ⟨47, _⟩ => ⟨S2x4096x16x128, .bf16⟩
  | .hbm, ⟨48, _⟩ => ⟨S2x1x4096x2048, .bf16⟩
  | .hbm, ⟨49, _⟩ => ⟨S2x1x4096x128, .f32⟩
  | _, _ => ⟨S2x1x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_2 : Ref sig .tc := ⟨.hbm, 44, rfl⟩
abbrev main_call1_v0 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Qkv1.lean ====
abbrev S8192x2048 : Shape := ⟨2, ![8192, 2048]⟩
abbrev S2x1x2048 : Shape := ⟨3, ![2, 1, 2048]⟩
abbrev S1x2048x18432 : Shape := ⟨3, ![1, 2048, 18432]⟩
abbrev S9x24576x128 : Shape := ⟨3, ![9, 24576, 128]⟩
abbrev S2x1x4096x6144 : Shape := ⟨4, ![2, 1, 4096, 6144]⟩
abbrev S1024x2048 : Shape := ⟨2, ![1024, 2048]⟩
abbrev S1x1x2048 : Shape := ⟨3, ![1, 1, 2048]⟩
abbrev S1x2048x512 : Shape := ⟨3, ![1, 2048, 512]⟩
abbrev S3x1024x128 : Shape := ⟨3, ![3, 1024, 128]⟩
abbrev S1x1x1024x512 : Shape := ⟨4, ![1, 1, 1024, 512]⟩
abbrev S4x1024x128 : Shape := ⟨3, ![4, 1024, 128]⟩
abbrev S1x2048 : Shape := ⟨2, ![1, 2048]⟩
abbrev S2048x512 : Shape := ⟨2, ![2048, 512]⟩
abbrev S1024x512 : Shape := ⟨2, ![1024, 512]⟩
abbrev S1024x128 : Shape := ⟨2, ![1024, 128]⟩
abbrev S1x1024x128 : Shape := ⟨3, ![1, 1024, 128]⟩
abbrev S1x1x1024x128 : Shape := ⟨4, ![1, 1, 1024, 128]⟩

abbrev nBuf : Space → Nat
  | .hbm => 6
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2x1x2048, .f32⟩
  | .hbm, ⟨3, _⟩ => ⟨S1x2048x18432, .f32⟩
  | .hbm, ⟨4, _⟩ => ⟨S9x24576x128, .f32⟩
  | .hbm, ⟨5, _⟩ => ⟨S2x1x4096x6144, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x512, .f32⟩
  | .local _ .vmem, ⟨7, _⟩ => ⟨S1x2048x512, .f32⟩
  | .local _ .vmem, ⟨8, _⟩ => ⟨S3x1024x128, .f32⟩
  | .local _ .vmem, ⟨9, _⟩ => ⟨S3x1024x128, .f32⟩
  | .local _ .vmem, ⟨10, _⟩ => ⟨S1x1x1024x512, .bf16⟩
  | .local _ .vmem, ⟨11, _⟩ => ⟨S1x1x1024x512, .bf16⟩
  | .local _ .vmem, ⟨12, _⟩ => ⟨S1024x2048, .bf16⟩
  | .local _ .vmem, ⟨13, _⟩ => ⟨S4x1024x128, .f32⟩
  | .local _ .vmem, ⟨14, _⟩ => ⟨S4x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![97], ![false]⟩

def k0_cond3 (i : grid0.Coords) : BitVec 1 :=
  let arg0 : BitVec 32 := BitVec.ofNat 32 (i 0).val
  let c2_i32 : BitVec 32 := 2#32
  let c0_i32_7 : BitVec 32 := 0#32
  let v16 : BitVec 1 := Scalar.cmpi .eq c2_i32 c0_i32_7
  let c1_i32_8 : BitVec 32 := 1#32
  let v17 : BitVec 32 := Scalar.select v16 c1_i32_8 c2_i32
  let v18 : BitVec 32 := Scalar.remsi arg0 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_12 : BitVec 32 := 0#32
  let v26 : BitVec 1 := Scalar.cmpi .eq v25 c0_i32_12
  let v27 : BitVec 32 := Scalar.extui v26
  let c0_i32_13 : BitVec 32 := 0#32
  let v28 : BitVec 1 := Scalar.cmpi .ne v27 c0_i32_13
  v28

def k0_cond4 (i : grid0.Coords) : BitVec 1 :=
  let arg0 : BitVec 32 := BitVec.ofNat 32 (i 0).val
  let c2_i32_14 : BitVec 32 := 2#32
  let c0_i32_15 : BitVec 32 := 0#32
  let v29 : BitVec 1 := Scalar.cmpi .eq c2_i32_14 c0_i32_15
  let c1_i32_16 : BitVec 32 := 1#32
  let v30 : BitVec 32 := Scalar.select v29 c1_i32_16 c2_i32_14
  let v31 : BitVec 32 := Scalar.remsi arg0 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_20 : BitVec 32 := 1#32
  let v39 : BitVec 1 := Scalar.cmpi .eq v38 c1_i32_20
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat]

def cc0_transform_1 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.divsi v17 c4_i32
  let c0_i32_10 : BitVec 32 := 0#32
  let v29 : BitVec 1 := Scalar.cmpi .sgt v17 c0_i32_10
  let v30 : BitVec 32 := Scalar.extui v29
  let c0_i32_11 : BitVec 32 := 0#32
  let v31 : BitVec 1 := Scalar.cmpi .slt v17 c0_i32_11
  let v32 : BitVec 32 := Scalar.extui v31
  let v33 : BitVec 32 := Scalar.subi v30 v32
  let c0_i32_12 : BitVec 32 := 0#32
  let v34 : BitVec 1 := Scalar.cmpi .sgt c4_i32 c0_i32_12
  let v35 : BitVec 32 := Scalar.extui v34
  let c0_i32_13 : BitVec 32 := 0#32
  let v36 : BitVec 1 := Scalar.cmpi .slt c4_i32 c0_i32_13
  let v37 : BitVec 32 := Scalar.extui v36
  let v38 : BitVec 32 := Scalar.subi v35 v37
  let v39 : BitVec 1 := Scalar.cmpi .ne v33 v38
  let v40 : BitVec 32 := Scalar.remsi v17 c4_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c0_i32_16 : BitVec 32 := 0#32
  let c0_i32_17 : BitVec 32 := 0#32
  let c0_i32_18 : BitVec 32 := 0#32
  ![v44.toNat, c0_i32_16.toNat, c0_i32_17.toNat]

def cc0_transform_2 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.divsi v17 c4_i32
  let c0_i32_10 : BitVec 32 := 0#32
  let v29 : BitVec 1 := Scalar.cmpi .sgt v17 c0_i32_10
  let v30 : BitVec 32 := Scalar.extui v29
  let c0_i32_11 : BitVec 32 := 0#32
  let v31 : BitVec 1 := Scalar.cmpi .slt v17 c0_i32_11
  let v32 : BitVec 32 := Scalar.extui v31
  let v33 : BitVec 32 := Scalar.subi v30 v32
  let c0_i32_12 : BitVec 32 := 0#32
  let v34 : BitVec 1 := Scalar.cmpi .sgt c4_i32 c0_i32_12
  let v35 : BitVec 32 := Scalar.extui v34
  let c0_i32_13 : BitVec 32 := 0#32
  let v36 : BitVec 1 := Scalar.cmpi .slt c4_i32 c0_i32_13
  let v37 : BitVec 32 := Scalar.extui v36
  let v38 : BitVec 32 := Scalar.subi v35 v37
  let v39 : BitVec 1 := Scalar.cmpi .ne v33 v38
  let v40 : BitVec 32 := Scalar.remsi v17 c4_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c0_i32_16 : BitVec 32 := 0#32
  let c0_i32_17 : BitVec 32 := 0#32
  let c0_i32_18 : BitVec 32 := 0#32
  ![v44.toNat, c0_i32_16.toNat, c0_i32_17.toNat]

def cc0_transform_3 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let v28 : BitVec 32 := Scalar.addi c0_i32_10 v27
  let c0_i32_11 : BitVec 32 := 0#32
  let c0_i32_12 : BitVec 32 := 0#32
  let c0_i32_13 : BitVec 32 := 0#32
  ![c0_i32_11.toNat, c0_i32_12.toNat, v28.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.divsi v28 c4_i32
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi v28 c4_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c1_i32_18 : BitVec 32 := 1#32
  let v46 : BitVec 32 := Scalar.subi arg0 c1_i32_18
  let c0_i32_19 : BitVec 32 := 0#32
  let v47 : BitVec 32 := Scalar.maxsi v46 c0_i32_19
  let c12_i32_20 : BitVec 32 := 12#32
  let v48 : BitVec 32 := Scalar.divsi v47 c12_i32_20
  let c0_i32_21 : BitVec 32 := 0#32
  let v49 : BitVec 1 := Scalar.cmpi .sgt v47 c0_i32_21
  let v50 : BitVec 32 := Scalar.extui v49
  let c0_i32_22 : BitVec 32 := 0#32
  let v51 : BitVec 1 := Scalar.cmpi .slt v47 c0_i32_22
  let v52 : BitVec 32 := Scalar.extui v51
  let v53 : BitVec 32 := Scalar.subi v50 v52
  let c0_i32_23 : BitVec 32 := 0#32
  let v54 : BitVec 1 := Scalar.cmpi .sgt c12_i32_20 c0_i32_23
  let v55 : BitVec 32 := Scalar.extui v54
  let c0_i32_24 : BitVec 32 := 0#32
  let v56 : BitVec 1 := Scalar.cmpi .slt c12_i32_20 c0_i32_24
  let v57 : BitVec 32 := Scalar.extui v56
  let v58 : BitVec 32 := Scalar.subi v55 v57
  let v59 : BitVec 1 := Scalar.cmpi .ne v53 v58
  let v60 : BitVec 32 := Scalar.remsi v47 c12_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c12_i32_27 : BitVec 32 := 12#32
  let c0_i32_28 : BitVec 32 := 0#32
  let v65 : BitVec 1 := Scalar.cmpi .eq c12_i32_27 c0_i32_28
  let c1_i32_29 : BitVec 32 := 1#32
  let v66 : BitVec 32 := Scalar.select v65 c1_i32_29 c12_i32_27
  let v67 : BitVec 32 := Scalar.remsi v47 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c0_i32_33 : BitVec 32 := 0#32
  let v75 : BitVec 32 := Scalar.addi c0_i32_33 v64
  let c0_i32_34 : BitVec 32 := 0#32
  let c0_i32_35 : BitVec 32 := 0#32
  ![v45.toNat, v75.toNat, c0_i32_34.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.divsi v18 c4_i32
  let c0_i32_12 : BitVec 32 := 0#32
  let v30 : BitVec 1 := Scalar.cmpi .sgt v18 c0_i32_12
  let v31 : BitVec 32 := Scalar.extui v30
  let c0_i32_13 : BitVec 32 := 0#32
  let v32 : BitVec 1 := Scalar.cmpi .slt v18 c0_i32_13
  let v33 : BitVec 32 := Scalar.extui v32
  let v34 : BitVec 32 := Scalar.subi v31 v33
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi v18 c4_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c1_i32_18 : BitVec 32 := 1#32
  let v46 : BitVec 32 := Scalar.subi arg0 c1_i32_18
  let c0_i32_19 : BitVec 32 := 0#32
  let v47 : BitVec 32 := Scalar.maxsi v46 c0_i32_19
  let c12_i32_20 : BitVec 32 := 12#32
  let v48 : BitVec 32 := Scalar.divsi v47 c12_i32_20
  let c0_i32_21 : BitVec 32 := 0#32
  let v49 : BitVec 1 := Scalar.cmpi .sgt v47 c0_i32_21
  let v50 : BitVec 32 := Scalar.extui v49
  let c0_i32_22 : BitVec 32 := 0#32
  let v51 : BitVec 1 := Scalar.cmpi .slt v47 c0_i32_22
  let v52 : BitVec 32 := Scalar.extui v51
  let v53 : BitVec 32 := Scalar.subi v50 v52
  let c0_i32_23 : BitVec 32 := 0#32
  let v54 : BitVec 1 := Scalar.cmpi .sgt c12_i32_20 c0_i32_23
  let v55 : BitVec 32 := Scalar.extui v54
  let c0_i32_24 : BitVec 32 := 0#32
  let v56 : BitVec 1 := Scalar.cmpi .slt c12_i32_20 c0_i32_24
  let v57 : BitVec 32 := Scalar.extui v56
  let v58 : BitVec 32 := Scalar.subi v55 v57
  let v59 : BitVec 1 := Scalar.cmpi .ne v53 v58
  let v60 : BitVec 32 := Scalar.remsi v47 c12_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c12_i32_27 : BitVec 32 := 12#32
  let c0_i32_28 : BitVec 32 := 0#32
  let v65 : BitVec 1 := Scalar.cmpi .eq c12_i32_27 c0_i32_28
  let c1_i32_29 : BitVec 32 := 1#32
  let v66 : BitVec 32 := Scalar.select v65 c1_i32_29 c12_i32_27
  let v67 : BitVec 32 := Scalar.remsi v47 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c4_i32_33 : BitVec 32 := 4#32
  let c0_i32_34 : BitVec 32 := 0#32
  let v75 : BitVec 1 := Scalar.cmpi .eq c4_i32_33 c0_i32_34
  let c1_i32_35 : BitVec 32 := 1#32
  let v76 : BitVec 32 := Scalar.select v75 c1_i32_35 c4_i32_33
  let v77 : BitVec 32 := Scalar.remsi v64 v76
  let c0_i32_36 : BitVec 32 := 0#32
  let v78 : BitVec 1 := Scalar.cmpi .ne v77 c0_i32_36
  let c0_i32_37 : BitVec 32 := 0#32
  let v79 : BitVec 1 := Scalar.cmpi .slt v77 c0_i32_37
  let c0_i32_38 : BitVec 32 := 0#32
  let v80 : BitVec 1 := Scalar.cmpi .slt v76 c0_i32_38
  let v81 : BitVec 1 := Scalar.xori v79 v80
  let v82 : BitVec 1 := Scalar.andi v81 v78
  let v83 : BitVec 32 := Scalar.addi v77 v76
  let v84 : BitVec 32 := Scalar.select v82 v83 v77
  let c1_i32_39 : BitVec 32 := 1#32
  let v85 : BitVec 32 := Scalar.subi arg0 c1_i32_39
  let c0_i32_40 : BitVec 32 := 0#32
  let v86 : BitVec 32 := Scalar.maxsi v85 c0_i32_40
  let c12_i32_41 : BitVec 32 := 12#32
  let v87 : BitVec 32 := Scalar.divsi v86 c12_i32_41
  let c0_i32_42 : BitVec 32 := 0#32
  let v88 : BitVec 1 := Scalar.cmpi .sgt v86 c0_i32_42
  let v89 : BitVec 32 := Scalar.extui v88
  let c0_i32_43 : BitVec 32 := 0#32
  let v90 : BitVec 1 := Scalar.cmpi .slt v86 c0_i32_43
  let v91 : BitVec 32 := Scalar.extui v90
  let v92 : BitVec 32 := Scalar.subi v89 v91
  let c0_i32_44 : BitVec 32 := 0#32
  let v93 : BitVec 1 := Scalar.cmpi .sgt c12_i32_41 c0_i32_44
  let v94 : BitVec 32 := Scalar.extui v93
  let c0_i32_45 : BitVec 32 := 0#32
  let v95 : BitVec 1 := Scalar.cmpi .slt c12_i32_41 c0_i32_45
  let v96 : BitVec 32 := Scalar.extui v95
  let v97 : BitVec 32 := Scalar.subi v94 v96
  let v98 : BitVec 1 := Scalar.cmpi .ne v92 v97
  let v99 : BitVec 32 := Scalar.remsi v86 c12_i32_41
  let c0_i32_46 : BitVec 32 := 0#32
  let v100 : BitVec 1 := Scalar.cmpi .ne v99 c0_i32_46
  let v101 : BitVec 1 := Scalar.andi v98 v100
  let c1_i32_47 : BitVec 32 := 1#32
  let v102 : BitVec 32 := Scalar.subi v87 c1_i32_47
  let v103 : BitVec 32 := Scalar.select v101 v102 v87
  let c12_i32_48 : BitVec 32 := 12#32
  let c0_i32_49 : BitVec 32 := 0#32
  let v104 : BitVec 1 := Scalar.cmpi .eq c12_i32_48 c0_i32_49
  let c1_i32_50 : BitVec 32 := 1#32
  let v105 : BitVec 32 := Scalar.select v104 c1_i32_50 c12_i32_48
  let v106 : BitVec 32 := Scalar.remsi v86 v105
  let c0_i32_51 : BitVec 32 := 0#32
  let v107 : BitVec 1 := Scalar.cmpi .ne v106 c0_i32_51
  let c0_i32_52 : BitVec 32 := 0#32
  let v108 : BitVec 1 := Scalar.cmpi .slt v106 c0_i32_52
  let c0_i32_53 : BitVec 32 := 0#32
  let v109 : BitVec 1 := Scalar.cmpi .slt v105 c0_i32_53
  let v110 : BitVec 1 := Scalar.xori v108 v109
  let v111 : BitVec 1 := Scalar.andi v110 v107
  let v112 : BitVec 32 := Scalar.addi v106 v105
  let v113 : BitVec 32 := Scalar.select v111 v112 v106
  let c0_i32_54 : BitVec 32 := 0#32
  let c0_i32_55 : BitVec 32 := 0#32
  ![v45.toNat, c0_i32_54.toNat, v84.toNat, v113.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvRef1Ideal.lean ====
abbrev S8192x2048 : Shape := ⟨2, ![8192, 2048]⟩
abbrev S2x1x2048 : Shape := ⟨3, ![2, 1, 2048]⟩
abbrev S1x2048x18432 : Shape := ⟨3, ![1, 2048, 18432]⟩
abbrev S9x24576x128 : Shape := ⟨3, ![9, 24576, 128]⟩
abbrev S2x4096x2048 : Shape := ⟨3, ![2, 4096, 2048]⟩
abbrev S_ : Shape := ⟨0, ![]⟩
abbrev S2048x18432 : Shape := ⟨2, ![2048, 18432]⟩
abbrev S2048x6144 : Shape := ⟨2, ![2048, 6144]⟩
abbrev S8192x6144 : Shape := ⟨2, ![8192, 6144]⟩
abbrev S8192x3x16x128 : Shape := ⟨4, ![8192, 3, 16, 128]⟩
abbrev S9x8192x128 : Shape := ⟨3, ![9, 8192, 128]⟩
abbrev S72x1x1024x128 : Shape := ⟨4, ![72, 1, 1024, 128]⟩
abbrev S72x1024x1x128 : Shape := ⟨4, ![72, 1024, 1, 128]⟩
abbrev S3x3x8192x128 : Shape := ⟨4, ![3, 3, 8192, 128]⟩
abbrev S8192x3x3x128 : Shape := ⟨4, ![8192, 3, 3, 128]⟩
abbrev S8192x3x3x1x128 : Shape := ⟨5, ![8192, 3, 3, 1, 128]⟩
abbrev S8192x3x1x1x128 : Shape := ⟨5, ![8192, 3, 1, 1, 128]⟩
abbrev S8192x3x1x128 : Shape := ⟨4, ![8192, 3, 1, 128]⟩
abbrev S8192x3x16x112 : Shape := ⟨4, ![8192, 3, 16, 112]⟩
abbrev S8192x3x16x16 : Shape := ⟨4, ![8192, 3, 16, 16]⟩
abbrev S2x4096x1x6144 : Shape := ⟨4, ![2, 4096, 1, 6144]⟩
abbrev S2x1x4096x6144 : Shape := ⟨4, ![2, 1, 4096, 6144]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2x1x2048, .f32⟩
  | .hbm, ⟨3, _⟩ => ⟨S1x2048x18432, .f32⟩
  | .hbm, ⟨4, _⟩ => ⟨S9x24576x128, .f32⟩
  | .hbm, ⟨5, _⟩ => ⟨S2x4096x2048, .f32⟩
  | .hbm, ⟨6, _⟩ => ⟨S_, .f32⟩
  | .hbm, ⟨7, _⟩ => ⟨S2x1x2048, .f32⟩
  | .hbm, ⟨8, _⟩ => ⟨S2x1x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S8192x2048, .f32⟩
  | .hbm, ⟨14, _⟩ => ⟨S2048x18432, .f32⟩
  | .hbm, ⟨15, _⟩ => ⟨S2048x6144, .f32⟩
  | .hbm, ⟨16, _⟩ => ⟨S8192x6144, .f32⟩
  | .hbm, ⟨17, _⟩ => ⟨S8192x3x16x128, .f32⟩
  | .hbm, ⟨18, _⟩ => ⟨S9x8192x128, .f32⟩
  | .hbm, ⟨19, _⟩ => ⟨S72x1x1024x128, .f32⟩
  | .hbm, ⟨20, _⟩ => ⟨S72x1024x1x128, .f32⟩
  | .hbm, ⟨21, _⟩ => ⟨S3x3x8192x128, .f32⟩
  | .hbm, ⟨22, _⟩ => ⟨S8192x3x3x128, .f32⟩
  | .hbm, ⟨23, _⟩ => ⟨S8192x3x3x1x128, .f32⟩
  | .hbm, ⟨24, _⟩ => ⟨S8192x3x1x1x128, .f32⟩
  | .hbm, ⟨25, _⟩ => ⟨S8192x3x1x128, .f32⟩
  | .hbm, ⟨26, _⟩ => ⟨S8192x3x16x128, .f32⟩
  | .hbm, ⟨27, _⟩ => ⟨S8192x3x16x128, .f32⟩
  | .hbm, ⟨28, _⟩ => ⟨S8192x3x16x112, .f32⟩
  | .hbm, ⟨29, _⟩ => ⟨S8192x3x16x16, .f32⟩
  | .hbm, ⟨30, _⟩ => ⟨S8192x3x16x128, .f32⟩
  | .hbm, ⟨31, _⟩ => ⟨S8192x3x1x1x128, .f32⟩
  | .hbm, ⟨32, _⟩ => ⟨S8192x3x1x128, .f32⟩
  | .hbm, ⟨33, _⟩ => ⟨S8192x3x16x128, .f32⟩
  | .hbm, ⟨34, _⟩ => ⟨S8192x3x16x128, .f32⟩
  | .hbm, ⟨35, _⟩ => ⟨S8192x3x16x128, .f32⟩
  | .hbm, ⟨36, _⟩ => ⟨S8192x3x16x16, .f32⟩
  | .hbm, ⟨37, _⟩ => ⟨S8192x3x16x112, .f32⟩
  | .hbm, ⟨38, _⟩ => ⟨S8192x3x16x128, .f32⟩
  | .hbm, ⟨39, _⟩ => ⟨S8192x3x1x1x128, .f32⟩
  | .hbm, ⟨40, _⟩ => ⟨S8192x3x1x128, .f32⟩
  | .hbm, ⟨41, _⟩ => ⟨S8192x3x16x128, .f32⟩
  | .hbm, ⟨42, _⟩ => ⟨S8192x3x16x128, .f32⟩
  | .hbm, ⟨43, _⟩ => ⟨S8192x3x16x128, .f32⟩
  | .hbm, ⟨44, _⟩ => ⟨S8192x3x16x128, .bf16⟩
  | .hbm, ⟨45, _⟩ => ⟨S2x4096x1x6144, .bf16⟩
  | .hbm, ⟨46, _⟩ => ⟨S2x1x4096x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call1_v0 : Ref sig .tc := ⟨.hbm, 36, rfl⟩
abbrev main_call1_v1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Qkv4.lean ====
abbrev S8192x2048 : Shape := ⟨2, ![8192, 2048]⟩
abbrev S2x1x2048 : Shape := ⟨3, ![2, 1, 2048]⟩
abbrev S1x2048x18432 : Shape := ⟨3, ![1, 2048, 18432]⟩
abbrev S9x24576x128 : Shape := ⟨3, ![9, 24576, 128]⟩
abbrev S2x4x1024x6144 : Shape := ⟨4, ![2, 4, 1024, 6144]⟩
abbrev S1024x2048 : Shape := ⟨2, ![1024, 2048]⟩
abbrev S1x1x2048 : Shape := ⟨3, ![1, 1, 2048]⟩
abbrev S1x2048x512 : Shape := ⟨3, ![1, 2048, 512]⟩
abbrev S3x1024x128 : Shape := ⟨3, ![3, 1024, 128]⟩
abbrev S1x4x256x512 : Shape := ⟨4, ![1, 4, 256, 512]⟩
abbrev S4x1024x128 : Shape := ⟨3, ![4, 1024, 128]⟩
abbrev S1x2048 : Shape := ⟨2, ![1, 2048]⟩
abbrev S2048x512 : Shape := ⟨2, ![2048, 512]⟩
abbrev S1024x512 : Shape := ⟨2, ![1024, 512]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x256x128 : Shape := ⟨4, ![1, 1, 256, 128]⟩

abbrev nBuf : Space → Nat
  | .hbm => 6
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2x1x2048, .f32⟩
  | .hbm, ⟨3, _⟩ => ⟨S1x2048x18432, .f32⟩
  | .hbm, ⟨4, _⟩ => ⟨S9x24576x128, .f32⟩
  | .hbm, ⟨5, _⟩ => ⟨S2x4x1024x6144, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x512, .f32⟩
  | .local _ .vmem, ⟨7, _⟩ => ⟨S1x2048x512, .f32⟩
  | .local _ .vmem, ⟨8, _⟩ => ⟨S3x1024x128, .f32⟩
  | .local _ .vmem, ⟨9, _⟩ => ⟨S3x1024x128, .f32⟩
  | .local _ .vmem, ⟨10, _⟩ => ⟨S1x4x256x512, .bf16⟩
  | .local _ .vmem, ⟨11, _⟩ => ⟨S1x4x256x512, .bf16⟩
  | .local _ .vmem, ⟨12, _⟩ => ⟨S1024x2048, .bf16⟩
  | .local _ .vmem, ⟨13, _⟩ => ⟨S4x1024x128, .f32⟩
  | .local _ .vmem, ⟨14, _⟩ => ⟨S4x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![97], ![false]⟩

def k0_cond3 (i : grid0.Coords) : BitVec 1 :=
  let arg0 : BitVec 32 := BitVec.ofNat 32 (i 0).val
  let c2_i32 : BitVec 32 := 2#32
  let c0_i32_7 : BitVec 32 := 0#32
  let v16 : BitVec 1 := Scalar.cmpi .eq c2_i32 c0_i32_7
  let c1_i32_8 : BitVec 32 := 1#32
  let v17 : BitVec 32 := Scalar.select v16 c1_i32_8 c2_i32
  let v18 : BitVec 32 := Scalar.remsi arg0 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_12 : BitVec 32 := 0#32
  let v26 : BitVec 1 := Scalar.cmpi .eq v25 c0_i32_12
  let v27 : BitVec 32 := Scalar.extui v26
  let c0_i32_13 : BitVec 32 := 0#32
  let v28 : BitVec 1 := Scalar.cmpi .ne v27 c0_i32_13
  v28

def k0_cond4 (i : grid0.Coords) : BitVec 1 :=
  let arg0 : BitVec 32 := BitVec.ofNat 32 (i 0).val
  let c2_i32_14 : BitVec 32 := 2#32
  let c0_i32_15 : BitVec 32 := 0#32
  let v29 : BitVec 1 := Scalar.cmpi .eq c2_i32_14 c0_i32_15
  let c1_i32_16 : BitVec 32 := 1#32
  let v30 : BitVec 32 := Scalar.select v29 c1_i32_16 c2_i32_14
  let v31 : BitVec 32 := Scalar.remsi arg0 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_20 : BitVec 32 := 1#32
  let v39 : BitVec 1 := Scalar.cmpi .eq v38 c1_i32_20
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat]

def cc0_transform_1 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.divsi v17 c4_i32
  let c0_i32_10 : BitVec 32 := 0#32
  let v29 : BitVec 1 := Scalar.cmpi .sgt v17 c0_i32_10
  let v30 : BitVec 32 := Scalar.extui v29
  let c0_i32_11 : BitVec 32 := 0#32
  let v31 : BitVec 1 := Scalar.cmpi .slt v17 c0_i32_11
  let v32 : BitVec 32 := Scalar.extui v31
  let v33 : BitVec 32 := Scalar.subi v30 v32
  let c0_i32_12 : BitVec 32 := 0#32
  let v34 : BitVec 1 := Scalar.cmpi .sgt c4_i32 c0_i32_12
  let v35 : BitVec 32 := Scalar.extui v34
  let c0_i32_13 : BitVec 32 := 0#32
  let v36 : BitVec 1 := Scalar.cmpi .slt c4_i32 c0_i32_13
  let v37 : BitVec 32 := Scalar.extui v36
  let v38 : BitVec 32 := Scalar.subi v35 v37
  let v39 : BitVec 1 := Scalar.cmpi .ne v33 v38
  let v40 : BitVec 32 := Scalar.remsi v17 c4_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c0_i32_16 : BitVec 32 := 0#32
  let c0_i32_17 : BitVec 32 := 0#32
  let c0_i32_18 : BitVec 32 := 0#32
  ![v44.toNat, c0_i32_16.toNat, c0_i32_17.toNat]

def cc0_transform_2 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.divsi v17 c4_i32
  let c0_i32_10 : BitVec 32 := 0#32
  let v29 : BitVec 1 := Scalar.cmpi .sgt v17 c0_i32_10
  let v30 : BitVec 32 := Scalar.extui v29
  let c0_i32_11 : BitVec 32 := 0#32
  let v31 : BitVec 1 := Scalar.cmpi .slt v17 c0_i32_11
  let v32 : BitVec 32 := Scalar.extui v31
  let v33 : BitVec 32 := Scalar.subi v30 v32
  let c0_i32_12 : BitVec 32 := 0#32
  let v34 : BitVec 1 := Scalar.cmpi .sgt c4_i32 c0_i32_12
  let v35 : BitVec 32 := Scalar.extui v34
  let c0_i32_13 : BitVec 32 := 0#32
  let v36 : BitVec 1 := Scalar.cmpi .slt c4_i32 c0_i32_13
  let v37 : BitVec 32 := Scalar.extui v36
  let v38 : BitVec 32 := Scalar.subi v35 v37
  let v39 : BitVec 1 := Scalar.cmpi .ne v33 v38
  let v40 : BitVec 32 := Scalar.remsi v17 c4_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c0_i32_16 : BitVec 32 := 0#32
  let c0_i32_17 : BitVec 32 := 0#32
  let c0_i32_18 : BitVec 32 := 0#32
  ![v44.toNat, c0_i32_16.toNat, c0_i32_17.toNat]

def cc0_transform_3 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c12_i32_10 : BitVec 32 := 12#32
  let v28 : BitVec 32 := Scalar.addi c12_i32_10 v27
  let c0_i32_11 : BitVec 32 := 0#32
  let c0_i32_12 : BitVec 32 := 0#32
  let c0_i32_13 : BitVec 32 := 0#32
  ![c0_i32_11.toNat, c0_i32_12.toNat, v28.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.divsi v28 c4_i32
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi v28 c4_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c1_i32_18 : BitVec 32 := 1#32
  let v46 : BitVec 32 := Scalar.subi arg0 c1_i32_18
  let c0_i32_19 : BitVec 32 := 0#32
  let v47 : BitVec 32 := Scalar.maxsi v46 c0_i32_19
  let c12_i32_20 : BitVec 32 := 12#32
  let v48 : BitVec 32 := Scalar.divsi v47 c12_i32_20
  let c0_i32_21 : BitVec 32 := 0#32
  let v49 : BitVec 1 := Scalar.cmpi .sgt v47 c0_i32_21
  let v50 : BitVec 32 := Scalar.extui v49
  let c0_i32_22 : BitVec 32 := 0#32
  let v51 : BitVec 1 := Scalar.cmpi .slt v47 c0_i32_22
  let v52 : BitVec 32 := Scalar.extui v51
  let v53 : BitVec 32 := Scalar.subi v50 v52
  let c0_i32_23 : BitVec 32 := 0#32
  let v54 : BitVec 1 := Scalar.cmpi .sgt c12_i32_20 c0_i32_23
  let v55 : BitVec 32 := Scalar.extui v54
  let c0_i32_24 : BitVec 32 := 0#32
  let v56 : BitVec 1 := Scalar.cmpi .slt c12_i32_20 c0_i32_24
  let v57 : BitVec 32 := Scalar.extui v56
  let v58 : BitVec 32 := Scalar.subi v55 v57
  let v59 : BitVec 1 := Scalar.cmpi .ne v53 v58
  let v60 : BitVec 32 := Scalar.remsi v47 c12_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c12_i32_27 : BitVec 32 := 12#32
  let c0_i32_28 : BitVec 32 := 0#32
  let v65 : BitVec 1 := Scalar.cmpi .eq c12_i32_27 c0_i32_28
  let c1_i32_29 : BitVec 32 := 1#32
  let v66 : BitVec 32 := Scalar.select v65 c1_i32_29 c12_i32_27
  let v67 : BitVec 32 := Scalar.remsi v47 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c8_i32 : BitVec 32 := 8#32
  let v75 : BitVec 32 := Scalar.addi c8_i32 v64
  let c0_i32_33 : BitVec 32 := 0#32
  let c0_i32_34 : BitVec 32 := 0#32
  ![v45.toNat, v75.toNat, c0_i32_33.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.divsi v18 c4_i32
  let c0_i32_12 : BitVec 32 := 0#32
  let v30 : BitVec 1 := Scalar.cmpi .sgt v18 c0_i32_12
  let v31 : BitVec 32 := Scalar.extui v30
  let c0_i32_13 : BitVec 32 := 0#32
  let v32 : BitVec 1 := Scalar.cmpi .slt v18 c0_i32_13
  let v33 : BitVec 32 := Scalar.extui v32
  let v34 : BitVec 32 := Scalar.subi v31 v33
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi v18 c4_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c1_i32_18 : BitVec 32 := 1#32
  let v46 : BitVec 32 := Scalar.subi arg0 c1_i32_18
  let c0_i32_19 : BitVec 32 := 0#32
  let v47 : BitVec 32 := Scalar.maxsi v46 c0_i32_19
  let c12_i32_20 : BitVec 32 := 12#32
  let v48 : BitVec 32 := Scalar.divsi v47 c12_i32_20
  let c0_i32_21 : BitVec 32 := 0#32
  let v49 : BitVec 1 := Scalar.cmpi .sgt v47 c0_i32_21
  let v50 : BitVec 32 := Scalar.extui v49
  let c0_i32_22 : BitVec 32 := 0#32
  let v51 : BitVec 1 := Scalar.cmpi .slt v47 c0_i32_22
  let v52 : BitVec 32 := Scalar.extui v51
  let v53 : BitVec 32 := Scalar.subi v50 v52
  let c0_i32_23 : BitVec 32 := 0#32
  let v54 : BitVec 1 := Scalar.cmpi .sgt c12_i32_20 c0_i32_23
  let v55 : BitVec 32 := Scalar.extui v54
  let c0_i32_24 : BitVec 32 := 0#32
  let v56 : BitVec 1 := Scalar.cmpi .slt c12_i32_20 c0_i32_24
  let v57 : BitVec 32 := Scalar.extui v56
  let v58 : BitVec 32 := Scalar.subi v55 v57
  let v59 : BitVec 1 := Scalar.cmpi .ne v53 v58
  let v60 : BitVec 32 := Scalar.remsi v47 c12_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c12_i32_27 : BitVec 32 := 12#32
  let c0_i32_28 : BitVec 32 := 0#32
  let v65 : BitVec 1 := Scalar.cmpi .eq c12_i32_27 c0_i32_28
  let c1_i32_29 : BitVec 32 := 1#32
  let v66 : BitVec 32 := Scalar.select v65 c1_i32_29 c12_i32_27
  let v67 : BitVec 32 := Scalar.remsi v47 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c4_i32_33 : BitVec 32 := 4#32
  let c0_i32_34 : BitVec 32 := 0#32
  let v75 : BitVec 1 := Scalar.cmpi .eq c4_i32_33 c0_i32_34
  let c1_i32_35 : BitVec 32 := 1#32
  let v76 : BitVec 32 := Scalar.select v75 c1_i32_35 c4_i32_33
  let v77 : BitVec 32 := Scalar.remsi v64 v76
  let c0_i32_36 : BitVec 32 := 0#32
  let v78 : BitVec 1 := Scalar.cmpi .ne v77 c0_i32_36
  let c0_i32_37 : BitVec 32 := 0#32
  let v79 : BitVec 1 := Scalar.cmpi .slt v77 c0_i32_37
  let c0_i32_38 : BitVec 32 := 0#32
  let v80 : BitVec 1 := Scalar.cmpi .slt v76 c0_i32_38
  let v81 : BitVec 1 := Scalar.xori v79 v80
  let v82 : BitVec 1 := Scalar.andi v81 v78
  let v83 : BitVec 32 := Scalar.addi v77 v76
  let v84 : BitVec 32 := Scalar.select v82 v83 v77
  let c1_i32_39 : BitVec 32 := 1#32
  let v85 : BitVec 32 := Scalar.subi arg0 c1_i32_39
  let c0_i32_40 : BitVec 32 := 0#32
  let v86 : BitVec 32 := Scalar.maxsi v85 c0_i32_40
  let c12_i32_41 : BitVec 32 := 12#32
  let v87 : BitVec 32 := Scalar.divsi v86 c12_i32_41
  let c0_i32_42 : BitVec 32 := 0#32
  let v88 : BitVec 1 := Scalar.cmpi .sgt v86 c0_i32_42
  let v89 : BitVec 32 := Scalar.extui v88
  let c0_i32_43 : BitVec 32 := 0#32
  let v90 : BitVec 1 := Scalar.cmpi .slt v86 c0_i32_43
  let v91 : BitVec 32 := Scalar.extui v90
  let v92 : BitVec 32 := Scalar.subi v89 v91
  let c0_i32_44 : BitVec 32 := 0#32
  let v93 : BitVec 1 := Scalar.cmpi .sgt c12_i32_41 c0_i32_44
  let v94 : BitVec 32 := Scalar.extui v93
  let c0_i32_45 : BitVec 32 := 0#32
  let v95 : BitVec 1 := Scalar.cmpi .slt c12_i32_41 c0_i32_45
  let v96 : BitVec 32 := Scalar.extui v95
  let v97 : BitVec 32 := Scalar.subi v94 v96
  let v98 : BitVec 1 := Scalar.cmpi .ne v92 v97
  let v99 : BitVec 32 := Scalar.remsi v86 c12_i32_41
  let c0_i32_46 : BitVec 32 := 0#32
  let v100 : BitVec 1 := Scalar.cmpi .ne v99 c0_i32_46
  let v101 : BitVec 1 := Scalar.andi v98 v100
  let c1_i32_47 : BitVec 32 := 1#32
  let v102 : BitVec 32 := Scalar.subi v87 c1_i32_47
  let v103 : BitVec 32 := Scalar.select v101 v102 v87
  let c12_i32_48 : BitVec 32 := 12#32
  let c0_i32_49 : BitVec 32 := 0#32
  let v104 : BitVec 1 := Scalar.cmpi .eq c12_i32_48 c0_i32_49
  let c1_i32_50 : BitVec 32 := 1#32
  let v105 : BitVec 32 := Scalar.select v104 c1_i32_50 c12_i32_48
  let v106 : BitVec 32 := Scalar.remsi v86 v105
  let c0_i32_51 : BitVec 32 := 0#32
  let v107 : BitVec 1 := Scalar.cmpi .ne v106 c0_i32_51
  let c0_i32_52 : BitVec 32 := 0#32
  let v108 : BitVec 1 := Scalar.cmpi .slt v106 c0_i32_52
  let c0_i32_53 : BitVec 32 := 0#32
  let v109 : BitVec 1 := Scalar.cmpi .slt v105 c0_i32_53
  let v110 : BitVec 1 := Scalar.xori v108 v109
  let v111 : BitVec 1 := Scalar.andi v110 v107
  let v112 : BitVec 32 := Scalar.addi v106 v105
  let v113 : BitVec 32 := Scalar.select v111 v112 v106
  let c0_i32_54 : BitVec 32 := 0#32
  let c0_i32_55 : BitVec 32 := 0#32
  ![v45.toNat, c0_i32_54.toNat, v84.toNat, v113.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvRef4Ideal.lean ====
abbrev S8192x2048 : Shape := ⟨2, ![8192, 2048]⟩
abbrev S2x1x2048 : Shape := ⟨3, ![2, 1, 2048]⟩
abbrev S1x2048x18432 : Shape := ⟨3, ![1, 2048, 18432]⟩
abbrev S9x24576x128 : Shape := ⟨3, ![9, 24576, 128]⟩
abbrev S2x4096x2048 : Shape := ⟨3, ![2, 4096, 2048]⟩
abbrev S_ : Shape := ⟨0, ![]⟩
abbrev S2048x18432 : Shape := ⟨2, ![2048, 18432]⟩
abbrev S2048x6144 : Shape := ⟨2, ![2048, 6144]⟩
abbrev S8192x6144 : Shape := ⟨2, ![8192, 6144]⟩
abbrev S8192x3x16x128 : Shape := ⟨4, ![8192, 3, 16, 128]⟩
abbrev S9x8192x128 : Shape := ⟨3, ![9, 8192, 128]⟩
abbrev S72x4x256x128 : Shape := ⟨4, ![72, 4, 256, 128]⟩
abbrev S72x256x4x128 : Shape := ⟨4, ![72, 256, 4, 128]⟩
abbrev S3x3x8192x128 : Shape := ⟨4, ![3, 3, 8192, 128]⟩
abbrev S8192x3x3x128 : Shape := ⟨4, ![8192, 3, 3, 128]⟩
abbrev S8192x3x3x1x128 : Shape := ⟨5, ![8192, 3, 3, 1, 128]⟩
abbrev S8192x3x1x1x128 : Shape := ⟨5, ![8192, 3, 1, 1, 128]⟩
abbrev S8192x3x1x128 : Shape := ⟨4, ![8192, 3, 1, 128]⟩
abbrev S8192x3x16x112 : Shape := ⟨4, ![8192, 3, 16, 112]⟩
abbrev S8192x3x16x16 : Shape := ⟨4, ![8192, 3, 16, 16]⟩
abbrev S2x1024x4x6144 : Shape := ⟨4, ![2, 1024, 4, 6144]⟩
abbrev S2x4x1024x6144 : Shape := ⟨4, ![2, 4, 1024, 6144]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2x1x2048, .f32⟩
  | .hbm, ⟨3, _⟩ => ⟨S1x2048x18432, .f32⟩
  | .hbm, ⟨4, _⟩ => ⟨S9x24576x128, .f32⟩
  | .hbm, ⟨5, _⟩ => ⟨S2x4096x2048, .f32⟩
  | .hbm, ⟨6, _⟩ => ⟨S_, .f32⟩
  | .hbm, ⟨7, _⟩ => ⟨S2x1x2048, .f32⟩
  | .hbm, ⟨8, _⟩ => ⟨S2x1x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S8192x2048, .f32⟩
  | .hbm, ⟨14, _⟩ => ⟨S2048x18432, .f32⟩
  | .hbm, ⟨15, _⟩ => ⟨S2048x6144, .f32⟩
  | .hbm, ⟨16, _⟩ => ⟨S8192x6144, .f32⟩
  | .hbm, ⟨17, _⟩ => ⟨S8192x3x16x128, .f32⟩
  | .hbm, ⟨18, _⟩ => ⟨S9x8192x128, .f32⟩
  | .hbm, ⟨19, _⟩ => ⟨S72x4x256x128, .f32⟩
  | .hbm, ⟨20, _⟩ => ⟨S72x256x4x128, .f32⟩
  | .hbm, ⟨21, _⟩ => ⟨S3x3x8192x128, .f32⟩
  | .hbm, ⟨22, _⟩ => ⟨S8192x3x3x128, .f32⟩
  | .hbm, ⟨23, _⟩ => ⟨S8192x3x3x1x128, .f32⟩
  | .hbm, ⟨24, _⟩ => ⟨S8192x3x1x1x128, .f32⟩
  | .hbm, ⟨25, _⟩ => ⟨S8192x3x1x128, .f32⟩
  | .hbm, ⟨26, _⟩ => ⟨S8192x3x16x128, .f32⟩
  | .hbm, ⟨27, _⟩ => ⟨S8192x3x16x128, .f32⟩
  | .hbm, ⟨28, _⟩ => ⟨S8192x3x16x112, .f32⟩
  | .hbm, ⟨29, _⟩ => ⟨S8192x3x16x16, .f32⟩
  | .hbm, ⟨30, _⟩ => ⟨S8192x3x16x128, .f32⟩
  | .hbm, ⟨31, _⟩ => ⟨S8192x3x1x1x128, .f32⟩
  | .hbm, ⟨32, _⟩ => ⟨S8192x3x1x128, .f32⟩
  | .hbm, ⟨33, _⟩ => ⟨S8192x3x16x128, .f32⟩
  | .hbm, ⟨34, _⟩ => ⟨S8192x3x16x128, .f32⟩
  | .hbm, ⟨35, _⟩ => ⟨S8192x3x16x128, .f32⟩
  | .hbm, ⟨36, _⟩ => ⟨S8192x3x16x16, .f32⟩
  | .hbm, ⟨37, _⟩ => ⟨S8192x3x16x112, .f32⟩
  | .hbm, ⟨38, _⟩ => ⟨S8192x3x16x128, .f32⟩
  | .hbm, ⟨39, _⟩ => ⟨S8192x3x1x1x128, .f32⟩
  | .hbm, ⟨40, _⟩ => ⟨S8192x3x1x128, .f32⟩
  | .hbm, ⟨41, _⟩ => ⟨S8192x3x16x128, .f32⟩
  | .hbm, ⟨42, _⟩ => ⟨S8192x3x16x128, .f32⟩
  | .hbm, ⟨43, _⟩ => ⟨S8192x3x16x128, .f32⟩
  | .hbm, ⟨44, _⟩ => ⟨S8192x3x16x128, .bf16⟩
  | .hbm, ⟨45, _⟩ => ⟨S2x1024x4x6144, .bf16⟩
  | .hbm, ⟨46, _⟩ => ⟨S2x4x1024x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call1_v0 : Ref sig .tc := ⟨.hbm, 36, rfl⟩
abbrev main_call1_v1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Qkv16.lean ====
abbrev S8192x2048 : Shape := ⟨2, ![8192, 2048]⟩
abbrev S2x1x2048 : Shape := ⟨3, ![2, 1, 2048]⟩
abbrev S1x2048x18432 : Shape := ⟨3, ![1, 2048, 18432]⟩
abbrev S9x24576x128 : Shape := ⟨3, ![9, 24576, 128]⟩
abbrev S2x16x256x6144 : Shape := ⟨4, ![2, 16, 256, 6144]⟩
abbrev S1024x2048 : Shape := ⟨2, ![1024, 2048]⟩
abbrev S1x1x2048 : Shape := ⟨3, ![1, 1, 2048]⟩
abbrev S1x2048x512 : Shape := ⟨3, ![1, 2048, 512]⟩
abbrev S3x1024x128 : Shape := ⟨3, ![3, 1024, 128]⟩
abbrev S1x16x64x512 : Shape := ⟨4, ![1, 16, 64, 512]⟩
abbrev S4x1024x128 : Shape := ⟨3, ![4, 1024, 128]⟩
abbrev S1x2048 : Shape := ⟨2, ![1, 2048]⟩
abbrev S2048x512 : Shape := ⟨2, ![2048, 512]⟩
abbrev S1024x512 : Shape := ⟨2, ![1024, 512]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩
abbrev S1x1x64x128 : Shape := ⟨4, ![1, 1, 64, 128]⟩

abbrev nBuf : Space → Nat
  | .hbm => 6
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2x1x2048, .f32⟩
  | .hbm, ⟨3, _⟩ => ⟨S1x2048x18432, .f32⟩
  | .hbm, ⟨4, _⟩ => ⟨S9x24576x128, .f32⟩
  | .hbm, ⟨5, _⟩ => ⟨S2x16x256x6144, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x512, .f32⟩
  | .local _ .vmem, ⟨7, _⟩ => ⟨S1x2048x512, .f32⟩
  | .local _ .vmem, ⟨8, _⟩ => ⟨S3x1024x128, .f32⟩
  | .local _ .vmem, ⟨9, _⟩ => ⟨S3x1024x128, .f32⟩
  | .local _ .vmem, ⟨10, _⟩ => ⟨S1x16x64x512, .bf16⟩
  | .local _ .vmem, ⟨11, _⟩ => ⟨S1x16x64x512, .bf16⟩
  | .local _ .vmem, ⟨12, _⟩ => ⟨S1024x2048, .bf16⟩
  | .local _ .vmem, ⟨13, _⟩ => ⟨S4x1024x128, .f32⟩
  | .local _ .vmem, ⟨14, _⟩ => ⟨S4x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![97], ![false]⟩

def k0_cond3 (i : grid0.Coords) : BitVec 1 :=
  let arg0 : BitVec 32 := BitVec.ofNat 32 (i 0).val
  let c2_i32 : BitVec 32 := 2#32
  let c0_i32_7 : BitVec 32 := 0#32
  let v16 : BitVec 1 := Scalar.cmpi .eq c2_i32 c0_i32_7
  let c1_i32_8 : BitVec 32 := 1#32
  let v17 : BitVec 32 := Scalar.select v16 c1_i32_8 c2_i32
  let v18 : BitVec 32 := Scalar.remsi arg0 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c0_i32_12 : BitVec 32 := 0#32
  let v26 : BitVec 1 := Scalar.cmpi .eq v25 c0_i32_12
  let v27 : BitVec 32 := Scalar.extui v26
  let c0_i32_13 : BitVec 32 := 0#32
  let v28 : BitVec 1 := Scalar.cmpi .ne v27 c0_i32_13
  v28

def k0_cond4 (i : grid0.Coords) : BitVec 1 :=
  let arg0 : BitVec 32 := BitVec.ofNat 32 (i 0).val
  let c2_i32_14 : BitVec 32 := 2#32
  let c0_i32_15 : BitVec 32 := 0#32
  let v29 : BitVec 1 := Scalar.cmpi .eq c2_i32_14 c0_i32_15
  let c1_i32_16 : BitVec 32 := 1#32
  let v30 : BitVec 32 := Scalar.select v29 c1_i32_16 c2_i32_14
  let v31 : BitVec 32 := Scalar.remsi arg0 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_20 : BitVec 32 := 1#32
  let v39 : BitVec 1 := Scalar.cmpi .eq v38 c1_i32_20
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat]

def cc0_transform_1 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.divsi v17 c4_i32
  let c0_i32_10 : BitVec 32 := 0#32
  let v29 : BitVec 1 := Scalar.cmpi .sgt v17 c0_i32_10
  let v30 : BitVec 32 := Scalar.extui v29
  let c0_i32_11 : BitVec 32 := 0#32
  let v31 : BitVec 1 := Scalar.cmpi .slt v17 c0_i32_11
  let v32 : BitVec 32 := Scalar.extui v31
  let v33 : BitVec 32 := Scalar.subi v30 v32
  let c0_i32_12 : BitVec 32 := 0#32
  let v34 : BitVec 1 := Scalar.cmpi .sgt c4_i32 c0_i32_12
  let v35 : BitVec 32 := Scalar.extui v34
  let c0_i32_13 : BitVec 32 := 0#32
  let v36 : BitVec 1 := Scalar.cmpi .slt c4_i32 c0_i32_13
  let v37 : BitVec 32 := Scalar.extui v36
  let v38 : BitVec 32 := Scalar.subi v35 v37
  let v39 : BitVec 1 := Scalar.cmpi .ne v33 v38
  let v40 : BitVec 32 := Scalar.remsi v17 c4_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c0_i32_16 : BitVec 32 := 0#32
  let c0_i32_17 : BitVec 32 := 0#32
  let c0_i32_18 : BitVec 32 := 0#32
  ![v44.toNat, c0_i32_16.toNat, c0_i32_17.toNat]

def cc0_transform_2 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.divsi v17 c4_i32
  let c0_i32_10 : BitVec 32 := 0#32
  let v29 : BitVec 1 := Scalar.cmpi .sgt v17 c0_i32_10
  let v30 : BitVec 32 := Scalar.extui v29
  let c0_i32_11 : BitVec 32 := 0#32
  let v31 : BitVec 1 := Scalar.cmpi .slt v17 c0_i32_11
  let v32 : BitVec 32 := Scalar.extui v31
  let v33 : BitVec 32 := Scalar.subi v30 v32
  let c0_i32_12 : BitVec 32 := 0#32
  let v34 : BitVec 1 := Scalar.cmpi .sgt c4_i32 c0_i32_12
  let v35 : BitVec 32 := Scalar.extui v34
  let c0_i32_13 : BitVec 32 := 0#32
  let v36 : BitVec 1 := Scalar.cmpi .slt c4_i32 c0_i32_13
  let v37 : BitVec 32 := Scalar.extui v36
  let v38 : BitVec 32 := Scalar.subi v35 v37
  let v39 : BitVec 1 := Scalar.cmpi .ne v33 v38
  let v40 : BitVec 32 := Scalar.remsi v17 c4_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c0_i32_16 : BitVec 32 := 0#32
  let c0_i32_17 : BitVec 32 := 0#32
  let c0_i32_18 : BitVec 32 := 0#32
  ![v44.toNat, c0_i32_16.toNat, c0_i32_17.toNat]

def cc0_transform_3 (i : grid0.Coords) : Fin 3 → Nat :=
  let arg0 : BitVec 32 := BitVec.ofNat 32 (i 0).val
  let c95_i32 : BitVec 32 := 95#32
  let v0 : BitVec 32 := Scalar.minsi arg0 c95_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c24_i32 : BitVec 32 := 24#32
  let v28 : BitVec 32 := Scalar.addi c24_i32 v27
  let c0_i32_10 : BitVec 32 := 0#32
  let c0_i32_11 : BitVec 32 := 0#32
  let c0_i32_12 : BitVec 32 := 0#32
  ![c0_i32_10.toNat, c0_i32_11.toNat, v28.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.divsi v28 c4_i32
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi v28 c4_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c1_i32_18 : BitVec 32 := 1#32
  let v46 : BitVec 32 := Scalar.subi arg0 c1_i32_18
  let c0_i32_19 : BitVec 32 := 0#32
  let v47 : BitVec 32 := Scalar.maxsi v46 c0_i32_19
  let c12_i32_20 : BitVec 32 := 12#32
  let v48 : BitVec 32 := Scalar.divsi v47 c12_i32_20
  let c0_i32_21 : BitVec 32 := 0#32
  let v49 : BitVec 1 := Scalar.cmpi .sgt v47 c0_i32_21
  let v50 : BitVec 32 := Scalar.extui v49
  let c0_i32_22 : BitVec 32 := 0#32
  let v51 : BitVec 1 := Scalar.cmpi .slt v47 c0_i32_22
  let v52 : BitVec 32 := Scalar.extui v51
  let v53 : BitVec 32 := Scalar.subi v50 v52
  let c0_i32_23 : BitVec 32 := 0#32
  let v54 : BitVec 1 := Scalar.cmpi .sgt c12_i32_20 c0_i32_23
  let v55 : BitVec 32 := Scalar.extui v54
  let c0_i32_24 : BitVec 32 := 0#32
  let v56 : BitVec 1 := Scalar.cmpi .slt c12_i32_20 c0_i32_24
  let v57 : BitVec 32 := Scalar.extui v56
  let v58 : BitVec 32 := Scalar.subi v55 v57
  let v59 : BitVec 1 := Scalar.cmpi .ne v53 v58
  let v60 : BitVec 32 := Scalar.remsi v47 c12_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c12_i32_27 : BitVec 32 := 12#32
  let c0_i32_28 : BitVec 32 := 0#32
  let v65 : BitVec 1 := Scalar.cmpi .eq c12_i32_27 c0_i32_28
  let c1_i32_29 : BitVec 32 := 1#32
  let v66 : BitVec 32 := Scalar.select v65 c1_i32_29 c12_i32_27
  let v67 : BitVec 32 := Scalar.remsi v47 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c16_i32 : BitVec 32 := 16#32
  let v75 : BitVec 32 := Scalar.addi c16_i32 v64
  let c0_i32_33 : BitVec 32 := 0#32
  let c0_i32_34 : BitVec 32 := 0#32
  ![v45.toNat, v75.toNat, c0_i32_33.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let v2 : BitVec 32 := Scalar.divsi v1 c12_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c12_i32 c0_i32_2
  let v9 : BitVec 32 := Scalar.extui v8
  let c0_i32_3 : BitVec 32 := 0#32
  let v10 : BitVec 1 := Scalar.cmpi .slt c12_i32 c0_i32_3
  let v11 : BitVec 32 := Scalar.extui v10
  let v12 : BitVec 32 := Scalar.subi v9 v11
  let v13 : BitVec 1 := Scalar.cmpi .ne v7 v12
  let v14 : BitVec 32 := Scalar.remsi v1 c12_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.divsi v18 c4_i32
  let c0_i32_12 : BitVec 32 := 0#32
  let v30 : BitVec 1 := Scalar.cmpi .sgt v18 c0_i32_12
  let v31 : BitVec 32 := Scalar.extui v30
  let c0_i32_13 : BitVec 32 := 0#32
  let v32 : BitVec 1 := Scalar.cmpi .slt v18 c0_i32_13
  let v33 : BitVec 32 := Scalar.extui v32
  let v34 : BitVec 32 := Scalar.subi v31 v33
  let c0_i32_14 : BitVec 32 := 0#32
  let v35 : BitVec 1 := Scalar.cmpi .sgt c4_i32 c0_i32_14
  let v36 : BitVec 32 := Scalar.extui v35
  let c0_i32_15 : BitVec 32 := 0#32
  let v37 : BitVec 1 := Scalar.cmpi .slt c4_i32 c0_i32_15
  let v38 : BitVec 32 := Scalar.extui v37
  let v39 : BitVec 32 := Scalar.subi v36 v38
  let v40 : BitVec 1 := Scalar.cmpi .ne v34 v39
  let v41 : BitVec 32 := Scalar.remsi v18 c4_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c1_i32_18 : BitVec 32 := 1#32
  let v46 : BitVec 32 := Scalar.subi arg0 c1_i32_18
  let c0_i32_19 : BitVec 32 := 0#32
  let v47 : BitVec 32 := Scalar.maxsi v46 c0_i32_19
  let c12_i32_20 : BitVec 32 := 12#32
  let v48 : BitVec 32 := Scalar.divsi v47 c12_i32_20
  let c0_i32_21 : BitVec 32 := 0#32
  let v49 : BitVec 1 := Scalar.cmpi .sgt v47 c0_i32_21
  let v50 : BitVec 32 := Scalar.extui v49
  let c0_i32_22 : BitVec 32 := 0#32
  let v51 : BitVec 1 := Scalar.cmpi .slt v47 c0_i32_22
  let v52 : BitVec 32 := Scalar.extui v51
  let v53 : BitVec 32 := Scalar.subi v50 v52
  let c0_i32_23 : BitVec 32 := 0#32
  let v54 : BitVec 1 := Scalar.cmpi .sgt c12_i32_20 c0_i32_23
  let v55 : BitVec 32 := Scalar.extui v54
  let c0_i32_24 : BitVec 32 := 0#32
  let v56 : BitVec 1 := Scalar.cmpi .slt c12_i32_20 c0_i32_24
  let v57 : BitVec 32 := Scalar.extui v56
  let v58 : BitVec 32 := Scalar.subi v55 v57
  let v59 : BitVec 1 := Scalar.cmpi .ne v53 v58
  let v60 : BitVec 32 := Scalar.remsi v47 c12_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c12_i32_27 : BitVec 32 := 12#32
  let c0_i32_28 : BitVec 32 := 0#32
  let v65 : BitVec 1 := Scalar.cmpi .eq c12_i32_27 c0_i32_28
  let c1_i32_29 : BitVec 32 := 1#32
  let v66 : BitVec 32 := Scalar.select v65 c1_i32_29 c12_i32_27
  let v67 : BitVec 32 := Scalar.remsi v47 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c4_i32_33 : BitVec 32 := 4#32
  let c0_i32_34 : BitVec 32 := 0#32
  let v75 : BitVec 1 := Scalar.cmpi .eq c4_i32_33 c0_i32_34
  let c1_i32_35 : BitVec 32 := 1#32
  let v76 : BitVec 32 := Scalar.select v75 c1_i32_35 c4_i32_33
  let v77 : BitVec 32 := Scalar.remsi v64 v76
  let c0_i32_36 : BitVec 32 := 0#32
  let v78 : BitVec 1 := Scalar.cmpi .ne v77 c0_i32_36
  let c0_i32_37 : BitVec 32 := 0#32
  let v79 : BitVec 1 := Scalar.cmpi .slt v77 c0_i32_37
  let c0_i32_38 : BitVec 32 := 0#32
  let v80 : BitVec 1 := Scalar.cmpi .slt v76 c0_i32_38
  let v81 : BitVec 1 := Scalar.xori v79 v80
  let v82 : BitVec 1 := Scalar.andi v81 v78
  let v83 : BitVec 32 := Scalar.addi v77 v76
  let v84 : BitVec 32 := Scalar.select v82 v83 v77
  let c1_i32_39 : BitVec 32 := 1#32
  let v85 : BitVec 32 := Scalar.subi arg0 c1_i32_39
  let c0_i32_40 : BitVec 32 := 0#32
  let v86 : BitVec 32 := Scalar.maxsi v85 c0_i32_40
  let c12_i32_41 : BitVec 32 := 12#32
  let v87 : BitVec 32 := Scalar.divsi v86 c12_i32_41
  let c0_i32_42 : BitVec 32 := 0#32
  let v88 : BitVec 1 := Scalar.cmpi .sgt v86 c0_i32_42
  let v89 : BitVec 32 := Scalar.extui v88
  let c0_i32_43 : BitVec 32 := 0#32
  let v90 : BitVec 1 := Scalar.cmpi .slt v86 c0_i32_43
  let v91 : BitVec 32 := Scalar.extui v90
  let v92 : BitVec 32 := Scalar.subi v89 v91
  let c0_i32_44 : BitVec 32 := 0#32
  let v93 : BitVec 1 := Scalar.cmpi .sgt c12_i32_41 c0_i32_44
  let v94 : BitVec 32 := Scalar.extui v93
  let c0_i32_45 : BitVec 32 := 0#32
  let v95 : BitVec 1 := Scalar.cmpi .slt c12_i32_41 c0_i32_45
  let v96 : BitVec 32 := Scalar.extui v95
  let v97 : BitVec 32 := Scalar.subi v94 v96
  let v98 : BitVec 1 := Scalar.cmpi .ne v92 v97
  let v99 : BitVec 32 := Scalar.remsi v86 c12_i32_41
  let c0_i32_46 : BitVec 32 := 0#32
  let v100 : BitVec 1 := Scalar.cmpi .ne v99 c0_i32_46
  let v101 : BitVec 1 := Scalar.andi v98 v100
  let c1_i32_47 : BitVec 32 := 1#32
  let v102 : BitVec 32 := Scalar.subi v87 c1_i32_47
  let v103 : BitVec 32 := Scalar.select v101 v102 v87
  let c12_i32_48 : BitVec 32 := 12#32
  let c0_i32_49 : BitVec 32 := 0#32
  let v104 : BitVec 1 := Scalar.cmpi .eq c12_i32_48 c0_i32_49
  let c1_i32_50 : BitVec 32 := 1#32
  let v105 : BitVec 32 := Scalar.select v104 c1_i32_50 c12_i32_48
  let v106 : BitVec 32 := Scalar.remsi v86 v105
  let c0_i32_51 : BitVec 32 := 0#32
  let v107 : BitVec 1 := Scalar.cmpi .ne v106 c0_i32_51
  let c0_i32_52 : BitVec 32 := 0#32
  let v108 : BitVec 1 := Scalar.cmpi .slt v106 c0_i32_52
  let c0_i32_53 : BitVec 32 := 0#32
  let v109 : BitVec 1 := Scalar.cmpi .slt v105 c0_i32_53
  let v110 : BitVec 1 := Scalar.xori v108 v109
  let v111 : BitVec 1 := Scalar.andi v110 v107
  let v112 : BitVec 32 := Scalar.addi v106 v105
  let v113 : BitVec 32 := Scalar.select v111 v112 v106
  let c0_i32_54 : BitVec 32 := 0#32
  let c0_i32_55 : BitVec 32 := 0#32
  ![v45.toNat, c0_i32_54.toNat, v84.toNat, v113.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvRef16Ideal.lean ====
abbrev S8192x2048 : Shape := ⟨2, ![8192, 2048]⟩
abbrev S2x1x2048 : Shape := ⟨3, ![2, 1, 2048]⟩
abbrev S1x2048x18432 : Shape := ⟨3, ![1, 2048, 18432]⟩
abbrev S9x24576x128 : Shape := ⟨3, ![9, 24576, 128]⟩
abbrev S2x4096x2048 : Shape := ⟨3, ![2, 4096, 2048]⟩
abbrev S_ : Shape := ⟨0, ![]⟩
abbrev S2048x18432 : Shape := ⟨2, ![2048, 18432]⟩
abbrev S2048x6144 : Shape := ⟨2, ![2048, 6144]⟩
abbrev S8192x6144 : Shape := ⟨2, ![8192, 6144]⟩
abbrev S8192x3x16x128 : Shape := ⟨4, ![8192, 3, 16, 128]⟩
abbrev S9x8192x128 : Shape := ⟨3, ![9, 8192, 128]⟩
abbrev S72x16x64x128 : Shape := ⟨4, ![72, 16, 64, 128]⟩
abbrev S72x64x16x128 : Shape := ⟨4, ![72, 64, 16, 128]⟩
abbrev S3x3x8192x128 : Shape := ⟨4, ![3, 3, 8192, 128]⟩
abbrev S8192x3x3x128 : Shape := ⟨4, ![8192, 3, 3, 128]⟩
abbrev S8192x3x3x1x128 : Shape := ⟨5, ![8192, 3, 3, 1, 128]⟩
abbrev S8192x3x1x1x128 : Shape := ⟨5, ![8192, 3, 1, 1, 128]⟩
abbrev S8192x3x1x128 : Shape := ⟨4, ![8192, 3, 1, 128]⟩
abbrev S8192x3x16x112 : Shape := ⟨4, ![8192, 3, 16, 112]⟩
abbrev S8192x3x16x16 : Shape := ⟨4, ![8192, 3, 16, 16]⟩
abbrev S2x256x16x6144 : Shape := ⟨4, ![2, 256, 16, 6144]⟩
abbrev S2x16x256x6144 : Shape := ⟨4, ![2, 16, 256, 6144]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S2x1x2048, .f32⟩
  | .hbm, ⟨3, _⟩ => ⟨S1x2048x18432, .f32⟩
  | .hbm, ⟨4, _⟩ => ⟨S9x24576x128, .f32⟩
  | .hbm, ⟨5, _⟩ => ⟨S2x4096x2048, .f32⟩
  | .hbm, ⟨6, _⟩ => ⟨S_, .f32⟩
  | .hbm, ⟨7, _⟩ => ⟨S2x1x2048, .f32⟩
  | .hbm, ⟨8, _⟩ => ⟨S2x1x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S8192x2048, .f32⟩
  | .hbm, ⟨14, _⟩ => ⟨S2048x18432, .f32⟩
  | .hbm, ⟨15, _⟩ => ⟨S2048x6144, .f32⟩
  | .hbm, ⟨16, _⟩ => ⟨S8192x6144, .f32⟩
  | .hbm, ⟨17, _⟩ => ⟨S8192x3x16x128, .f32⟩
  | .hbm, ⟨18, _⟩ => ⟨S9x8192x128, .f32⟩
  | .hbm, ⟨19, _⟩ => ⟨S72x16x64x128, .f32⟩
  | .hbm, ⟨20, _⟩ => ⟨S72x64x16x128, .f32⟩
  | .hbm, ⟨21, _⟩ => ⟨S3x3x8192x128, .f32⟩
  | .hbm, ⟨22, _⟩ => ⟨S8192x3x3x128, .f32⟩
  | .hbm, ⟨23, _⟩ => ⟨S8192x3x3x1x128, .f32⟩
  | .hbm, ⟨24, _⟩ => ⟨S8192x3x1x1x128, .f32⟩
  | .hbm, ⟨25, _⟩ => ⟨S8192x3x1x128, .f32⟩
  | .hbm, ⟨26, _⟩ => ⟨S8192x3x16x128, .f32⟩
  | .hbm, ⟨27, _⟩ => ⟨S8192x3x16x128, .f32⟩
  | .hbm, ⟨28, _⟩ => ⟨S8192x3x16x112, .f32⟩
  | .hbm, ⟨29, _⟩ => ⟨S8192x3x16x16, .f32⟩
  | .hbm, ⟨30, _⟩ => ⟨S8192x3x16x128, .f32⟩
  | .hbm, ⟨31, _⟩ => ⟨S8192x3x1x1x128, .f32⟩
  | .hbm, ⟨32, _⟩ => ⟨S8192x3x1x128, .f32⟩
  | .hbm, ⟨33, _⟩ => ⟨S8192x3x16x128, .f32⟩
  | .hbm, ⟨34, _⟩ => ⟨S8192x3x16x128, .f32⟩
  | .hbm, ⟨35, _⟩ => ⟨S8192x3x16x128, .f32⟩
  | .hbm, ⟨36, _⟩ => ⟨S8192x3x16x16, .f32⟩
  | .hbm, ⟨37, _⟩ => ⟨S8192x3x16x112, .f32⟩
  | .hbm, ⟨38, _⟩ => ⟨S8192x3x16x128, .f32⟩
  | .hbm, ⟨39, _⟩ => ⟨S8192x3x1x1x128, .f32⟩
  | .hbm, ⟨40, _⟩ => ⟨S8192x3x1x128, .f32⟩
  | .hbm, ⟨41, _⟩ => ⟨S8192x3x16x128, .f32⟩
  | .hbm, ⟨42, _⟩ => ⟨S8192x3x16x128, .f32⟩
  | .hbm, ⟨43, _⟩ => ⟨S8192x3x16x128, .f32⟩
  | .hbm, ⟨44, _⟩ => ⟨S8192x3x16x128, .bf16⟩
  | .hbm, ⟨45, _⟩ => ⟨S2x256x16x6144, .bf16⟩
  | .hbm, ⟨46, _⟩ => ⟨S2x16x256x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call1_v0 : Ref sig .tc := ⟨.hbm, 36, rfl⟩
abbrev main_call1_v1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Attn4.lean ====
abbrev S2x4x1024x6144 : Shape := ⟨4, ![2, 4, 1024, 6144]⟩
abbrev S2x4x1024x2048 : Shape := ⟨4, ![2, 4, 1024, 2048]⟩
abbrev S2x4x1024x128 : Shape := ⟨4, ![2, 4, 1024, 128]⟩
abbrev S1x1x128x2048 : Shape := ⟨4, ![1, 1, 128, 2048]⟩
abbrev S1x1x64x2048 : Shape := ⟨4, ![1, 1, 64, 2048]⟩
abbrev S1x1x128x128 : Shape := ⟨4, ![1, 1, 128, 128]⟩
abbrev S256x2048 : Shape := ⟨2, ![256, 2048]⟩
abbrev S64x2048 : Shape := ⟨2, ![64, 2048]⟩
abbrev S128x2048 : Shape := ⟨2, ![128, 2048]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 20
  | .smem => 0
  | _ => 0

abbrev bufTy : (tb : Table) → Fin (tcTables nBuf tb) → BufTy
  | .hbm, ⟨0, _⟩ => ⟨S2x4x1024x6144, .bf16⟩
  | .hbm, ⟨1, _⟩ => ⟨S2x4x1024x2048, .bf16⟩
  | .hbm, ⟨2, _⟩ => ⟨S2x4x1024x128, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S1x1x64x2048, .bf16⟩
  | .local _ .vmem, ⟨3, _⟩ => ⟨S1x1x64x2048, .bf16⟩
  | .local _ .vmem, ⟨4, _⟩ => ⟨S1x1x128x2048, .bf16⟩
  | .local _ .vmem, ⟨5, _⟩ => ⟨S1x1x128x2048, .bf16⟩
  | .local _ .vmem, ⟨6, _⟩ => ⟨S1x1x64x2048, .bf16⟩
  | .local _ .vmem, ⟨7, _⟩ => ⟨S1x1x64x2048, .bf16⟩
  | .local _ .vmem, ⟨8, _⟩ => ⟨S1x1x64x2048, .bf16⟩
  | .local _ .vmem, ⟨9, _⟩ => ⟨S1x1x64x2048, .bf16⟩
  | .local _ .vmem, ⟨10, _⟩ => ⟨S1x1x128x2048, .bf16⟩
  | .local _ .vmem, ⟨11, _⟩ => ⟨S1x1x128x2048, .bf16⟩
  | .local _ .vmem, ⟨12, _⟩ => ⟨S1x1x64x2048, .bf16⟩
  | .local _ .vmem, ⟨13, _⟩ => ⟨S1x1x64x2048, .bf16⟩
  | .local _ .vmem, ⟨14, _⟩ => ⟨S1x1x128x2048, .bf16⟩
  | .local _ .vmem, ⟨15, _⟩ => ⟨S1x1x128x2048, .bf16⟩
  | .local _ .vmem, ⟨16, _⟩ => ⟨S1x1x128x128, .f32⟩
  | .local _ .vmem, ⟨17, _⟩ => ⟨S1x1x128x128, .f32⟩
  | .local _ .vmem, ⟨18, _⟩ => ⟨S256x2048, .bf16⟩
  | .local _ .vmem, ⟨19, _⟩ => ⟨S256x2048, .bf16⟩
  | _, _ => ⟨S2x4x1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c15_i32 : BitVec 32 := 15#32
  let v2 : BitVec 32 := Scalar.minsi v1 c15_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![arg0.toNat, arg1.toNat, v2.toNat, c2_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c15_i32 : BitVec 32 := 15#32
  let v2 : BitVec 32 := Scalar.minsi v1 c15_i32
  let c2_i32_0 : BitVec 32 := 2#32
  let c0_i32 : BitVec 32 := 0#32
  ![arg0.toNat, arg1.toNat, v2.toNat, c2_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Attn4Ideal.lean ====
variable {F : FTy → Type} [FloatOps F] [Named F]
def κ : String → Option EReal := fun
  | "mask" => some ⊥
  | _ => none
-- ==== AttnRef4Ideal.lean ====
abbrev S2x4x1024x6144 : Shape := ⟨4, ![2, 4, 1024, 6144]⟩
abbrev S8x1024x3x16x128 : Shape := ⟨5, ![8, 1024, 3, 16, 128]⟩
abbrev S8x1024x1x16x128 : Shape := ⟨5, ![8, 1024, 1, 16, 128]⟩
abbrev S8x1024x16x128 : Shape := ⟨4, ![8, 1024, 16, 128]⟩
abbrev S8x16x1024x1024 : Shape := ⟨4, ![8, 16, 1024, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x1x1024x1024 : Shape := ⟨4, ![1, 1, 1024, 1024]⟩
abbrev S8x16x1024 : Shape := ⟨3, ![8, 16, 1024]⟩
abbrev S8x16x1024x1 : Shape := ⟨4, ![8, 16, 1024, 1]⟩
abbrev S8x16x128x1024 : Shape := ⟨4, ![8, 16, 128, 1024]⟩
abbrev S8x1024x16x1 : Shape := ⟨4, ![8, 1024, 16, 1]⟩
abbrev S8x1024x16 : Shape := ⟨3, ![8, 1024, 16]⟩
abbrev S8x1024x128 : Shape := ⟨3, ![8, 1024, 128]⟩
abbrev S2x4x1024x2048 : Shape := ⟨4, ![2, 4, 1024, 2048]⟩
abbrev S2x4x1024x128 : Shape := ⟨4, ![2, 4, 1024, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x4x1024x6144, .bf16⟩
  | .hbm, ⟨1, _⟩ => ⟨S2x4x1024x6144, .f32⟩
  | .hbm, ⟨2, _⟩ => ⟨S8x1024x3x16x128, .f32⟩
  | .hbm, ⟨3, _⟩ => ⟨S8x1024x1x16x128, .f32⟩
  | .hbm, ⟨4, _⟩ => ⟨S8x1024x16x128, .f32⟩
  | .hbm, ⟨5, _⟩ => ⟨S8x1024x1x16x128, .f32⟩
  | .hbm, ⟨6, _⟩ => ⟨S8x1024x16x128, .f32⟩
  | .hbm, ⟨7, _⟩ => ⟨S8x1024x1x16x128, .f32⟩
  | .hbm, ⟨8, _⟩ => ⟨S8x1024x16x128, .f32⟩
  | .hbm, ⟨9, _⟩ => ⟨S8x16x1024x1024, .f32⟩
  | .hbm, ⟨10, _⟩ => ⟨S1024, .i32⟩
  | .hbm, ⟨11, _⟩ => ⟨S1024x1, .i32⟩
  | .hbm, ⟨12, _⟩ => ⟨S1x1024, .i32⟩
  | .hbm, ⟨13, _⟩ => ⟨S1024x1024, .i32⟩
  | .hbm, ⟨14, _⟩ => ⟨S1024x1024, .i32⟩
  | .hbm, ⟨15, _⟩ => ⟨S1024x1024, .i32⟩
  | .hbm, ⟨16, _⟩ => ⟨S1024x1024, .i32⟩
  | .hbm, ⟨17, _⟩ => ⟨S_, .i32⟩
  | .hbm, ⟨18, _⟩ => ⟨S1024x1024, .i32⟩
  | .hbm, ⟨19, _⟩ => ⟨S1024x1024, .i1⟩
  | .hbm, ⟨20, _⟩ => ⟨S1x1x1024x1024, .i1⟩
  | .hbm, ⟨21, _⟩ => ⟨S_, .f32⟩
  | .hbm, ⟨22, _⟩ => ⟨S_, .f32⟩
  | .hbm, ⟨23, _⟩ => ⟨S8x16x1024x1024, .i1⟩
  | .hbm, ⟨24, _⟩ => ⟨S8x16x1024x1024, .f32⟩
  | .hbm, ⟨25, _⟩ => ⟨S8x16x1024x1024, .f32⟩
  | .hbm, ⟨26, _⟩ => ⟨S_, .f32⟩
  | .hbm, ⟨27, _⟩ => ⟨S8x16x1024, .f32⟩
  | .hbm, ⟨28, _⟩ => ⟨S8x16x1024x1, .f32⟩
  | .hbm, ⟨29, _⟩ => ⟨S8x16x1024x1024, .f32⟩
  | .hbm, ⟨30, _⟩ => ⟨S8x16x1024x1024, .f32⟩
  | .hbm, ⟨31, _⟩ => ⟨S8x16x1024x1024, .f32⟩
  | .hbm, ⟨32, _⟩ => ⟨S_, .f32⟩
  | .hbm, ⟨33, _⟩ => ⟨S8x16x1024, .f32⟩
  | .hbm, ⟨34, _⟩ => ⟨S8x16x1024x1, .f32⟩
  | .hbm, ⟨35, _⟩ => ⟨S8x16x128x1024, .f32⟩
  | .hbm, ⟨36, _⟩ => ⟨S8x1024x16x128, .f32⟩
  | .hbm, ⟨37, _⟩ => ⟨S8x1024x16x1, .f32⟩
  | .hbm, ⟨38, _⟩ => ⟨S8x1024x16x128, .f32⟩
  | .hbm, ⟨39, _⟩ => ⟨S8x1024x16x128, .f32⟩
  | .hbm, ⟨40, _⟩ => ⟨S8x16x1024x1, .f32⟩
  | .hbm, ⟨41, _⟩ => ⟨S8x16x1024x1, .f32⟩
  | .hbm, ⟨42, _⟩ => ⟨S8x16x1024, .f32⟩
  | .hbm, ⟨43, _⟩ => ⟨S8x1024x16, .f32⟩
  | .hbm, ⟨44, _⟩ => ⟨S_, .i32⟩
  | .hbm, ⟨45, _⟩ => ⟨S_, .f32⟩
  | .hbm, ⟨46, _⟩ => ⟨S8x1024x128, .f32⟩
  | .hbm, ⟨47, _⟩ => ⟨S8x1024x16x128, .bf16⟩
  | .hbm, ⟨48, _⟩ => ⟨S2x4x1024x2048, .bf16⟩
  | .hbm, ⟨49, _⟩ => ⟨S2x4x1024x128, .f32⟩
  | _, _ => ⟨S2x4x1024x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_2 : Ref sig .tc := ⟨.hbm, 44, rfl⟩
abbrev main_call1_v0 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Attn16.lean ====
abbrev S2x16x256x6144 : Shape := ⟨4, ![2, 16, 256, 6144]⟩
abbrev S2x16x256x2048 : Shape := ⟨4, ![2, 16, 256, 2048]⟩
abbrev S2x16x256x128 : Shape := ⟨4, ![2, 16, 256, 128]⟩
abbrev S1x1x128x2048 : Shape := ⟨4, ![1, 1, 128, 2048]⟩
abbrev S1x1x64x2048 : Shape := ⟨4, ![1, 1, 64, 2048]⟩
abbrev S1x1x128x128 : Shape := ⟨4, ![1, 1, 128, 128]⟩
abbrev S256x2048 : Shape := ⟨2, ![256, 2048]⟩
abbrev S64x2048 : Shape := ⟨2, ![64, 2048]⟩
abbrev S128x2048 : Shape := ⟨2, ![128, 2048]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 20
  | .smem => 0
  | _ => 0

abbrev bufTy : (tb : Table) → Fin (tcTables nBuf tb) → BufTy
  | .hbm, ⟨0, _⟩ => ⟨S2x16x256x6144, .bf16⟩
  | .hbm, ⟨1, _⟩ => ⟨S2x16x256x2048, .bf16⟩
  | .hbm, ⟨2, _⟩ => ⟨S2x16x256x128, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S1x1x64x2048, .bf16⟩
  | .local _ .vmem, ⟨3, _⟩ => ⟨S1x1x64x2048, .bf16⟩
  | .local _ .vmem, ⟨4, _⟩ => ⟨S1x1x128x2048, .bf16⟩
  | .local _ .vmem, ⟨5, _⟩ => ⟨S1x1x128x2048, .bf16⟩
  | .local _ .vmem, ⟨6, _⟩ => ⟨S1x1x64x2048, .bf16⟩
  | .local _ .vmem, ⟨7, _⟩ => ⟨S1x1x64x2048, .bf16⟩
  | .local _ .vmem, ⟨8, _⟩ => ⟨S1x1x64x2048, .bf16⟩
  | .local _ .vmem, ⟨9, _⟩ => ⟨S1x1x64x2048, .bf16⟩
  | .local _ .vmem, ⟨10, _⟩ => ⟨S1x1x128x2048, .bf16⟩
  | .local _ .vmem, ⟨11, _⟩ => ⟨S1x1x128x2048, .bf16⟩
  | .local _ .vmem, ⟨12, _⟩ => ⟨S1x1x64x2048, .bf16⟩
  | .local _ .vmem, ⟨13, _⟩ => ⟨S1x1x64x2048, .bf16⟩
  | .local _ .vmem, ⟨14, _⟩ => ⟨S1x1x128x2048, .bf16⟩
  | .local _ .vmem, ⟨15, _⟩ => ⟨S1x1x128x2048, .bf16⟩
  | .local _ .vmem, ⟨16, _⟩ => ⟨S1x1x128x128, .f32⟩
  | .local _ .vmem, ⟨17, _⟩ => ⟨S1x1x128x128, .f32⟩
  | .local _ .vmem, ⟨18, _⟩ => ⟨S256x2048, .bf16⟩
  | .local _ .vmem, ⟨19, _⟩ => ⟨S256x2048, .bf16⟩
  | _, _ => ⟨S2x16x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c3_i32 : BitVec 32 := 3#32
  let v2 : BitVec 32 := Scalar.minsi v1 c3_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![arg0.toNat, arg1.toNat, v2.toNat, c2_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c3_i32 : BitVec 32 := 3#32
  let v2 : BitVec 32 := Scalar.minsi v1 c3_i32
  let c2_i32_0 : BitVec 32 := 2#32
  let c0_i32 : BitVec 32 := 0#32
  ![arg0.toNat, arg1.toNat, v2.toNat, c2_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Attn16Ideal.lean ====
variable {F : FTy → Type} [FloatOps F] [Named F]
def κ : String → Option EReal := fun
  | "mask" => some ⊥
  | _ => none
-- ==== AttnRef16Ideal.lean ====
abbrev S2x16x256x6144 : Shape := ⟨4, ![2, 16, 256, 6144]⟩
abbrev S32x256x3x16x128 : Shape := ⟨5, ![32, 256, 3, 16, 128]⟩
abbrev S32x256x1x16x128 : Shape := ⟨5, ![32, 256, 1, 16, 128]⟩
abbrev S32x256x16x128 : Shape := ⟨4, ![32, 256, 16, 128]⟩
abbrev S32x16x256x256 : Shape := ⟨4, ![32, 16, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x1x256x256 : Shape := ⟨4, ![1, 1, 256, 256]⟩
abbrev S32x16x256 : Shape := ⟨3, ![32, 16, 256]⟩
abbrev S32x16x256x1 : Shape := ⟨4, ![32, 16, 256, 1]⟩
abbrev S32x16x128x256 : Shape := ⟨4, ![32, 16, 128, 256]⟩
abbrev S32x256x16x1 : Shape := ⟨4, ![32, 256, 16, 1]⟩
abbrev S32x256x16 : Shape := ⟨3, ![32, 256, 16]⟩
abbrev S32x256x128 : Shape := ⟨3, ![32, 256, 128]⟩
abbrev S2x16x256x2048 : Shape := ⟨4, ![2, 16, 256, 2048]⟩
abbrev S2x16x256x128 : Shape := ⟨4, ![2, 16, 256, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x16x256x6144, .bf16⟩
  | .hbm, ⟨1, _⟩ => ⟨S2x16x256x6144, .f32⟩
  | .hbm, ⟨2, _⟩ => ⟨S32x256x3x16x128, .f32⟩
  | .hbm, ⟨3, _⟩ => ⟨S32x256x1x16x128, .f32⟩
  | .hbm, ⟨4, _⟩ => ⟨S32x256x16x128, .f32⟩
  | .hbm, ⟨5, _⟩ => ⟨S32x256x1x16x128, .f32⟩
  | .hbm, ⟨6, _⟩ => ⟨S32x256x16x128, .f32⟩
  | .hbm, ⟨7, _⟩ => ⟨S32x256x1x16x128, .f32⟩
  | .hbm, ⟨8, _⟩ => ⟨S32x256x16x128, .f32⟩
  | .hbm, ⟨9, _⟩ => ⟨S32x16x256x256, .f32⟩
  | .hbm, ⟨10, _⟩ => ⟨S256, .i32⟩
  | .hbm, ⟨11, _⟩ => ⟨S256x1, .i32⟩
  | .hbm, ⟨12, _⟩ => ⟨S1x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i1⟩
  | .hbm, ⟨20, _⟩ => ⟨S1x1x256x256, .i1⟩
  | .hbm, ⟨21, _⟩ => ⟨S_, .f32⟩
  | .hbm, ⟨22, _⟩ => ⟨S_, .f32⟩
  | .hbm, ⟨23, _⟩ => ⟨S32x16x256x256, .i1⟩
  | .hbm, ⟨24, _⟩ => ⟨S32x16x256x256, .f32⟩
  | .hbm, ⟨25, _⟩ => ⟨S32x16x256x256, .f32⟩
  | .hbm, ⟨26, _⟩ => ⟨S_, .f32⟩
  | .hbm, ⟨27, _⟩ => ⟨S32x16x256, .f32⟩
  | .hbm, ⟨28, _⟩ => ⟨S32x16x256x1, .f32⟩
  | .hbm, ⟨29, _⟩ => ⟨S32x16x256x256, .f32⟩
  | .hbm, ⟨30, _⟩ => ⟨S32x16x256x256, .f32⟩
  | .hbm, ⟨31, _⟩ => ⟨S32x16x256x256, .f32⟩
  | .hbm, ⟨32, _⟩ => ⟨S_, .f32⟩
  | .hbm, ⟨33, _⟩ => ⟨S32x16x256, .f32⟩
  | .hbm, ⟨34, _⟩ => ⟨S32x16x256x1, .f32⟩
  | .hbm, ⟨35, _⟩ => ⟨S32x16x128x256, .f32⟩
  | .hbm, ⟨36, _⟩ => ⟨S32x256x16x128, .f32⟩
  | .hbm, ⟨37, _⟩ => ⟨S32x256x16x1, .f32⟩
  | .hbm, ⟨38, _⟩ => ⟨S32x256x16x128, .f32⟩
  | .hbm, ⟨39, _⟩ => ⟨S32x256x16x128, .f32⟩
  | .hbm, ⟨40, _⟩ => ⟨S32x16x256x1, .f32⟩
  | .hbm, ⟨41, _⟩ => ⟨S32x16x256x1, .f32⟩
  | .hbm, ⟨42, _⟩ => ⟨S32x16x256, .f32⟩
  | .hbm, ⟨43, _⟩ => ⟨S32x256x16, .f32⟩
  | .hbm, ⟨44, _⟩ => ⟨S_, .i32⟩
  | .hbm, ⟨45, _⟩ => ⟨S_, .f32⟩
  | .hbm, ⟨46, _⟩ => ⟨S32x256x128, .f32⟩
  | .hbm, ⟨47, _⟩ => ⟨S32x256x16x128, .bf16⟩
  | .hbm, ⟨48, _⟩ => ⟨S2x16x256x2048, .bf16⟩
  | .hbm, ⟨49, _⟩ => ⟨S2x16x256x128, .f32⟩
  | _, _ => ⟨S2x16x256x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_2 : Ref sig .tc := ⟨.hbm, 44, rfl⟩
abbrev main_call1_v0 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Fnet.lean ====
abbrev S8192x2048 : Shape := ⟨2, ![8192, 2048]⟩
abbrev S2048x2048 : Shape := ⟨2, ![2048, 2048]⟩
abbrev S512x1024 : Shape := ⟨2, ![512, 1024]⟩
abbrev S2x2x4096x2048 : Shape := ⟨4, ![2, 2, 4096, 2048]⟩
abbrev S512x2048 : Shape := ⟨2, ![512, 2048]⟩
abbrev S1x2x512x2048 : Shape := ⟨4, ![1, 2, 512, 2048]⟩
abbrev S512x512 : Shape := ⟨2, ![512, 512]⟩
abbrev S1x1x512x512 : Shape := ⟨4, ![1, 1, 512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S512x1024, .bf16⟩
  | .hbm, ⟨3, _⟩ => ⟨S2x2x4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x1024, .bf16⟩
  | .local _ .vmem, ⟨4, _⟩ => ⟨S1x2x512x2048, .bf16⟩
  | .local _ .vmem, ⟨5, _⟩ => ⟨S1x2x512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FnetRefIdeal.lean ====
abbrev S8192x2048 : Shape := ⟨2, ![8192, 2048]⟩
abbrev S2048x2048 : Shape := ⟨2, ![2048, 2048]⟩
abbrev S512x1024 : Shape := ⟨2, ![512, 1024]⟩
abbrev S2x4096x4x512 : Shape := ⟨4, ![2, 4096, 4, 512]⟩
abbrev S2x4096x4x1024 : Shape := ⟨4, ![2, 4096, 4, 1024]⟩
abbrev S2x4096x4x2x512 : Shape := ⟨5, ![2, 4096, 4, 2, 512]⟩
abbrev S2x2x4096x4x512 : Shape := ⟨5, ![2, 2, 4096, 4, 512]⟩
abbrev S2x2x4096x2048 : Shape := ⟨4, ![2, 2, 4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S512x1024, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S2x4096x4x512, .f32⟩
  | .hbm, ⟨7, _⟩ => ⟨S512x1024, .f32⟩
  | .hbm, ⟨8, _⟩ => ⟨S2x4096x4x1024, .f32⟩
  | .hbm, ⟨9, _⟩ => ⟨S2x4096x4x1024, .bf16⟩
  | .hbm, ⟨10, _⟩ => ⟨S2x4096x4x2x512, .bf16⟩
  | .hbm, ⟨11, _⟩ => ⟨S2x2x4096x4x512, .bf16⟩
  | .hbm, ⟨12, _⟩ => ⟨S2x2x4096x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proj.lean ====
abbrev S8192x2048 : Shape := ⟨2, ![8192, 2048]⟩
abbrev S2048x2048 : Shape := ⟨2, ![2048, 2048]⟩
abbrev S2x1x2048 : Shape := ⟨3, ![2, 1, 2048]⟩
abbrev S1x2048 : Shape := ⟨2, ![1, 2048]⟩
abbrev S2048x128 : Shape := ⟨2, ![2048, 128]⟩
abbrev S1x128 : Shape := ⟨2, ![1, 128]⟩
abbrev S65536x128 : Shape := ⟨2, ![65536, 128]⟩
abbrev S8192x128 : Shape := ⟨2, ![8192, 128]⟩
abbrev S512x2048 : Shape := ⟨2, ![512, 2048]⟩
abbrev S1x1x2048 : Shape := ⟨3, ![1, 1, 2048]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2x1x2048, .f32⟩
  | .hbm, ⟨4, _⟩ => ⟨S1x2048, .f32⟩
  | .hbm, ⟨5, _⟩ => ⟨S1x2048, .f32⟩
  | .hbm, ⟨6, _⟩ => ⟨S2x1x2048, .f32⟩
  | .hbm, ⟨7, _⟩ => ⟨S2x1x2048, .f32⟩
  | .hbm, ⟨8, _⟩ => ⟨S2048x128, .f32⟩
  | .hbm, ⟨9, _⟩ => ⟨S1x128, .f32⟩
  | .hbm, ⟨10, _⟩ => ⟨S8192x2048, .f32⟩
  | .hbm, ⟨11, _⟩ => ⟨S65536x128, .i32⟩
  | .hbm, ⟨12, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S2048x128, .f32⟩
  | .local _ .vmem, ⟨14, _⟩ => ⟨S1x128, .f32⟩
  | .local _ .vmem, ⟨15, _⟩ => ⟨S512x2048, .f32⟩
  | .local _ .vmem, ⟨16, _⟩ => ⟨S512x2048, .f32⟩
  | .local _ .vmem, ⟨17, _⟩ => ⟨S4096x128, .i32⟩
  | .local _ .vmem, ⟨18, _⟩ => ⟨S4096x128, .i32⟩
  | .local _ .vmem, ⟨19, _⟩ => ⟨S512x128, .f32⟩
  | .local _ .vmem, ⟨20, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjIdeal.lean ====
abbrev S8192x2048 : Shape := ⟨2, ![8192, 2048]⟩
abbrev S2048x2048 : Shape := ⟨2, ![2048, 2048]⟩
abbrev S2x1x2048 : Shape := ⟨3, ![2, 1, 2048]⟩
abbrev S1x2048 : Shape := ⟨2, ![1, 2048]⟩
abbrev S2048x128 : Shape := ⟨2, ![2048, 128]⟩
abbrev S1x128 : Shape := ⟨2, ![1, 128]⟩
abbrev S65536x2x128 : Shape := ⟨3, ![65536, 2, 128]⟩
abbrev S8192x128 : Shape := ⟨2, ![8192, 128]⟩
abbrev S65536x1x128 : Shape := ⟨3, ![65536, 1, 128]⟩
abbrev S65536x128 : Shape := ⟨2, ![65536, 128]⟩
abbrev S512x2048 : Shape := ⟨2, ![512, 2048]⟩
abbrev S1x1x2048 : Shape := ⟨3, ![1, 1, 2048]⟩
abbrev S4096x128 : Shape := ⟨2, ![4096, 128]⟩
abbrev S4096x2x128 : Shape := ⟨3, ![4096, 2, 128]⟩
abbrev S4096x1x128 : Shape := ⟨3, ![4096, 1, 128]⟩
abbrev S512x128 : Shape := ⟨2, ![512, 128]⟩
abbrev S512 : Shape := ⟨1, ![512]⟩
abbrev S512x1 : Shape := ⟨2, ![512, 1]⟩
abbrev S512x2x128 : Shape := ⟨3, ![512, 2, 128]⟩
abbrev S512x1x128 : Shape := ⟨3, ![512, 1, 128]⟩

abbrev nBuf : Space → Nat
  | .hbm => 13
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2x1x2048, .f32⟩
  | .hbm, ⟨4, _⟩ => ⟨S1x2048, .f32⟩
  | .hbm, ⟨5, _⟩ => ⟨S1x2048, .f32⟩
  | .hbm, ⟨6, _⟩ => ⟨S2x1x2048, .f32⟩
  | .hbm, ⟨7, _⟩ => ⟨S2x1x2048, .f32⟩
  | .hbm, ⟨8, _⟩ => ⟨S2048x128, .f32⟩
  | .hbm, ⟨9, _⟩ => ⟨S1x128, .f32⟩
  | .hbm, ⟨10, _⟩ => ⟨S8192x2048, .f32⟩
  | .hbm, ⟨11, _⟩ => ⟨S65536x2x128, .bf16⟩
  | .hbm, ⟨12, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S2048x128, .f32⟩
  | .local _ .vmem, ⟨14, _⟩ => ⟨S1x128, .f32⟩
  | .local _ .vmem, ⟨15, _⟩ => ⟨S512x2048, .f32⟩
  | .local _ .vmem, ⟨16, _⟩ => ⟨S512x2048, .f32⟩
  | .local _ .vmem, ⟨17, _⟩ => ⟨S4096x2x128, .bf16⟩
  | .local _ .vmem, ⟨18, _⟩ => ⟨S4096x2x128, .bf16⟩
  | .local _ .vmem, ⟨19, _⟩ => ⟨S512x128, .f32⟩
  | .local _ .vmem, ⟨20, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x2x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjRefIdeal.lean ====
abbrev S8192x2048 : Shape := ⟨2, ![8192, 2048]⟩
abbrev S2048x2048 : Shape := ⟨2, ![2048, 2048]⟩
abbrev S2x1x2048 : Shape := ⟨3, ![2, 1, 2048]⟩
abbrev S1x2048 : Shape := ⟨2, ![1, 2048]⟩
abbrev S2048x128 : Shape := ⟨2, ![2048, 128]⟩
abbrev S1x128 : Shape := ⟨2, ![1, 128]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2x1x2048, .f32⟩
  | .hbm, ⟨4, _⟩ => ⟨S1x2048, .f32⟩
  | .hbm, ⟨5, _⟩ => ⟨S1x2048, .f32⟩
  | .hbm, ⟨6, _⟩ => ⟨S2x1x2048, .f32⟩
  | .hbm, ⟨7, _⟩ => ⟨S2x1x2048, .f32⟩
  | .hbm, ⟨8, _⟩ => ⟨S2048x128, .f32⟩
  | .hbm, ⟨9, _⟩ => ⟨S1x128, .f32⟩
  | .hbm, ⟨10, _⟩ => ⟨S8192x2048, .f32⟩
  | .hbm, ⟨11, _⟩ => ⟨S2048x2048, .f32⟩
  | .hbm, ⟨12, _⟩ => ⟨S8192x2048, .f32⟩
  | .hbm, ⟨13, _⟩ => ⟨S2x4096x2048, .f32⟩
  | .hbm, ⟨14, _⟩ => ⟨S2x4096x2048, .f32⟩
  | .hbm, ⟨15, _⟩ => ⟨S_, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x4096, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S_, .f32⟩
  | .hbm, ⟨31, _⟩ => ⟨S2x4096, .f32⟩
  | .hbm, ⟨32, _⟩ => ⟨S2x4096x1, .f32⟩
  | .hbm, ⟨33, _⟩ => ⟨S_, .f32⟩
  | .hbm, ⟨34, _⟩ => ⟨S2x4096x1, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x2048, .f32⟩
  | .hbm, ⟨41, _⟩ => ⟨S2x4096x2048, .f32⟩
  | .hbm, ⟨42, _⟩ => ⟨S1x1x2048, .f32⟩
  | .hbm, ⟨43, _⟩ => ⟨S2x4096x2048, .f32⟩
  | .hbm, ⟨44, _⟩ => ⟨S2x4096x2048, .f32⟩
  | .hbm, ⟨45, _⟩ => ⟨S1x1x2048, .f32⟩
  | .hbm, ⟨46, _⟩ => ⟨S2x4096x2048, .f32⟩
  | .hbm, ⟨47, _⟩ => ⟨S2x4096x2048, .f32⟩
  | .hbm, ⟨48, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Merge.lean ====
abbrev S2x1x4096x2048 : Shape := ⟨4, ![2, 1, 4096, 2048]⟩
abbrev S2x4x1024x2048 : Shape := ⟨4, ![2, 4, 1024, 2048]⟩
abbrev S2x16x256x2048 : Shape := ⟨4, ![2, 16, 256, 2048]⟩
abbrev S2x1x4096x128 : Shape := ⟨4, ![2, 1, 4096, 128]⟩
abbrev S2x4x1024x128 : Shape := ⟨4, ![2, 4, 1024, 128]⟩
abbrev S2x16x256x128 : Shape := ⟨4, ![2, 16, 256, 128]⟩
abbrev S2048x2048 : Shape := ⟨2, ![2048, 2048]⟩
abbrev S8192x2048 : Shape := ⟨2, ![8192, 2048]⟩
abbrev S2x1x2048 : Shape := ⟨3, ![2, 1, 2048]⟩
abbrev S1x2048 : Shape := ⟨2, ![1, 2048]⟩
abbrev S2048x128 : Shape := ⟨2, ![2048, 128]⟩
abbrev S1x128 : Shape := ⟨2, ![1, 128]⟩
abbrev S65536x128 : Shape := ⟨2, ![65536, 128]⟩
abbrev S8192x128 : Shape := ⟨2, ![8192, 128]⟩
abbrev S1x1x256x2048 : Shape := ⟨4, ![1, 1, 256, 2048]⟩
abbrev S1x4x64x2048 : Shape := ⟨4, ![1, 4, 64, 2048]⟩
abbrev S1x16x16x2048 : Shape := ⟨4, ![1, 16, 16, 2048]⟩
abbrev S1x1x256x128 : Shape := ⟨4, ![1, 1, 256, 128]⟩
abbrev S1x4x64x128 : Shape := ⟨4, ![1, 4, 64, 128]⟩
abbrev S1x16x16x128 : Shape := ⟨4, ![1, 16, 16, 128]⟩
abbrev S256x2048 : Shape := ⟨2, ![256, 2048]⟩
abbrev S1x1x2048 : Shape := ⟨3, ![1, 1, 2048]⟩
abbrev S256x128 : Shape := ⟨2, ![256, 128]⟩
abbrev S16x256x128 : Shape := ⟨3, ![16, 256, 128]⟩
abbrev S1x1x64x128 : Shape := ⟨4, ![1, 1, 64, 128]⟩
abbrev S64x128 : Shape := ⟨2, ![64, 128]⟩
abbrev S1x64x128 : Shape := ⟨3, ![1, 64, 128]⟩
abbrev S1x1x16x128 : Shape := ⟨4, ![1, 1, 16, 128]⟩
abbrev S16x128 : Shape := ⟨2, ![16, 128]⟩
abbrev S1x16x128 : Shape := ⟨3, ![1, 16, 128]⟩
abbrev S256x1 : Shape := ⟨2, ![256, 1]⟩
abbrev S1x256x128 : Shape := ⟨3, ![1, 256, 128]⟩
abbrev S256 : Shape := ⟨1, ![256]⟩

abbrev nBuf : Space → Nat
  | .hbm => 18
  | .vmem => 35
  | .smem => 0
  | _ => 0

abbrev bufTy : (tb : Table) → Fin (tcTables nBuf tb) → BufTy
  | .hbm, ⟨0, _⟩ => ⟨S2x1x4096x2048, .bf16⟩
  | .hbm, ⟨1, _⟩ => ⟨S2x4x1024x2048, .bf16⟩
  | .hbm, ⟨2, _⟩ => ⟨S2x16x256x2048, .bf16⟩
  | .hbm, ⟨3, _⟩ => ⟨S2x1x4096x128, .f32⟩
  | .hbm, ⟨4, _⟩ => ⟨S2x4x1024x128, .f32⟩
  | .hbm, ⟨5, _⟩ => ⟨S2x16x256x128, .f32⟩
  | .hbm, ⟨6, _⟩ => ⟨S2048x2048, .bf16⟩
  | .hbm, ⟨7, _⟩ => ⟨S8192x2048, .f32⟩
  | .hbm, ⟨8, _⟩ => ⟨S2x1x2048, .f32⟩
  | .hbm, ⟨9, _⟩ => ⟨S1x2048, .f32⟩
  | .hbm, ⟨10, _⟩ => ⟨S1x2048, .f32⟩
  | .hbm, ⟨11, _⟩ => ⟨S2x1x2048, .f32⟩
  | .hbm, ⟨12, _⟩ => ⟨S2x1x2048, .f32⟩
  | .hbm, ⟨13, _⟩ => ⟨S2048x128, .f32⟩
  | .hbm, ⟨14, _⟩ => ⟨S1x128, .f32⟩
  | .hbm, ⟨15, _⟩ => ⟨S8192x2048, .f32⟩
  | .hbm, ⟨16, _⟩ => ⟨S65536x128, .i32⟩
  | .hbm, ⟨17, _⟩ => ⟨S8192x128, .f32⟩
  | .local _ .vmem, ⟨0, _⟩ => ⟨S1x1x256x2048, .bf16⟩
  | .local _ .vmem, ⟨1, _⟩ => ⟨S1x1x256x2048, .bf16⟩
  | .local _ .vmem, ⟨2, _⟩ => ⟨S1x4x64x2048, .bf16⟩
  | .local _ .vmem, ⟨3, _⟩ => ⟨S1x4x64x2048, .bf16⟩
  | .local _ .vmem, ⟨4, _⟩ => ⟨S1x16x16x2048, .bf16⟩
  | .local _ .vmem, ⟨5, _⟩ => ⟨S1x16x16x2048, .bf16⟩
  | .local _ .vmem, ⟨6, _⟩ => ⟨S1x1x256x128, .f32⟩
  | .local _ .vmem, ⟨7, _⟩ => ⟨S1x1x256x128, .f32⟩
  | .local _ .vmem, ⟨8, _⟩ => ⟨S1x4x64x128, .f32⟩
  | .local _ .vmem, ⟨9, _⟩ => ⟨S1x4x64x128, .f32⟩
  | .local _ .vmem, ⟨10, _⟩ => ⟨S1x16x16x128, .f32⟩
  | .local _ .vmem, ⟨11, _⟩ => ⟨S1x16x16x128, .f32⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x2048, .f32⟩
  | .local _ .vmem, ⟨18, _⟩ => ⟨S1x2048, .f32⟩
  | .local _ .vmem, ⟨19, _⟩ => ⟨S1x1x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x1x2048, .f32⟩
  | .local _ .vmem, ⟨23, _⟩ => ⟨S2048x128, .f32⟩
  | .local _ .vmem, ⟨24, _⟩ => ⟨S1x128, .f32⟩
  | .local _ .vmem, ⟨25, _⟩ => ⟨S256x2048, .f32⟩
  | .local _ .vmem, ⟨26, _⟩ => ⟨S256x2048, .f32⟩
  | .local _ .vmem, ⟨27, _⟩ => ⟨S2048x128, .i32⟩
  | .local _ .vmem, ⟨28, _⟩ => ⟨S2048x128, .i32⟩
  | .local _ .vmem, ⟨29, _⟩ => ⟨S256x128, .f32⟩
  | .local _ .vmem, ⟨30, _⟩ => ⟨S256x128, .f32⟩
  | .local _ .vmem, ⟨31, _⟩ => ⟨S16x256x128, .f32⟩
  | .local _ .vmem, ⟨32, _⟩ => ⟨S16x256x128, .f32⟩
  | .local _ .vmem, ⟨33, _⟩ => ⟨S256x128, .f32⟩
  | .local _ .vmem, ⟨34, _⟩ => ⟨S256x128, .f32⟩
  | _, _ => ⟨S2x1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [BitOps F]

abbrev grid0 : Pipeline.Grid := ⟨1, ![32], ![false]⟩

def cc0_transform_0 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x128 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeIdeal.lean ====
abbrev S2x1x4096x2048 : Shape := ⟨4, ![2, 1, 4096, 2048]⟩
abbrev S2x4x1024x2048 : Shape := ⟨4, ![2, 4, 1024, 2048]⟩
abbrev S2x16x256x2048 : Shape := ⟨4, ![2, 16, 256, 2048]⟩
abbrev S2x1x4096x128 : Shape := ⟨4, ![2, 1, 4096, 128]⟩
abbrev S2x4x1024x128 : Shape := ⟨4, ![2, 4, 1024, 128]⟩
abbrev S2x16x256x128 : Shape := ⟨4, ![2, 16, 256, 128]⟩
abbrev S2048x2048 : Shape := ⟨2, ![2048, 2048]⟩
abbrev S8192x2048 : Shape := ⟨2, ![8192, 2048]⟩
abbrev S2x1x2048 : Shape := ⟨3, ![2, 1, 2048]⟩
abbrev S1x2048 : Shape := ⟨2, ![1, 2048]⟩
abbrev S2048x128 : Shape := ⟨2, ![2048, 128]⟩
abbrev S1x128 : Shape := ⟨2, ![1, 128]⟩
abbrev S65536x2x128 : Shape := ⟨3, ![65536, 2, 128]⟩
abbrev S8192x128 : Shape := ⟨2, ![8192, 128]⟩
abbrev S65536x1x128 : Shape := ⟨3, ![65536, 1, 128]⟩
abbrev S65536x128 : Shape := ⟨2, ![65536, 128]⟩
abbrev S1x1x256x2048 : Shape := ⟨4, ![1, 1, 256, 2048]⟩
abbrev S1x4x64x2048 : Shape := ⟨4, ![1, 4, 64, 2048]⟩
abbrev S1x16x16x2048 : Shape := ⟨4, ![1, 16, 16, 2048]⟩
abbrev S1x1x256x128 : Shape := ⟨4, ![1, 1, 256, 128]⟩
abbrev S1x4x64x128 : Shape := ⟨4, ![1, 4, 64, 128]⟩
abbrev S1x16x16x128 : Shape := ⟨4, ![1, 16, 16, 128]⟩
abbrev S256x2048 : Shape := ⟨2, ![256, 2048]⟩
abbrev S1x1x2048 : Shape := ⟨3, ![1, 1, 2048]⟩
abbrev S2048x2x128 : Shape := ⟨3, ![2048, 2, 128]⟩
abbrev S2048x1x128 : Shape := ⟨3, ![2048, 1, 128]⟩
abbrev S256x128 : Shape := ⟨2, ![256, 128]⟩
abbrev S16x256x128 : Shape := ⟨3, ![16, 256, 128]⟩
abbrev S1x1x64x128 : Shape := ⟨4, ![1, 1, 64, 128]⟩
abbrev S64x128 : Shape := ⟨2, ![64, 128]⟩
abbrev S1x64x128 : Shape := ⟨3, ![1, 64, 128]⟩
abbrev S1x1x16x128 : Shape := ⟨4, ![1, 1, 16, 128]⟩
abbrev S16x128 : Shape := ⟨2, ![16, 128]⟩
abbrev S1x16x128 : Shape := ⟨3, ![1, 16, 128]⟩
abbrev S256x1 : Shape := ⟨2, ![256, 1]⟩
abbrev S1x256x128 : Shape := ⟨3, ![1, 256, 128]⟩
abbrev S256 : Shape := ⟨1, ![256]⟩
abbrev S256x2x128 : Shape := ⟨3, ![256, 2, 128]⟩
abbrev S256x1x128 : Shape := ⟨3, ![256, 1, 128]⟩

abbrev nBuf : Space → Nat
  | .hbm => 18
  | .vmem => 35
  | .smem => 0
  | _ => 0

abbrev bufTy : (tb : Table) → Fin (tcTables nBuf tb) → BufTy
  | .hbm, ⟨0, _⟩ => ⟨S2x1x4096x2048, .bf16⟩
  | .hbm, ⟨1, _⟩ => ⟨S2x4x1024x2048, .bf16⟩
  | .hbm, ⟨2, _⟩ => ⟨S2x16x256x2048, .bf16⟩
  | .hbm, ⟨3, _⟩ => ⟨S2x1x4096x128, .f32⟩
  | .hbm, ⟨4, _⟩ => ⟨S2x4x1024x128, .f32⟩
  | .hbm, ⟨5, _⟩ => ⟨S2x16x256x128, .f32⟩
  | .hbm, ⟨6, _⟩ => ⟨S2048x2048, .bf16⟩
  | .hbm, ⟨7, _⟩ => ⟨S8192x2048, .f32⟩
  | .hbm, ⟨8, _⟩ => ⟨S2x1x2048, .f32⟩
  | .hbm, ⟨9, _⟩ => ⟨S1x2048, .f32⟩
  | .hbm, ⟨10, _⟩ => ⟨S1x2048, .f32⟩
  | .hbm, ⟨11, _⟩ => ⟨S2x1x2048, .f32⟩
  | .hbm, ⟨12, _⟩ => ⟨S2x1x2048, .f32⟩
  | .hbm, ⟨13, _⟩ => ⟨S2048x128, .f32⟩
  | .hbm, ⟨14, _⟩ => ⟨S1x128, .f32⟩
  | .hbm, ⟨15, _⟩ => ⟨S8192x2048, .f32⟩
  | .hbm, ⟨16, _⟩ => ⟨S65536x2x128, .bf16⟩
  | .hbm, ⟨17, _⟩ => ⟨S8192x128, .f32⟩
  | .local _ .vmem, ⟨0, _⟩ => ⟨S1x1x256x2048, .bf16⟩
  | .local _ .vmem, ⟨1, _⟩ => ⟨S1x1x256x2048, .bf16⟩
  | .local _ .vmem, ⟨2, _⟩ => ⟨S1x4x64x2048, .bf16⟩
  | .local _ .vmem, ⟨3, _⟩ => ⟨S1x4x64x2048, .bf16⟩
  | .local _ .vmem, ⟨4, _⟩ => ⟨S1x16x16x2048, .bf16⟩
  | .local _ .vmem, ⟨5, _⟩ => ⟨S1x16x16x2048, .bf16⟩
  | .local _ .vmem, ⟨6, _⟩ => ⟨S1x1x256x128, .f32⟩
  | .local _ .vmem, ⟨7, _⟩ => ⟨S1x1x256x128, .f32⟩
  | .local _ .vmem, ⟨8, _⟩ => ⟨S1x4x64x128, .f32⟩
  | .local _ .vmem, ⟨9, _⟩ => ⟨S1x4x64x128, .f32⟩
  | .local _ .vmem, ⟨10, _⟩ => ⟨S1x16x16x128, .f32⟩
  | .local _ .vmem, ⟨11, _⟩ => ⟨S1x16x16x128, .f32⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x2048, .f32⟩
  | .local _ .vmem, ⟨18, _⟩ => ⟨S1x2048, .f32⟩
  | .local _ .vmem, ⟨19, _⟩ => ⟨S1x1x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x1x2048, .f32⟩
  | .local _ .vmem, ⟨23, _⟩ => ⟨S2048x128, .f32⟩
  | .local _ .vmem, ⟨24, _⟩ => ⟨S1x128, .f32⟩
  | .local _ .vmem, ⟨25, _⟩ => ⟨S256x2048, .f32⟩
  | .local _ .vmem, ⟨26, _⟩ => ⟨S256x2048, .f32⟩
  | .local _ .vmem, ⟨27, _⟩ => ⟨S2048x2x128, .bf16⟩
  | .local _ .vmem, ⟨28, _⟩ => ⟨S2048x2x128, .bf16⟩
  | .local _ .vmem, ⟨29, _⟩ => ⟨S256x128, .f32⟩
  | .local _ .vmem, ⟨30, _⟩ => ⟨S256x128, .f32⟩
  | .local _ .vmem, ⟨31, _⟩ => ⟨S16x256x128, .f32⟩
  | .local _ .vmem, ⟨32, _⟩ => ⟨S16x256x128, .f32⟩
  | .local _ .vmem, ⟨33, _⟩ => ⟨S256x128, .f32⟩
  | .local _ .vmem, ⟨34, _⟩ => ⟨S256x128, .f32⟩
  | _, _ => ⟨S2x1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x2x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeRefIdeal.lean ====
abbrev S2x1x4096x2048 : Shape := ⟨4, ![2, 1, 4096, 2048]⟩
abbrev S2x4x1024x2048 : Shape := ⟨4, ![2, 4, 1024, 2048]⟩
abbrev S2x16x256x2048 : Shape := ⟨4, ![2, 16, 256, 2048]⟩
abbrev S2x1x4096x128 : Shape := ⟨4, ![2, 1, 4096, 128]⟩
abbrev S2x4x1024x128 : Shape := ⟨4, ![2, 4, 1024, 128]⟩
abbrev S2x16x256x128 : Shape := ⟨4, ![2, 16, 256, 128]⟩
abbrev S2048x2048 : Shape := ⟨2, ![2048, 2048]⟩
abbrev S8192x2048 : Shape := ⟨2, ![8192, 2048]⟩
abbrev S2x1x2048 : Shape := ⟨3, ![2, 1, 2048]⟩
abbrev S1x2048 : Shape := ⟨2, ![1, 2048]⟩
abbrev S2048x128 : Shape := ⟨2, ![2048, 128]⟩
abbrev S1x128 : Shape := ⟨2, ![1, 128]⟩
abbrev S2x4096x1x2048 : Shape := ⟨4, ![2, 4096, 1, 2048]⟩
abbrev S8192x16x128 : Shape := ⟨3, ![8192, 16, 128]⟩
abbrev S2x4096x1x128 : Shape := ⟨4, ![2, 4096, 1, 128]⟩
abbrev S8192x128 : Shape := ⟨2, ![8192, 128]⟩
abbrev S8192x16 : Shape := ⟨2, ![8192, 16]⟩
abbrev S2x1024x4x2048 : Shape := ⟨4, ![2, 1024, 4, 2048]⟩
abbrev S2x1024x4x128 : Shape := ⟨4, ![2, 1024, 4, 128]⟩
abbrev S2x256x16x2048 : Shape := ⟨4, ![2, 256, 16, 2048]⟩
abbrev S2x256x16x128 : Shape := ⟨4, ![2, 256, 16, 128]⟩
abbrev S1x8192x16 : Shape := ⟨3, ![1, 8192, 16]⟩
abbrev S3x8192x16 : Shape := ⟨3, ![3, 8192, 16]⟩
abbrev S_ : Shape := ⟨0, ![]⟩
abbrev S3x8192x16x1 : Shape := ⟨4, ![3, 8192, 16, 1]⟩
abbrev S1x8192x16x128 : Shape := ⟨4, ![1, 8192, 16, 128]⟩
abbrev S3x8192x16x128 : Shape := ⟨4, ![3, 8192, 16, 128]⟩
abbrev S2x4096x2048 : Shape := ⟨3, ![2, 4096, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 96
  | .vmem => 0
  | .smem => 0
  | _ => 0

abbrev bufTy : (tb : Table) → Fin (tcTables nBuf tb) → BufTy
  | .hbm, ⟨0, _⟩ => ⟨S2x1x4096x2048, .bf16⟩
  | .hbm, ⟨1, _⟩ => ⟨S2x4x1024x2048, .bf16⟩
  | .hbm, ⟨2, _⟩ => ⟨S2x16x256x2048, .bf16⟩
  | .hbm, ⟨3, _⟩ => ⟨S2x1x4096x128, .f32⟩
  | .hbm, ⟨4, _⟩ => ⟨S2x4x1024x128, .f32⟩
  | .hbm, ⟨5, _⟩ => ⟨S2x16x256x128, .f32⟩
  | .hbm, ⟨6, _⟩ => ⟨S2048x2048, .bf16⟩
  | .hbm, ⟨7, _⟩ => ⟨S8192x2048, .f32⟩
  | .hbm, ⟨8, _⟩ => ⟨S2x1x2048, .f32⟩
  | .hbm, ⟨9, _⟩ => ⟨S1x2048, .f32⟩
  | .hbm, ⟨10, _⟩ => ⟨S1x2048, .f32⟩
  | .hbm, ⟨11, _⟩ => ⟨S2x1x2048, .f32⟩
  | .hbm, ⟨12, _⟩ => ⟨S2x1x2048, .f32⟩
  | .hbm, ⟨13, _⟩ => ⟨S2048x128, .f32⟩
  | .hbm, ⟨14, _⟩ => ⟨S1x128, .f32⟩
  | .hbm, ⟨15, _⟩ => ⟨S2x1x4096x2048, .f32⟩
  | .hbm, ⟨16, _⟩ => ⟨S2x4096x1x2048, .f32⟩
  | .hbm, ⟨17, _⟩ => ⟨S8192x16x128, .f32⟩
  | .hbm, ⟨18, _⟩ => ⟨S2x4096x1x128, .f32⟩
  | .hbm, ⟨19, _⟩ => ⟨S8192x128, .f32⟩
  | .hbm, ⟨20, _⟩ => ⟨S8192x16, .f32⟩
  | .hbm, ⟨21, _⟩ => ⟨S2x4x1024x2048, .f32⟩
  | .hbm, ⟨22, _⟩ => ⟨S2x1024x4x2048, .f32⟩
  | .hbm, ⟨23, _⟩ => ⟨S8192x16x128, .f32⟩
  | .hbm, ⟨24, _⟩ => ⟨S2x1024x4x128, .f32⟩
  | .hbm, ⟨25, _⟩ => ⟨S8192x128, .f32⟩
  | .hbm, ⟨26, _⟩ => ⟨S8192x16, .f32⟩
  | .hbm, ⟨27, _⟩ => ⟨S2x16x256x2048, .f32⟩
  | .hbm, ⟨28, _⟩ => ⟨S2x256x16x2048, .f32⟩
  | .hbm, ⟨29, _⟩ => ⟨S8192x16x128, .f32⟩
  | .hbm, ⟨30, _⟩ => ⟨S2x256x16x128, .f32⟩
  | .hbm, ⟨31, _⟩ => ⟨S8192x128, .f32⟩
  | .hbm, ⟨32, _⟩ => ⟨S8192x16, .f32⟩
  | .hbm, ⟨33, _⟩ => ⟨S1x8192x16, .f32⟩
  | .hbm, ⟨34, _⟩ => ⟨S1x8192x16, .f32⟩
  | .hbm, ⟨35, _⟩ => ⟨S1x8192x16, .f32⟩
  | .hbm, ⟨36, _⟩ => ⟨S3x8192x16, .f32⟩
  | .hbm, ⟨37, _⟩ => ⟨S_, .f32⟩
  | .hbm, ⟨38, _⟩ => ⟨S8192x16, .f32⟩
  | .hbm, ⟨39, _⟩ => ⟨S1x8192x16, .f32⟩
  | .hbm, ⟨40, _⟩ => ⟨S3x8192x16, .f32⟩
  | .hbm, ⟨41, _⟩ => ⟨S3x8192x16, .f32⟩
  | .hbm, ⟨42, _⟩ => ⟨S3x8192x16, .f32⟩
  | .hbm, ⟨43, _⟩ => ⟨S_, .f32⟩
  | .hbm, ⟨44, _⟩ => ⟨S8192x16, .f32⟩
  | .hbm, ⟨45, _⟩ => ⟨S1x8192x16, .f32⟩
  | .hbm, ⟨46, _⟩ => ⟨S3x8192x16, .f32⟩
  | .hbm, ⟨47, _⟩ => ⟨S3x8192x16, .f32⟩
  | .hbm, ⟨48, _⟩ => ⟨S3x8192x16x1, .f32⟩
  | .hbm, ⟨49, _⟩ => ⟨S1x8192x16x128, .f32⟩
  | .hbm, ⟨50, _⟩ => ⟨S1x8192x16x128, .f32⟩
  | .hbm, ⟨51, _⟩ => ⟨S1x8192x16x128, .f32⟩
  | .hbm, ⟨52, _⟩ => ⟨S3x8192x16x128, .f32⟩
  | .hbm, ⟨53, _⟩ => ⟨S3x8192x16x128, .f32⟩
  | .hbm, ⟨54, _⟩ => ⟨S3x8192x16x128, .f32⟩
  | .hbm, ⟨55, _⟩ => ⟨S_, .f32⟩
  | .hbm, ⟨56, _⟩ => ⟨S8192x16x128, .f32⟩
  | .hbm, ⟨57, _⟩ => ⟨S8192x2048, .f32⟩
  | .hbm, ⟨58, _⟩ => ⟨S2048x2048, .f32⟩
  | .hbm, ⟨59, _⟩ => ⟨S8192x2048, .f32⟩
  | .hbm, ⟨60, _⟩ => ⟨S2x4096x2048, .f32⟩
  | .hbm, ⟨61, _⟩ => ⟨S2x4096x2048, .f32⟩
  | .hbm, ⟨62, _⟩ => ⟨S_, .f32⟩
  | .hbm, ⟨63, _⟩ => ⟨S2x4096x2048, .f32⟩
  | .hbm, ⟨64, _⟩ => ⟨S2x4096x2048, .f32⟩
  | .hbm, ⟨65, _⟩ => ⟨S2x4096x2048, .f32⟩
  | .hbm, ⟨66, _⟩ => ⟨S2x4096x2048, .f32⟩
  | .hbm, ⟨67, _⟩ => ⟨S2x4096x2048, .f32⟩
  | .hbm, ⟨68, _⟩ => ⟨S_, .f32⟩
  | .hbm, ⟨69, _⟩ => ⟨S2x4096, .f32⟩
  | .hbm, ⟨70, _⟩ => ⟨S2x4096x1, .f32⟩
  | .hbm, ⟨71, _⟩ => ⟨S_, .f32⟩
  | .hbm, ⟨72, _⟩ => ⟨S2x4096x1, .f32⟩
  | .hbm, ⟨73, _⟩ => ⟨S2x4096x1, .f32⟩
  | .hbm, ⟨74, _⟩ => ⟨S2x4096x2048, .f32⟩
  | .hbm, ⟨75, _⟩ => ⟨S2x4096x2048, .f32⟩
  | .hbm, ⟨76, _⟩ => ⟨S2x4096x2048, .f32⟩
  | .hbm, ⟨77, _⟩ => ⟨S_, .f32⟩
  | .hbm, ⟨78, _⟩ => ⟨S2x4096, .f32⟩
  | .hbm, ⟨79, _⟩ => ⟨S2x4096x1, .f32⟩
  | .hbm, ⟨80, _⟩ => ⟨S_, .f32⟩
  | .hbm, ⟨81, _⟩ => ⟨S2x4096x1, .f32⟩
  | .hbm, ⟨82, _⟩ => ⟨S2x4096x1, .f32⟩
  | .hbm, ⟨83, _⟩ => ⟨S_, .f32⟩
  | .hbm, ⟨84, _⟩ => ⟨S2x4096x1, .f32⟩
  | .hbm, ⟨85, _⟩ => ⟨S2x4096x1, .f32⟩
  | .hbm, ⟨86, _⟩ => ⟨S2x4096x1, .f32⟩
  | .hbm, ⟨87, _⟩ => ⟨S2x4096x2048, .f32⟩
  | .hbm, ⟨88, _⟩ => ⟨S2x4096x2048, .f32⟩
  | .hbm, ⟨89, _⟩ => ⟨S1x1x2048, .f32⟩
  | .hbm, ⟨90, _⟩ => ⟨S2x4096x2048, .f32⟩
  | .hbm, ⟨91, _⟩ => ⟨S2x4096x2048, .f32⟩
  | .hbm, ⟨92, _⟩ => ⟨S1x1x2048, .f32⟩
  | .hbm, ⟨93, _⟩ => ⟨S2x4096x2048, .f32⟩
  | .hbm, ⟨94, _⟩ => ⟨S2x4096x2048, .f32⟩
  | .hbm, ⟨95, _⟩ => ⟨S8192x2048, .f32⟩
  | _, _ => ⟨S2x1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_2 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_3 : Ref sig .tc := ⟨.hbm, 68, rfl⟩
abbrev main_v49 : Ref sig .tc := ⟨.hbm, 69, rfl⟩
abbrev main_v50 : Ref sig .tc := ⟨.hbm, 70, rfl⟩
abbrev main_cst_4 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Proof.Attn.Head.lean ====
/- One block of the attention over the extended reals: 128 queries against a window of 256 keys, head by head.
   The body's operations on one head are read at an index, so that what a grid point writes is a formula in the
   query block, the key window, the value window and the mask added to the scores. -/
module

public import proofs.«01_k».proof.Proof.Gen.Attn1Ideal.Skeleton
public import Idealize.ShloMosaic.Lib.Pointwise
public import Idealize.ShloMosaic.Lib.WordCmp
public import Idealize.ShloMosaic.Lib.Pipeline.ValueKit

@[expose] public section

set_option maxRecDepth 16384

noncomputable section

namespace Cert.Attn

open Cert.Attn1Ideal Cert.Attn1Ideal.Gen Idealize.ShloMosaic Idealize.ShloMosaic.View

/-- Column `d` of head `h` among the 2048 columns of a block. -/
def col (h : Fin 16) (d : Fin 128) : Fin 2048 := ⟨128 * h.val + d.val, by omega⟩

section Formula
variable (b : FVec Ideal S128x256 .f32) (Q : Vec Ideal S1x1x128x2048 .bf16) (K V : Vec Ideal S256x2048 .bf16)

/-- The score of key `j` for query `r` in head `h`, the mask added. -/
def score (h : Fin 16) (r : Fin 128) (j : Fin 256) : EReal :=
  (∑ d : Fin 128, Q (ix4 0 0 r (col h d)) * K (ix2 j (col h d))) + b (ix2 r j)

/-- The greatest score of the window. -/
def top (h : Fin 16) (r : Fin 128) : EReal := Finset.univ.fold max ⊥ fun j => score b Q K h r j

/-- The weight of key `j`, not yet divided. -/
def weight (h : Fin 16) (r : Fin 128) (j : Fin 256) : EReal := Ideal.exp (score b Q K h r j - top b Q K h r)

/-- The sum of the weights. -/
def total (h : Fin 16) (r : Fin 128) : EReal := ∑ j, weight b Q K h r j

/-- The head's result: the values weighted, divided by the sum of the weights. -/
def mixed (h : Fin 16) (r d : Fin 128) : EReal :=
  Ideal.div (∑ j, weight b Q K h r j * V (ix2 j (col h d))) (total b Q K h r)

/-- The logarithm of the sum of exponentials of the scores. -/
def logSum (h : Fin 16) (r : Fin 128) : EReal := top b Q K h r + Ideal.log (total b Q K h r)

end Formula

/-- −∞ as the maximum's accumulator. -/
theorem ofBits_negInf : Ideal.ofBits .f32 4286578688#32 = ⊥ := by
  simp [Ideal.ofBits, Ideal.ieee]

section Ops
variable (b : FVec Ideal S128x256 .f32) (q : Vec Ideal S1x1x128x128 .bf16) (k v : Vec Ideal S256x128 .bf16)

theorem scores_apply (r : Fin 128) (j : Fin 256) :
    k0_pay24 (F := Ideal) b q k (ix2 r j) = (∑ d : Fin 128, q (ix4 0 0 r d) * k (ix2 j d)) + b (ix2 r j) := by
  unfold k0_pay24
  pointwise

theorem max_apply (r : Fin 128) :
    k0_pay25 (F := Ideal) b q k (ix2 r 0) = Finset.univ.fold max ⊥ fun j => k0_pay24 (F := Ideal) b q k (ix2 r j) := by
  unfold k0_pay25
  generalize k0_pay24 (F := Ideal) b q k = s
  pointwise
  rw [ofBits_negInf]

theorem exp_apply (r : Fin 128) (j : Fin 256) :
    k0_pay26 (F := Ideal) b q k (ix2 r j) =
      Ideal.exp (k0_pay24 (F := Ideal) b q k (ix2 r j) - k0_pay25 (F := Ideal) b q k (ix2 r 0)) := by
  unfold k0_pay26
  pointwise

theorem den_apply (r : Fin 128) :
    k0_pay27 (F := Ideal) b q k (ix2 r 0) = ∑ j, k0_pay26 (F := Ideal) b q k (ix2 r j) := by
  unfold k0_pay27
  pointwise

theorem out_apply (r d : Fin 128) :
    k0_pay28 (F := Ideal) b q k v (ix4 0 0 r d) =
      Ideal.div (∑ j, k0_pay26 (F := Ideal) b q k (ix2 r j) * v (ix2 j d)) (k0_pay27 (F := Ideal) b q k (ix2 r 0)) := by
  unfold k0_pay28
  pointwise

end Ops

/-- The query block's columns of the head that starts at column `o`. -/
abbrev headQ {F : FTy → Type} (Q : Vec F S1x1x128x2048 .bf16) (o : ℕ)
    (inb : ∀ a, (![0, 0, 0, o] : Fin 4 → ℕ) a + S1x1x128x128.size a ≤ S1x1x128x2048.size a) : Vec F S1x1x128x128 .bf16 :=
  View.ld Q (Rect.unit (s := S1x1x128x2048) ![0, 0, 0, o] S1x1x128x128.size inb)

/-- A window's columns of the head that starts at column `o`. -/
abbrev headK {F : FTy → Type} (K : Vec F S256x2048 .bf16) (o : ℕ)
    (inb : ∀ a, (![0, o] : Fin 2 → ℕ) a + S256x128.size a ≤ S256x2048.size a) : Vec F S256x128 .bf16 :=
  fun j => K ((Rect.unit (s := S256x2048) ![0, o] S256x128.size inb).toLoadRect.idx j)

section Heads
variable (b : FVec Ideal S128x256 .f32) (Q : Vec Ideal S1x1x128x2048 .bf16) (K V : Vec Ideal S256x2048 .bf16)
variable (h : Fin 16) (o : ℕ) (ho : o = 128 * h.val)
  (iq : ∀ a, (![0, 0, 0, o] : Fin 4 → ℕ) a + S1x1x128x128.size a ≤ S1x1x128x2048.size a)
  (ik : ∀ a, (![0, o] : Fin 2 → ℕ) a + S256x128.size a ≤ S256x2048.size a)
include ho

theorem headQ_apply (r d : Fin 128) : headQ Q o iq (ix4 0 0 r d) = Q (ix4 0 0 r (col h d)) := by
  subst ho
  refine congrArg Q (funext fun a => Fin.ext ?_)
  rcases a with ⟨_ | _ | _ | _ | a, ha⟩
  · rfl
  · rfl
  · show 0 + 1 * r.val = r.val; omega
  · show 128 * h.val + 1 * d.val = 128 * h.val + d.val; omega
  · exact absurd ha (by simp)

theorem headK_apply (j : Fin 256) (d : Fin 128) : headK K o ik (ix2 j d) = K (ix2 j (col h d)) := by
  subst ho
  refine congrArg K (funext fun a => Fin.ext ?_)
  rcases a with ⟨_ | _ | a, ha⟩
  · show 0 + 1 * j.val = j.val; omega
  · show 128 * h.val + 1 * d.val = 128 * h.val + d.val; omega
  · exact absurd ha (by simp)

theorem head_score (r : Fin 128) (j : Fin 256) :
    k0_pay24 (F := Ideal) b (headQ Q o iq) (headK K o ik) (ix2 r j) = score b Q K h r j := by
  rw [scores_apply, score]
  simp only [headQ_apply Q h o ho iq, headK_apply K h o ho ik]

theorem head_top (r : Fin 128) :
    k0_pay25 (F := Ideal) b (headQ Q o iq) (headK K o ik) (ix2 r 0) = top b Q K h r := by
  rw [max_apply, top]
  simp only [head_score b Q K h o ho iq ik]

theorem head_weight (r : Fin 128) (j : Fin 256) :
    k0_pay26 (F := Ideal) b (headQ Q o iq) (headK K o ik) (ix2 r j) = weight b Q K h r j := by
  rw [exp_apply, weight, head_score b Q K h o ho iq ik, head_top b Q K h o ho iq ik]

theorem head_total (r : Fin 128) :
    k0_pay27 (F := Ideal) b (headQ Q o iq) (headK K o ik) (ix2 r 0) = total b Q K h r := by
  rw [den_apply, total]
  simp only [head_weight b Q K h o ho iq ik]

theorem head_mixed (r d : Fin 128) :
    k0_pay28 (F := Ideal) b (headQ Q o iq) (headK K o ik) (headK V o ik) (ix4 0 0 r d) = mixed b Q K V h r d := by
  rw [out_apply, mixed, head_total b Q K h o ho iq ik]
  simp only [head_weight b Q K h o ho iq ik, headK_apply V h o ho ik]

end Heads

/-- What a point writes to its output block, as one function of the block's index. -/
def mixedAt (b : FVec Ideal S128x256 .f32) (Q : Vec Ideal S1x1x128x2048 .bf16) (K V : Vec Ideal S256x2048 .bf16)
    (y : S1x1x128x2048.Idx) : EReal :=
  mixed b Q K V ⟨(y 3).val / 128, by have := (y 3).isLt; simp at this; omega⟩ (y 2) ⟨(y 3).val % 128, by omega⟩

/-- An index of a unit-leading block by its row and column. -/
theorem ix4_eta {A B : ℕ} (x : (⟨4, ![1, 1, A, B]⟩ : Shape).Idx) : x = ix4 0 0 (x 2) (x 3) := by
  funext a
  refine Fin.ext ?_
  rcases a with ⟨_ | _ | _ | _ | a, ha⟩
  · have : (x 0).val < 1 := (x 0).isLt
    show (x 0).val = 0; omega
  · have : (x 1).val < 1 := (x 1).isLt
    show (x 1).val = 0; omega
  · rfl
  · rfl
  · exact absurd ha (by simp)

theorem ix2_eta {A B : ℕ} (x : (⟨2, ![A, B]⟩ : Shape).Idx) : x = ix2 (x 0) (x 1) := by
  funext a
  rcases a with ⟨_ | _ | a, ha⟩
  · rfl
  · rfl
  · exact absurd ha (by simp)

/-- One head's store agrees with `mixedAt` where it lies. -/
theorem mixed_piece (b : FVec Ideal S128x256 .f32) (Q : Vec Ideal S1x1x128x2048 .bf16) (K V : Vec Ideal S256x2048 .bf16)
    (y : S1x1x128x2048.Idx) (o : ℕ) (ho : o % 128 = 0)
    (iq : ∀ a, (![0, 0, 0, o] : Fin 4 → ℕ) a + S1x1x128x128.size a ≤ S1x1x128x2048.size a)
    (ik : ∀ a, (![0, o] : Fin 2 → ℕ) a + S256x128.size a ≤ S256x2048.size a) :
    TileAt (Val := Elt Ideal) (e := .bf16) (S := S1x1x128x2048) y ![0, 0, 0, o] S1x1x128x128.size
      (k0_pay28 (F := Ideal) b (headQ Q o iq) (headK K o ik) (headK V o ik)) (mixedAt b Q K V y) := by
  intro x hx
  have h3 : (y 3).val = o + (x 3).val := hx 3
  have h2 : (y 2).val = 0 + (x 2).val := hx 2
  have x3 : (x 3).val < 128 := (x 3).isLt
  have hy : (y 3).val < 2048 := (y 3).isLt
  rw [ix4_eta (A := 128) (B := 128) x]
  refine (head_mixed b Q K V ⟨(y 3).val / 128, by omega⟩ o (by show o = 128 * ((y 3).val / 128); omega) iq ik (x 2) (x 3)).trans ?_
  unfold mixedAt
  congr 1
  · exact Fin.ext (by omega)
  · exact Fin.ext (by show (x 3).val = (y 3).val % 128; omega)

/-- One step of the second output: lane `w` takes the head's logarithm of its sum, the other lanes keep theirs. -/
def lseStep {F : FTy → Type} [FloatOps F] [Named F] (w : BitVec 32) (prev : FVec F S128x128 .f32)
    (mx den : FVec F S128x1 .f32) : FVec F S128x128 .f32 :=
  select (cmpi .eq (iota .tc S128x128 32 [1] iota_S128x128_d1_w32) (broadcast S128x128 w))
    (broadcastTo S128x128 (shapeCast S128x1 (addf mx (log den)) shapeCasts_S128x1_S128x1) broadcasts_S128x1_S128x128) prev

theorem lseStep_apply (n : ℕ) (hn : n < 1000) (prev : FVec Ideal S128x128 .f32) (mx den : FVec Ideal S128x1 .f32) (r l : Fin 128) :
    lseStep (BitVec.ofNat 32 n) prev mx den (ix2 r l) =
      if l.val = n then mx (ix2 r 0) + Ideal.log (den (ix2 r 0)) else prev (ix2 r l) := by
  unfold lseStep
  pointwise
  rw [WordCmp.cmpi_eq_ofNat (by omega) (by omega)]
  by_cases h : l.val = n
  · simp [h, Scalar.select]
  · simp [h, Scalar.select]

/-- The second output's lanes below `n` hold their heads' logarithms, the others zero. -/
def LseTo (b : FVec Ideal S128x256 .f32) (Q : Vec Ideal S1x1x128x2048 .bf16) (K : Vec Ideal S256x2048 .bf16) (n : ℕ)
    (X : FVec Ideal S128x128 .f32) : Prop :=
  ∀ r l : Fin 128, X (ix2 r l) = if h : l.val < n ∧ l.val < 16 then logSum b Q K ⟨l.val, h.2⟩ r else 0

theorem lse_zero (b : FVec Ideal S128x256 .f32) (Q : Vec Ideal S1x1x128x2048 .bf16) (K : Vec Ideal S256x2048 .bf16) :
    LseTo b Q K 0 (broadcast S128x128 (Scalar.ofBits .f32 0x00000000#32)) := by
  intro r l
  pointwise
  simp

theorem lse_step (b : FVec Ideal S128x256 .f32) (Q : Vec Ideal S1x1x128x2048 .bf16) (K : Vec Ideal S256x2048 .bf16)
    (n : ℕ) (hn : n < 16) (o : ℕ) (ho : o = 128 * n)
    (iq : ∀ a, (![0, 0, 0, o] : Fin 4 → ℕ) a + S1x1x128x128.size a ≤ S1x1x128x2048.size a)
    (ik : ∀ a, (![0, o] : Fin 2 → ℕ) a + S256x128.size a ≤ S256x2048.size a)
    (prev : FVec Ideal S128x128 .f32) (hp : LseTo b Q K n prev) :
    LseTo b Q K (n + 1) (lseStep (BitVec.ofNat 32 n) prev (k0_pay25 (F := Ideal) b (headQ Q o iq) (headK K o ik))
      (k0_pay27 (F := Ideal) b (headQ Q o iq) (headK K o ik))) := by
  intro r l
  rw [lseStep_apply n (by omega), head_top b Q K ⟨n, hn⟩ o ho iq ik, head_total b Q K ⟨n, hn⟩ o ho iq ik, hp r l]
  by_cases h : l.val = n
  · subst h
    rw [if_pos rfl, dif_pos ⟨by omega, hn⟩]
    rfl
  · rw [if_neg h]
    by_cases h' : l.val < n ∧ l.val < 16
    · rw [dif_pos h', dif_pos ⟨by omega, h'.2⟩]
    · rw [dif_neg h', dif_neg (by omega)]

/-- The second output's block as one function of its index. -/
def lseAt (b : FVec Ideal S128x256 .f32) (Q : Vec Ideal S1x1x128x2048 .bf16) (K : Vec Ideal S256x2048 .bf16)
    (y : S1x1x128x128.Idx) : EReal :=
  if h : (y 3).val < 16 then logSum b Q K ⟨(y 3).val, h⟩ (y 2) else 0

theorem lse_block (b : FVec Ideal S128x256 .f32) (Q : Vec Ideal S1x1x128x2048 .bf16) (K : Vec Ideal S256x2048 .bf16)
    (X : FVec Ideal S128x128 .f32) (hX : LseTo b Q K 16 X) :
    shapeCast S1x1x128x128 X shapeCasts_S128x128_S1x1x128x128 = lseAt b Q K := by
  funext y
  obtain ⟨r, l, rfl⟩ : ∃ r l : Fin 128, y = ix4 0 0 r l := ⟨y 2, y 3, ix4_eta (A := 128) (B := 128) y⟩
  have h1 : shapeCast S1x1x128x128 X shapeCasts_S128x128_S1x1x128x128 (ix4 0 0 r l) = X (ix2 r l) := by pointwise
  rw [h1, hX r l]
  unfold lseAt
  show (if h : l.val < 16 ∧ l.val < 16 then logSum b Q K ⟨l.val, h.2⟩ r else 0) = if h : l.val < 16 then logSum b Q K ⟨l.val, h⟩ r else 0
  by_cases h : l.val < 16
  · rw [dif_pos ⟨h, h⟩, dif_pos h]
  · rw [dif_neg (by omega), dif_neg h]

/-- A window of 256 key or value rows, gathered from three blocks: 64 rows, 128 rows, 64 rows. -/
def gather3 {F : FTy → Type} (a : Vec F S1x1x64x2048 .bf16) (b : Vec F S1x1x128x2048 .bf16) (c : Vec F S1x1x64x2048 .bf16) :
    Vec F S256x2048 .bf16 := fun y =>
  if h1 : (y 0).val < 64 then a (ix4 0 0 ⟨(y 0).val, h1⟩ (y 1))
  else if h2 : (y 0).val < 192 then b (ix4 0 0 ⟨(y 0).val - 64, by omega⟩ (y 1))
  else c (ix4 0 0 ⟨(y 0).val - 192, by have : (y 0).val < 256 := (y 0).isLt; omega⟩ (y 1))

theorem mem_rows {o n : ℕ} {u : Fin 256} {v : Fin 2048}
    (i : ∀ x, (![o, 0] : Fin 2 → ℕ) x + (![n, 2048] : Fin 2 → ℕ) x ≤ S256x2048.size x) (h : o ≤ u.val ∧ u.val < o + n) :
    (ix2 u v : S256x2048.Idx) ∈ (Rect.unit (s := S256x2048) ![o, 0] ![n, 2048] i).set := by
  refine Rect.mem_set_unit.mpr fun x => ?_
  rcases x with ⟨_ | _ | x, hx⟩
  · exact h
  · exact ⟨Nat.zero_le _, by show v.val < 0 + 2048; omega⟩
  · exact absurd hx (by simp)

theorem canon_gather3 (a : Vec Ideal S1x1x64x2048 .bf16) (b : Vec Ideal S1x1x128x2048 .bf16) (c : Vec Ideal S1x1x64x2048 .bf16)
    (i0 : ∀ x, (![0, 0] : Fin 2 → ℕ) x + S64x2048.size x ≤ S256x2048.size x)
    (i1 : ∀ x, (![64, 0] : Fin 2 → ℕ) x + S128x2048.size x ≤ S256x2048.size x)
    (i2 : ∀ x, (![192, 0] : Fin 2 → ℕ) x + S64x2048.size x ≤ S256x2048.size x) :
    canon (Val := Elt Ideal) (e := .bf16) [⟨Rect.unit (s := S256x2048) ![192, 0] S64x2048.size i2, k0_pay4 (F := Ideal) c⟩,
      ⟨Rect.unit (s := S256x2048) ![64, 0] S128x2048.size i1, k0_pay3 (F := Ideal) b⟩,
      ⟨Rect.unit (s := S256x2048) ![0, 0] S64x2048.size i0, k0_pay2 (F := Ideal) a⟩] = gather3 a b c := by
  funext y
  obtain ⟨u, v, rfl⟩ : ∃ (u : Fin 256) (v : Fin 2048), y = ix2 u v := ⟨y 0, y 1, ix2_eta (A := 256) (B := 2048) y⟩
  refine canon_eq_of_allAt _ _ _ ?_ (allAt_cons_unit _ _ _ _ _ ?_ (allAt_cons_unit _ _ _ _ _ ?_ (allAt_cons_unit _ _ _ _ _ ?_ (allAt_nil _ _))))
  · by_cases h1 : u.val < 64
    · refine ⟨_, List.mem_cons_of_mem _ (List.mem_cons_of_mem _ List.mem_cons_self), ?_⟩
      exact mem_rows i0 ⟨Nat.zero_le _, by omega⟩
    · by_cases h2 : u.val < 192
      · refine ⟨_, List.mem_cons_of_mem _ List.mem_cons_self, ?_⟩
        exact mem_rows i1 ⟨by omega, by omega⟩
      · refine ⟨_, List.mem_cons_self, ?_⟩
        exact mem_rows i2 ⟨by omega, by omega⟩
  · intro x hx
    obtain ⟨p, q, rfl⟩ : ∃ (p : Fin 64) (q : Fin 2048), x = ix2 p q := ⟨x 0, x 1, ix2_eta (A := 64) (B := 2048) x⟩
    have h0 : u.val = 192 + p.val := hx 0
    have h1 : v.val = 0 + q.val := hx 1
    have e : k0_pay4 (F := Ideal) c (ix2 p q) = c (ix4 0 0 p q) := by unfold k0_pay4; pointwise
    refine e.trans ?_
    unfold gather3
    rw [dif_neg (by show ¬ u.val < 64; omega), dif_neg (by show ¬ u.val < 192; omega)]
    congr 2
    · exact Fin.ext (by show p.val = u.val - 192; omega)
    · exact Fin.ext (by show q.val = v.val; omega)
  · intro x hx
    obtain ⟨p, q, rfl⟩ : ∃ (p : Fin 128) (q : Fin 2048), x = ix2 p q := ⟨x 0, x 1, ix2_eta (A := 128) (B := 2048) x⟩
    have h0 : u.val = 64 + p.val := hx 0
    have h1 : v.val = 0 + q.val := hx 1
    have e : k0_pay3 (F := Ideal) b (ix2 p q) = b (ix4 0 0 p q) := by unfold k0_pay3; pointwise
    refine e.trans ?_
    unfold gather3
    rw [dif_neg (by show ¬ u.val < 64; omega), dif_pos (by show u.val < 192; omega)]
    congr 2
    · exact Fin.ext (by show p.val = u.val - 64; omega)
    · exact Fin.ext (by show q.val = v.val; omega)
  · intro x hx
    obtain ⟨p, q, rfl⟩ : ∃ (p : Fin 64) (q : Fin 2048), x = ix2 p q := ⟨x 0, x 1, ix2_eta (A := 64) (B := 2048) x⟩
    have h0 : u.val = 0 + p.val := hx 0
    have h1 : v.val = 0 + q.val := hx 1
    have e : k0_pay2 (F := Ideal) a (ix2 p q) = a (ix4 0 0 p q) := by unfold k0_pay2; pointwise
    refine e.trans ?_
    unfold gather3
    rw [dif_pos (by show u.val < 64; omega)]
    congr 2
    · exact Fin.ext (by show p.val = u.val; omega)
    · exact Fin.ext (by show q.val = v.val; omega)

end Cert.Attn
-- ==== Proof.Attn.Blk1.lean ====
/- What a grid point of the attention over undilated rows writes to its two output blocks. -/
module

public import proofs.«01_k».proof.Proof.Gen.Attn1Ideal.Value
public import proofs.«01_k».proof.Proof.Attn.Head

@[expose] public section

set_option maxRecDepth 16384

noncomputable section

namespace Cert.Attn1Ideal.Hand

open Cert.Attn Cert.Attn1Ideal Cert.Attn1Ideal.Gen Idealize.ShloMosaic Idealize.ShloMosaic.TcCoe Idealize.SL Idealize.SL.Sem
open Idealize.ShloMosaic.View
variable (m : (ℓ : Loc nD τ sig) → Buf (Elt Ideal) ℓ)

/-- The mask point `t` adds to the scores. -/
abbrev bias (t : Fin cfg0.N) : FVec Ideal S128x256 .f32 := k0_pay9 (F := Ideal) (BitVec.ofNat 32 (grid0.coords t 2).val)
/-- The key window and the value window of point `t`. -/
abbrev keys (c : Dev nD) (t : Fin cfg0.N) : Vec Ideal S256x2048 .bf16 := gather3 (iblk m c 1 t) (iblk m c 2 t) (iblk m c 3 t)
abbrev vals (c : Dev nD) (t : Fin cfg0.N) : Vec Ideal S256x2048 .bf16 := gather3 (iblk m c 4 t) (iblk m c 5 t) (iblk m c 6 t)

theorem keys_eq (c : Dev nD) (t : Fin cfg0.N) : keys m c t = canon (Val := Elt Ideal) (e := .bf16)
    [⟨Rect.unit (s := S256x2048) ![192, 0] S64x2048.size inb_S256x2048_S64x2048_192_0, k0_pay4 (F := Ideal) (iblk m c 3 t)⟩,
      ⟨Rect.unit (s := S256x2048) ![64, 0] S128x2048.size inb_S256x2048_S128x2048_64_0, k0_pay3 (F := Ideal) (iblk m c 2 t)⟩,
      ⟨Rect.unit (s := S256x2048) ![0, 0] S64x2048.size inb_S256x2048_S64x2048_0_0, k0_pay2 (F := Ideal) (iblk m c 1 t)⟩] :=
  (canon_gather3 _ _ _ _ _ _).symm

theorem vals_eq (c : Dev nD) (t : Fin cfg0.N) : vals m c t = canon (Val := Elt Ideal) (e := .bf16)
    [⟨Rect.unit (s := S256x2048) ![192, 0] S64x2048.size inb_S256x2048_S64x2048_192_0, k0_pay8 (F := Ideal) (iblk m c 6 t)⟩,
      ⟨Rect.unit (s := S256x2048) ![64, 0] S128x2048.size inb_S256x2048_S128x2048_64_0, k0_pay7 (F := Ideal) (k0_pay6 (F := Ideal) (iblk m c 5 t))⟩,
      ⟨Rect.unit (s := S256x2048) ![0, 0] S64x2048.size inb_S256x2048_S64x2048_0_0, k0_pay5 (F := Ideal) (iblk m c 4 t)⟩] :=
  (canon_gather3 _ _ _ _ _ _).symm

theorem out_block (c : Dev nD) (t : Fin cfg0.N) :
    (outsAt0 m c t).1 = mixedAt (bias t) (iblk m c 0 t) (keys m c t) (vals m c t) := by
  rw [keys_eq, vals_eq]
  unfold outsAt0
  dsimp only
  frame_out
  simp only [View.readCov_eq_canon']
  funext y
  refine canon_eq_of_allAt _ y _ (cover_of_tiled_head _ _ _ (by rfl) y) ?_
  refine allAt_cons_unit _ _ _ _ _ (mixed_piece _ _ _ _ _ 1920 rfl _ inb_S256x2048_S256x128_0_1920) ?_
  refine allAt_cons_unit _ _ _ _ _ (mixed_piece _ _ _ _ _ 1792 rfl _ inb_S256x2048_S256x128_0_1792) ?_
  refine allAt_cons_unit _ _ _ _ _ (mixed_piece _ _ _ _ _ 1664 rfl _ inb_S256x2048_S256x128_0_1664) ?_
  refine allAt_cons_unit _ _ _ _ _ (mixed_piece _ _ _ _ _ 1536 rfl _ inb_S256x2048_S256x128_0_1536) ?_
  refine allAt_cons_unit _ _ _ _ _ (mixed_piece _ _ _ _ _ 1408 rfl _ inb_S256x2048_S256x128_0_1408) ?_
  refine allAt_cons_unit _ _ _ _ _ (mixed_piece _ _ _ _ _ 1280 rfl _ inb_S256x2048_S256x128_0_1280) ?_
  refine allAt_cons_unit _ _ _ _ _ (mixed_piece _ _ _ _ _ 1152 rfl _ inb_S256x2048_S256x128_0_1152) ?_
  refine allAt_cons_unit _ _ _ _ _ (mixed_piece _ _ _ _ _ 1024 rfl _ inb_S256x2048_S256x128_0_1024) ?_
  refine allAt_cons_unit _ _ _ _ _ (mixed_piece _ _ _ _ _ 896 rfl _ inb_S256x2048_S256x128_0_896) ?_
  refine allAt_cons_unit _ _ _ _ _ (mixed_piece _ _ _ _ _ 768 rfl _ inb_S256x2048_S256x128_0_768) ?_
  refine allAt_cons_unit _ _ _ _ _ (mixed_piece _ _ _ _ _ 640 rfl _ inb_S256x2048_S256x128_0_640) ?_
  refine allAt_cons_unit _ _ _ _ _ (mixed_piece _ _ _ _ _ 512 rfl _ inb_S256x2048_S256x128_0_512) ?_
  refine allAt_cons_unit _ _ _ _ _ (mixed_piece _ _ _ _ _ 384 rfl _ inb_S256x2048_S256x128_0_384) ?_
  refine allAt_cons_unit _ _ _ _ _ (mixed_piece _ _ _ _ _ 256 rfl _ inb_S256x2048_S256x128_0_256) ?_
  refine allAt_cons_unit _ _ _ _ _ (mixed_piece _ _ _ _ _ 128 rfl _ inb_S256x2048_S256x128_0_128) ?_
  refine allAt_cons_unit _ _ _ _ _ (mixed_piece _ _ _ _ _ 0 rfl _ inb_S256x2048_S256x128_0_0) ?_
  exact allAt_nil _ _

theorem last_store (prev : FVec Ideal S128x128 .f32) (mx den : FVec Ideal S128x1 .f32) :
    k0_pay1 (F := Ideal) prev mx (k0_pay112 (iota .tc S128x128 32 [1] iota_S128x128_d1_w32)) (log den) =
      shapeCast S1x1x128x128 (lseStep (BitVec.ofNat 32 15) prev mx den) shapeCasts_S128x128_S1x1x128x128 := rfl

set_option maxRecDepth 200000 in
theorem lse_block_eq (c : Dev nD) (t : Fin cfg0.N) :
    (outsAt0 m c t).2 = lseAt (bias t) (iblk m c 0 t) (keys m c t) := by
  rw [keys_eq]
  unfold outsAt0
  dsimp only
  frame_out
  simp only [View.readCov_eq_canon']
  refine Eq.trans (b := shapeCast S1x1x128x128 _ shapeCasts_S128x128_S1x1x128x128) (last_store _ _ _) ?_
  refine lse_block _ _ _ _ ?_
  refine lse_step _ _ _ 15 (by decide) 1920 rfl _ inb_S256x2048_S256x128_0_1920 _ ?_
  refine lse_step _ _ _ 14 (by decide) 1792 rfl _ inb_S256x2048_S256x128_0_1792 _ ?_
  refine lse_step _ _ _ 13 (by decide) 1664 rfl _ inb_S256x2048_S256x128_0_1664 _ ?_
  refine lse_step _ _ _ 12 (by decide) 1536 rfl _ inb_S256x2048_S256x128_0_1536 _ ?_
  refine lse_step _ _ _ 11 (by decide) 1408 rfl _ inb_S256x2048_S256x128_0_1408 _ ?_
  refine lse_step _ _ _ 10 (by decide) 1280 rfl _ inb_S256x2048_S256x128_0_1280 _ ?_
  refine lse_step _ _ _ 9 (by decide) 1152 rfl _ inb_S256x2048_S256x128_0_1152 _ ?_
  refine lse_step _ _ _ 8 (by decide) 1024 rfl _ inb_S256x2048_S256x128_0_1024 _ ?_
  refine lse_step _ _ _ 7 (by decide) 896 rfl _ inb_S256x2048_S256x128_0_896 _ ?_
  refine lse_step _ _ _ 6 (by decide) 768 rfl _ inb_S256x2048_S256x128_0_768 _ ?_
  refine lse_step _ _ _ 5 (by decide) 640 rfl _ inb_S256x2048_S256x128_0_640 _ ?_
  refine lse_step _ _ _ 4 (by decide) 512 rfl _ inb_S256x2048_S256x128_0_512 _ ?_
  refine lse_step _ _ _ 3 (by decide) 384 rfl _ inb_S256x2048_S256x128_0_384 _ ?_
  refine lse_step _ _ _ 2 (by decide) 256 rfl _ inb_S256x2048_S256x128_0_256 _ ?_
  refine lse_step _ _ _ 1 (by decide) 128 rfl _ inb_S256x2048_S256x128_0_128 _ ?_
  refine lse_step _ _ _ 0 (by decide) 0 rfl _ inb_S256x2048_S256x128_0_0 _ ?_
  exact lse_zero _ _ _

end Cert.Attn1Ideal.Hand
-- ==== Proof.Attn.Window.lean ====
/- A row's softmax over a window of 256 keys is its softmax over every key, when a key outside the window and a
   window place that holds no key have the score −∞. -/
module

public import Idealize.ShloMosaic.Lib.Pointwise

@[expose] public section

noncomputable section

namespace Cert.Attn

open Idealize.ShloMosaic

/-- A sum over the places `j` of a window that starts 64 before `base` is the sum over all keys, when the two
    summands agree where a place holds a key and are zero elsewhere. -/
theorem window_sum {M : Type*} [AddCommMonoid M] {L W : ℕ} (base : ℕ) (f : Fin W → M) (g : Fin L → M)
    (hfg : ∀ (j : Fin W) (x : Fin L), base + j.val = x.val + 64 → f j = g x)
    (hf : ∀ j : Fin W, (∀ x : Fin L, base + j.val ≠ x.val + 64) → f j = 0)
    (hg : ∀ x : Fin L, (∀ j : Fin W, base + j.val ≠ x.val + 64) → g x = 0) :
    ∑ j, f j = ∑ x, g x := by
  have key : ∀ j : Fin W, f j ≠ 0 → ∃ x : Fin L, base + j.val = x.val + 64 := fun j hj => by
    by_contra hn
    exact hj (hf j fun x hx => hn ⟨x, hx⟩)
  refine Finset.sum_bij_ne_zero (fun j _ hj => (key j hj).choose) (fun _ _ _ => Finset.mem_univ _) ?_ ?_ ?_
  · intro j _ hj j' _ hj' he
    have h1 := (key j hj).choose_spec
    have h2 := (key j' hj').choose_spec
    rw [he] at h1
    exact Fin.ext (by omega)
  · intro x _ hx
    by_contra hn
    refine hx (hg x fun j hjx => hn ⟨j, Finset.mem_univ _, by rw [hfg j x hjx]; exact hx, ?_⟩)
    have hj : f j ≠ 0 := by rw [hfg j x hjx]; exact hx
    have h1 := (key j hj).choose_spec
    exact Fin.ext (by omega)
  · intro j _ hj
    exact hfg j _ (key j hj).choose_spec

theorem fold_max_eq_sup {ι : Type*} [Fintype ι] (f : ι → EReal) : Finset.univ.fold max ⊥ f = Finset.univ.sup f := rfl

/-- The same for the greatest. -/
theorem window_max {L W : ℕ} (base : ℕ) (f : Fin W → EReal) (g : Fin L → EReal)
    (hfg : ∀ (j : Fin W) (x : Fin L), base + j.val = x.val + 64 → f j = g x)
    (hf : ∀ j : Fin W, (∀ x : Fin L, base + j.val ≠ x.val + 64) → f j = ⊥)
    (hg : ∀ x : Fin L, (∀ j : Fin W, base + j.val ≠ x.val + 64) → g x = ⊥) :
    Finset.univ.fold max ⊥ f = Finset.univ.fold max ⊥ g := by
  rw [fold_max_eq_sup, fold_max_eq_sup]
  refine le_antisymm (Finset.sup_le fun j _ => ?_) (Finset.sup_le fun x _ => ?_)
  · by_cases h : ∃ x : Fin L, base + j.val = x.val + 64
    · obtain ⟨x, hx⟩ := h
      rw [hfg j x hx]
      exact Finset.le_sup (Finset.mem_univ x)
    · rw [hf j fun x hx => h ⟨x, hx⟩]
      exact bot_le
  · by_cases h : ∃ j : Fin W, base + j.val = x.val + 64
    · obtain ⟨j, hj⟩ := h
      rw [← hfg j x hj]
      exact Finset.le_sup (Finset.mem_univ j)
    · rw [hg x fun j hj => h ⟨j, hj⟩]
      exact bot_le

/-- The exponential of a masked score is zero, whatever the maximum. -/
theorem exp_bot_sub (m : EReal) : Ideal.exp (⊥ - m) = 0 := by
  rw [EReal.bot_sub, Ideal.exp_bot]

end Cert.Attn
-- ==== Proof.Attn.Row.lean ====
/- One query's attention over every key of its row, and why a block over a window of 256 keys computes it. -/
module

public import proofs.«01_k».proof.Proof.Attn.Window
public import proofs.«01_k».proof.Proof.Attn.Head

@[expose] public section

noncomputable section

namespace Cert.Attn

open Cert.Attn1Ideal Cert.Attn1Ideal.Gen Idealize.ShloMosaic

section Full
variable {B D L : ℕ} (X : (⟨4, ![B, D, L, 6144]⟩ : Shape).Idx → EReal) (n : Fin B) (c : Fin D) (h : Fin 16) (q : Fin L)

/-- Column `d` of head `h` in the part `p` of a row: 0 the queries, 1 the keys, 2 the values. -/
def part (p : Fin 3) (h : Fin 16) (d : Fin 128) : Fin 6144 := ⟨2048 * p.val + (128 * h.val + d.val), by omega⟩

/-- The score of key `x`, −∞ when it is more than 64 places away. -/
def rowScore (x : Fin L) : EReal :=
  if q.val ≤ x.val + 64 ∧ x.val ≤ q.val + 64 then ∑ d, X (ix4 n c q (part 0 h d)) * X (ix4 n c x (part 1 h d)) else ⊥

/-- The greatest score. -/
def rowTop : EReal := Finset.univ.fold max ⊥ fun x => rowScore X n c h q x

/-- The weight of key `x`, not yet divided. -/
def rowWeight (x : Fin L) : EReal := Ideal.exp (rowScore X n c h q x - rowTop X n c h q)

/-- The sum of the weights. -/
def rowTotal : EReal := ∑ x, rowWeight X n c h q x

/-- The values weighted, divided by the sum of the weights. -/
def rowMixed (d : Fin 128) : EReal :=
  Ideal.div (∑ x, rowWeight X n c h q x * X (ix4 n c x (part 2 h d))) (rowTotal X n c h q)

/-- The logarithm of the sum of exponentials of the scores. -/
def rowLogSum : EReal := rowTop X n c h q + Ideal.log (rowTotal X n c h q)

end Full

/-- The mask that query block `i` adds over a row of `L` keys. -/
def IsBias (b : FVec Ideal S128x256 .f32) (i L : ℕ) : Prop :=
  ∀ (r : Fin 128) (j : Fin 256), b (ix2 r j) =
    if r.val ≤ j.val ∧ j.val ≤ r.val + 128 ∧ 64 ≤ 128 * i + j.val ∧ 128 * i + j.val < L + 64 then 0 else ⊥

/-- Place `j` of the window of query block `i` holds row `128 i + j − 64` of part `p`, where there is such a row. -/
def IsWindow {B D L : ℕ} (X : (⟨4, ![B, D, L, 6144]⟩ : Shape).Idx → EReal) (n : Fin B) (c : Fin D) (i : ℕ) (p : Fin 3)
    (K : Vec Ideal S256x2048 .bf16) : Prop :=
  ∀ (j : Fin 256) (x : Fin L), 128 * i + j.val = x.val + 64 →
    ∀ (h : Fin 16) (d : Fin 128), K (ix2 j (col h d)) = X (ix4 n c x (part p h d))

/-- The query block holds the rows from `128 i` on. -/
def IsBlock {B D L : ℕ} (X : (⟨4, ![B, D, L, 6144]⟩ : Shape).Idx → EReal) (n : Fin B) (c : Fin D) (i : ℕ)
    (Q : Vec Ideal S1x1x128x2048 .bf16) : Prop :=
  ∀ (r : Fin 128) (q : Fin L), q.val = 128 * i + r.val →
    ∀ (h : Fin 16) (d : Fin 128), Q (ix4 0 0 r (col h d)) = X (ix4 n c q (part 0 h d))

section Block
variable {B D L : ℕ} (X : (⟨4, ![B, D, L, 6144]⟩ : Shape).Idx → EReal) (n : Fin B) (c : Fin D) (i : ℕ)
variable (b : FVec Ideal S128x256 .f32) (Q : Vec Ideal S1x1x128x2048 .bf16) (K V : Vec Ideal S256x2048 .bf16)
variable (hb : IsBias b i L) (hQ : IsBlock X n c i Q) (hK : IsWindow X n c i 1 K)
variable (h : Fin 16) (r : Fin 128) (q : Fin L) (hq : q.val = 128 * i + r.val)
include hb hQ hK hq

theorem score_row (j : Fin 256) (x : Fin L) (hj : 128 * i + j.val = x.val + 64) :
    score b Q K h r j = rowScore X n c h q x := by
  have hx := x.isLt
  unfold score rowScore
  rw [hb r j]
  by_cases hn : q.val ≤ x.val + 64 ∧ x.val ≤ q.val + 64
  · rw [if_pos hn, if_pos (by omega), add_zero]
    refine Finset.sum_congr rfl fun d _ => ?_
    rw [hQ r q hq, hK j x hj]
  · rw [if_neg hn, if_neg (by omega), EReal.add_bot]

theorem score_out (j : Fin 256) (hj : ∀ x : Fin L, 128 * i + j.val ≠ x.val + 64) : score b Q K h r j = ⊥ := by
  unfold score
  rw [hb r j, if_neg, EReal.add_bot]
  rintro ⟨_, _, h3, h4⟩
  exact hj ⟨128 * i + j.val - 64, by omega⟩ (by show _ = 128 * i + j.val - 64 + 64; omega)

omit hb hQ hK in
theorem row_out (x : Fin L) (hx : ∀ j : Fin 256, 128 * i + j.val ≠ x.val + 64) : rowScore X n c h q x = ⊥ := by
  unfold rowScore
  rw [if_neg]
  rintro ⟨h1, h2⟩
  exact hx ⟨x.val + 64 - 128 * i, by omega⟩ (by show 128 * i + (x.val + 64 - 128 * i) = _; omega)

theorem top_row : top b Q K h r = rowTop X n c h q :=
  window_max (128 * i) _ _ (score_row X n c i b Q K hb hQ hK h r q hq) (score_out X n c i b Q K hb hQ hK h r q hq)
    (row_out X n c i h r q hq)

theorem weight_row (j : Fin 256) (x : Fin L) (hj : 128 * i + j.val = x.val + 64) :
    weight b Q K h r j = rowWeight X n c h q x := by
  unfold weight rowWeight
  rw [score_row X n c i b Q K hb hQ hK h r q hq j x hj, top_row X n c i b Q K hb hQ hK h r q hq]

theorem weight_out (j : Fin 256) (hj : ∀ x : Fin L, 128 * i + j.val ≠ x.val + 64) : weight b Q K h r j = 0 := by
  unfold weight
  rw [score_out X n c i b Q K hb hQ hK h r q hq j hj, exp_bot_sub]

omit hb hQ hK in
theorem rowWeight_out (x : Fin L) (hx : ∀ j : Fin 256, 128 * i + j.val ≠ x.val + 64) : rowWeight X n c h q x = 0 := by
  unfold rowWeight
  rw [row_out X n c i h r q hq x hx, exp_bot_sub]

theorem total_row : total b Q K h r = rowTotal X n c h q :=
  window_sum (128 * i) _ _ (weight_row X n c i b Q K hb hQ hK h r q hq) (weight_out X n c i b Q K hb hQ hK h r q hq)
    (rowWeight_out X n c i h r q hq)

theorem logSum_row : logSum b Q K h r = rowLogSum X n c h q := by
  unfold logSum rowLogSum
  rw [top_row X n c i b Q K hb hQ hK h r q hq, total_row X n c i b Q K hb hQ hK h r q hq]

theorem mixed_row (hV : IsWindow X n c i 2 V) (d : Fin 128) : mixed b Q K V h r d = rowMixed X n c h q d := by
  unfold mixed rowMixed
  rw [total_row X n c i b Q K hb hQ hK h r q hq]
  congr 1
  refine window_sum (128 * i) _ _ (fun j x hj => ?_) (fun j hj => ?_) (fun x hx => ?_)
  · rw [weight_row X n c i b Q K hb hQ hK h r q hq j x hj, hV j x hj]
  · rw [weight_out X n c i b Q K hb hQ hK h r q hq j hj, zero_mul]
  · rw [rowWeight_out X n c i h r q hq x hx, zero_mul]

end Block

/-- The results as arrays: head by head the mixed values; the logarithms in the first 16 lanes, zero in the others. -/
def mixedArr {B D L : ℕ} (X : (⟨4, ![B, D, L, 6144]⟩ : Shape).Idx → EReal) (y : (⟨4, ![B, D, L, 2048]⟩ : Shape).Idx) : EReal :=
  rowMixed X (y 0) (y 1) ⟨(y 3).val / 128, by have : (y 3).val < 2048 := (y 3).isLt; omega⟩ (y 2) ⟨(y 3).val % 128, by omega⟩

def logArr {B D L : ℕ} (X : (⟨4, ![B, D, L, 6144]⟩ : Shape).Idx → EReal) (y : (⟨4, ![B, D, L, 128]⟩ : Shape).Idx) : EReal :=
  if h : (y 3).val < 16 then rowLogSum X (y 0) (y 1) ⟨(y 3).val, h⟩ (y 2) else 0

theorem logArr_lane {B D L : ℕ} (X : (⟨4, ![B, D, L, 6144]⟩ : Shape).Idx → EReal) (n : Fin B) (c : Fin D) (q : Fin L) (l : Fin 128) :
    logArr X (ix4 n c q l) = if h : l.val < 16 then rowLogSum X n c ⟨l.val, h⟩ q else 0 := rfl

theorem lseAt_lane (b : FVec Ideal S128x256 .f32) (Q : Vec Ideal S1x1x128x2048 .bf16) (K : Vec Ideal S256x2048 .bf16) (r l : Fin 128) :
    lseAt b Q K (ix4 0 0 r l) = if h : l.val < 16 then logSum b Q K ⟨l.val, h⟩ r else 0 := rfl

end Cert.Attn
-- ==== Proof.Attn.Mask.lean ====
/- The attention's mask: which words the kernel compares, and which key positions that keeps. -/
module

public import Idealize.ShloMosaic.Lib.WordCmp
public import Idealize.ShloMosaic.Lib.Pointwise

@[expose] public section

noncomputable section

namespace Cert.Attn

open Idealize.ShloMosaic Idealize.ShloMosaic.WordCmp

section Words
variable {x y : BitVec 32} {a b : ℤ}

theorem bmod_small {z : ℤ} (h : -2147483648 ≤ z) (h' : z < 2147483648) : z.bmod (2 ^ 32) = z :=
  Int.bmod_eq_of_le (by omega) (by omega)

theorem toInt_add (hx : x.toInt = a) (hy : y.toInt = b) (h : -2147483648 ≤ a + b) (h' : a + b < 2147483648) :
    (x + y).toInt = a + b := by
  rw [BitVec.toInt_add, hx, hy, bmod_small h h']

theorem toInt_sub (hx : x.toInt = a) (hy : y.toInt = b) (h : -2147483648 ≤ a - b) (h' : a - b < 2147483648) :
    (x - y).toInt = a - b := by
  rw [BitVec.toInt_sub, hx, hy, bmod_small h h']

theorem toInt_mul (hx : x.toInt = a) (hy : y.toInt = b) (h : -2147483648 ≤ a * b) (h' : a * b < 2147483648) :
    (x * y).toInt = a * b := by
  rw [BitVec.toInt_mul, hx, hy, bmod_small h h']

theorem toInt_abs (hx : x.toInt = a) (h : -2147483648 < a) : (IntOp.absi x).toInt = |a| := by
  have h2 : a < 2147483648 := by rw [← hx]; have := x.toInt_lt; simpa using this
  unfold IntOp.absi
  rw [BitVec.msb_eq_toInt, hx]
  by_cases hn : a < 0
  · rw [if_pos (by simpa using hn), BitVec.toInt_neg, hx, bmod_small (by omega) (by omega), abs_of_neg hn]
  · rw [if_neg (by simpa using hn), hx, abs_of_nonneg (by omega)]

theorem toInt_nat {n : ℕ} (h : n < 2147483648) : (BitVec.ofNat 32 n).toInt = (n : ℤ) :=
  toInt_ofNat_of_lt (w := 32) (by simpa using h)

end Words

/-- A distance of two positions compared with 64. -/
theorem near_iff {x y : BitVec 32} {a b : ℤ} (hx : x.toInt = a) (hy : y.toInt = b) (ha : |a| < 1000000000) (hb : |b| < 1000000000) :
    IntOp.cmpi .sle (IntOp.absi (IntOp.subi x y)) 64#32 = BitVec.ofBool (decide (a ≤ b + 64 ∧ b ≤ a + 64)) := by
  rw [abs_lt] at ha hb
  rw [cmpi_sle_eq, show IntOp.subi x y = x - y from rfl,
    toInt_abs (toInt_sub hx hy (by omega) (by omega)) (by omega), show (64#32 : BitVec 32).toInt = 64 from rfl]
  congr 1
  rw [decide_eq_decide, abs_le]
  omega

/-- The reference's mask between query `q` and key `x`. -/
theorem near_nat {q x : ℕ} (hq : q < 1000000000) (hx : x < 1000000000) :
    IntOp.cmpi .sle (IntOp.absi (IntOp.subi (BitVec.ofNat 32 q) (BitVec.ofNat 32 x))) 64#32
      = BitVec.ofBool (decide (q ≤ x + 64 ∧ x ≤ q + 64)) := by
  rw [near_iff (toInt_nat (by omega)) (toInt_nat (by omega)) (by rw [abs_lt]; omega) (by rw [abs_lt]; omega)]
  congr 1
  rw [decide_eq_decide]
  omega

/-- The kernel's mask between row `r` of query block `i` and place `j` of its key window, over `L` keys. -/
theorem mask_words {i r j L : ℕ} (hi : i < 1000000) (hr : r < 128) (hj : j < 256) (hL : L < 1000000000) :
    IntOp.andi
        (IntOp.andi
          (IntOp.cmpi CmpIPredicate.sle
            (IntOp.absi
              (IntOp.subi (IntOp.addi (Scalar.muli (BitVec.ofNat 32 i) 128#32) (BitVec.ofNat 32 r))
                (IntOp.addi (Scalar.subi (Scalar.muli (BitVec.ofNat 32 i) 128#32) 64#32) (BitVec.ofNat 32 j))))
            64#32)
          (IntOp.cmpi CmpIPredicate.sge (IntOp.addi (Scalar.subi (Scalar.muli (BitVec.ofNat 32 i) 128#32) 64#32) (BitVec.ofNat 32 j))
            0#32))
        (IntOp.cmpi CmpIPredicate.slt (IntOp.addi (Scalar.subi (Scalar.muli (BitVec.ofNat 32 i) 128#32) 64#32) (BitVec.ofNat 32 j))
          (BitVec.ofNat 32 L))
      = BitVec.ofBool (decide (r ≤ j ∧ j ≤ r + 128 ∧ 64 ≤ 128 * i + j ∧ 128 * i + j < L + 64)) := by
  have h0 : (Scalar.muli (BitVec.ofNat 32 i) 128#32).toInt = (i : ℤ) * 128 :=
    toInt_mul (toInt_nat (by omega)) rfl (by omega) (by omega)
  have h1 : (Scalar.subi (Scalar.muli (BitVec.ofNat 32 i) 128#32) 64#32).toInt = (i : ℤ) * 128 - 64 :=
    toInt_sub h0 rfl (by omega) (by omega)
  have hq : (IntOp.addi (Scalar.muli (BitVec.ofNat 32 i) 128#32) (BitVec.ofNat 32 r)).toInt = (i : ℤ) * 128 + r :=
    toInt_add h0 (toInt_nat (by omega)) (by omega) (by omega)
  have hk : (IntOp.addi (Scalar.subi (Scalar.muli (BitVec.ofNat 32 i) 128#32) 64#32) (BitVec.ofNat 32 j)).toInt
      = (i : ℤ) * 128 - 64 + j :=
    toInt_add h1 (toInt_nat (by omega)) (by omega) (by omega)
  rw [near_iff hq hk (by rw [abs_lt]; omega) (by rw [abs_lt]; omega), cmpi_sge_eq, cmpi_slt_eq, hk,
    toInt_nat (show L < 2147483648 by omega), andi_ofBool, andi_ofBool, show (0#32 : BitVec 32).toInt = 0 from rfl]
  congr 1
  rw [← Bool.decide_and, ← Bool.decide_and, decide_eq_decide]
  omega

end Cert.Attn
-- ==== Proof.Attn.Ref1.lean ====
/- The attention's reference over undilated rows, read at an index: one query's attention over every key of its row. -/
module

public import proofs.«01_k».proof.Proof.Gen.AttnRef1Ideal.Read
public import proofs.«01_k».proof.Proof.Attn.Row
public import proofs.«01_k».proof.Proof.Attn.Mask
public import Idealize.ShloMosaic.Lib.KernelVsHost

@[expose] public section

set_option maxRecDepth 16384

noncomputable section

namespace Cert.AttnRef1Ideal.Hand

open Cert.Attn Cert.AttnRef1Ideal Cert.AttnRef1Ideal.Gen Cert.AttnRef1Ideal.Read Idealize.ShloMosaic Idealize.ShloMosaic.TcCoe
variable (X : (⟨S2x1x4096x6144, .bf16⟩ : BufTy).Contents (Elt Ideal)) (n : Fin 2) (q x : Fin 4096) (h : Fin 16) (d : Fin 128)

theorem query_apply : val_main_v3 (F := Ideal) X (ix4 n q h d) = X (ix4 n 0 q (part 0 h d)) := by
  rw [val_main_v3_apply, val_main_v2_apply, val_main_v1_apply, val_main_v0_apply]
  refine congrArg X (funext fun a => Fin.ext ?_)
  match a with
  | ⟨0, _⟩ => simp [part, ix4]; omega
  | ⟨1, _⟩ => rfl
  | ⟨2, _⟩ => simp [part, ix4]; omega
  | ⟨3, _⟩ => simp [part, ix4]; omega

theorem key_apply : val_main_v5 (F := Ideal) X (ix4 n q h d) = X (ix4 n 0 q (part 1 h d)) := by
  rw [val_main_v5_apply, val_main_v4_apply, val_main_v1_apply, val_main_v0_apply]
  refine congrArg X (funext fun a => Fin.ext ?_)
  match a with
  | ⟨0, _⟩ => simp [part, ix4]; omega
  | ⟨1, _⟩ => rfl
  | ⟨2, _⟩ => simp [part, ix4]; omega
  | ⟨3, _⟩ => simp [part, ix4]; omega

theorem value_apply : val_main_v7 (F := Ideal) X (ix4 n q h d) = X (ix4 n 0 q (part 2 h d)) := by
  rw [val_main_v7_apply, val_main_v6_apply, val_main_v1_apply, val_main_v0_apply]
  refine congrArg X (funext fun a => Fin.ext ?_)
  match a with
  | ⟨0, _⟩ => simp [part, ix4]; omega
  | ⟨1, _⟩ => rfl
  | ⟨2, _⟩ => simp [part, ix4]; omega
  | ⟨3, _⟩ => simp [part, ix4]; omega

theorem score_apply : val_main_v19 (F := Ideal) X (ix4 n h q x) = rowScore X n 0 h q x := by
  have hm : val_main_call0_v1 (F := Ideal) (ix4 n h q x) = BitVec.ofBool (decide (q.val ≤ x.val + 64 ∧ x.val ≤ q.val + 64)) := by
    rw [val_main_call0_v1_apply, val_main_v18_apply, val_main_v17_apply, val_main_v15_apply, val_main_v14_apply, val_main_v16_apply,
      val_main_v12_apply, val_main_v13_apply, val_main_v10_apply, val_main_v11_apply, val_main_v9_apply, val_main_v9_apply,
      val_main_c_apply]
    exact near_nat (q := q.val) (x := x.val) (by omega) (by omega)
  have hc : val_main_call0_v2 (F := Ideal) (ix4 n h q x) = ⊥ := by
    rw [val_main_call0_v2_apply, val_main_call0_v0_apply, val_main_cst_apply]
    exact ofBits_negInf
  have hd : val_main_v8 (F := Ideal) X (ix4 n h q x) = ∑ d, X (ix4 n 0 q (part 0 h d)) * X (ix4 n 0 x (part 1 h d)) := by
    rw [val_main_v8_apply]
    refine Finset.sum_congr rfl fun d _ => ?_
    have el : lidx_main_v8 (ix4 n h q x) d = ix4 n q h d := by
      funext a; match a with | ⟨0, _⟩ => rfl | ⟨1, _⟩ => rfl | ⟨2, _⟩ => rfl | ⟨3, _⟩ => rfl
    have er : ridx_main_v8 (ix4 n h q x) d = ix4 n x h d := by
      funext a; match a with | ⟨0, _⟩ => rfl | ⟨1, _⟩ => rfl | ⟨2, _⟩ => rfl | ⟨3, _⟩ => rfl
    rw [el, er, query_apply, key_apply]
  rw [val_main_v19_apply, hm, hc, hd]
  unfold rowScore
  by_cases hn : q.val ≤ x.val + 64 ∧ x.val ≤ q.val + 64
  · rw [if_pos hn]; simp [hn, Scalar.select]
  · rw [if_neg hn]; simp [hn, Scalar.select]

theorem top_apply : val_main_v20 (F := Ideal) X (ix3 n h q) = rowTop X n 0 h q := by
  have e : val_main_v20 (F := Ideal) X (ix3 n h q) = Finset.univ.fold max ⊥ fun x => val_main_v19 (F := Ideal) X (ix4 n h q x) := by
    unfold val_main_v20
    generalize val_main_v19 (F := Ideal) X = s
    pointwise
    rw [val_main_cst_0_apply, show FloatOps.ofBits (F := Ideal) .f32 0xFF800000#32 = (⊥ : EReal) from ofBits_negInf]
  rw [e]
  simp only [score_apply]
  rfl

theorem weight_apply : val_main_v24 (F := Ideal) X (ix4 n h q x) = rowWeight X n 0 h q x := by
  rw [val_main_v24_apply, val_main_v23_apply, val_main_v22_apply, val_main_v21_apply, score_apply,
    show idx_main_v21 (idx_main_v22 (ix4 n h q x)) = ix3 n h q from by
      funext a; match a with | ⟨0, _⟩ => rfl | ⟨1, _⟩ => rfl | ⟨2, _⟩ => rfl,
    top_apply]
  rfl

theorem total_apply : val_main_v25 (F := Ideal) X (ix3 n h q) = rowTotal X n 0 h q := by
  rw [val_main_v25_apply]
  unfold rowTotal
  have z : val_main_cst_1 (F := Ideal) (Shape.Idx.first h_S_) = 0 := by
    rw [val_main_cst_1_apply]
    pointwise
  rw [z, zero_add]
  refine Finset.sum_congr rfl fun x _ => ?_
  rw [← weight_apply]
  congr 1
  funext a; match a with | ⟨0, _⟩ => rfl | ⟨1, _⟩ => rfl | ⟨2, _⟩ => rfl | ⟨3, _⟩ => rfl

theorem mixed_apply : val_main_v31 (F := Ideal) X (ix4 n q h d) = rowMixed X n 0 h q d := by
  rw [val_main_v31_apply, val_main_v28_apply, val_main_v27_apply, val_main_v30_apply, val_main_v29_apply, val_main_v26_apply,
    show idx_main_v26 (idx_main_v29 (idx_main_v30 (ix4 n q h d))) = ix3 n h q from by
      funext a; match a with | ⟨0, _⟩ => rfl | ⟨1, _⟩ => rfl | ⟨2, _⟩ => rfl,
    total_apply]
  show Ideal.div _ _ = _
  unfold rowMixed
  congr 1
  refine Finset.sum_congr rfl fun x _ => ?_
  have el : lidx_main_v27 (idx_main_v28 (ix4 n q h d)) x = ix4 n x h d := by
    funext a; match a with | ⟨0, _⟩ => rfl | ⟨1, _⟩ => rfl | ⟨2, _⟩ => rfl | ⟨3, _⟩ => rfl
  have er : ridx_main_v27 (idx_main_v28 (ix4 n q h d)) x = ix4 n h q x := by
    funext a; match a with | ⟨0, _⟩ => rfl | ⟨1, _⟩ => rfl | ⟨2, _⟩ => rfl | ⟨3, _⟩ => rfl
  rw [mul_comm, el, er, weight_apply, value_apply]

theorem logSum_apply : val_main_v35 (F := Ideal) X (ix3 n q h) = rowLogSum X n 0 h q := by
  rw [val_main_v35_apply, val_main_v34_apply, val_main_v33_apply, val_main_v32_apply, val_main_v26_apply, val_main_v21_apply]
  have e : idx_main_v21 (idx_main_v34 (idx_main_v35 (ix3 n q h))) = ix3 n h q := by
    funext a
    refine Fin.ext ?_
    match a with
    | ⟨0, _⟩ => show ((n.val * 16 + h.val) * 4096 + q.val) / 65536 = n.val; omega
    | ⟨1, _⟩ => show ((n.val * 16 + h.val) * 4096 + q.val) / 4096 % 16 = h.val; omega
    | ⟨2, _⟩ => show ((n.val * 16 + h.val) * 4096 + q.val) / 1 % 4096 = q.val; omega
  rw [e, show idx_main_v26 (idx_main_v34 (idx_main_v35 (ix3 n q h))) = ix3 n h q from e, total_apply, top_apply]
  rfl

/-- The reference's first result. -/
theorem ref_mixed : val_main_v38 (F := Ideal) X = mixedArr X := by
  funext y
  rw [val_main_v38_apply]
  unfold mixedArr
  obtain ⟨n, c, q, k, rfl⟩ : ∃ (n : Fin 2) (c : Fin 1) (q : Fin 4096) (k : Fin 2048), y = ix4 n c q k :=
    ⟨y 0, y 1, y 2, y 3, by funext a; match a with | ⟨0, _⟩ => rfl | ⟨1, _⟩ => rfl | ⟨2, _⟩ => rfl | ⟨3, _⟩ => rfl⟩
  obtain rfl : c = 0 := Subsingleton.elim _ _
  refine Eq.trans ?_ (mixed_apply X n q ⟨k.val / 128, by omega⟩ ⟨k.val % 128, by omega⟩)
  show val_main_v31 (F := Ideal) X _ = _
  congr 1
  funext a
  refine Fin.ext ?_
  match a with
  | ⟨0, _⟩ => simp [ix4]; omega
  | ⟨1, _⟩ => simp [ix4]; omega
  | ⟨2, _⟩ => simp [ix4]; omega
  | ⟨3, _⟩ => simp [ix4]; omega

/-- The reference's second result. -/
theorem ref_log : val_main_v39 (F := Ideal) X = logArr X := by
  funext y
  rw [val_main_v39_apply]
  unfold logArr val_main_v36
  obtain ⟨n, c, q, k, rfl⟩ : ∃ (n : Fin 2) (c : Fin 1) (q : Fin 4096) (k : Fin 128), y = ix4 n c q k :=
    ⟨y 0, y 1, y 2, y 3, by funext a; match a with | ⟨0, _⟩ => rfl | ⟨1, _⟩ => rfl | ⟨2, _⟩ => rfl | ⟨3, _⟩ => rfl⟩
  obtain rfl : c = 0 := Subsingleton.elim _ _
  have e : idx_main_v39 (ix4 n 0 q k) = ix3 n q k := by
    funext a
    refine Fin.ext ?_
    match a with
    | ⟨0, _⟩ => show (((n.val * 1 + 0) * 4096 + q.val) * 128 + k.val) / 524288 = n.val; omega
    | ⟨1, _⟩ => show (((n.val * 1 + 0) * 4096 + q.val) * 128 + k.val) / 128 % 4096 = q.val; omega
    | ⟨2, _⟩ => show (((n.val * 1 + 0) * 4096 + q.val) * 128 + k.val) % 128 = k.val; omega
  rw [e]
  by_cases hk : k.val < 16
  · rw [dif_pos (show ((ix4 n 0 q k : S2x1x4096x128.Idx) 3).val < 16 from hk)]
    refine Eq.trans (pad_apply_of_inside _ _ _ _ _ _ _ _ (ix3 n q ⟨k.val, hk⟩) fun a => ?_) (logSum_apply X n q ⟨k.val, hk⟩)
    match a with
    | ⟨0, _⟩ => simp [ix3]
    | ⟨1, _⟩ => simp [ix3]
    | ⟨2, _⟩ => simp [ix3]
  · rw [dif_neg (show ¬ ((ix4 n 0 q k : S2x1x4096x128.Idx) 3).val < 16 from hk)]
    refine Eq.trans (pad_apply_of_not_inside _ _ _ _ _ _ _ _ (2 : Fin 3) ?_) ?_
    · rintro ⟨_, _, h3⟩
      exact hk (by simpa [ix3] using h3)
    · rw [val_main_call1_v0_apply, val_main_c_2_apply]
      show (((0#32 : BitVec 32).toInt : ℝ) : EReal) = 0
      simp

end Cert.AttnRef1Ideal.Hand
-- ==== Proof.Attn.Alg1.lean ====
/- The attention over undilated rows is its reference: the blocks read from the argument, the two result arrays. -/
module

public import proofs.«01_k».proof.Proof.Attn.Blk1
public import proofs.«01_k».proof.Proof.Attn.Ref1
public import proofs.«01_k».proof.Defs

@[expose] public section

set_option maxRecDepth 16384

noncomputable section

namespace Cert.Attn1Ideal.Hand

open Cert.Attn Cert.Attn1Ideal Cert.Attn1Ideal.Gen Idealize.ShloMosaic Idealize.ShloMosaic.TcCoe Idealize.SL Idealize.SL.Sem
open Idealize.ShloMosaic.View
variable (m : (ℓ : Loc nD τ sig) → Buf (Elt Ideal) ℓ)

/-- The argument. -/
abbrev arg (c : Dev nD) : S2x1x4096x6144.Idx → EReal := m ((c.tc : Thread nD τ).loc main_arg0)

theorem coord_2 : ∀ t : Fin cfg0.N, (grid0.coords t 2).val = t.val % 32 :=
  (by decide +kernel : ∀ t : Fin grid0.N, (grid0.coords t 2).val = t.val % 32)
theorem idx_0 : ∀ t : Fin cfg0.N, win0_0.index t = ![t.val / 32, 0, t.val % 32, 0] :=
  (by decide +kernel : ∀ t : Fin grid0.N, win0_0.index t = ![t.val / 32, 0, t.val % 32, 0])
theorem idx_1 : ∀ t : Fin cfg0.N, win0_1.index t = ![t.val / 32, 0, 2 * (t.val % 32) - 1, 1] :=
  (by decide +kernel : ∀ t : Fin grid0.N, win0_1.index t = ![t.val / 32, 0, 2 * (t.val % 32) - 1, 1])
theorem idx_2 : ∀ t : Fin cfg0.N, win0_2.index t = ![t.val / 32, 0, t.val % 32, 1] :=
  (by decide +kernel : ∀ t : Fin grid0.N, win0_2.index t = ![t.val / 32, 0, t.val % 32, 1])
theorem idx_3 : ∀ t : Fin cfg0.N, win0_3.index t = ![t.val / 32, 0, min (2 * (t.val % 32) + 2) 63, 1] :=
  (by decide +kernel : ∀ t : Fin grid0.N, win0_3.index t = ![t.val / 32, 0, min (2 * (t.val % 32) + 2) 63, 1])
theorem idx_4 : ∀ t : Fin cfg0.N, win0_4.index t = ![t.val / 32, 0, 2 * (t.val % 32) - 1, 2] :=
  (by decide +kernel : ∀ t : Fin grid0.N, win0_4.index t = ![t.val / 32, 0, 2 * (t.val % 32) - 1, 2])
theorem idx_5 : ∀ t : Fin cfg0.N, win0_5.index t = ![t.val / 32, 0, t.val % 32, 2] :=
  (by decide +kernel : ∀ t : Fin grid0.N, win0_5.index t = ![t.val / 32, 0, t.val % 32, 2])
theorem idx_6 : ∀ t : Fin cfg0.N, win0_6.index t = ![t.val / 32, 0, min (2 * (t.val % 32) + 2) 63, 2] :=
  (by decide +kernel : ∀ t : Fin grid0.N, win0_6.index t = ![t.val / 32, 0, min (2 * (t.val % 32) + 2) 63, 2])
theorem idx_7 : ∀ t : Fin cfg0.N, win0_7.index t = ![t.val / 32, 0, t.val % 32, 0] :=
  (by decide +kernel : ∀ t : Fin grid0.N, win0_7.index t = ![t.val / 32, 0, t.val % 32, 0])
theorem idx_8 : ∀ t : Fin cfg0.N, win0_8.index t = ![t.val / 32, 0, t.val % 32, 0] :=
  (by decide +kernel : ∀ t : Fin grid0.N, win0_8.index t = ![t.val / 32, 0, t.val % 32, 0])

/-- The batch of point `t`. -/
def batch (t : Fin cfg0.N) : Fin 2 := ⟨t.val / 32, by have : t.val < 64 := t.isLt; omega⟩

theorem bias_is (t : Fin cfg0.N) : IsBias (bias t) (t.val % 32) 4096 := by
  intro r j
  unfold bias k0_pay9
  rw [coord_2]
  pointwise
  rw [mask_words (L := 4096) (by omega) r.isLt j.isLt (by omega)]
  have hκ : Named.named (F := Ideal) Cert.Attn1Ideal.κ "mask" (φ := .f32) 0xF149F2CA#32 = (⊥ : EReal) :=
    IdealRules.named_const.ideal_named_scalar _ _ _ _ rfl
  by_cases h : r.val ≤ j.val ∧ j.val ≤ r.val + 128 ∧ 64 ≤ 128 * (t.val % 32) + j.val ∧ 128 * (t.val % 32) + j.val < 4096 + 64
  · rw [if_pos h]; simp [h, Scalar.select]
  · rw [if_neg h]; simp [h, Scalar.select, hκ]

theorem query_is (c : Dev nD) (t : Fin cfg0.N) : IsBlock (arg m c) (batch t) (0 : Fin 1) (t.val % 32) (iblk m c 0 t) := by
  intro r q hq h d
  unfold arg batch part col
  blk_ext [iblk, V, idx_0 t]

theorem keys_is (c : Dev nD) (t : Fin cfg0.N) : IsWindow (arg m c) (batch t) (0 : Fin 1) (t.val % 32) 1 (keys m c t) := by
  intro j x hj h d
  have hx := x.isLt
  unfold keys gather3 arg batch part col
  show (if h1 : j.val < 64 then _ else if h2 : j.val < 192 then _ else _) = _
  split_ifs with h1 h2
  · blk_ext [iblk, V, idx_1 t]
  · blk_ext [iblk, V, idx_2 t]
  · blk_ext [iblk, V, idx_3 t]

theorem vals_is (c : Dev nD) (t : Fin cfg0.N) : IsWindow (arg m c) (batch t) (0 : Fin 1) (t.val % 32) 2 (vals m c t) := by
  intro j x hj h d
  have hx := x.isLt
  unfold vals gather3 arg batch part col
  show (if h1 : j.val < 64 then _ else if h2 : j.val < 192 then _ else _) = _
  split_ifs with h1 h2
  · blk_ext [iblk, V, idx_4 t]
  · blk_ext [iblk, V, idx_5 t]
  · blk_ext [iblk, V, idx_6 t]

theorem final_mixed (c : Dev nD) : (dats m 0 c).arrAt 7 cfg0.N = mixedArr (arg m c) := by
  refine (dats m 0 c).arrAt_eq_of_covers 7 _ (by decide +kernel) fun t hf y => ?_
  blk_simp
  rw [after0_7, out_block]
  obtain ⟨r, k, rfl⟩ : ∃ (r : Fin 128) (k : Fin 2048), y = ix4 0 0 r k := ⟨y 2, y 3, ix4_eta (A := 128) (B := 2048) y⟩
  have hy : (win0_7.blk t).view.emb (ix4 0 0 r k : S1x1x128x2048.Idx) =
      (ix4 (batch t) (0 : Fin 1) (⟨128 * (t.val % 32) + r.val, by omega⟩ : Fin 4096) k : S2x1x4096x2048.Idx) := by
    unfold batch
    blk_ext [idx_7 t]
  rw [hy]
  exact mixed_row (arg m c) (batch t) (0 : Fin 1) (t.val % 32) _ _ _ _ (bias_is t) (query_is m c t) (keys_is m c t) _ r _ rfl
    (vals_is m c t) _

theorem final_log (c : Dev nD) : (dats m 0 c).arrAt 8 cfg0.N = logArr (arg m c) := by
  refine (dats m 0 c).arrAt_eq_of_covers 8 _ (by decide +kernel) fun t hf y => ?_
  blk_simp
  rw [after0_8, lse_block_eq]
  obtain ⟨r, k, rfl⟩ : ∃ (r : Fin 128) (k : Fin 128), y = ix4 0 0 r k := ⟨y 2, y 3, ix4_eta (A := 128) (B := 128) y⟩
  have hy : (win0_8.blk t).view.emb (ix4 0 0 r k : S1x1x128x128.Idx) =
      (ix4 (batch t) (0 : Fin 1) (⟨128 * (t.val % 32) + r.val, by omega⟩ : Fin 4096) k : S2x1x4096x128.Idx) := by
    unfold batch
    blk_ext [idx_8 t]
  rw [hy]
  rw [lseAt_lane, logArr_lane]
  by_cases h : k.val < 16
  · rw [dif_pos h, dif_pos h]
    exact logSum_row (arg m c) (batch t) (0 : Fin 1) (t.val % 32) _ _ _ (bias_is t) (query_is m c t) (keys_is m c t) _ r _ rfl
  · rw [dif_neg h, dif_neg h]

end Cert.Attn1Ideal.Hand

namespace Cert.Attn

open Idealize.ShloMosaic Idealize.ShloMosaic.TcCoe Idealize.SL.Sem

/-- From memories that agree on the argument the kernel and the reference end with the same two results. -/
theorem algebraic1 : Cert.algebraic_Attn1Ideal_AttnRef1Ideal := by
  intro m g m' g' _ hagree
  refine ⟨fun c => mixedArr (Cert.Attn1Ideal.Hand.arg m c), fun c => logArr (Cert.Attn1Ideal.Hand.arg m c), ?_, ?_⟩
  · refine (θ_run _ _ _).mono (fun r h c => ?_) (Cert.Attn1Ideal.Value.run_blocks m g)
    exact ⟨(h c).1.trans (Cert.Attn1Ideal.Hand.final_mixed m c), (h c).2.1.trans (Cert.Attn1Ideal.Hand.final_log m c), (h c).2.2⟩
  · refine (θ_run _ _ _).mono (fun r h c => ?_) (Cert.AttnRef1Ideal.Value.run m' g')
    refine ⟨(h c).1.trans ?_, (h c).2.1.trans ?_, (h c).2.2⟩
    · rw [Cert.AttnRef1Ideal.Read.val_main_v38_eq, hagree c]
      exact Cert.AttnRef1Ideal.Hand.ref_mixed _
    · rw [Cert.AttnRef1Ideal.Read.val_main_v39_eq, hagree c]
      exact Cert.AttnRef1Ideal.Hand.ref_log _

end Cert.Attn
-- ==== Proof.Attn.Blk4.lean ====
/- What a grid point of the attention over rows dilated four times writes to its two output blocks. -/
module

public import proofs.«01_k».proof.Proof.Gen.Attn4Ideal.Value
public import proofs.«01_k».proof.Proof.Attn.Head

@[expose] public section

set_option maxRecDepth 16384

noncomputable section

namespace Cert.Attn4Ideal.Hand

open Cert.Attn Cert.Attn4Ideal Cert.Attn4Ideal.Gen Idealize.ShloMosaic Idealize.ShloMosaic.TcCoe Idealize.SL Idealize.SL.Sem
open Idealize.ShloMosaic.View
variable (m : (ℓ : Loc nD τ sig) → Buf (Elt Ideal) ℓ)

/-- The mask point `t` adds to the scores. -/
abbrev bias (t : Fin cfg0.N) : FVec Ideal S128x256 .f32 := k0_pay9 (F := Ideal) (BitVec.ofNat 32 (grid0.coords t 2).val)
/-- The key window and the value window of point `t`. -/
abbrev keys (c : Dev nD) (t : Fin cfg0.N) : Vec Ideal S256x2048 .bf16 := gather3 (iblk m c 1 t) (iblk m c 2 t) (iblk m c 3 t)
abbrev vals (c : Dev nD) (t : Fin cfg0.N) : Vec Ideal S256x2048 .bf16 := gather3 (iblk m c 4 t) (iblk m c 5 t) (iblk m c 6 t)

theorem keys_eq (c : Dev nD) (t : Fin cfg0.N) : keys m c t = canon (Val := Elt Ideal) (e := .bf16)
    [⟨Rect.unit (s := S256x2048) ![192, 0] S64x2048.size inb_S256x2048_S64x2048_192_0, k0_pay4 (F := Ideal) (iblk m c 3 t)⟩,
      ⟨Rect.unit (s := S256x2048) ![64, 0] S128x2048.size inb_S256x2048_S128x2048_64_0, k0_pay3 (F := Ideal) (iblk m c 2 t)⟩,
      ⟨Rect.unit (s := S256x2048) ![0, 0] S64x2048.size inb_S256x2048_S64x2048_0_0, k0_pay2 (F := Ideal) (iblk m c 1 t)⟩] :=
  (canon_gather3 _ _ _ _ _ _).symm

theorem vals_eq (c : Dev nD) (t : Fin cfg0.N) : vals m c t = canon (Val := Elt Ideal) (e := .bf16)
    [⟨Rect.unit (s := S256x2048) ![192, 0] S64x2048.size inb_S256x2048_S64x2048_192_0, k0_pay8 (F := Ideal) (iblk m c 6 t)⟩,
      ⟨Rect.unit (s := S256x2048) ![64, 0] S128x2048.size inb_S256x2048_S128x2048_64_0, k0_pay7 (F := Ideal) (k0_pay6 (F := Ideal) (iblk m c 5 t))⟩,
      ⟨Rect.unit (s := S256x2048) ![0, 0] S64x2048.size inb_S256x2048_S64x2048_0_0, k0_pay5 (F := Ideal) (iblk m c 4 t)⟩] :=
  (canon_gather3 _ _ _ _ _ _).symm

theorem out_block (c : Dev nD) (t : Fin cfg0.N) :
    (outsAt0 m c t).1 = mixedAt (bias t) (iblk m c 0 t) (keys m c t) (vals m c t) := by
  rw [keys_eq, vals_eq]
  unfold outsAt0
  dsimp only
  frame_out
  simp only [View.readCov_eq_canon']
  funext y
  refine canon_eq_of_allAt _ y _ (cover_of_tiled_head _ _ _ (by rfl) y) ?_
  refine allAt_cons_unit _ _ _ _ _ (mixed_piece _ _ _ _ _ 1920 rfl _ inb_S256x2048_S256x128_0_1920) ?_
  refine allAt_cons_unit _ _ _ _ _ (mixed_piece _ _ _ _ _ 1792 rfl _ inb_S256x2048_S256x128_0_1792) ?_
  refine allAt_cons_unit _ _ _ _ _ (mixed_piece _ _ _ _ _ 1664 rfl _ inb_S256x2048_S256x128_0_1664) ?_
  refine allAt_cons_unit _ _ _ _ _ (mixed_piece _ _ _ _ _ 1536 rfl _ inb_S256x2048_S256x128_0_1536) ?_
  refine allAt_cons_unit _ _ _ _ _ (mixed_piece _ _ _ _ _ 1408 rfl _ inb_S256x2048_S256x128_0_1408) ?_
  refine allAt_cons_unit _ _ _ _ _ (mixed_piece _ _ _ _ _ 1280 rfl _ inb_S256x2048_S256x128_0_1280) ?_
  refine allAt_cons_unit _ _ _ _ _ (mixed_piece _ _ _ _ _ 1152 rfl _ inb_S256x2048_S256x128_0_1152) ?_
  refine allAt_cons_unit _ _ _ _ _ (mixed_piece _ _ _ _ _ 1024 rfl _ inb_S256x2048_S256x128_0_1024) ?_
  refine allAt_cons_unit _ _ _ _ _ (mixed_piece _ _ _ _ _ 896 rfl _ inb_S256x2048_S256x128_0_896) ?_
  refine allAt_cons_unit _ _ _ _ _ (mixed_piece _ _ _ _ _ 768 rfl _ inb_S256x2048_S256x128_0_768) ?_
  refine allAt_cons_unit _ _ _ _ _ (mixed_piece _ _ _ _ _ 640 rfl _ inb_S256x2048_S256x128_0_640) ?_
  refine allAt_cons_unit _ _ _ _ _ (mixed_piece _ _ _ _ _ 512 rfl _ inb_S256x2048_S256x128_0_512) ?_
  refine allAt_cons_unit _ _ _ _ _ (mixed_piece _ _ _ _ _ 384 rfl _ inb_S256x2048_S256x128_0_384) ?_
  refine allAt_cons_unit _ _ _ _ _ (mixed_piece _ _ _ _ _ 256 rfl _ inb_S256x2048_S256x128_0_256) ?_
  refine allAt_cons_unit _ _ _ _ _ (mixed_piece _ _ _ _ _ 128 rfl _ inb_S256x2048_S256x128_0_128) ?_
  refine allAt_cons_unit _ _ _ _ _ (mixed_piece _ _ _ _ _ 0 rfl _ inb_S256x2048_S256x128_0_0) ?_
  exact allAt_nil _ _

theorem last_store (prev : FVec Ideal S128x128 .f32) (mx den : FVec Ideal S128x1 .f32) :
    k0_pay1 (F := Ideal) prev mx (k0_pay112 (iota .tc S128x128 32 [1] iota_S128x128_d1_w32)) (log den) =
      shapeCast S1x1x128x128 (lseStep (BitVec.ofNat 32 15) prev mx den) shapeCasts_S128x128_S1x1x128x128 := rfl

set_option maxRecDepth 200000 in
theorem lse_block_eq (c : Dev nD) (t : Fin cfg0.N) :
    (outsAt0 m c t).2 = lseAt (bias t) (iblk m c 0 t) (keys m c t) := by
  rw [keys_eq]
  unfold outsAt0
  dsimp only
  frame_out
  simp only [View.readCov_eq_canon']
  refine Eq.trans (b := shapeCast S1x1x128x128 _ shapeCasts_S128x128_S1x1x128x128) (last_store _ _ _) ?_
  refine lse_block _ _ _ _ ?_
  refine lse_step _ _ _ 15 (by decide) 1920 rfl _ inb_S256x2048_S256x128_0_1920 _ ?_
  refine lse_step _ _ _ 14 (by decide) 1792 rfl _ inb_S256x2048_S256x128_0_1792 _ ?_
  refine lse_step _ _ _ 13 (by decide) 1664 rfl _ inb_S256x2048_S256x128_0_1664 _ ?_
  refine lse_step _ _ _ 12 (by decide) 1536 rfl _ inb_S256x2048_S256x128_0_1536 _ ?_
  refine lse_step _ _ _ 11 (by decide) 1408 rfl _ inb_S256x2048_S256x128_0_1408 _ ?_
  refine lse_step _ _ _ 10 (by decide) 1280 rfl _ inb_S256x2048_S256x128_0_1280 _ ?_
  refine lse_step _ _ _ 9 (by decide) 1152 rfl _ inb_S256x2048_S256x128_0_1152 _ ?_
  refine lse_step _ _ _ 8 (by decide) 1024 rfl _ inb_S256x2048_S256x128_0_1024 _ ?_
  refine lse_step _ _ _ 7 (by decide) 896 rfl _ inb_S256x2048_S256x128_0_896 _ ?_
  refine lse_step _ _ _ 6 (by decide) 768 rfl _ inb_S256x2048_S256x128_0_768 _ ?_
  refine lse_step _ _ _ 5 (by decide) 640 rfl _ inb_S256x2048_S256x128_0_640 _ ?_
  refine lse_step _ _ _ 4 (by decide) 512 rfl _ inb_S256x2048_S256x128_0_512 _ ?_
  refine lse_step _ _ _ 3 (by decide) 384 rfl _ inb_S256x2048_S256x128_0_384 _ ?_
  refine lse_step _ _ _ 2 (by decide) 256 rfl _ inb_S256x2048_S256x128_0_256 _ ?_
  refine lse_step _ _ _ 1 (by decide) 128 rfl _ inb_S256x2048_S256x128_0_128 _ ?_
  refine lse_step _ _ _ 0 (by decide) 0 rfl _ inb_S256x2048_S256x128_0_0 _ ?_
  exact lse_zero _ _ _

end Cert.Attn4Ideal.Hand
-- ==== Proof.Attn.Ref4.lean ====
/- The attention's reference over rows dilated four times, read at an index: one query's attention over every key of its row. -/
module

public import proofs.«01_k».proof.Proof.Gen.AttnRef4Ideal.Read
public import proofs.«01_k».proof.Proof.Attn.Row
public import proofs.«01_k».proof.Proof.Attn.Mask
public import Idealize.ShloMosaic.Lib.KernelVsHost

@[expose] public section

set_option maxRecDepth 16384

noncomputable section

namespace Cert.AttnRef4Ideal.Hand

open Cert.Attn Cert.AttnRef4Ideal Cert.AttnRef4Ideal.Gen Cert.AttnRef4Ideal.Read Idealize.ShloMosaic Idealize.ShloMosaic.TcCoe
variable (X : (⟨S2x4x1024x6144, .bf16⟩ : BufTy).Contents (Elt Ideal)) (n : Fin 8) (q x : Fin 1024) (h : Fin 16) (d : Fin 128)

/-- The batch and the residue class of row `n`. -/
abbrev bat : Fin 2 := ⟨n.val / 4, by omega⟩
abbrev res : Fin 4 := ⟨n.val % 4, by omega⟩

theorem query_apply : val_main_v3 (F := Ideal) X (ix4 n q h d) = X (ix4 (bat n) (res n) q (part 0 h d)) := by
  rw [val_main_v3_apply, val_main_v2_apply, val_main_v1_apply, val_main_v0_apply]
  refine congrArg X (funext fun a => Fin.ext ?_)
  match a with
  | ⟨0, _⟩ => simp [part, ix4]; omega
  | ⟨1, _⟩ => simp [part, ix4]; omega
  | ⟨2, _⟩ => simp [part, ix4]; omega
  | ⟨3, _⟩ => simp [part, ix4]; omega

theorem key_apply : val_main_v5 (F := Ideal) X (ix4 n q h d) = X (ix4 (bat n) (res n) q (part 1 h d)) := by
  rw [val_main_v5_apply, val_main_v4_apply, val_main_v1_apply, val_main_v0_apply]
  refine congrArg X (funext fun a => Fin.ext ?_)
  match a with
  | ⟨0, _⟩ => simp [part, ix4]; omega
  | ⟨1, _⟩ => simp [part, ix4]; omega
  | ⟨2, _⟩ => simp [part, ix4]; omega
  | ⟨3, _⟩ => simp [part, ix4]; omega

theorem value_apply : val_main_v7 (F := Ideal) X (ix4 n q h d) = X (ix4 (bat n) (res n) q (part 2 h d)) := by
  rw [val_main_v7_apply, val_main_v6_apply, val_main_v1_apply, val_main_v0_apply]
  refine congrArg X (funext fun a => Fin.ext ?_)
  match a with
  | ⟨0, _⟩ => simp [part, ix4]; omega
  | ⟨1, _⟩ => simp [part, ix4]; omega
  | ⟨2, _⟩ => simp [part, ix4]; omega
  | ⟨3, _⟩ => simp [part, ix4]; omega

theorem score_apply : val_main_v19 (F := Ideal) X (ix4 n h q x) = rowScore X (bat n) (res n) h q x := by
  have hm : val_main_call0_v1 (F := Ideal) (ix4 n h q x) = BitVec.ofBool (decide (q.val ≤ x.val + 64 ∧ x.val ≤ q.val + 64)) := by
    rw [val_main_call0_v1_apply, val_main_v18_apply, val_main_v17_apply, val_main_v15_apply, val_main_v14_apply, val_main_v16_apply,
      val_main_v12_apply, val_main_v13_apply, val_main_v10_apply, val_main_v11_apply, val_main_v9_apply, val_main_v9_apply,
      val_main_c_apply]
    exact near_nat (q := q.val) (x := x.val) (by omega) (by omega)
  have hc : val_main_call0_v2 (F := Ideal) (ix4 n h q x) = ⊥ := by
    rw [val_main_call0_v2_apply, val_main_call0_v0_apply, val_main_cst_apply]
    exact ofBits_negInf
  have hd : val_main_v8 (F := Ideal) X (ix4 n h q x) = ∑ d, X (ix4 (bat n) (res n) q (part 0 h d)) * X (ix4 (bat n) (res n) x (part 1 h d)) := by
    rw [val_main_v8_apply]
    refine Finset.sum_congr rfl fun d _ => ?_
    have el : lidx_main_v8 (ix4 n h q x) d = ix4 n q h d := by
      funext a; match a with | ⟨0, _⟩ => rfl | ⟨1, _⟩ => rfl | ⟨2, _⟩ => rfl | ⟨3, _⟩ => rfl
    have er : ridx_main_v8 (ix4 n h q x) d = ix4 n x h d := by
      funext a; match a with | ⟨0, _⟩ => rfl | ⟨1, _⟩ => rfl | ⟨2, _⟩ => rfl | ⟨3, _⟩ => rfl
    rw [el, er, query_apply, key_apply]
  rw [val_main_v19_apply, hm, hc, hd]
  unfold rowScore
  by_cases hn : q.val ≤ x.val + 64 ∧ x.val ≤ q.val + 64
  · rw [if_pos hn]; simp [hn, Scalar.select]
  · rw [if_neg hn]; simp [hn, Scalar.select]

theorem top_apply : val_main_v20 (F := Ideal) X (ix3 n h q) = rowTop X (bat n) (res n) h q := by
  have e : val_main_v20 (F := Ideal) X (ix3 n h q) = Finset.univ.fold max ⊥ fun x => val_main_v19 (F := Ideal) X (ix4 n h q x) := by
    unfold val_main_v20
    generalize val_main_v19 (F := Ideal) X = s
    pointwise
    rw [val_main_cst_0_apply, show FloatOps.ofBits (F := Ideal) .f32 0xFF800000#32 = (⊥ : EReal) from ofBits_negInf]
  rw [e]
  simp only [score_apply]
  rfl

theorem weight_apply : val_main_v24 (F := Ideal) X (ix4 n h q x) = rowWeight X (bat n) (res n) h q x := by
  rw [val_main_v24_apply, val_main_v23_apply, val_main_v22_apply, val_main_v21_apply, score_apply,
    show idx_main_v21 (idx_main_v22 (ix4 n h q x)) = ix3 n h q from by
      funext a; match a with | ⟨0, _⟩ => rfl | ⟨1, _⟩ => rfl | ⟨2, _⟩ => rfl,
    top_apply]
  rfl

theorem total_apply : val_main_v25 (F := Ideal) X (ix3 n h q) = rowTotal X (bat n) (res n) h q := by
  rw [val_main_v25_apply]
  unfold rowTotal
  have z : val_main_cst_1 (F := Ideal) (Shape.Idx.first h_S_) = 0 := by
    rw [val_main_cst_1_apply]
    pointwise
  rw [z, zero_add]
  refine Finset.sum_congr rfl fun x _ => ?_
  rw [← weight_apply]
  congr 1
  funext a; match a with | ⟨0, _⟩ => rfl | ⟨1, _⟩ => rfl | ⟨2, _⟩ => rfl | ⟨3, _⟩ => rfl

theorem mixed_apply : val_main_v31 (F := Ideal) X (ix4 n q h d) = rowMixed X (bat n) (res n) h q d := by
  rw [val_main_v31_apply, val_main_v28_apply, val_main_v27_apply, val_main_v30_apply, val_main_v29_apply, val_main_v26_apply,
    show idx_main_v26 (idx_main_v29 (idx_main_v30 (ix4 n q h d))) = ix3 n h q from by
      funext a; match a with | ⟨0, _⟩ => rfl | ⟨1, _⟩ => rfl | ⟨2, _⟩ => rfl,
    total_apply]
  show Ideal.div _ _ = _
  unfold rowMixed
  congr 1
  refine Finset.sum_congr rfl fun x _ => ?_
  have el : lidx_main_v27 (idx_main_v28 (ix4 n q h d)) x = ix4 n x h d := by
    funext a; match a with | ⟨0, _⟩ => rfl | ⟨1, _⟩ => rfl | ⟨2, _⟩ => rfl | ⟨3, _⟩ => rfl
  have er : ridx_main_v27 (idx_main_v28 (ix4 n q h d)) x = ix4 n h q x := by
    funext a; match a with | ⟨0, _⟩ => rfl | ⟨1, _⟩ => rfl | ⟨2, _⟩ => rfl | ⟨3, _⟩ => rfl
  rw [mul_comm, el, er, weight_apply, value_apply]

theorem logSum_apply : val_main_v35 (F := Ideal) X (ix3 n q h) = rowLogSum X (bat n) (res n) h q := by
  rw [val_main_v35_apply, val_main_v34_apply, val_main_v33_apply, val_main_v32_apply, val_main_v26_apply, val_main_v21_apply]
  have e : idx_main_v21 (idx_main_v34 (idx_main_v35 (ix3 n q h))) = ix3 n h q := by
    funext a
    refine Fin.ext ?_
    match a with
    | ⟨0, _⟩ => show ((n.val * 16 + h.val) * 1024 + q.val) / 16384 = n.val; omega
    | ⟨1, _⟩ => show ((n.val * 16 + h.val) * 1024 + q.val) / 1024 % 16 = h.val; omega
    | ⟨2, _⟩ => show ((n.val * 16 + h.val) * 1024 + q.val) / 1 % 1024 = q.val; omega
  rw [e, show idx_main_v26 (idx_main_v34 (idx_main_v35 (ix3 n q h))) = ix3 n h q from e, total_apply, top_apply]
  rfl

/-- The reference's first result. -/
theorem ref_mixed : val_main_v38 (F := Ideal) X = mixedArr X := by
  funext y
  rw [val_main_v38_apply]
  unfold mixedArr
  obtain ⟨n, c, q, k, rfl⟩ : ∃ (n : Fin 2) (c : Fin 4) (q : Fin 1024) (k : Fin 2048), y = ix4 n c q k :=
    ⟨y 0, y 1, y 2, y 3, by funext a; match a with | ⟨0, _⟩ => rfl | ⟨1, _⟩ => rfl | ⟨2, _⟩ => rfl | ⟨3, _⟩ => rfl⟩
  have eb : bat ⟨4 * n.val + c.val, by omega⟩ = n := Fin.ext (by show (4 * n.val + c.val) / 4 = n.val; omega)
  have er : res ⟨4 * n.val + c.val, by omega⟩ = c := Fin.ext (by show (4 * n.val + c.val) % 4 = c.val; omega)
  refine Eq.trans ?_ ((mixed_apply X ⟨4 * n.val + c.val, by omega⟩ q ⟨k.val / 128, by omega⟩ ⟨k.val % 128, by omega⟩).trans ?_)
  swap
  · rw [eb, er]
    rfl
  show val_main_v31 (F := Ideal) X _ = _
  congr 1
  funext a
  refine Fin.ext ?_
  match a with
  | ⟨0, _⟩ => simp [ix4]; omega
  | ⟨1, _⟩ => simp [ix4]; omega
  | ⟨2, _⟩ => simp [ix4]; omega
  | ⟨3, _⟩ => simp [ix4]; omega

/-- The reference's second result. -/
theorem ref_log : val_main_v39 (F := Ideal) X = logArr X := by
  funext y
  rw [val_main_v39_apply]
  unfold logArr val_main_v36
  obtain ⟨n, c, q, k, rfl⟩ : ∃ (n : Fin 2) (c : Fin 4) (q : Fin 1024) (k : Fin 128), y = ix4 n c q k :=
    ⟨y 0, y 1, y 2, y 3, by funext a; match a with | ⟨0, _⟩ => rfl | ⟨1, _⟩ => rfl | ⟨2, _⟩ => rfl | ⟨3, _⟩ => rfl⟩
  have eb : bat ⟨4 * n.val + c.val, by omega⟩ = n := Fin.ext (by show (4 * n.val + c.val) / 4 = n.val; omega)
  have er : res ⟨4 * n.val + c.val, by omega⟩ = c := Fin.ext (by show (4 * n.val + c.val) % 4 = c.val; omega)
  have e : idx_main_v39 (ix4 n c q k) = ix3 ⟨4 * n.val + c.val, by omega⟩ q k := by
    funext a
    refine Fin.ext ?_
    match a with
    | ⟨0, _⟩ => show (((n.val * 4 + c.val) * 1024 + q.val) * 128 + k.val) / 131072 = 4 * n.val + c.val; omega
    | ⟨1, _⟩ => show (((n.val * 4 + c.val) * 1024 + q.val) * 128 + k.val) / 128 % 1024 = q.val; omega
    | ⟨2, _⟩ => show (((n.val * 4 + c.val) * 1024 + q.val) * 128 + k.val) % 128 = k.val; omega
  rw [e]
  by_cases hk : k.val < 16
  · rw [dif_pos (show ((ix4 n c q k : S2x4x1024x128.Idx) 3).val < 16 from hk)]
    refine Eq.trans (pad_apply_of_inside _ _ _ _ _ _ _ _ (ix3 ⟨4 * n.val + c.val, by omega⟩ q ⟨k.val, hk⟩) fun a => ?_) ((logSum_apply X ⟨4 * n.val + c.val, by omega⟩ q ⟨k.val, hk⟩).trans ?_)
    swap
    · rw [eb, er]
      rfl
    match a with
    | ⟨0, _⟩ => simp [ix3]
    | ⟨1, _⟩ => simp [ix3]
    | ⟨2, _⟩ => simp [ix3]
  · rw [dif_neg (show ¬ ((ix4 n c q k : S2x4x1024x128.Idx) 3).val < 16 from hk)]
    refine Eq.trans (pad_apply_of_not_inside _ _ _ _ _ _ _ _ (2 : Fin 3) ?_) ?_
    · rintro ⟨_, _, h3⟩
      exact hk (by simpa [ix3] using h3)
    · rw [val_main_call1_v0_apply, val_main_c_2_apply]
      show (((0#32 : BitVec 32).toInt : ℝ) : EReal) = 0
      simp

end Cert.AttnRef4Ideal.Hand
-- ==== Proof.Attn.Alg4.lean ====
/- The attention over rows dilated four times is its reference: the blocks read from the argument, the two result arrays. -/
module

public import proofs.«01_k».proof.Proof.Attn.Blk4
public import proofs.«01_k».proof.Proof.Attn.Ref4
public import proofs.«01_k».proof.Defs

@[expose] public section

set_option maxRecDepth 16384

noncomputable section

namespace Cert.Attn4Ideal.Hand

open Cert.Attn Cert.Attn4Ideal Cert.Attn4Ideal.Gen Idealize.ShloMosaic Idealize.ShloMosaic.TcCoe Idealize.SL Idealize.SL.Sem
open Idealize.ShloMosaic.View
variable (m : (ℓ : Loc nD τ sig) → Buf (Elt Ideal) ℓ)

/-- The argument. -/
abbrev arg (c : Dev nD) : S2x4x1024x6144.Idx → EReal := m ((c.tc : Thread nD τ).loc main_arg0)

theorem coord_2 : ∀ t : Fin cfg0.N, (grid0.coords t 2).val = t.val % 8 :=
  (by decide +kernel : ∀ t : Fin grid0.N, (grid0.coords t 2).val = t.val % 8)
theorem idx_0 : ∀ t : Fin cfg0.N, win0_0.index t = ![t.val / 32, t.val / 8 % 4, t.val % 8, 0] :=
  (by decide +kernel : ∀ t : Fin grid0.N, win0_0.index t = ![t.val / 32, t.val / 8 % 4, t.val % 8, 0])
theorem idx_1 : ∀ t : Fin cfg0.N, win0_1.index t = ![t.val / 32, t.val / 8 % 4, 2 * (t.val % 8) - 1, 1] :=
  (by decide +kernel : ∀ t : Fin grid0.N, win0_1.index t = ![t.val / 32, t.val / 8 % 4, 2 * (t.val % 8) - 1, 1])
theorem idx_2 : ∀ t : Fin cfg0.N, win0_2.index t = ![t.val / 32, t.val / 8 % 4, t.val % 8, 1] :=
  (by decide +kernel : ∀ t : Fin grid0.N, win0_2.index t = ![t.val / 32, t.val / 8 % 4, t.val % 8, 1])
theorem idx_3 : ∀ t : Fin cfg0.N, win0_3.index t = ![t.val / 32, t.val / 8 % 4, min (2 * (t.val % 8) + 2) 15, 1] :=
  (by decide +kernel : ∀ t : Fin grid0.N, win0_3.index t = ![t.val / 32, t.val / 8 % 4, min (2 * (t.val % 8) + 2) 15, 1])
theorem idx_4 : ∀ t : Fin cfg0.N, win0_4.index t = ![t.val / 32, t.val / 8 % 4, 2 * (t.val % 8) - 1, 2] :=
  (by decide +kernel : ∀ t : Fin grid0.N, win0_4.index t = ![t.val / 32, t.val / 8 % 4, 2 * (t.val % 8) - 1, 2])
theorem idx_5 : ∀ t : Fin cfg0.N, win0_5.index t = ![t.val / 32, t.val / 8 % 4, t.val % 8, 2] :=
  (by decide +kernel : ∀ t : Fin grid0.N, win0_5.index t = ![t.val / 32, t.val / 8 % 4, t.val % 8, 2])
theorem idx_6 : ∀ t : Fin cfg0.N, win0_6.index t = ![t.val / 32, t.val / 8 % 4, min (2 * (t.val % 8) + 2) 15, 2] :=
  (by decide +kernel : ∀ t : Fin grid0.N, win0_6.index t = ![t.val / 32, t.val / 8 % 4, min (2 * (t.val % 8) + 2) 15, 2])
theorem idx_7 : ∀ t : Fin cfg0.N, win0_7.index t = ![t.val / 32, t.val / 8 % 4, t.val % 8, 0] :=
  (by decide +kernel : ∀ t : Fin grid0.N, win0_7.index t = ![t.val / 32, t.val / 8 % 4, t.val % 8, 0])
theorem idx_8 : ∀ t : Fin cfg0.N, win0_8.index t = ![t.val / 32, t.val / 8 % 4, t.val % 8, 0] :=
  (by decide +kernel : ∀ t : Fin grid0.N, win0_8.index t = ![t.val / 32, t.val / 8 % 4, t.val % 8, 0])

/-- The batch of point `t`. -/
def batch (t : Fin cfg0.N) : Fin 2 := ⟨t.val / 32, by have : t.val < 64 := t.isLt; omega⟩

/-- The residue class of point `t`. -/
def residue (t : Fin cfg0.N) : Fin 4 := ⟨t.val / 8 % 4, by omega⟩

theorem bias_is (t : Fin cfg0.N) : IsBias (bias t) (t.val % 8) 1024 := by
  intro r j
  unfold bias k0_pay9
  rw [coord_2]
  pointwise
  rw [mask_words (L := 1024) (by omega) r.isLt j.isLt (by omega)]
  have hκ : Named.named (F := Ideal) Cert.Attn4Ideal.κ "mask" (φ := .f32) 0xF149F2CA#32 = (⊥ : EReal) :=
    IdealRules.named_const.ideal_named_scalar _ _ _ _ rfl
  by_cases h : r.val ≤ j.val ∧ j.val ≤ r.val + 128 ∧ 64 ≤ 128 * (t.val % 8) + j.val ∧ 128 * (t.val % 8) + j.val < 1024 + 64
  · rw [if_pos h]; simp [h, Scalar.select]
  · rw [if_neg h]; simp [h, Scalar.select, hκ]

theorem query_is (c : Dev nD) (t : Fin cfg0.N) : IsBlock (arg m c) (batch t) (residue t) (t.val % 8) (iblk m c 0 t) := by
  intro r q hq h d
  unfold arg batch residue part col
  blk_ext [iblk, V, idx_0 t]

theorem keys_is (c : Dev nD) (t : Fin cfg0.N) : IsWindow (arg m c) (batch t) (residue t) (t.val % 8) 1 (keys m c t) := by
  intro j x hj h d
  have hx := x.isLt
  unfold keys gather3 arg batch residue part col
  show (if h1 : j.val < 64 then _ else if h2 : j.val < 192 then _ else _) = _
  split_ifs with h1 h2
  · blk_ext [iblk, V, idx_1 t]
  · blk_ext [iblk, V, idx_2 t]
  · blk_ext [iblk, V, idx_3 t]

theorem vals_is (c : Dev nD) (t : Fin cfg0.N) : IsWindow (arg m c) (batch t) (residue t) (t.val % 8) 2 (vals m c t) := by
  intro j x hj h d
  have hx := x.isLt
  unfold vals gather3 arg batch residue part col
  show (if h1 : j.val < 64 then _ else if h2 : j.val < 192 then _ else _) = _
  split_ifs with h1 h2
  · blk_ext [iblk, V, idx_4 t]
  · blk_ext [iblk, V, idx_5 t]
  · blk_ext [iblk, V, idx_6 t]

theorem final_mixed (c : Dev nD) : (dats m 0 c).arrAt 7 cfg0.N = mixedArr (arg m c) := by
  refine (dats m 0 c).arrAt_eq_of_covers 7 _ (by decide +kernel) fun t hf y => ?_
  blk_simp
  rw [after0_7, out_block]
  obtain ⟨r, k, rfl⟩ : ∃ (r : Fin 128) (k : Fin 2048), y = ix4 0 0 r k := ⟨y 2, y 3, ix4_eta (A := 128) (B := 2048) y⟩
  have hy : (win0_7.blk t).view.emb (ix4 0 0 r k : S1x1x128x2048.Idx) =
      (ix4 (batch t) (residue t) (⟨128 * (t.val % 8) + r.val, by omega⟩ : Fin 1024) k : S2x4x1024x2048.Idx) := by
    unfold batch residue
    blk_ext [idx_7 t]
  rw [hy]
  exact mixed_row (arg m c) (batch t) (residue t) (t.val % 8) _ _ _ _ (bias_is t) (query_is m c t) (keys_is m c t) _ r _ rfl
    (vals_is m c t) _

theorem final_log (c : Dev nD) : (dats m 0 c).arrAt 8 cfg0.N = logArr (arg m c) := by
  refine (dats m 0 c).arrAt_eq_of_covers 8 _ (by decide +kernel) fun t hf y => ?_
  blk_simp
  rw [after0_8, lse_block_eq]
  obtain ⟨r, k, rfl⟩ : ∃ (r : Fin 128) (k : Fin 128), y = ix4 0 0 r k := ⟨y 2, y 3, ix4_eta (A := 128) (B := 128) y⟩
  have hy : (win0_8.blk t).view.emb (ix4 0 0 r k : S1x1x128x128.Idx) =
      (ix4 (batch t) (residue t) (⟨128 * (t.val % 8) + r.val, by omega⟩ : Fin 1024) k : S2x4x1024x128.Idx) := by
    unfold batch residue
    blk_ext [idx_8 t]
  rw [hy]
  rw [lseAt_lane, logArr_lane]
  by_cases h : k.val < 16
  · rw [dif_pos h, dif_pos h]
    exact logSum_row (arg m c) (batch t) (residue t) (t.val % 8) _ _ _ (bias_is t) (query_is m c t) (keys_is m c t) _ r _ rfl
  · rw [dif_neg h, dif_neg h]

end Cert.Attn4Ideal.Hand

namespace Cert.Attn

open Idealize.ShloMosaic Idealize.ShloMosaic.TcCoe Idealize.SL.Sem

/-- From memories that agree on the argument the kernel and the reference end with the same two results. -/
theorem algebraic4 : Cert.algebraic_Attn4Ideal_AttnRef4Ideal := by
  intro m g m' g' _ hagree
  refine ⟨fun c => mixedArr (Cert.Attn4Ideal.Hand.arg m c), fun c => logArr (Cert.Attn4Ideal.Hand.arg m c), ?_, ?_⟩
  · refine (θ_run _ _ _).mono (fun r h c => ?_) (Cert.Attn4Ideal.Value.run_blocks m g)
    exact ⟨(h c).1.trans (Cert.Attn4Ideal.Hand.final_mixed m c), (h c).2.1.trans (Cert.Attn4Ideal.Hand.final_log m c), (h c).2.2⟩
  · refine (θ_run _ _ _).mono (fun r h c => ?_) (Cert.AttnRef4Ideal.Value.run m' g')
    refine ⟨(h c).1.trans ?_, (h c).2.1.trans ?_, (h c).2.2⟩
    · rw [Cert.AttnRef4Ideal.Read.val_main_v38_eq, hagree c]
      exact Cert.AttnRef4Ideal.Hand.ref_mixed _
    · rw [Cert.AttnRef4Ideal.Read.val_main_v39_eq, hagree c]
      exact Cert.AttnRef4Ideal.Hand.ref_log _

end Cert.Attn
-- ==== Proof.Attn.Blk16.lean ====
/- What a grid point of the attention over rows dilated sixteen times writes to its two output blocks. -/
module

public import proofs.«01_k».proof.Proof.Gen.Attn16Ideal.Value
public import proofs.«01_k».proof.Proof.Attn.Head

@[expose] public section

set_option maxRecDepth 16384

noncomputable section

namespace Cert.Attn16Ideal.Hand

open Cert.Attn Cert.Attn16Ideal Cert.Attn16Ideal.Gen Idealize.ShloMosaic Idealize.ShloMosaic.TcCoe Idealize.SL Idealize.SL.Sem
open Idealize.ShloMosaic.View
variable (m : (ℓ : Loc nD τ sig) → Buf (Elt Ideal) ℓ)

/-- The mask point `t` adds to the scores. -/
abbrev bias (t : Fin cfg0.N) : FVec Ideal S128x256 .f32 := k0_pay9 (F := Ideal) (BitVec.ofNat 32 (grid0.coords t 2).val)
/-- The key window and the value window of point `t`. -/
abbrev keys (c : Dev nD) (t : Fin cfg0.N) : Vec Ideal S256x2048 .bf16 := gather3 (iblk m c 1 t) (iblk m c 2 t) (iblk m c 3 t)
abbrev vals (c : Dev nD) (t : Fin cfg0.N) : Vec Ideal S256x2048 .bf16 := gather3 (iblk m c 4 t) (iblk m c 5 t) (iblk m c 6 t)

theorem keys_eq (c : Dev nD) (t : Fin cfg0.N) : keys m c t = canon (Val := Elt Ideal) (e := .bf16)
    [⟨Rect.unit (s := S256x2048) ![192, 0] S64x2048.size inb_S256x2048_S64x2048_192_0, k0_pay4 (F := Ideal) (iblk m c 3 t)⟩,
      ⟨Rect.unit (s := S256x2048) ![64, 0] S128x2048.size inb_S256x2048_S128x2048_64_0, k0_pay3 (F := Ideal) (iblk m c 2 t)⟩,
      ⟨Rect.unit (s := S256x2048) ![0, 0] S64x2048.size inb_S256x2048_S64x2048_0_0, k0_pay2 (F := Ideal) (iblk m c 1 t)⟩] :=
  (canon_gather3 _ _ _ _ _ _).symm

theorem vals_eq (c : Dev nD) (t : Fin cfg0.N) : vals m c t = canon (Val := Elt Ideal) (e := .bf16)
    [⟨Rect.unit (s := S256x2048) ![192, 0] S64x2048.size inb_S256x2048_S64x2048_192_0, k0_pay8 (F := Ideal) (iblk m c 6 t)⟩,
      ⟨Rect.unit (s := S256x2048) ![64, 0] S128x2048.size inb_S256x2048_S128x2048_64_0, k0_pay7 (F := Ideal) (k0_pay6 (F := Ideal) (iblk m c 5 t))⟩,
      ⟨Rect.unit (s := S256x2048) ![0, 0] S64x2048.size inb_S256x2048_S64x2048_0_0, k0_pay5 (F := Ideal) (iblk m c 4 t)⟩] :=
  (canon_gather3 _ _ _ _ _ _).symm

theorem out_block (c : Dev nD) (t : Fin cfg0.N) :
    (outsAt0 m c t).1 = mixedAt (bias t) (iblk m c 0 t) (keys m c t) (vals m c t) := by
  rw [keys_eq, vals_eq]
  unfold outsAt0
  dsimp only
  frame_out
  simp only [View.readCov_eq_canon']
  funext y
  refine canon_eq_of_allAt _ y _ (cover_of_tiled_head _ _ _ (by rfl) y) ?_
  refine allAt_cons_unit _ _ _ _ _ (mixed_piece _ _ _ _ _ 1920 rfl _ inb_S256x2048_S256x128_0_1920) ?_
  refine allAt_cons_unit _ _ _ _ _ (mixed_piece _ _ _ _ _ 1792 rfl _ inb_S256x2048_S256x128_0_1792) ?_
  refine allAt_cons_unit _ _ _ _ _ (mixed_piece _ _ _ _ _ 1664 rfl _ inb_S256x2048_S256x128_0_1664) ?_
  refine allAt_cons_unit _ _ _ _ _ (mixed_piece _ _ _ _ _ 1536 rfl _ inb_S256x2048_S256x128_0_1536) ?_
  refine allAt_cons_unit _ _ _ _ _ (mixed_piece _ _ _ _ _ 1408 rfl _ inb_S256x2048_S256x128_0_1408) ?_
  refine allAt_cons_unit _ _ _ _ _ (mixed_piece _ _ _ _ _ 1280 rfl _ inb_S256x2048_S256x128_0_1280) ?_
  refine allAt_cons_unit _ _ _ _ _ (mixed_piece _ _ _ _ _ 1152 rfl _ inb_S256x2048_S256x128_0_1152) ?_
  refine allAt_cons_unit _ _ _ _ _ (mixed_piece _ _ _ _ _ 1024 rfl _ inb_S256x2048_S256x128_0_1024) ?_
  refine allAt_cons_unit _ _ _ _ _ (mixed_piece _ _ _ _ _ 896 rfl _ inb_S256x2048_S256x128_0_896) ?_
  refine allAt_cons_unit _ _ _ _ _ (mixed_piece _ _ _ _ _ 768 rfl _ inb_S256x2048_S256x128_0_768) ?_
  refine allAt_cons_unit _ _ _ _ _ (mixed_piece _ _ _ _ _ 640 rfl _ inb_S256x2048_S256x128_0_640) ?_
  refine allAt_cons_unit _ _ _ _ _ (mixed_piece _ _ _ _ _ 512 rfl _ inb_S256x2048_S256x128_0_512) ?_
  refine allAt_cons_unit _ _ _ _ _ (mixed_piece _ _ _ _ _ 384 rfl _ inb_S256x2048_S256x128_0_384) ?_
  refine allAt_cons_unit _ _ _ _ _ (mixed_piece _ _ _ _ _ 256 rfl _ inb_S256x2048_S256x128_0_256) ?_
  refine allAt_cons_unit _ _ _ _ _ (mixed_piece _ _ _ _ _ 128 rfl _ inb_S256x2048_S256x128_0_128) ?_
  refine allAt_cons_unit _ _ _ _ _ (mixed_piece _ _ _ _ _ 0 rfl _ inb_S256x2048_S256x128_0_0) ?_
  exact allAt_nil _ _

theorem last_store (prev : FVec Ideal S128x128 .f32) (mx den : FVec Ideal S128x1 .f32) :
    k0_pay1 (F := Ideal) prev mx (k0_pay112 (iota .tc S128x128 32 [1] iota_S128x128_d1_w32)) (log den) =
      shapeCast S1x1x128x128 (lseStep (BitVec.ofNat 32 15) prev mx den) shapeCasts_S128x128_S1x1x128x128 := rfl

set_option maxRecDepth 200000 in
theorem lse_block_eq (c : Dev nD) (t : Fin cfg0.N) :
    (outsAt0 m c t).2 = lseAt (bias t) (iblk m c 0 t) (keys m c t) := by
  rw [keys_eq]
  unfold outsAt0
  dsimp only
  frame_out
  simp only [View.readCov_eq_canon']
  refine Eq.trans (b := shapeCast S1x1x128x128 _ shapeCasts_S128x128_S1x1x128x128) (last_store _ _ _) ?_
  refine lse_block _ _ _ _ ?_
  refine lse_step _ _ _ 15 (by decide) 1920 rfl _ inb_S256x2048_S256x128_0_1920 _ ?_
  refine lse_step _ _ _ 14 (by decide) 1792 rfl _ inb_S256x2048_S256x128_0_1792 _ ?_
  refine lse_step _ _ _ 13 (by decide) 1664 rfl _ inb_S256x2048_S256x128_0_1664 _ ?_
  refine lse_step _ _ _ 12 (by decide) 1536 rfl _ inb_S256x2048_S256x128_0_1536 _ ?_
  refine lse_step _ _ _ 11 (by decide) 1408 rfl _ inb_S256x2048_S256x128_0_1408 _ ?_
  refine lse_step _ _ _ 10 (by decide) 1280 rfl _ inb_S256x2048_S256x128_0_1280 _ ?_
  refine lse_step _ _ _ 9 (by decide) 1152 rfl _ inb_S256x2048_S256x128_0_1152 _ ?_
  refine lse_step _ _ _ 8 (by decide) 1024 rfl _ inb_S256x2048_S256x128_0_1024 _ ?_
  refine lse_step _ _ _ 7 (by decide) 896 rfl _ inb_S256x2048_S256x128_0_896 _ ?_
  refine lse_step _ _ _ 6 (by decide) 768 rfl _ inb_S256x2048_S256x128_0_768 _ ?_
  refine lse_step _ _ _ 5 (by decide) 640 rfl _ inb_S256x2048_S256x128_0_640 _ ?_
  refine lse_step _ _ _ 4 (by decide) 512 rfl _ inb_S256x2048_S256x128_0_512 _ ?_
  refine lse_step _ _ _ 3 (by decide) 384 rfl _ inb_S256x2048_S256x128_0_384 _ ?_
  refine lse_step _ _ _ 2 (by decide) 256 rfl _ inb_S256x2048_S256x128_0_256 _ ?_
  refine lse_step _ _ _ 1 (by decide) 128 rfl _ inb_S256x2048_S256x128_0_128 _ ?_
  refine lse_step _ _ _ 0 (by decide) 0 rfl _ inb_S256x2048_S256x128_0_0 _ ?_
  exact lse_zero _ _ _

end Cert.Attn16Ideal.Hand
-- ==== Proof.Attn.Ref16.lean ====
/- The attention's reference over rows dilated sixteen times, read at an index: one query's attention over every key of its row. -/
module

public import proofs.«01_k».proof.Proof.Gen.AttnRef16Ideal.Read
public import proofs.«01_k».proof.Proof.Attn.Row
public import proofs.«01_k».proof.Proof.Attn.Mask
public import Idealize.ShloMosaic.Lib.KernelVsHost

@[expose] public section

set_option maxRecDepth 16384

noncomputable section

namespace Cert.AttnRef16Ideal.Hand

open Cert.Attn Cert.AttnRef16Ideal Cert.AttnRef16Ideal.Gen Cert.AttnRef16Ideal.Read Idealize.ShloMosaic Idealize.ShloMosaic.TcCoe
variable (X : (⟨S2x16x256x6144, .bf16⟩ : BufTy).Contents (Elt Ideal)) (n : Fin 32) (q x : Fin 256) (h : Fin 16) (d : Fin 128)

/-- The batch and the residue class of row `n`. -/
abbrev bat : Fin 2 := ⟨n.val / 16, by omega⟩
abbrev res : Fin 16 := ⟨n.val % 16, by omega⟩

theorem query_apply : val_main_v3 (F := Ideal) X (ix4 n q h d) = X (ix4 (bat n) (res n) q (part 0 h d)) := by
  rw [val_main_v3_apply, val_main_v2_apply, val_main_v1_apply, val_main_v0_apply]
  refine congrArg X (funext fun a => Fin.ext ?_)
  match a with
  | ⟨0, _⟩ => simp [part, ix4]; omega
  | ⟨1, _⟩ => simp [part, ix4]; omega
  | ⟨2, _⟩ => simp [part, ix4]; omega
  | ⟨3, _⟩ => simp [part, ix4]; omega

theorem key_apply : val_main_v5 (F := Ideal) X (ix4 n q h d) = X (ix4 (bat n) (res n) q (part 1 h d)) := by
  rw [val_main_v5_apply, val_main_v4_apply, val_main_v1_apply, val_main_v0_apply]
  refine congrArg X (funext fun a => Fin.ext ?_)
  match a with
  | ⟨0, _⟩ => simp [part, ix4]; omega
  | ⟨1, _⟩ => simp [part, ix4]; omega
  | ⟨2, _⟩ => simp [part, ix4]; omega
  | ⟨3, _⟩ => simp [part, ix4]; omega

theorem value_apply : val_main_v7 (F := Ideal) X (ix4 n q h d) = X (ix4 (bat n) (res n) q (part 2 h d)) := by
  rw [val_main_v7_apply, val_main_v6_apply, val_main_v1_apply, val_main_v0_apply]
  refine congrArg X (funext fun a => Fin.ext ?_)
  match a with
  | ⟨0, _⟩ => simp [part, ix4]; omega
  | ⟨1, _⟩ => simp [part, ix4]; omega
  | ⟨2, _⟩ => simp [part, ix4]; omega
  | ⟨3, _⟩ => simp [part, ix4]; omega

theorem score_apply : val_main_v19 (F := Ideal) X (ix4 n h q x) = rowScore X (bat n) (res n) h q x := by
  have hm : val_main_call0_v1 (F := Ideal) (ix4 n h q x) = BitVec.ofBool (decide (q.val ≤ x.val + 64 ∧ x.val ≤ q.val + 64)) := by
    rw [val_main_call0_v1_apply, val_main_v18_apply, val_main_v17_apply, val_main_v15_apply, val_main_v14_apply, val_main_v16_apply,
      val_main_v12_apply, val_main_v13_apply, val_main_v10_apply, val_main_v11_apply, val_main_v9_apply, val_main_v9_apply,
      val_main_c_apply]
    exact near_nat (q := q.val) (x := x.val) (by omega) (by omega)
  have hc : val_main_call0_v2 (F := Ideal) (ix4 n h q x) = ⊥ := by
    rw [val_main_call0_v2_apply, val_main_call0_v0_apply, val_main_cst_apply]
    exact ofBits_negInf
  have hd : val_main_v8 (F := Ideal) X (ix4 n h q x) = ∑ d, X (ix4 (bat n) (res n) q (part 0 h d)) * X (ix4 (bat n) (res n) x (part 1 h d)) := by
    rw [val_main_v8_apply]
    refine Finset.sum_congr rfl fun d _ => ?_
    have el : lidx_main_v8 (ix4 n h q x) d = ix4 n q h d := by
      funext a; match a with | ⟨0, _⟩ => rfl | ⟨1, _⟩ => rfl | ⟨2, _⟩ => rfl | ⟨3, _⟩ => rfl
    have er : ridx_main_v8 (ix4 n h q x) d = ix4 n x h d := by
      funext a; match a with | ⟨0, _⟩ => rfl | ⟨1, _⟩ => rfl | ⟨2, _⟩ => rfl | ⟨3, _⟩ => rfl
    rw [el, er, query_apply, key_apply]
  rw [val_main_v19_apply, hm, hc, hd]
  unfold rowScore
  by_cases hn : q.val ≤ x.val + 64 ∧ x.val ≤ q.val + 64
  · rw [if_pos hn]; simp [hn, Scalar.select]
  · rw [if_neg hn]; simp [hn, Scalar.select]

theorem top_apply : val_main_v20 (F := Ideal) X (ix3 n h q) = rowTop X (bat n) (res n) h q := by
  have e : val_main_v20 (F := Ideal) X (ix3 n h q) = Finset.univ.fold max ⊥ fun x => val_main_v19 (F := Ideal) X (ix4 n h q x) := by
    unfold val_main_v20
    generalize val_main_v19 (F := Ideal) X = s
    pointwise
    rw [val_main_cst_0_apply, show FloatOps.ofBits (F := Ideal) .f32 0xFF800000#32 = (⊥ : EReal) from ofBits_negInf]
  rw [e]
  simp only [score_apply]
  rfl

theorem weight_apply : val_main_v24 (F := Ideal) X (ix4 n h q x) = rowWeight X (bat n) (res n) h q x := by
  rw [val_main_v24_apply, val_main_v23_apply, val_main_v22_apply, val_main_v21_apply, score_apply,
    show idx_main_v21 (idx_main_v22 (ix4 n h q x)) = ix3 n h q from by
      funext a; match a with | ⟨0, _⟩ => rfl | ⟨1, _⟩ => rfl | ⟨2, _⟩ => rfl,
    top_apply]
  rfl

theorem total_apply : val_main_v25 (F := Ideal) X (ix3 n h q) = rowTotal X (bat n) (res n) h q := by
  rw [val_main_v25_apply]
  unfold rowTotal
  have z : val_main_cst_1 (F := Ideal) (Shape.Idx.first h_S_) = 0 := by
    rw [val_main_cst_1_apply]
    pointwise
  rw [z, zero_add]
  refine Finset.sum_congr rfl fun x _ => ?_
  rw [← weight_apply]
  congr 1
  funext a; match a with | ⟨0, _⟩ => rfl | ⟨1, _⟩ => rfl | ⟨2, _⟩ => rfl | ⟨3, _⟩ => rfl

theorem mixed_apply : val_main_v31 (F := Ideal) X (ix4 n q h d) = rowMixed X (bat n) (res n) h q d := by
  rw [val_main_v31_apply, val_main_v28_apply, val_main_v27_apply, val_main_v30_apply, val_main_v29_apply, val_main_v26_apply,
    show idx_main_v26 (idx_main_v29 (idx_main_v30 (ix4 n q h d))) = ix3 n h q from by
      funext a; match a with | ⟨0, _⟩ => rfl | ⟨1, _⟩ => rfl | ⟨2, _⟩ => rfl,
    total_apply]
  show Ideal.div _ _ = _
  unfold rowMixed
  congr 1
  refine Finset.sum_congr rfl fun x _ => ?_
  have el : lidx_main_v27 (idx_main_v28 (ix4 n q h d)) x = ix4 n x h d := by
    funext a; match a with | ⟨0, _⟩ => rfl | ⟨1, _⟩ => rfl | ⟨2, _⟩ => rfl | ⟨3, _⟩ => rfl
  have er : ridx_main_v27 (idx_main_v28 (ix4 n q h d)) x = ix4 n h q x := by
    funext a; match a with | ⟨0, _⟩ => rfl | ⟨1, _⟩ => rfl | ⟨2, _⟩ => rfl | ⟨3, _⟩ => rfl
  rw [mul_comm, el, er, weight_apply, value_apply]

theorem logSum_apply : val_main_v35 (F := Ideal) X (ix3 n q h) = rowLogSum X (bat n) (res n) h q := by
  rw [val_main_v35_apply, val_main_v34_apply, val_main_v33_apply, val_main_v32_apply, val_main_v26_apply, val_main_v21_apply]
  have e : idx_main_v21 (idx_main_v34 (idx_main_v35 (ix3 n q h))) = ix3 n h q := by
    funext a
    refine Fin.ext ?_
    match a with
    | ⟨0, _⟩ => show ((n.val * 16 + h.val) * 256 + q.val) / 4096 = n.val; omega
    | ⟨1, _⟩ => show ((n.val * 16 + h.val) * 256 + q.val) / 256 % 16 = h.val; omega
    | ⟨2, _⟩ => show ((n.val * 16 + h.val) * 256 + q.val) / 1 % 256 = q.val; omega
  rw [e, show idx_main_v26 (idx_main_v34 (idx_main_v35 (ix3 n q h))) = ix3 n h q from e, total_apply, top_apply]
  rfl

/-- The reference's first result. -/
theorem ref_mixed : val_main_v38 (F := Ideal) X = mixedArr X := by
  funext y
  rw [val_main_v38_apply]
  unfold mixedArr
  obtain ⟨n, c, q, k, rfl⟩ : ∃ (n : Fin 2) (c : Fin 16) (q : Fin 256) (k : Fin 2048), y = ix4 n c q k :=
    ⟨y 0, y 1, y 2, y 3, by funext a; match a with | ⟨0, _⟩ => rfl | ⟨1, _⟩ => rfl | ⟨2, _⟩ => rfl | ⟨3, _⟩ => rfl⟩
  have eb : bat ⟨16 * n.val + c.val, by omega⟩ = n := Fin.ext (by show (16 * n.val + c.val) / 16 = n.val; omega)
  have er : res ⟨16 * n.val + c.val, by omega⟩ = c := Fin.ext (by show (16 * n.val + c.val) % 16 = c.val; omega)
  refine Eq.trans ?_ ((mixed_apply X ⟨16 * n.val + c.val, by omega⟩ q ⟨k.val / 128, by omega⟩ ⟨k.val % 128, by omega⟩).trans ?_)
  swap
  · rw [eb, er]
    rfl
  show val_main_v31 (F := Ideal) X _ = _
  congr 1
  funext a
  refine Fin.ext ?_
  match a with
  | ⟨0, _⟩ => simp [ix4]; omega
  | ⟨1, _⟩ => simp [ix4]; omega
  | ⟨2, _⟩ => simp [ix4]; omega
  | ⟨3, _⟩ => simp [ix4]; omega

/-- The reference's second result. -/
theorem ref_log : val_main_v39 (F := Ideal) X = logArr X := by
  funext y
  rw [val_main_v39_apply]
  unfold logArr val_main_v36
  obtain ⟨n, c, q, k, rfl⟩ : ∃ (n : Fin 2) (c : Fin 16) (q : Fin 256) (k : Fin 128), y = ix4 n c q k :=
    ⟨y 0, y 1, y 2, y 3, by funext a; match a with | ⟨0, _⟩ => rfl | ⟨1, _⟩ => rfl | ⟨2, _⟩ => rfl | ⟨3, _⟩ => rfl⟩
  have eb : bat ⟨16 * n.val + c.val, by omega⟩ = n := Fin.ext (by show (16 * n.val + c.val) / 16 = n.val; omega)
  have er : res ⟨16 * n.val + c.val, by omega⟩ = c := Fin.ext (by show (16 * n.val + c.val) % 16 = c.val; omega)
  have e : idx_main_v39 (ix4 n c q k) = ix3 ⟨16 * n.val + c.val, by omega⟩ q k := by
    funext a
    refine Fin.ext ?_
    match a with
    | ⟨0, _⟩ => show (((n.val * 16 + c.val) * 256 + q.val) * 128 + k.val) / 32768 = 16 * n.val + c.val; omega
    | ⟨1, _⟩ => show (((n.val * 16 + c.val) * 256 + q.val) * 128 + k.val) / 128 % 256 = q.val; omega
    | ⟨2, _⟩ => show (((n.val * 16 + c.val) * 256 + q.val) * 128 + k.val) % 128 = k.val; omega
  rw [e]
  by_cases hk : k.val < 16
  · rw [dif_pos (show ((ix4 n c q k : S2x16x256x128.Idx) 3).val < 16 from hk)]
    refine Eq.trans (pad_apply_of_inside _ _ _ _ _ _ _ _ (ix3 ⟨16 * n.val + c.val, by omega⟩ q ⟨k.val, hk⟩) fun a => ?_) ((logSum_apply X ⟨16 * n.val + c.val, by omega⟩ q ⟨k.val, hk⟩).trans ?_)
    swap
    · rw [eb, er]
      rfl
    match a with
    | ⟨0, _⟩ => simp [ix3]
    | ⟨1, _⟩ => simp [ix3]
    | ⟨2, _⟩ => simp [ix3]
  · rw [dif_neg (show ¬ ((ix4 n c q k : S2x16x256x128.Idx) 3).val < 16 from hk)]
    refine Eq.trans (pad_apply_of_not_inside _ _ _ _ _ _ _ _ (2 : Fin 3) ?_) ?_
    · rintro ⟨_, _, h3⟩
      exact hk (by simpa [ix3] using h3)
    · rw [val_main_call1_v0_apply, val_main_c_2_apply]
      show (((0#32 : BitVec 32).toInt : ℝ) : EReal) = 0
      simp

end Cert.AttnRef16Ideal.Hand
-- ==== Proof.Attn.Alg16.lean ====
/- The attention over rows dilated sixteen times is its reference: the blocks read from the argument, the two result arrays. -/
module

public import proofs.«01_k».proof.Proof.Attn.Blk16
public import proofs.«01_k».proof.Proof.Attn.Ref16
public import proofs.«01_k».proof.Defs

@[expose] public section

set_option maxRecDepth 16384

noncomputable section

namespace Cert.Attn16Ideal.Hand

open Cert.Attn Cert.Attn16Ideal Cert.Attn16Ideal.Gen Idealize.ShloMosaic Idealize.ShloMosaic.TcCoe Idealize.SL Idealize.SL.Sem
open Idealize.ShloMosaic.View
variable (m : (ℓ : Loc nD τ sig) → Buf (Elt Ideal) ℓ)

/-- The argument. -/
abbrev arg (c : Dev nD) : S2x16x256x6144.Idx → EReal := m ((c.tc : Thread nD τ).loc main_arg0)

theorem coord_2 : ∀ t : Fin cfg0.N, (grid0.coords t 2).val = t.val % 2 :=
  (by decide +kernel : ∀ t : Fin grid0.N, (grid0.coords t 2).val = t.val % 2)
theorem idx_0 : ∀ t : Fin cfg0.N, win0_0.index t = ![t.val / 32, t.val / 2 % 16, t.val % 2, 0] :=
  (by decide +kernel : ∀ t : Fin grid0.N, win0_0.index t = ![t.val / 32, t.val / 2 % 16, t.val % 2, 0])
theorem idx_1 : ∀ t : Fin cfg0.N, win0_1.index t = ![t.val / 32, t.val / 2 % 16, 2 * (t.val % 2) - 1, 1] :=
  (by decide +kernel : ∀ t : Fin grid0.N, win0_1.index t = ![t.val / 32, t.val / 2 % 16, 2 * (t.val % 2) - 1, 1])
theorem idx_2 : ∀ t : Fin cfg0.N, win0_2.index t = ![t.val / 32, t.val / 2 % 16, t.val % 2, 1] :=
  (by decide +kernel : ∀ t : Fin grid0.N, win0_2.index t = ![t.val / 32, t.val / 2 % 16, t.val % 2, 1])
theorem idx_3 : ∀ t : Fin cfg0.N, win0_3.index t = ![t.val / 32, t.val / 2 % 16, min (2 * (t.val % 2) + 2) 3, 1] :=
  (by decide +kernel : ∀ t : Fin grid0.N, win0_3.index t = ![t.val / 32, t.val / 2 % 16, min (2 * (t.val % 2) + 2) 3, 1])
theorem idx_4 : ∀ t : Fin cfg0.N, win0_4.index t = ![t.val / 32, t.val / 2 % 16, 2 * (t.val % 2) - 1, 2] :=
  (by decide +kernel : ∀ t : Fin grid0.N, win0_4.index t = ![t.val / 32, t.val / 2 % 16, 2 * (t.val % 2) - 1, 2])
theorem idx_5 : ∀ t : Fin cfg0.N, win0_5.index t = ![t.val / 32, t.val / 2 % 16, t.val % 2, 2] :=
  (by decide +kernel : ∀ t : Fin grid0.N, win0_5.index t = ![t.val / 32, t.val / 2 % 16, t.val % 2, 2])
theorem idx_6 : ∀ t : Fin cfg0.N, win0_6.index t = ![t.val / 32, t.val / 2 % 16, min (2 * (t.val % 2) + 2) 3, 2] :=
  (by decide +kernel : ∀ t : Fin grid0.N, win0_6.index t = ![t.val / 32, t.val / 2 % 16, min (2 * (t.val % 2) + 2) 3, 2])
theorem idx_7 : ∀ t : Fin cfg0.N, win0_7.index t = ![t.val / 32, t.val / 2 % 16, t.val % 2, 0] :=
  (by decide +kernel : ∀ t : Fin grid0.N, win0_7.index t = ![t.val / 32, t.val / 2 % 16, t.val % 2, 0])
theorem idx_8 : ∀ t : Fin cfg0.N, win0_8.index t = ![t.val / 32, t.val / 2 % 16, t.val % 2, 0] :=
  (by decide +kernel : ∀ t : Fin grid0.N, win0_8.index t = ![t.val / 32, t.val / 2 % 16, t.val % 2, 0])

/-- The batch of point `t`. -/
def batch (t : Fin cfg0.N) : Fin 2 := ⟨t.val / 32, by have : t.val < 64 := t.isLt; omega⟩

/-- The residue class of point `t`. -/
def residue (t : Fin cfg0.N) : Fin 16 := ⟨t.val / 2 % 16, by omega⟩

theorem bias_is (t : Fin cfg0.N) : IsBias (bias t) (t.val % 2) 256 := by
  intro r j
  unfold bias k0_pay9
  rw [coord_2]
  pointwise
  rw [mask_words (L := 256) (by omega) r.isLt j.isLt (by omega)]
  have hκ : Named.named (F := Ideal) Cert.Attn16Ideal.κ "mask" (φ := .f32) 0xF149F2CA#32 = (⊥ : EReal) :=
    IdealRules.named_const.ideal_named_scalar _ _ _ _ rfl
  by_cases h : r.val ≤ j.val ∧ j.val ≤ r.val + 128 ∧ 64 ≤ 128 * (t.val % 2) + j.val ∧ 128 * (t.val % 2) + j.val < 256 + 64
  · rw [if_pos h]; simp [h, Scalar.select]
  · rw [if_neg h]; simp [h, Scalar.select, hκ]

theorem query_is (c : Dev nD) (t : Fin cfg0.N) : IsBlock (arg m c) (batch t) (residue t) (t.val % 2) (iblk m c 0 t) := by
  intro r q hq h d
  unfold arg batch residue part col
  blk_ext [iblk, V, idx_0 t]

theorem keys_is (c : Dev nD) (t : Fin cfg0.N) : IsWindow (arg m c) (batch t) (residue t) (t.val % 2) 1 (keys m c t) := by
  intro j x hj h d
  have hx := x.isLt
  unfold keys gather3 arg batch residue part col
  show (if h1 : j.val < 64 then _ else if h2 : j.val < 192 then _ else _) = _
  split_ifs with h1 h2
  · blk_ext [iblk, V, idx_1 t]
  · blk_ext [iblk, V, idx_2 t]
  · blk_ext [iblk, V, idx_3 t]

theorem vals_is (c : Dev nD) (t : Fin cfg0.N) : IsWindow (arg m c) (batch t) (residue t) (t.val % 2) 2 (vals m c t) := by
  intro j x hj h d
  have hx := x.isLt
  unfold vals gather3 arg batch residue part col
  show (if h1 : j.val < 64 then _ else if h2 : j.val < 192 then _ else _) = _
  split_ifs with h1 h2
  · blk_ext [iblk, V, idx_4 t]
  · blk_ext [iblk, V, idx_5 t]
  · blk_ext [iblk, V, idx_6 t]

theorem final_mixed (c : Dev nD) : (dats m 0 c).arrAt 7 cfg0.N = mixedArr (arg m c) := by
  refine (dats m 0 c).arrAt_eq_of_covers 7 _ (by decide +kernel) fun t hf y => ?_
  blk_simp
  rw [after0_7, out_block]
  obtain ⟨r, k, rfl⟩ : ∃ (r : Fin 128) (k : Fin 2048), y = ix4 0 0 r k := ⟨y 2, y 3, ix4_eta (A := 128) (B := 2048) y⟩
  have hy : (win0_7.blk t).view.emb (ix4 0 0 r k : S1x1x128x2048.Idx) =
      (ix4 (batch t) (residue t) (⟨128 * (t.val % 2) + r.val, by omega⟩ : Fin 256) k : S2x16x256x2048.Idx) := by
    unfold batch residue
    blk_ext [idx_7 t]
  rw [hy]
  exact mixed_row (arg m c) (batch t) (residue t) (t.val % 2) _ _ _ _ (bias_is t) (query_is m c t) (keys_is m c t) _ r _ rfl
    (vals_is m c t) _

theorem final_log (c : Dev nD) : (dats m 0 c).arrAt 8 cfg0.N = logArr (arg m c) := by
  refine (dats m 0 c).arrAt_eq_of_covers 8 _ (by decide +kernel) fun t hf y => ?_
  blk_simp
  rw [after0_8, lse_block_eq]
  obtain ⟨r, k, rfl⟩ : ∃ (r : Fin 128) (k : Fin 128), y = ix4 0 0 r k := ⟨y 2, y 3, ix4_eta (A := 128) (B := 128) y⟩
  have hy : (win0_8.blk t).view.emb (ix4 0 0 r k : S1x1x128x128.Idx) =
      (ix4 (batch t) (residue t) (⟨128 * (t.val % 2) + r.val, by omega⟩ : Fin 256) k : S2x16x256x128.Idx) := by
    unfold batch residue
    blk_ext [idx_8 t]
  rw [hy]
  rw [lseAt_lane, logArr_lane]
  by_cases h : k.val < 16
  · rw [dif_pos h, dif_pos h]
    exact logSum_row (arg m c) (batch t) (residue t) (t.val % 2) _ _ _ (bias_is t) (query_is m c t) (keys_is m c t) _ r _ rfl
  · rw [dif_neg h, dif_neg h]

end Cert.Attn16Ideal.Hand

namespace Cert.Attn

open Idealize.ShloMosaic Idealize.ShloMosaic.TcCoe Idealize.SL.Sem

/-- From memories that agree on the argument the kernel and the reference end with the same two results. -/
theorem algebraic16 : Cert.algebraic_Attn16Ideal_AttnRef16Ideal := by
  intro m g m' g' _ hagree
  refine ⟨fun c => mixedArr (Cert.Attn16Ideal.Hand.arg m c), fun c => logArr (Cert.Attn16Ideal.Hand.arg m c), ?_, ?_⟩
  · refine (θ_run _ _ _).mono (fun r h c => ?_) (Cert.Attn16Ideal.Value.run_blocks m g)
    exact ⟨(h c).1.trans (Cert.Attn16Ideal.Hand.final_mixed m c), (h c).2.1.trans (Cert.Attn16Ideal.Hand.final_log m c), (h c).2.2⟩
  · refine (θ_run _ _ _).mono (fun r h c => ?_) (Cert.AttnRef16Ideal.Value.run m' g')
    refine ⟨(h c).1.trans ?_, (h c).2.1.trans ?_, (h c).2.2⟩
    · rw [Cert.AttnRef16Ideal.Read.val_main_v38_eq, hagree c]
      exact Cert.AttnRef16Ideal.Hand.ref_mixed _
    · rw [Cert.AttnRef16Ideal.Read.val_main_v39_eq, hagree c]
      exact Cert.AttnRef16Ideal.Hand.ref_log _

end Cert.Attn
-- ==== Proof.Fnet.Alg.lean ====
/- The Fourier mixer's projection with the products along the channels is its reference. -/
module

public import proofs.«01_k».proof.Proof.Gen.FnetIdeal.Value
public import proofs.«01_k».proof.Proof.Gen.FnetRefIdeal.Read
public import proofs.«01_k».proof.Defs
public import Idealize.ShloMosaic.Lib.Pointwise
public import Idealize.ShloMosaic.Lib.Pipeline.ValueKit
public import Idealize.ShloMosaic.Lib.KernelVsHost

@[expose] public section

set_option maxRecDepth 16384

noncomputable section

namespace Cert.Fnet.Hand

open Idealize.ShloMosaic Idealize.ShloMosaic.View

/-- Channel `j` of the group that column `col` lies in. -/
def inGroup (col : Fin 2048) (j : Fin 512) : Fin 2048 := ⟨512 * (col.val / 512) + j.val, by omega⟩

/-- The column of the cosines (`p = 0`) or the sines (`p = 1`) that belongs to column `col`. -/
def wave (p : Fin 2) (col : Fin 2048) : Fin 1024 := ⟨512 * p.val + col.val % 512, by omega⟩

/-- One entry of the result, from the token's row. -/
def mixEntry (x : Fin 2048 → EReal) (W : (⟨2, ![2048, 2048]⟩ : Shape).Idx → EReal) (C : (⟨2, ![512, 1024]⟩ : Shape).Idx → EReal)
    (p : Fin 2) (col : Fin 2048) : EReal :=
  ∑ j : Fin 512, (∑ k : Fin 2048, x k * W (ix2 k (inGroup col j))) * C (ix2 j (wave p col))

/-- The block of 512 tokens. -/
def mixBlock (X : (⟨2, ![512, 2048]⟩ : Shape).Idx → EReal) (W : (⟨2, ![2048, 2048]⟩ : Shape).Idx → EReal)
    (C : (⟨2, ![512, 1024]⟩ : Shape).Idx → EReal) (y : (⟨4, ![1, 2, 512, 2048]⟩ : Shape).Idx) : EReal :=
  mixEntry (fun k => X (ix2 (y 2) k)) W C (y 1) (y 3)

/-- The whole result: 4096 tokens of each of two sequences. -/
def mixArr (X : (⟨2, ![8192, 2048]⟩ : Shape).Idx → EReal) (W : (⟨2, ![2048, 2048]⟩ : Shape).Idx → EReal)
    (C : (⟨2, ![512, 1024]⟩ : Shape).Idx → EReal) (y : (⟨4, ![2, 2, 4096, 2048]⟩ : Shape).Idx) : EReal :=
  mixEntry (fun k => X (ix2 ⟨4096 * (y 0).val + (y 2).val, by
    have h0 : (y 0).val < 2 := (y 0).isLt
    have h2 : (y 2).val < 4096 := (y 2).isLt
    omega⟩ k)) W C (y 1) (y 3)

/-- The store of part `p` of the group that starts at column `o`. -/
theorem piece_at (X : (⟨2, ![512, 2048]⟩ : Shape).Idx → EReal) (W : (⟨2, ![2048, 2048]⟩ : Shape).Idx → EReal)
    (C : (⟨2, ![512, 1024]⟩ : Shape).Idx → EReal) (p o : ℕ) (hp : p < 2) (ho : o < 2048) (ho' : o % 512 = 0)
    (y : (⟨4, ![1, 2, 512, 2048]⟩ : Shape).Idx) (w : (⟨4, ![1, 1, 512, 512]⟩ : Shape).Idx → EReal)
    (hw : ∀ r l : Fin 512, w (ix4 0 0 r l) =
      ∑ j : Fin 512, (∑ k : Fin 2048, X (ix2 r k) * W (ix2 k ⟨o + j.val, by omega⟩)) * C (ix2 j ⟨512 * p + l.val, by omega⟩)) :
    TileAt (Val := Elt Ideal) (e := .bf16) (S := ⟨4, ![1, 2, 512, 2048]⟩) y ![0, p, 0, o] ![1, 1, 512, 512] w (mixBlock X W C y) := by
  intro x hx
  have h1 : (y 1).val = p + (x 1).val := hx 1
  have h2 : (y 2).val = 0 + (x 2).val := hx 2
  have h3 : (y 3).val = o + (x 3).val := hx 3
  have x1 : (x 1).val < 1 := (x 1).isLt
  have x3 : (x 3).val < 512 := (x 3).isLt
  obtain ⟨a, b, r, l, rfl⟩ : ∃ (a b : Fin 1) (r l : Fin 512), x = ix4 a b r l := ⟨x 0, x 1, x 2, x 3, eq_ix4 x⟩
  obtain rfl : a = 0 := Subsingleton.elim _ _
  obtain rfl : b = 0 := Subsingleton.elim _ _
  change (y 1).val = p + 0 at h1
  change (y 2).val = 0 + r.val at h2
  change (y 3).val = o + l.val at h3
  refine (hw r l).trans ?_
  unfold mixBlock mixEntry
  have er : y 2 = r := Fin.ext (by omega)
  have ew : wave (y 1) (y 3) = ⟨512 * p + l.val, by omega⟩ := Fin.ext (by show 512 * (y 1).val + (y 3).val % 512 = 512 * p + l.val; omega)
  have eg : ∀ j : Fin 512, inGroup (y 3) j = ⟨o + j.val, by omega⟩ := fun j =>
    Fin.ext (by show 512 * ((y 3).val / 512) + j.val = o + j.val; omega)
  refine Finset.sum_congr rfl fun j _ => ?_
  rw [eg j]
  exact congrArg₂ (· * ·) (Finset.sum_congr rfl fun k _ => by rw [er]) (by rw [ew])

end Cert.Fnet.Hand

namespace Cert.FnetIdeal.Hand

open Cert.Fnet.Hand Cert.FnetIdeal Cert.FnetIdeal.Gen Idealize.ShloMosaic Idealize.ShloMosaic.TcCoe Idealize.SL Idealize.SL.Sem
open Idealize.ShloMosaic.View
variable (m : (ℓ : Loc nD τ sig) → Buf (Elt Ideal) ℓ)

/-- What a point writes. -/
theorem out_block (X : Vec Ideal S512x2048 .bf16) (W : Vec Ideal S2048x2048 .bf16) (C : Vec Ideal S512x1024 .bf16) :
    out0_3 (F := Ideal) X W C = mixBlock X W C := by
  unfold out0_3
  frame_out
  funext y
  refine canon_eq_of_allAt _ y _ (cover_of_tiled_head _ _ _ (by rfl) y) ?_
  repeat' first
    | exact allAt_nil _ _
    | refine allAt_cons_unit _ _ _ _ _ (piece_at _ _ _ _ _ (by decide) (by decide) (by decide) _ _ fun r l => ?_) ?_
  all_goals
    pointwise [k0_pay1, k0_pay2, k0_pay3, k0_pay4, k0_pay5, k0_pay6, k0_pay7, k0_pay8, k0_pay9, k0_pay10, k0_pay11, k0_pay12, k0_pay13,
      k0_pay14, k0_pay15]

/-- The arguments. -/
abbrev arg0 (c : Dev nD) : S8192x2048.Idx → EReal := m ((c.tc : Thread nD τ).loc main_arg0)
abbrev arg1 (c : Dev nD) : S2048x2048.Idx → EReal := m ((c.tc : Thread nD τ).loc main_arg1)
abbrev arg2 (c : Dev nD) : S512x1024.Idx → EReal := m ((c.tc : Thread nD τ).loc main_arg2)

theorem idx_0 : ∀ t : Fin cfg0.N, win0_0.index t = ![t.val, 0] :=
  (by decide +kernel : ∀ t : Fin grid0.N, win0_0.index t = ![t.val, 0])
theorem idx_1 : ∀ t : Fin cfg0.N, win0_1.index t = ![0, 0] :=
  (by decide +kernel : ∀ t : Fin grid0.N, win0_1.index t = ![0, 0])
theorem idx_2 : ∀ t : Fin cfg0.N, win0_2.index t = ![0, 0] :=
  (by decide +kernel : ∀ t : Fin grid0.N, win0_2.index t = ![0, 0])
theorem idx_3 : ∀ t : Fin cfg0.N, win0_3.index t = ![t.val / 8, 0, t.val % 8, 0] :=
  (by decide +kernel : ∀ t : Fin grid0.N, win0_3.index t = ![t.val / 8, 0, t.val % 8, 0])

theorem weights_read (c : Dev nD) (t : Fin cfg0.N) : iblk m c 1 t = arg1 m c := by
  funext y
  rw [eq_ix2 y]
  unfold arg1
  blk_ext [iblk, V, idx_1 t]

theorem waves_read (c : Dev nD) (t : Fin cfg0.N) : iblk m c 2 t = arg2 m c := by
  funext y
  rw [eq_ix2 y]
  unfold arg2
  blk_ext [iblk, V, idx_2 t]

theorem rows_read (c : Dev nD) (t : Fin cfg0.N) (ht : t.val < 16) (r : Fin 512) (k : Fin 2048) :
    iblk m c 0 t (ix2 r k : S512x2048.Idx) = arg0 m c (ix2 ⟨512 * t.val + r.val, by omega⟩ k) := by
  unfold arg0
  blk_ext [iblk, V, idx_0 t]

/-- The result array. -/
theorem final (c : Dev nD) : (dats m 0 c).arrAt 3 cfg0.N = mixArr (arg0 m c) (arg1 m c) (arg2 m c) := by
  refine (dats m 0 c).arrAt_eq_of_covers 3 _ (by decide +kernel) fun t hf y => ?_
  have hN : t.val < 16 := t.isLt
  blk_simp
  rw [after0_3, out_block, weights_read, waves_read]
  obtain ⟨a, p, r, k, rfl⟩ : ∃ (a : Fin 1) (p : Fin 2) (r : Fin 512) (k : Fin 2048), y = ix4 a p r k := ⟨y 0, y 1, y 2, y 3, eq_ix4 y⟩
  obtain rfl : a = 0 := Subsingleton.elim _ _
  have hy : (win0_3.blk t).view.emb (ix4 0 p r k : S1x2x512x2048.Idx) =
      (ix4 (⟨t.val / 8, by omega⟩ : Fin 2) p (⟨512 * (t.val % 8) + r.val, by omega⟩ : Fin 4096) k : S2x2x4096x2048.Idx) := by
    blk_ext [idx_3 t]
  rw [hy]
  show mixEntry (fun k => iblk m c 0 t (ix2 r k : S512x2048.Idx)) _ _ p k = mixEntry (fun k => arg0 m c (ix2 _ k)) _ _ p k
  congr 1
  funext k
  rw [rows_read m c t hN]
  congr 2
  exact Fin.ext (by show 512 * t.val + r.val = 4096 * (t.val / 8) + (512 * (t.val % 8) + r.val); omega)

end Cert.FnetIdeal.Hand

namespace Cert.FnetRefIdeal.Hand

open Cert.Fnet.Hand Cert.FnetRefIdeal Cert.FnetRefIdeal.Gen Cert.FnetRefIdeal.Read Idealize.ShloMosaic Idealize.ShloMosaic.TcCoe
variable (X : (⟨S8192x2048, .bf16⟩ : BufTy).Contents (Elt Ideal)) (W : (⟨S2048x2048, .bf16⟩ : BufTy).Contents (Elt Ideal))
  (C : (⟨S512x1024, .bf16⟩ : BufTy).Contents (Elt Ideal))

theorem projected (b : Fin 2) (s : Fin 4096) (g : Fin 4) (j : Fin 512) : val_main_v3 (F := Ideal) X W (ix4 b s g j) =
    ∑ k : Fin 2048, X (ix2 ⟨4096 * b.val + s.val, by omega⟩ k) * W (ix2 k ⟨512 * g.val + j.val, by omega⟩) := by
  have e : idx_main_v3 (ix4 b s g j) = ix2 ⟨4096 * b.val + s.val, by omega⟩ ⟨512 * g.val + j.val, by omega⟩ := by
    funext i
    refine Fin.ext ?_
    match i with
    | ⟨0, _⟩ => show (((b.val * 4096 + s.val) * 4 + g.val) * 512 + j.val) / 2048 = 4096 * b.val + s.val; omega
    | ⟨1, _⟩ => show (((b.val * 4096 + s.val) * 4 + g.val) * 512 + j.val) % 2048 = 512 * g.val + j.val; omega
  rw [val_main_v3_apply, e, val_main_v2_apply]
  refine Finset.sum_congr rfl fun k _ => ?_
  refine congrArg₂ (· * ·) (congrArg X ?_) (congrArg W ?_)
  · funext i; match i with | ⟨0, _⟩ => rfl | ⟨1, _⟩ => rfl
  · funext i; match i with | ⟨0, _⟩ => rfl | ⟨1, _⟩ => rfl

/-- The reference's result. -/
theorem result : val_main_v9 (F := Ideal) X W C = mixArr X W C := by
  funext y
  obtain ⟨b, p, s, col, rfl⟩ : ∃ (b p : Fin 2) (s : Fin 4096) (col : Fin 2048), y = ix4 b p s col := ⟨y 0, y 1, y 2, y 3, eq_ix4 y⟩
  have e : idx_main_v7 (idx_main_v8 (idx_main_v9 (ix4 b p s col))) = ix4 b s ⟨col.val / 512, by omega⟩ (wave p col) := by
    have e11 : idx_main_v9 (ix4 b p s col) = ix5 b p s ⟨col.val / 512, by omega⟩ ⟨col.val % 512, by omega⟩ := by
      funext i
      refine Fin.ext ?_
      match i with
      | ⟨0, _⟩ => show (((b.val * 2 + p.val) * 4096 + s.val) * 2048 + col.val) / 16777216 = b.val; omega
      | ⟨1, _⟩ => show (((b.val * 2 + p.val) * 4096 + s.val) * 2048 + col.val) / 8388608 % 2 = p.val; omega
      | ⟨2, _⟩ => show (((b.val * 2 + p.val) * 4096 + s.val) * 2048 + col.val) / 2048 % 4096 = s.val; omega
      | ⟨3, _⟩ => show (((b.val * 2 + p.val) * 4096 + s.val) * 2048 + col.val) / 512 % 4 = col.val / 512; omega
      | ⟨4, _⟩ => show (((b.val * 2 + p.val) * 4096 + s.val) * 2048 + col.val) % 512 = col.val % 512; omega
    rw [e11]
    funext i
    refine Fin.ext ?_
    match i with
    | ⟨0, _⟩ =>
      show ((((b.val * 4096 + s.val) * 4 + col.val / 512) * 2 + p.val) * 512 + col.val % 512) / 16777216 = b.val; omega
    | ⟨1, _⟩ =>
      show ((((b.val * 4096 + s.val) * 4 + col.val / 512) * 2 + p.val) * 512 + col.val % 512) / 4096 % 4096 = s.val; omega
    | ⟨2, _⟩ =>
      show ((((b.val * 4096 + s.val) * 4 + col.val / 512) * 2 + p.val) * 512 + col.val % 512) / 1024 % 4 = col.val / 512; omega
    | ⟨3, _⟩ =>
      show ((((b.val * 4096 + s.val) * 4 + col.val / 512) * 2 + p.val) * 512 + col.val % 512) % 1024 = 512 * p.val + col.val % 512
      omega
  rw [val_main_v9_apply, val_main_v8_apply, val_main_v7_apply, e, val_main_v6_apply, val_main_v5_apply]
  unfold mixArr mixEntry
  refine Finset.sum_congr rfl fun j _ => ?_
  have el : lidx_main_v5 (ix4 b s ⟨col.val / 512, by omega⟩ (wave p col)) j = ix4 b s ⟨col.val / 512, by omega⟩ j := by
    funext i; match i with | ⟨0, _⟩ => rfl | ⟨1, _⟩ => rfl | ⟨2, _⟩ => rfl | ⟨3, _⟩ => rfl
  have er : ridx_main_v5 (ix4 b s ⟨col.val / 512, by omega⟩ (wave p col)) j = ix2 j (wave p col) := by
    funext i; match i with | ⟨0, _⟩ => rfl | ⟨1, _⟩ => rfl
  rw [el, er, projected, val_main_v4_apply]
  rfl

end Cert.FnetRefIdeal.Hand

namespace Cert.Fnet.Hand

open Idealize.ShloMosaic Idealize.ShloMosaic.TcCoe Idealize.SL.Sem

/-- From memories that agree on the arguments the kernel and the reference end with the same result. -/
theorem algebraic : Cert.algebraic_FnetIdeal_FnetRefIdeal := by
  intro m g m' g' _ hagree
  refine ⟨fun c => mixArr (Cert.FnetIdeal.Hand.arg0 m c) (Cert.FnetIdeal.Hand.arg1 m c) (Cert.FnetIdeal.Hand.arg2 m c), ?_, ?_⟩
  · refine (θ_run _ _ _).mono (fun r h c => ?_) (Cert.FnetIdeal.Value.run_blocks m g)
    exact ⟨(h c).1.trans (Cert.FnetIdeal.Hand.final m c), (h c).2⟩
  · refine (θ_run _ _ _).mono (fun r h c => ?_) (Cert.FnetRefIdeal.Value.run m' g')
    refine ⟨(h c).1.trans ?_, (h c).2⟩
    rw [Cert.FnetRefIdeal.Read.val_main_v9_eq, (hagree c).1, (hagree c).2.1, (hagree c).2.2]
    exact Cert.FnetRefIdeal.Hand.result _ _ _

end Cert.Fnet.Hand
-- ==== Proof.Proj.FrameIdeal.lean ====
/- The frame of `ProjIdeal`: a straight body of ten inputs and three outputs, the second written row class by row class. -/
module

public import proofs.«01_k».proof.Proof.Gen.ProjIdeal.Skeleton
public import proofs.«01_k».proof.Proof.Gen.ProjIdeal.Launch
public import proofs.«01_k».proof.Proof.Gen.ProjIdeal.Points
public import Idealize.ShloMosaic.Lib.Claim
public import Idealize.ShloMosaic.Lib.Pipeline.Frame
public import Idealize.ShloMosaic.Lib.Pipeline.FrameBody
public import Idealize.ShloMosaic.Lib.Pipeline.Regions
public import Idealize.ShloMosaic.Lib.Ring
public import Idealize.ShloMosaic.Lib.Exec
public import Idealize.ShloMosaic.Lib.Tactic
public import Idealize.ShloMosaic.Lib.UnfoldOut
public import Idealize.ShloMosaic.Lib.WordCmp

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer as the region finds it: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output windows -/

abbrev whole0 : Rect S512x2048 := Rect.unit (s := S512x2048) ![0, 0] S512x2048.size inb_S512x2048_S512x2048_0_0
abbrev whole1 : Rect S2048x2048 := Rect.unit (s := S2048x2048) ![0, 0] S2048x2048.size inb_S2048x2048_S2048x2048_0_0
abbrev whole2 : Rect S512x2048 := Rect.unit (s := S512x2048) ![0, 0] S512x2048.size inb_S512x2048_S512x2048_0_0
abbrev whole3 : Rect S1x1x2048 := Rect.unit (s := S1x1x2048) ![0, 0, 0] S1x1x2048.size inb_S1x1x2048_S1x1x2048_0_0_0
abbrev whole4 : Rect S1x2048 := Rect.unit (s := S1x2048) ![0, 0] S1x2048.size inb_S1x2048_S1x2048_0_0
abbrev whole5 : Rect S1x2048 := Rect.unit (s := S1x2048) ![0, 0] S1x2048.size inb_S1x2048_S1x2048_0_0
abbrev whole6 : Rect S1x1x2048 := Rect.unit (s := S1x1x2048) ![0, 0, 0] S1x1x2048.size inb_S1x1x2048_S1x1x2048_0_0_0
abbrev whole7 : Rect S1x1x2048 := Rect.unit (s := S1x1x2048) ![0, 0, 0] S1x1x2048.size inb_S1x1x2048_S1x1x2048_0_0_0
abbrev whole8 : Rect S2048x128 := Rect.unit (s := S2048x128) ![0, 0] S2048x128.size inb_S2048x128_S2048x128_0_0
abbrev whole9 : Rect S1x128 := Rect.unit (s := S1x128) ![0, 0] S1x128.size inb_S1x128_S1x128_0_0
abbrev whole10 : Rect S512x2048 := Rect.unit (s := S512x2048) ![0, 0] S512x2048.size inb_S512x2048_S512x2048_0_0
abbrev whole12 : Rect S512x128 := Rect.unit (s := S512x128) ![0, 0] S512x128.size inb_S512x128_S512x128_0_0

abbrev rows0 : Rect S4096x2x128 := ⟨(⟨![0, 0, 0], S512x2x128.size, ![8, 1, 1], inb_S4096x2x128_S512x2x128_0_0_0_s_8_1_1⟩ : LoadRect S4096x2x128), spos_8_1_1⟩
abbrev rows1 : Rect S4096x2x128 := ⟨(⟨![1, 0, 0], S512x2x128.size, ![8, 1, 1], inb_S4096x2x128_S512x2x128_1_0_0_s_8_1_1⟩ : LoadRect S4096x2x128), spos_8_1_1⟩
abbrev rows2 : Rect S4096x2x128 := ⟨(⟨![2, 0, 0], S512x2x128.size, ![8, 1, 1], inb_S4096x2x128_S512x2x128_2_0_0_s_8_1_1⟩ : LoadRect S4096x2x128), spos_8_1_1⟩
abbrev rows3 : Rect S4096x2x128 := ⟨(⟨![3, 0, 0], S512x2x128.size, ![8, 1, 1], inb_S4096x2x128_S512x2x128_3_0_0_s_8_1_1⟩ : LoadRect S4096x2x128), spos_8_1_1⟩
abbrev rows4 : Rect S4096x2x128 := ⟨(⟨![4, 0, 0], S512x2x128.size, ![8, 1, 1], inb_S4096x2x128_S512x2x128_4_0_0_s_8_1_1⟩ : LoadRect S4096x2x128), spos_8_1_1⟩
abbrev rows5 : Rect S4096x2x128 := ⟨(⟨![5, 0, 0], S512x2x128.size, ![8, 1, 1], inb_S4096x2x128_S512x2x128_5_0_0_s_8_1_1⟩ : LoadRect S4096x2x128), spos_8_1_1⟩
abbrev rows6 : Rect S4096x2x128 := ⟨(⟨![6, 0, 0], S512x2x128.size, ![8, 1, 1], inb_S4096x2x128_S512x2x128_6_0_0_s_8_1_1⟩ : LoadRect S4096x2x128), spos_8_1_1⟩
abbrev rows7 : Rect S4096x2x128 := ⟨(⟨![7, 0, 0], S512x2x128.size, ![8, 1, 1], inb_S4096x2x128_S512x2x128_7_0_0_s_8_1_1⟩ : LoadRect S4096x2x128), spos_8_1_1⟩

/-- The sub-layer's rows. -/
def rows (x0 : Vec F S512x2048 .bf16) (x1 : Vec F S2048x2048 .bf16) (x2 : Vec F S512x2048 .f32) (x3 : Vec F S1x1x2048 .f32) (x4 : Vec F S1x2048 .f32) (x5 : Vec F S1x2048 .f32) (x6 : Vec F S1x1x2048 .f32) (x7 : Vec F S1x1x2048 .f32) (x8 : Vec F S2048x128 .f32) (x9 : Vec F S1x128 .f32) : FVec F S512x2048 .f32 :=
  k0_pay3 (View.ld x0 (whole0 : Rect S512x2048)) (View.ld x1 (whole1 : Rect S2048x2048)) (View.ld x2 (whole2 : Rect S512x2048)) (View.ld x3 (whole3 : Rect S1x1x2048)) (View.ld x4 (whole4 : Rect S1x2048)) (View.ld x5 (whole5 : Rect S1x2048))

/-- The rows modulated for the next sub-layer. -/
def modulated (x0 : Vec F S512x2048 .bf16) (x1 : Vec F S2048x2048 .bf16) (x2 : Vec F S512x2048 .f32) (x3 : Vec F S1x1x2048 .f32) (x4 : Vec F S1x2048 .f32) (x5 : Vec F S1x2048 .f32) (x6 : Vec F S1x1x2048 .f32) (x7 : Vec F S1x1x2048 .f32) (x8 : Vec F S2048x128 .f32) (x9 : Vec F S1x128 .f32) : FVec F S512x2048 .f32 :=
  k0_pay4 (rows x0 x1 x2 x3 x4 x5 x6 x7 x8 x9) (View.ld x6 (whole6 : Rect S1x1x2048)) (View.ld x7 (whole7 : Rect S1x1x2048))

/-- The rows' window. -/
def out0_10 (x0 : Vec F S512x2048 .bf16) (x1 : Vec F S2048x2048 .bf16) (x2 : Vec F S512x2048 .f32) (x3 : Vec F S1x1x2048 .f32) (x4 : Vec F S1x2048 .f32) (x5 : Vec F S1x2048 .f32) (x6 : Vec F S1x1x2048 .f32) (x7 : Vec F S1x1x2048 .f32) (x8 : Vec F S2048x128 .f32) (x9 : Vec F S1x128 .f32) : Vec F S512x2048 .f32 :=
  View.canon [⟨whole10, rows x0 x1 x2 x3 x4 x5 x6 x7 x8 x9⟩]

/-- The packed rows' window: the rows of one slab lie eight apart. -/
def out0_11 (x0 : Vec F S512x2048 .bf16) (x1 : Vec F S2048x2048 .bf16) (x2 : Vec F S512x2048 .f32) (x3 : Vec F S1x1x2048 .f32) (x4 : Vec F S1x2048 .f32) (x5 : Vec F S1x2048 .f32) (x6 : Vec F S1x1x2048 .f32) (x7 : Vec F S1x1x2048 .f32) (x8 : Vec F S2048x128 .f32) (x9 : Vec F S1x128 .f32) : Vec F S4096x2x128 .bf16 :=
  View.canon [⟨rows7, k0_pay1 (modulated x0 x1 x2 x3 x4 x5 x6 x7 x8 x9)⟩,
    ⟨rows6, k0_pay11 (modulated x0 x1 x2 x3 x4 x5 x6 x7 x8 x9)⟩,
    ⟨rows5, k0_pay10 (modulated x0 x1 x2 x3 x4 x5 x6 x7 x8 x9)⟩,
    ⟨rows4, k0_pay9 (modulated x0 x1 x2 x3 x4 x5 x6 x7 x8 x9)⟩,
    ⟨rows3, k0_pay8 (modulated x0 x1 x2 x3 x4 x5 x6 x7 x8 x9)⟩,
    ⟨rows2, k0_pay7 (rows x0 x1 x2 x3 x4 x5 x6 x7 x8 x9) (View.ld x6 (whole6 : Rect S1x1x2048)) (View.ld x7 (whole7 : Rect S1x1x2048))⟩,
    ⟨rows1, k0_pay6 (rows x0 x1 x2 x3 x4 x5 x6 x7 x8 x9) (View.ld x6 (whole6 : Rect S1x1x2048)) (View.ld x7 (whole7 : Rect S1x1x2048))⟩,
    ⟨rows0, k0_pay5 (rows x0 x1 x2 x3 x4 x5 x6 x7 x8 x9) (View.ld x6 (whole6 : Rect S1x1x2048)) (View.ld x7 (whole7 : Rect S1x1x2048))⟩]

/-- The logits' window. -/
def out0_12 (x0 : Vec F S512x2048 .bf16) (x1 : Vec F S2048x2048 .bf16) (x2 : Vec F S512x2048 .f32) (x3 : Vec F S1x1x2048 .f32) (x4 : Vec F S1x2048 .f32) (x5 : Vec F S1x2048 .f32) (x6 : Vec F S1x1x2048 .f32) (x7 : Vec F S1x1x2048 .f32) (x8 : Vec F S2048x128 .f32) (x9 : Vec F S1x128 .f32) : Vec F S512x128 .f32 :=
  View.canon [⟨whole12, k0_pay2 (modulated x0 x1 x2 x3 x4 x5 x6 x7 x8 x9) (View.ld x8 (whole8 : Rect S2048x128)) (View.ld x9 (whole9 : Rect S1x128))⟩]

theorem cover0_10 (p : Vec F S512x2048 .f32) (y : S512x2048.Idx) :
    ∃ pc ∈ ([⟨whole10, p⟩] : List (View.Piece (Elt F) S512x2048 .f32)), y ∈ pc.1.set :=
  View.cover_of_tiled [⟨whole10, p⟩] S512x2048.size (by rfl) y

theorem cover0_12 (p : Vec F S512x128 .f32) (y : S512x128.Idx) :
    ∃ pc ∈ ([⟨whole12, p⟩] : List (View.Piece (Elt F) S512x128 .f32)), y ∈ pc.1.set :=
  View.cover_of_tiled [⟨whole12, p⟩] S512x128.size (by rfl) y

/-- The eight row classes cover the packed rows' window. -/
theorem cover0_11 (p0 p1 p2 p3 p4 p5 p6 p7 : Vec F S512x2x128 .bf16) (y : S4096x2x128.Idx) :
    ∃ pc ∈ ([⟨rows7, p7⟩, ⟨rows6, p6⟩, ⟨rows5, p5⟩, ⟨rows4, p4⟩, ⟨rows3, p3⟩, ⟨rows2, p2⟩, ⟨rows1, p1⟩, ⟨rows0, p0⟩] : List (View.Piece (Elt F) S4096x2x128 .bf16)), y ∈ pc.1.set := by
  have h0 : (y 0).val < 4096 := (y 0).isLt
  have key : ∀ (o : ℕ) (hi : _) (hs : _), (y 0).val % 8 = o →
      y ∈ (⟨(⟨![o, 0, 0], S512x2x128.size, ![8, 1, 1], hi⟩ : LoadRect S4096x2x128), hs⟩ : Rect S4096x2x128).set := by
    intro o hi hs ho
    refine (LoadRect.mem_set _).2 fun a => ?_
    match a with
    | ⟨0, _⟩ => exact ⟨(y 0).val / 8, by show (y 0).val / 8 < 512; omega, by show (y 0).val = o + 8 * ((y 0).val / 8); omega⟩
    | ⟨1, _⟩ => exact ⟨(y 1).val, (y 1).isLt, by show (y 1).val = 0 + 1 * (y 1).val; omega⟩
    | ⟨2, _⟩ => exact ⟨(y 2).val, (y 2).isLt, by show (y 2).val = 0 + 1 * (y 2).val; omega⟩
  rcases (by omega : (y 0).val % 8 = 0 ∨ (y 0).val % 8 = 1 ∨ (y 0).val % 8 = 2 ∨ (y 0).val % 8 = 3 ∨ (y 0).val % 8 = 4 ∨ (y 0).val % 8 = 5
    ∨ (y 0).val % 8 = 6 ∨ (y 0).val % 8 = 7) with h | h | h | h | h | h | h | h
  · exact ⟨⟨rows0, p0⟩, by simp, key 0 _ _ h⟩
  · exact ⟨⟨rows1, p1⟩, by simp, key 1 _ _ h⟩
  · exact ⟨⟨rows2, p2⟩, by simp, key 2 _ _ h⟩
  · exact ⟨⟨rows3, p3⟩, by simp, key 3 _ _ h⟩
  · exact ⟨⟨rows4, p4⟩, by simp, key 4 _ _ h⟩
  · exact ⟨⟨rows5, p5⟩, by simp, key 5 _ _ h⟩
  · exact ⟨⟨rows6, p6⟩, by simp, key 6 _ _ h⟩
  · exact ⟨⟨rows7, p7⟩, by simp, key 7 _ _ h⟩

/-! ## The body -/

set_option maxHeartbeats 4000000 in
/-- The body leaves the inputs as they were and the outputs at the values above. -/
theorem sound_kernel (c : Dev nD) (E : Set ℕ) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S512x2048 .f32) (harg11 : arg11.IsWhole) (arg12 : Memref sig .tc .vmem S4096x2x128 .bf16) (harg12 : arg12.IsWhole) (arg13 : Memref sig .tc .vmem S512x128 .f32) (harg13 : arg13.IsWhole)
    (x0 : Vec F S512x2048 .bf16) (x1 : Vec F S2048x2048 .bf16) (x2 : Vec F S512x2048 .f32) (x3 : Vec F S1x1x2048 .f32) (x4 : Vec F S1x2048 .f32) (x5 : Vec F S1x2048 .f32) (x6 : Vec F S1x1x2048 .f32) (x7 : Vec F S1x1x2048 .f32) (x8 : Vec F S2048x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9) ∗ owns (c : Thread nD τ) arg13 fullShare (out0_12 x0 x1 x2 x3 x4 x5 x6 x7 x8 x9)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13) K := by
  simp only [cc0_proj_eq_skeleton]; unfold cc0_proj_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (cover0_10 _)).trans rfl
  isplitl [H11]
  · iexists _; isplitr
    swap; · iexact H11
    ipureintro
    exact (View.read_writes_eq_canon _ _ _ (cover0_11 _ _ _ _ _ _ _ _)).trans rfl
  iexists _; isplitr
  swap; · iexact H12
  ipureintro
  exact (View.read_writes_eq_canon _ _ _ (cover0_12 _)).trans rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-! Each input's staging buffer holds its block at every point. -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run leaves the rows and the logits at what the points wrote, the arguments as launched, and every semaphore at zero. -/
theorem run_blocks : θ_run defs (onTc (τ := τ) (main (F := F))) ⟨m, fun _ => 0, ρ⟩ (fun r => (∀ c : Dev nD,
      r.2.mem ((c.tc : Thread nD τ).loc main_v0_0) = (dats m 0 c).arrAt 10 cfg0.N
      ∧ r.2.mem ((c.tc : Thread nD τ).loc main_v0_2) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => ⟨(h.1 c).1 10, (h.1 c).1 12,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5)),
      ((h.1 c).1 6).trans (((dats m 0 c).arrAt_in 6 rfl _).trans (A_eq m c 6)),
      ((h.1 c).1 7).trans (((dats m 0 c).arrAt_in 7 rfl _).trans (A_eq m c 7)),
      ((h.1 c).1 8).trans (((dats m 0 c).arrAt_in 8 rfl _).trans (A_eq m c 8)),
      ((h.1 c).1 9).trans (((dats m 0 c).arrAt_in 9 rfl _).trans (A_eq m c 9))⟩, h.2⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => (h.1 c).2.2, h.2⟩) (run_blocks m ρ)

end Cert.ProjIdeal.Hand

end
-- ==== Proof.Proj.Alg.lean ====
/- The Fourier mixer's output projection with the residual and the layer norm is its reference. -/
module

public import proofs.«01_k».proof.Proof.Proj.FrameIdeal
public import proofs.«01_k».proof.Proof.Gen.ProjRefIdeal.Read
public import proofs.«01_k».proof.Defs
public import Idealize.ShloMosaic.Lib.Pointwise
public import Idealize.ShloMosaic.Lib.Pipeline.ValueKit
public import Idealize.ShloMosaic.Lib.KernelVsHost
public import Idealize.ShloMosaic.Lib.Bf16PairInverse

@[expose] public section

set_option maxRecDepth 16384

noncomputable section

namespace Cert.Proj.Value

open Idealize.ShloMosaic

/-- The residual's factor, the square root of two rounded. -/
abbrev alpha : EReal := Ideal.ofBits FTy.f32 0x3FB504F3#32
/-- The row's length. -/
abbrev len : EReal := Ideal.ofBits FTy.f32 0x45000000#32
/-- What is added to the variance. -/
abbrev eps : EReal := Ideal.ofBits FTy.f32 0x3727C5AC#32

/-- The scaled residual with the gated projection, one channel of a token. -/
def joined (y x gate : Fin 2048 → EReal) (W : (⟨2, ![2048, 2048]⟩ : Shape).Idx → EReal) (col : Fin 2048) : EReal :=
  alpha * x col + gate col * ∑ k : Fin 2048, y k * W (ix2 k col)

/-- The mean over a row. -/
def mean (z : Fin 2048 → EReal) : EReal := Ideal.div (∑ k : Fin 2048, z k) len

/-- One channel of the layer norm of a row. -/
def normed (z g b : Fin 2048 → EReal) (col : Fin 2048) : EReal :=
  (z col - mean z) * Ideal.rsqrt (mean (fun k => (z k - mean z) * (z k - mean z)) + eps) * g col + b col

/-- The whole result: 4096 tokens of each of two sequences, each sequence with its own gate. -/
def outArr (Y : (⟨2, ![8192, 2048]⟩ : Shape).Idx → EReal) (W : (⟨2, ![2048, 2048]⟩ : Shape).Idx → EReal)
    (X : (⟨2, ![8192, 2048]⟩ : Shape).Idx → EReal) (G : (⟨3, ![2, 1, 2048]⟩ : Shape).Idx → EReal)
    (g b : (⟨2, ![1, 2048]⟩ : Shape).Idx → EReal) (i : (⟨2, ![8192, 2048]⟩ : Shape).Idx) : EReal :=
  normed (joined (fun k => Y (ix2 (i 0) k)) (fun k => X (ix2 (i 0) k))
      (fun k => G (ix3 ⟨(i 0).val / 4096, by have h : (i 0).val < 8192 := (i 0).isLt; omega⟩ 0 k)) W)
    (fun k => g (ix2 0 k)) (fun k => b (ix2 0 k)) (i 1)

end Cert.Proj.Value

namespace Cert.ProjIdeal.Hand

open Cert.Proj.Value Cert.ProjIdeal Cert.ProjIdeal.Gen Idealize.ShloMosaic Idealize.ShloMosaic.TcCoe Idealize.SL Idealize.SL.Sem
open Idealize.ShloMosaic.View
variable (m : (ℓ : Loc nD τ sig) → Buf (Elt Ideal) ℓ)

/-- One entry of a point's rows. -/
theorem norm_at (Y : Vec Ideal S512x2048 .bf16) (W : Vec Ideal S2048x2048 .bf16) (X : Vec Ideal S512x2048 .f32) (G : Vec Ideal S1x1x2048 .f32)
    (g b : Vec Ideal S1x2048 .f32) (r : Fin 512) (col : Fin 2048) :
    k0_pay3 (F := Ideal) Y W X G g b (ix2 r col) =
      normed (joined (fun k => Y (ix2 r k)) (fun k => X (ix2 r k)) (fun k => G (ix3 0 0 k)) W) (fun k => g (ix2 0 k)) (fun k => b (ix2 0 k)) col := by
  unfold normed mean joined
  pointwise [k0_pay3]

/-- What a point writes. -/
theorem out_block (x0 : Vec Ideal S512x2048 .bf16) (x1 : Vec Ideal S2048x2048 .bf16) (x2 : Vec Ideal S512x2048 .f32)
    (x3 : Vec Ideal S1x1x2048 .f32) (x4 x5 : Vec Ideal S1x2048 .f32) (x6 x7 : Vec Ideal S1x1x2048 .f32) (x8 : Vec Ideal S2048x128 .f32)
    (x9 : Vec Ideal S1x128 .f32) (r : Fin 512) (col : Fin 2048) :
    out0_10 (F := Ideal) x0 x1 x2 x3 x4 x5 x6 x7 x8 x9 (ix2 r col) =
      normed (joined (fun k => x0 (ix2 r k)) (fun k => x2 (ix2 r k)) (fun k => x3 (ix3 0 0 k)) x1) (fun k => x4 (ix2 0 k)) (fun k => x5 (ix2 0 k))
        col := by
  unfold out0_10 rows
  frame_out
  exact norm_at x0 x1 x2 x3 x4 x5 r col

/-- The arguments that the rows are made of. -/
abbrev arg0 (c : Dev nD) : S8192x2048.Idx → EReal := m ((c.tc : Thread nD τ).loc main_arg0)
abbrev arg1 (c : Dev nD) : S2048x2048.Idx → EReal := m ((c.tc : Thread nD τ).loc main_arg1)
abbrev arg2 (c : Dev nD) : S8192x2048.Idx → EReal := m ((c.tc : Thread nD τ).loc main_arg2)
abbrev arg3 (c : Dev nD) : S2x1x2048.Idx → EReal := m ((c.tc : Thread nD τ).loc main_arg3)
abbrev arg4 (c : Dev nD) : S1x2048.Idx → EReal := m ((c.tc : Thread nD τ).loc main_arg4)
abbrev arg5 (c : Dev nD) : S1x2048.Idx → EReal := m ((c.tc : Thread nD τ).loc main_arg5)

theorem idx_0 : ∀ t : Fin cfg0.N, win0_0.index t = ![t.val, 0] := (by decide +kernel : ∀ t : Fin grid0.N, win0_0.index t = ![t.val, 0])
theorem idx_1 : ∀ t : Fin cfg0.N, win0_1.index t = ![0, 0] := (by decide +kernel : ∀ t : Fin grid0.N, win0_1.index t = ![0, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val / 8, 0, 0] :=
  (by decide +kernel : ∀ t : Fin grid0.N, win0_3.index t = ![t.val / 8, 0, 0])
theorem idx_4 : ∀ t : Fin cfg0.N, win0_4.index t = ![0, 0] := (by decide +kernel : ∀ t : Fin grid0.N, win0_4.index t = ![0, 0])
theorem idx_5 : ∀ t : Fin cfg0.N, win0_5.index t = ![0, 0] := (by decide +kernel : ∀ t : Fin grid0.N, win0_5.index t = ![0, 0])
theorem idx_10 : ∀ t : Fin cfg0.N, win0_10.index t = ![t.val, 0] := (by decide +kernel : ∀ t : Fin grid0.N, win0_10.index t = ![t.val, 0])

theorem mixed_read (c : Dev nD) (t : Fin cfg0.N) (ht : t.val < 16) (r : Fin 512) (k : Fin 2048) :
    iblk m c 0 t (ix2 r k : S512x2048.Idx) = arg0 m c (ix2 ⟨512 * t.val + r.val, by omega⟩ k) := by
  unfold arg0
  blk_ext [iblk, V, idx_0 t]

theorem weights_read (c : Dev nD) (t : Fin cfg0.N) : iblk m c 1 t = arg1 m c := by
  funext y
  rw [eq_ix2 y]
  unfold arg1
  blk_ext [iblk, V, idx_1 t]

theorem residual_read (c : Dev nD) (t : Fin cfg0.N) (ht : t.val < 16) (r : Fin 512) (k : Fin 2048) :
    iblk m c 2 t (ix2 r k : S512x2048.Idx) = arg2 m c (ix2 ⟨512 * t.val + r.val, by omega⟩ k) := by
  unfold arg2
  blk_ext [iblk, V, idx_2 t]

theorem gate_read (c : Dev nD) (t : Fin cfg0.N) (ht : t.val < 16) (k : Fin 2048) :
    iblk m c 3 t (ix3 0 0 k : S1x1x2048.Idx) = arg3 m c (ix3 ⟨t.val / 8, by omega⟩ 0 k) := by
  unfold arg3
  blk_ext [iblk, V, idx_3 t]

theorem scale_read (c : Dev nD) (t : Fin cfg0.N) (k : Fin 2048) : iblk m c 4 t (ix2 0 k : S1x2048.Idx) = arg4 m c (ix2 0 k) := by
  unfold arg4
  blk_ext [iblk, V, idx_4 t]

theorem shift_read (c : Dev nD) (t : Fin cfg0.N) (k : Fin 2048) : iblk m c 5 t (ix2 0 k : S1x2048.Idx) = arg5 m c (ix2 0 k) := by
  unfold arg5
  blk_ext [iblk, V, idx_5 t]

/-- The result array. -/
theorem final (c : Dev nD) :
    (dats m 0 c).arrAt 10 cfg0.N = outArr (arg0 m c) (arg1 m c) (arg2 m c) (arg3 m c) (arg4 m c) (arg5 m c) := by
  refine (dats m 0 c).arrAt_eq_of_covers 10 _ (by decide +kernel) fun t hf y => ?_
  have hN : t.val < 16 := t.isLt
  blk_simp
  rw [after0_10, weights_read]
  obtain ⟨r, col, rfl⟩ : ∃ (r : Fin 512) (col : Fin 2048), y = ix2 r col := ⟨y 0, y 1, eq_ix2 y⟩
  have hy : (win0_10.blk t).view.emb (ix2 r col : S512x2048.Idx) = (ix2 (⟨512 * t.val + r.val, by omega⟩ : Fin 8192) col : S8192x2048.Idx) := by
    blk_ext [idx_10 t]
  rw [hy]
  refine (out_block _ _ _ _ _ _ _ _ _ _ r col).trans ?_
  show _ = normed (joined (fun k => arg0 m c (ix2 _ k)) (fun k => arg2 m c (ix2 _ k)) (fun k => arg3 m c (ix3 _ 0 k)) _) _ _ col
  congr 1
  · congr 1
    · funext k; exact mixed_read m c t hN r k
    · funext k; exact residual_read m c t hN r k
    · funext k
      refine (gate_read m c t hN k).trans (congrArg (fun s => arg3 m c (ix3 s 0 k)) (Fin.ext ?_))
      show t.val / 8 = (512 * t.val + r.val) / 4096
      omega
  · funext k; exact scale_read m c t k
  · funext k; exact shift_read m c t k

end Cert.ProjIdeal.Hand

namespace Cert.ProjRefIdeal.Hand

open Cert.Proj.Value Cert.ProjRefIdeal Cert.ProjRefIdeal.Gen Cert.ProjRefIdeal.Read Idealize.ShloMosaic Idealize.ShloMosaic.TcCoe
variable (Y : (⟨S8192x2048, .bf16⟩ : BufTy).Contents (Elt Ideal)) (W : (⟨S2048x2048, .bf16⟩ : BufTy).Contents (Elt Ideal))
  (X : (⟨S8192x2048, .f32⟩ : BufTy).Contents (Elt Ideal)) (G : (⟨S2x1x2048, .f32⟩ : BufTy).Contents (Elt Ideal))
  (g b : (⟨S1x2048, .f32⟩ : BufTy).Contents (Elt Ideal))

/-- Token `s` of sequence `n`. -/
abbrev token (n : Fin 2) (s : Fin 4096) : Fin 8192 := ⟨4096 * n.val + s.val, by omega⟩

/-- The row before the layer norm, as the reference has it. -/
abbrev rowOf (n : Fin 2) (s : Fin 4096) : Fin 2048 → EReal :=
  joined (fun k => Y (ix2 (token n s) k)) (fun k => X (ix2 (token n s) k)) (fun k => G (ix3 n 0 k)) W

theorem split_row (n : Fin 2) (s : Fin 4096) (k : Fin 2048) : idx_main_v3 (ix3 n s k) = ix2 (token n s) k := by
  funext i
  refine Fin.ext ?_
  match i with
  | ⟨0, _⟩ => show ((n.val * 4096 + s.val) * 2048 + k.val) / 2048 = 4096 * n.val + s.val; omega
  | ⟨1, _⟩ => show ((n.val * 4096 + s.val) * 2048 + k.val) % 2048 = k.val; omega

theorem row_at (n : Fin 2) (s : Fin 4096) (k : Fin 2048) : val_main_v9 (F := Ideal) Y W X G (ix3 n s k) = rowOf Y W X G n s k := by
  have e4 : idx_main_v4 (ix3 n s k) = ix2 (token n s) k := split_row n s k
  have e7 : idx_main_v7 (ix3 n s k) = ix3 n 0 k := by
    funext i; match i with | ⟨0, _⟩ => rfl | ⟨1, _⟩ => rfl | ⟨2, _⟩ => rfl
  rw [val_main_v9_apply, val_main_v6_apply, val_main_v8_apply, val_main_v5_apply, val_main_v4_apply, val_main_v7_apply, val_main_v3_apply,
    split_row, e4, e7, val_main_v2_apply]
  refine congrArg₂ (· + ·) rfl (congrArg₂ (· * ·) rfl (Finset.sum_congr rfl fun j _ => ?_))
  refine congrArg₂ (· * ·) (congrArg Y ?_) (congrArg W ?_)
  · funext i; match i with | ⟨0, _⟩ => rfl | ⟨1, _⟩ => rfl
  · funext i; match i with | ⟨0, _⟩ => rfl | ⟨1, _⟩ => rfl

theorem zero_word : Ideal.ofBits FTy.f32 0x00000000#32 = 0 := by pointwise []

theorem mean_at (n : Fin 2) (s : Fin 4096) (k : Fin 2048) : val_main_v14 (F := Ideal) Y W X G (ix3 n s k) = mean (rowOf Y W X G n s) := by
  have e : idx_main_v11 (idx_main_v14 (ix3 n s k)) = ix2 n s := by
    funext i; match i with | ⟨0, _⟩ => rfl | ⟨1, _⟩ => rfl
  rw [val_main_v14_apply, val_main_v13_apply, val_main_v11_apply, val_main_v12_apply, e, val_main_v10_apply]
  refine congrArg₂ Ideal.div ?_ rfl
  refine (congrArg₂ (· + ·) zero_word (Finset.sum_congr rfl fun j _ => ?_)).trans (zero_add _)
  exact (congrArg _ (by funext i; match i with | ⟨0, _⟩ => rfl | ⟨1, _⟩ => rfl | ⟨2, _⟩ => rfl)).trans (row_at Y W X G n s j)

theorem centred_at (n : Fin 2) (s : Fin 4096) (k : Fin 2048) :
    val_main_v15 (F := Ideal) Y W X G (ix3 n s k) = rowOf Y W X G n s k - mean (rowOf Y W X G n s) := by
  rw [val_main_v15_apply, row_at, mean_at]
  rfl

theorem factor_at (n : Fin 2) (s : Fin 4096) (k : Fin 2048) : val_main_v24 (F := Ideal) Y W X G (ix3 n s k) =
    Ideal.rsqrt (mean (fun k => (rowOf Y W X G n s k - mean (rowOf Y W X G n s)) * (rowOf Y W X G n s k - mean (rowOf Y W X G n s))) + eps) := by
  have e : idx_main_v18 (idx_main_v24 (ix3 n s k)) = ix2 n s := by
    funext i; match i with | ⟨0, _⟩ => rfl | ⟨1, _⟩ => rfl
  rw [val_main_v24_apply, val_main_v23_apply, val_main_v22_apply, val_main_v20_apply, val_main_v18_apply, val_main_v19_apply, val_main_v21_apply, e,
    val_main_v17_apply]
  refine congrArg Ideal.rsqrt (congrArg₂ (· + ·) (congrArg₂ Ideal.div ?_ rfl) rfl)
  refine (congrArg₂ (· + ·) zero_word (Finset.sum_congr rfl fun j _ => ?_)).trans (zero_add _)
  have ej : idx_main_v17 (ix2 n s) j = ix3 n s j := by
    funext i; match i with | ⟨0, _⟩ => rfl | ⟨1, _⟩ => rfl | ⟨2, _⟩ => rfl
  rw [ej, val_main_v16_apply, centred_at]
  rfl

/-- The reference's result. -/
theorem result : val_main_v32 (F := Ideal) Y W X G g b = outArr Y W X G g b := by
  funext y
  obtain ⟨q, col, rfl⟩ : ∃ (q : Fin 8192) (col : Fin 2048), y = ix2 q col := ⟨y 0, y 1, eq_ix2 y⟩
  have e : idx_main_v32 (ix2 q col) = ix3 ⟨q.val / 4096, by omega⟩ ⟨q.val % 4096, by omega⟩ col := by
    funext i
    refine Fin.ext ?_
    match i with
    | ⟨0, _⟩ => show (q.val * 2048 + col.val) / 8388608 = q.val / 4096; omega
    | ⟨1, _⟩ => show (q.val * 2048 + col.val) / 2048 % 4096 = q.val % 4096; omega
    | ⟨2, _⟩ => show (q.val * 2048 + col.val) % 2048 = col.val; omega
  rw [val_main_v32_apply, e, val_main_v31_apply, val_main_v28_apply, val_main_v25_apply, centred_at, factor_at, val_main_v27_apply,
    val_main_v26_apply, val_main_v30_apply, val_main_v29_apply]
  have et : token ⟨q.val / 4096, by omega⟩ ⟨q.val % 4096, by omega⟩ = q := Fin.ext (by show 4096 * (q.val / 4096) + q.val % 4096 = q.val; omega)
  unfold rowOf
  rw [et]
  refine congrArg₂ (· + ·) (congrArg₂ (· * ·) rfl (congrArg g ?_)) (congrArg b ?_)
  · funext i; match i with | ⟨0, _⟩ => rfl | ⟨1, _⟩ => rfl
  · funext i; match i with | ⟨0, _⟩ => rfl | ⟨1, _⟩ => rfl

end Cert.ProjRefIdeal.Hand

namespace Cert.Proj.Value

open Idealize.ShloMosaic Idealize.ShloMosaic.TcCoe Idealize.SL.Sem

/-- From memories that agree on the arguments the kernel and the reference end with the same rows. -/
theorem algebraic : Cert.algebraic_ProjIdeal_ProjRefIdeal := by
  intro m g m' g' _ hagree
  refine ⟨fun c => outArr (Cert.ProjIdeal.Hand.arg0 m c) (Cert.ProjIdeal.Hand.arg1 m c) (Cert.ProjIdeal.Hand.arg2 m c)
    (Cert.ProjIdeal.Hand.arg3 m c) (Cert.ProjIdeal.Hand.arg4 m c) (Cert.ProjIdeal.Hand.arg5 m c), ?_, ?_⟩
  · refine (θ_run _ _ _).mono (fun r h c => ?_) (Cert.ProjIdeal.Hand.run_blocks m g)
    exact ⟨(h.1 c).1.trans (Cert.ProjIdeal.Hand.final m c), (h.1 c).2.2⟩
  · refine (θ_run _ _ _).mono (fun r h c => ?_) (Cert.ProjRefIdeal.Value.run m' g')
    refine ⟨(h c).1.trans ?_, (h c).2⟩
    rw [Cert.ProjRefIdeal.Read.val_main_v32_eq, (hagree c).1, (hagree c).2.1, (hagree c).2.2.1, (hagree c).2.2.2.1, (hagree c).2.2.2.2.1,
      (hagree c).2.2.2.2.2.1]
    exact Cert.ProjRefIdeal.Hand.result _ _ _ _ _ _

/-- The packed words' rewrites. -/
theorem preserves : Cert.preserves_Proj_ProjIdeal :=
  ⟨IdealRules.bf16_pair.bufferStatement _ _, IdealRules.bf16_pair.bufferStatement _ _, IdealRules.bf16_pair.statement _ _,
    IdealRules.bf16_pack.statement _⟩

end Cert.Proj.Value

end
-- ==== Proof.Merge.Frame.lean ====
/- The frame of `Merge`: fifteen inputs, three outputs and four scratch buffers filled and read at each point. No output is named. -/
module

public import proofs.«01_k».proof.Proof.Gen.Merge.Skeleton
public import proofs.«01_k».proof.Proof.Gen.Merge.Launch
public import proofs.«01_k».proof.Proof.Gen.Merge.Points
public import Idealize.ShloMosaic.Lib.Claim
public import Idealize.ShloMosaic.Lib.Pipeline.Frame
public import Idealize.ShloMosaic.Lib.Pipeline.FrameBody
public import Idealize.ShloMosaic.Lib.Pipeline.Regions
public import Idealize.ShloMosaic.Lib.Ring
public import Idealize.ShloMosaic.Lib.Exec
public import Idealize.ShloMosaic.Lib.Tactic

@[expose] public section

set_option maxRecDepth 65536

noncomputable section

namespace Cert.Merge.Hand

open Cert.Merge Cert.Merge.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

abbrev Buffer (S : Shape) (e : EltTy) := Memref sig .tc .vmem S e

variable (m : (ℓ : Loc nD τ sig) → Buf (Elt F) ℓ) (ρ : Dev nD → PrngReg)

/-- A buffer as the region finds it: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body -/

set_option maxHeartbeats 40000000 in
/-- The body leaves the inputs as they were. -/
theorem sound_kernel (c : Dev nD) (E : Set ℕ) (i : grid0.Coords) (arg1 : Buffer S1x1x256x2048 .bf16) (harg1 : arg1.IsWhole) (arg2 : Buffer S1x4x64x2048 .bf16) (harg2 : arg2.IsWhole) (arg3 : Buffer S1x16x16x2048 .bf16) (harg3 : arg3.IsWhole) (arg4 : Buffer S1x1x256x128 .f32) (harg4 : arg4.IsWhole) (arg5 : Buffer S1x4x64x128 .f32) (harg5 : arg5.IsWhole) (arg6 : Buffer S1x16x16x128 .f32) (harg6 : arg6.IsWhole) (arg7 : Buffer S2048x2048 .bf16) (harg7 : arg7.IsWhole) (arg8 : Buffer S256x2048 .f32) (harg8 : arg8.IsWhole) (arg9 : Buffer S1x1x2048 .f32) (harg9 : arg9.IsWhole) (arg10 : Buffer S1x2048 .f32) (harg10 : arg10.IsWhole) (arg11 : Buffer S1x2048 .f32) (harg11 : arg11.IsWhole) (arg12 : Buffer S1x1x2048 .f32) (harg12 : arg12.IsWhole) (arg13 : Buffer S1x1x2048 .f32) (harg13 : arg13.IsWhole) (arg14 : Buffer S2048x128 .f32) (harg14 : arg14.IsWhole) (arg15 : Buffer S1x128 .f32) (harg15 : arg15.IsWhole) (arg16 : Buffer S256x2048 .f32) (harg16 : arg16.IsWhole) (arg17 : Buffer S2048x128 .i32) (harg17 : arg17.IsWhole) (arg18 : Buffer S256x128 .f32) (harg18 : arg18.IsWhole) (arg19 : Buffer S16x256x128 .f32) (harg19 : arg19.IsWhole) (arg20 : Buffer S16x256x128 .f32) (harg20 : arg20.IsWhole) (arg21 : Buffer S256x128 .f32) (harg21 : arg21.IsWhole) (arg22 : Buffer S256x128 .f32) (harg22 : arg22.IsWhole)
    (x0 : Vec F S1x1x256x2048 .bf16) (x1 : Vec F S1x4x64x2048 .bf16) (x2 : Vec F S1x16x16x2048 .bf16) (x3 : Vec F S1x1x256x128 .f32) (x4 : Vec F S1x4x64x128 .f32) (x5 : Vec F S1x16x16x128 .f32) (x6 : Vec F S2048x2048 .bf16) (x7 : Vec F S256x2048 .f32) (x8 : Vec F S1x1x2048 .f32) (x9 : Vec F S1x2048 .f32) (x10 : Vec F S1x2048 .f32) (x11 : Vec F S1x1x2048 .f32) (x12 : Vec F S1x1x2048 .f32) (x13 : Vec F S2048x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_proj_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_proj_merge_eq_skeleton]; unfold cc0_proj_merge_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  iexists _; iexists _; isplitr
  swap; · iexact H21
  ipureintro; rfl

/-! ## The pipeline's proof data -/

/-- Nothing is said of the outputs. -/
def untold (w : Fin cfg0.W) : Bool := decide (15 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Dat.unnamed ⟨15, h⟩ t
    | ⟨16, h⟩ => Dat.unnamed ⟨16, h⟩ t
    | ⟨17, h⟩ => Dat.unnamed ⟨17, h⟩ t
    | ⟨k + 18, h⟩ => absurd h (Nat.not_lt.2 (Nat.le_add_left 18 k))
  Φ _ := Pipeline.ΦA spec0 c
  q _ := fullShare
  owed _ := 0

theorem A_eq (c : Dev nD) (w : Fin cfg0.W) : (dats m 0 c).A w = V m c (Pipeline.arrRef spec0 w) := by
  dsimp only [dats]

/-- An input's staging buffer holds its block at every point. -/
theorem before_block (c : Dev nD) (w : Fin cfg0.W) (hw : (cfg0.win w).isOut = false) (hz : ∀ i, cfg0.idle w i = false)
    (hd : ∀ t t' : Fin cfg0.N, (cfg0.win w).index t = (cfg0.win w).index t' →
      (cfg0.win w).clip (cfg0.grid.coords t) = (cfg0.win w).clip (cfg0.grid.coords t'))
    (hk : ∀ t, (cfg0.win w).cut (cfg0.grid.coords t) ((dats m 0 c).after w t) = (dats m 0 c).blockOf w t) (t : Fin cfg0.N)
    (X : (cfg0.win w).block.Idx → Elt F (cfg0.win w).elt) (hX : ∀ d, (dats m 0 c).fetched w t d = X) (d) : (dats m 0 c).before w t d = X :=
  ((dats m 0 c).before_in_eq_fetched w hw hz hd hk t d).trans (hX d)

abbrev sc0 : Buffer S16x256x128 .f32 := Memref.whole cc0_scratch0
abbrev sc1 : Buffer S16x256x128 .f32 := Memref.whole cc0_scratch1
abbrev sc2 : Buffer S256x128 .f32 := Memref.whole cc0_scratch2
abbrev sc3 : Buffer S256x128 .f32 := Memref.whole cc0_scratch3

/-- The launch's invariant, the scratch buffers owned at some contents. -/
theorem phi_eq (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare d) ∗ (∃ d, owns (c : Thread nD τ) (st0_16 t) fullShare d) ∗ (∃ d, owns (c : Thread nD τ) (st0_17 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ (∃ d, owns (c : Thread nD τ) (st0_15 t) fullShare d) ∗ (∃ d, owns (c : Thread nD τ) (st0_16 t) fullShare d) ∗ (∃ d, owns (c : Thread nD τ) (st0_17 t) fullShare d))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_block m c 0 rfl (fun _ => rfl) (fun _ _ _ => rfl) (fun _ => rfl) t (iblk m c 0 t) (fun _ => rfl), before_block m c 1 rfl (fun _ => rfl) (fun _ _ _ => rfl) (fun _ => rfl) t (iblk m c 1 t) (fun _ => rfl), before_block m c 2 rfl (fun _ => rfl) (fun _ _ _ => rfl) (fun _ => rfl) t (iblk m c 2 t) (fun _ => rfl), before_block m c 3 rfl (fun _ => rfl) (fun _ _ _ => rfl) (fun _ => rfl) t (iblk m c 3 t) (fun _ => rfl), before_block m c 4 rfl (fun _ => rfl) (fun _ _ _ => rfl) (fun _ => rfl) t (iblk m c 4 t) (fun _ => rfl), before_block m c 5 rfl (fun _ => rfl) (fun _ _ _ => rfl) (fun _ => rfl) t (iblk m c 5 t) (fun _ => rfl), before_block m c 6 rfl (fun _ => rfl) (fun _ _ _ => rfl) (fun _ => rfl) t (iblk m c 6 t) (fun _ => rfl), before_block m c 7 rfl (fun _ => rfl) (fun _ _ _ => rfl) (fun _ => rfl) t (iblk m c 7 t) (fun _ => rfl), before_block m c 8 rfl (fun _ => rfl) (fun _ _ _ => rfl) (fun _ => rfl) t (iblk m c 8 t) (fun _ => rfl), before_block m c 9 rfl (fun _ => rfl) (fun _ _ _ => rfl) (fun _ => rfl) t (iblk m c 9 t) (fun _ => rfl), before_block m c 10 rfl (fun _ => rfl) (fun _ _ _ => rfl) (fun _ => rfl) t (iblk m c 10 t) (fun _ => rfl), before_block m c 11 rfl (fun _ => rfl) (fun _ _ _ => rfl) (fun _ => rfl) t (iblk m c 11 t) (fun _ => rfl), before_block m c 12 rfl (fun _ => rfl) (fun _ _ _ => rfl) (fun _ => rfl) t (iblk m c 12 t) (fun _ => rfl), before_block m c 13 rfl (fun _ => rfl) (fun _ _ _ => rfl) (fun _ => rfl) t (iblk m c 13 t) (fun _ => rfl), before_block m c 14 rfl (fun _ => rfl) (fun _ _ _ => rfl) (fun _ => rfl) t (iblk m c 14 t) (fun _ => rfl)]
  rw [show (dats m 0 c).Φ t.succ = Pipeline.ΦA spec0 c from rfl, show (dats m 0 c).Φ t.castSucc = Pipeline.ΦA spec0 c from rfl, phi_eq,
    show (dats m 0 c).owesAt () t.succ = (dats m 0 c).owesAt () t.castSucc from rfl,
    show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl, show (dats m 0 c).after 11 t = iblk m c 11 t from rfl, show (dats m 0 c).after 12 t = iblk m c 12 t from rfl, show (dats m 0 c).after 13 t = iblk m c 13 t from rfl, show (dats m 0 c).after 14 t = iblk m c 14 t from rfl]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15, H16, H17⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, H16, H17, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ untold := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main : θ_run defs (onTc (τ := τ) (main (F := F))) (s₀ m ρ)
    (fun r => (Pipeline.RDat.FramePost cfg0 (fun c => (dats m 0 c).toRForget untold) (V m)) r ∧ r.2.sem = fun _ => 0) :=
  Pipeline.θ_run_frame_forget (Q' := _) cfgs (dats m) (0 : Fin 1) launch0 defs₀ Variants.none untold m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run leaves the arguments as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  (θ_run defs _ _).mono (fun r h => ⟨fun c => by
    have key : ∀ w : Fin cfg0.W, (cfg0.win w).isOut = false → untold w = false →
        r.2.mem ((c.tc : Thread nD τ).loc (Pipeline.arrRef spec0 w)) = m ((c.tc : Thread nD τ).loc (Pipeline.arrRef spec0 w)) := fun w hw hu =>
      (((dats m 0 c).toRForget_arrAt_iff (fgt := untold) (w := w) hu _ _).1 ((h.1 c).1 w)).trans (((dats m 0 c).arrAt_in w hw _).trans (A_eq m c w))
    exact ⟨key 0 rfl rfl, key 1 rfl rfl, key 2 rfl rfl, key 3 rfl rfl, key 4 rfl rfl, key 5 rfl rfl, key 6 rfl rfl, key 7 rfl rfl, key 8 rfl rfl, key 9 rfl rfl, key 10 rfl rfl, key 11 rfl rfl, key 12 rfl rfl, key 13 rfl rfl, key 14 rfl rfl⟩, h.2⟩) (run_main m ρ)

end Cert.Merge.Hand

end
-- ==== Proof.Merge.Spread.lean ====
/- The residue classes, stored row by row into a scratch buffer, leave the tokens in order. -/
module

public import proofs.«01_k».proof.Proof.Gen.MergeIdeal.Skeleton
public import Idealize.ShloMosaic.Lib.Pointwise
public import Idealize.ShloMosaic.Lib.Pipeline.ValueKit
public import Idealize.ShloMosaic.Lib.Pipeline.FrameBody

@[expose] public section

set_option maxRecDepth 16384

noncomputable section

namespace Cert.MergeIdeal.Hand

open Cert.MergeIdeal Cert.MergeIdeal.Gen Idealize.ShloMosaic Idealize.ShloMosaic.View

/-- The four classes' rows of each head, in the tokens' order. -/
def heads4 (X : Vec Ideal S1x4x64x2048 .bf16) : Vec Ideal S16x256x128 .f32 := fun y =>
  X (ix4 0 ⟨(y 1).val % 4, Nat.mod_lt _ (by decide)⟩ ⟨(y 1).val / 4, by have h : (y 1).val < 256 := (y 1).isLt; omega⟩
    ⟨128 * (y 0).val + (y 2).val, by have h : (y 0).val < 16 := (y 0).isLt; have h' : (y 2).val < 128 := (y 2).isLt; omega⟩)

/-- The sixteen classes' rows of each head, in the tokens' order. -/
def heads16 (X : Vec Ideal S1x16x16x2048 .bf16) : Vec Ideal S16x256x128 .f32 := fun y =>
  X (ix4 0 ⟨(y 1).val % 16, Nat.mod_lt _ (by decide)⟩ ⟨(y 1).val / 16, by have h : (y 1).val < 256 := (y 1).isLt; omega⟩
    ⟨128 * (y 0).val + (y 2).val, by have h : (y 0).val < 16 := (y 0).isLt; have h' : (y 2).val < 128 := (y 2).isLt; omega⟩)

/-- The four classes' log-sum-exps, in the tokens' order. -/
def lanes4 (X : Vec Ideal S1x4x64x128 .f32) : Vec Ideal S256x128 .f32 := fun y =>
  X (ix4 0 ⟨(y 0).val % 4, Nat.mod_lt _ (by decide)⟩ ⟨(y 0).val / 4, by have h : (y 0).val < 256 := (y 0).isLt; omega⟩ (y 1))

/-- The sixteen classes' log-sum-exps, in the tokens' order. -/
def lanes16 (X : Vec Ideal S1x16x16x128 .f32) : Vec Ideal S256x128 .f32 := fun y =>
  X (ix4 0 ⟨(y 0).val % 16, Nat.mod_lt _ (by decide)⟩ ⟨(y 0).val / 16, by have h : (y 0).val < 256 := (y 0).isLt; omega⟩ (y 1))

theorem slab4 (v : Vec Ideal S1x1x64x128 .bf16) (p : Fin 64) (l : Fin 128) : k0_pay70 (F := Ideal) v (ix3 0 p l) = v (ix4 0 0 p l) := by
  pointwise [k0_pay70]

theorem slab16 (v : Vec Ideal S1x1x16x128 .bf16) (p : Fin 16) (l : Fin 128) : k0_pay352 (F := Ideal) v (ix3 0 p l) = v (ix4 0 0 p l) := by
  pointwise [k0_pay352]

theorem lane4 (v : Vec Ideal S1x1x64x128 .f32) (p : Fin 64) (l : Fin 128) : k0_pay356 (F := Ideal) v (ix2 p l) = v (ix4 0 0 p l) := by
  pointwise [k0_pay356]

theorem lane16 (v : Vec Ideal S1x1x16x128 .f32) (p : Fin 16) (l : Fin 128) : k0_pay376 (F := Ideal) v (ix2 p l) = v (ix4 0 0 p l) := by
  pointwise [k0_pay376]

/-- A store of one class's rows of one head. -/
theorem store4 {κ sp} (w : View sig κ sp S1x4x64x2048 .bf16) (f : w.ty.Contents (Elt Ideal)) (y : S16x256x128.Idx) (h r o : ℕ) (hi hs hb)
    (ho : o = 128 * h) (hr : r < 4) : RectAt (Val := Elt Ideal) (e := .f32) y (⟨⟨![h, r, 0], S1x64x128.size, ![1, 4, 1], hi⟩, hs⟩ : Rect S16x256x128)
      (k0_pay70 (F := Ideal) (w.readAt (Elt Ideal) (Rect.unit (s := S1x4x64x2048) ![0, r, 0, o] S1x1x64x128.size hb).toLoadRect f))
      (heads4 (w.read (Elt Ideal) f) y) := by
  subst ho
  intro x hx
  obtain ⟨p, l, rfl⟩ : ∃ (p : Fin 64) (l : Fin 128), x = (ix3 0 p l : S1x64x128.Idx) := ⟨x 1, x 2, by
    rw [eq_ix3 (n0 := 1) (n1 := 64) (n2 := 128) x]; congr 1; exact Subsingleton.elim (α := Fin 1) _ _⟩
  subst hx
  rw [slab4]
  refine congrArg (w.read (Elt Ideal) f) ?_
  have hp : p.val < 64 := p.isLt
  funext a
  refine Fin.ext ?_
  match a with
  | ⟨0, _⟩ => rfl
  | ⟨1, _⟩ => show r + 1 * 0 = (r + 4 * p.val) % 4; omega
  | ⟨2, _⟩ => show 0 + 1 * p.val = (r + 4 * p.val) / 4; omega
  | ⟨3, _⟩ => show 128 * h + 1 * l.val = 128 * (h + 1 * 0) + (0 + 1 * l.val); omega

theorem store16 {κ sp} (w : View sig κ sp S1x16x16x2048 .bf16) (f : w.ty.Contents (Elt Ideal)) (y : S16x256x128.Idx) (h r o : ℕ) (hi hs hb)
    (ho : o = 128 * h) (hr : r < 16) : RectAt (Val := Elt Ideal) (e := .f32) y (⟨⟨![h, r, 0], S1x16x128.size, ![1, 16, 1], hi⟩, hs⟩ : Rect S16x256x128)
      (k0_pay352 (F := Ideal) (w.readAt (Elt Ideal) (Rect.unit (s := S1x16x16x2048) ![0, r, 0, o] S1x1x16x128.size hb).toLoadRect f))
      (heads16 (w.read (Elt Ideal) f) y) := by
  subst ho
  intro x hx
  obtain ⟨p, l, rfl⟩ : ∃ (p : Fin 16) (l : Fin 128), x = (ix3 0 p l : S1x16x128.Idx) := ⟨x 1, x 2, by
    rw [eq_ix3 (n0 := 1) (n1 := 16) (n2 := 128) x]; congr 1; exact Subsingleton.elim (α := Fin 1) _ _⟩
  subst hx
  rw [slab16]
  refine congrArg (w.read (Elt Ideal) f) ?_
  have hp : p.val < 16 := p.isLt
  funext a
  refine Fin.ext ?_
  match a with
  | ⟨0, _⟩ => rfl
  | ⟨1, _⟩ => show r + 1 * 0 = (r + 16 * p.val) % 16; omega
  | ⟨2, _⟩ => show 0 + 1 * p.val = (r + 16 * p.val) / 16; omega
  | ⟨3, _⟩ => show 128 * h + 1 * l.val = 128 * (h + 1 * 0) + (0 + 1 * l.val); omega

/-- A store of one class's log-sum-exps. -/
theorem line4 {κ sp} (w : View sig κ sp S1x4x64x128 .f32) (f : w.ty.Contents (Elt Ideal)) (y : S256x128.Idx) (r : ℕ) (hi hs hb)
    (hr : r < 4) : RectAt (Val := Elt Ideal) (e := .f32) y (⟨⟨![r, 0], S64x128.size, ![4, 1], hi⟩, hs⟩ : Rect S256x128)
      (k0_pay356 (F := Ideal) (w.readAt (Elt Ideal) (Rect.unit (s := S1x4x64x128) ![0, r, 0, 0] S1x1x64x128.size hb).toLoadRect f))
      (lanes4 (w.read (Elt Ideal) f) y) := by
  intro x hx
  obtain ⟨p, l, rfl⟩ : ∃ (p : Fin 64) (l : Fin 128), x = (ix2 p l : S64x128.Idx) := ⟨x 0, x 1, eq_ix2 (n0 := 64) (n1 := 128) x⟩
  subst hx
  rw [lane4]
  refine congrArg (w.read (Elt Ideal) f) ?_
  have hp : p.val < 64 := p.isLt
  funext a
  refine Fin.ext ?_
  match a with
  | ⟨0, _⟩ => rfl
  | ⟨1, _⟩ => show r + 1 * 0 = (r + 4 * p.val) % 4; omega
  | ⟨2, _⟩ => show 0 + 1 * p.val = (r + 4 * p.val) / 4; omega
  | ⟨3, _⟩ => rfl

theorem line16 {κ sp} (w : View sig κ sp S1x16x16x128 .f32) (f : w.ty.Contents (Elt Ideal)) (y : S256x128.Idx) (r : ℕ) (hi hs hb)
    (hr : r < 16) : RectAt (Val := Elt Ideal) (e := .f32) y (⟨⟨![r, 0], S16x128.size, ![16, 1], hi⟩, hs⟩ : Rect S256x128)
      (k0_pay376 (F := Ideal) (w.readAt (Elt Ideal) (Rect.unit (s := S1x16x16x128) ![0, r, 0, 0] S1x1x16x128.size hb).toLoadRect f))
      (lanes16 (w.read (Elt Ideal) f) y) := by
  intro x hx
  obtain ⟨p, l, rfl⟩ : ∃ (p : Fin 16) (l : Fin 128), x = (ix2 p l : S16x128.Idx) := ⟨x 0, x 1, eq_ix2 (n0 := 16) (n1 := 128) x⟩
  subst hx
  rw [lane16]
  refine congrArg (w.read (Elt Ideal) f) ?_
  have hp : p.val < 16 := p.isLt
  funext a
  refine Fin.ext ?_
  match a with
  | ⟨0, _⟩ => rfl
  | ⟨1, _⟩ => show r + 1 * 0 = (r + 16 * p.val) % 16; omega
  | ⟨2, _⟩ => show 0 + 1 * p.val = (r + 16 * p.val) / 16; omega
  | ⟨3, _⟩ => rfl

/-- Where the class of `n` spaced rows beginning at row `r` of head `h` is stored. -/
abbrev slabRect (n k : ℕ) (hn : n * k = 256) (hk : 0 < n) (h : Fin 16) (r : Fin n) : Rect S16x256x128 :=
  ⟨⟨![h.val, r.val, 0], (⟨3, ![1, k, 128]⟩ : Shape).size, ![1, n, 1], by
    intro a
    match a with
    | ⟨0, _⟩ => exact Or.inr (by show h.val + 1 * (1 - 1) < 16; omega)
    | ⟨1, _⟩ =>
      refine Or.inr ?_
      show r.val + n * (k - 1) < 256
      rcases k with _ | k
      · simp at hn
      · have : n * (k + 1) = n * k + n := Nat.mul_succ n k
        have := r.isLt
        simp only [Nat.add_sub_cancel]
        omega
    | ⟨2, _⟩ => exact Or.inr (by show 0 + 1 * (128 - 1) < 128; omega)⟩, by
    intro a
    match a with
    | ⟨0, _⟩ => exact Nat.one_pos
    | ⟨1, _⟩ => exact hk
    | ⟨2, _⟩ => exact Nat.one_pos⟩

theorem mem_slabRect (n k : ℕ) (hn : n * k = 256) (hk : 0 < n) (y : S16x256x128.Idx) :
    y ∈ (slabRect n k hn hk (y 0) ⟨(y 1).val % n, Nat.mod_lt _ hk⟩).set := by
  have h1 : (y 1).val < 256 := (y 1).isLt
  refine (LoadRect.mem_set _).2 fun a => ?_
  match a with
  | ⟨0, _⟩ => exact ⟨0, Nat.one_pos, by show (y 0).val = (y 0).val + 1 * 0; omega⟩
  | ⟨1, _⟩ => exact ⟨(y 1).val / n, (Nat.div_lt_iff_lt_mul hk).2 (h1.trans_eq (hn.symm.trans (Nat.mul_comm n k))), (Nat.mod_add_div _ _).symm⟩
  | ⟨2, _⟩ => exact ⟨(y 2).val, (y 2).isLt, by show (y 2).val = 0 + 1 * (y 2).val; omega⟩

/-- Where the class of `n` spaced rows beginning at row `r` is stored. -/
abbrev lineRect (n k : ℕ) (hn : n * k = 256) (hk : 0 < n) (r : Fin n) : Rect S256x128 :=
  ⟨⟨![r.val, 0], (⟨2, ![k, 128]⟩ : Shape).size, ![n, 1], by
    intro a
    match a with
    | ⟨0, _⟩ =>
      refine Or.inr ?_
      show r.val + n * (k - 1) < 256
      rcases k with _ | k
      · simp at hn
      · have : n * (k + 1) = n * k + n := Nat.mul_succ n k
        have := r.isLt
        simp only [Nat.add_sub_cancel]
        omega
    | ⟨1, _⟩ => exact Or.inr (by show 0 + 1 * (128 - 1) < 128; omega)⟩, by
    intro a
    match a with
    | ⟨0, _⟩ => exact hk
    | ⟨1, _⟩ => exact Nat.one_pos⟩

theorem mem_lineRect (n k : ℕ) (hn : n * k = 256) (hk : 0 < n) (y : S256x128.Idx) :
    y ∈ (lineRect n k hn hk ⟨(y 0).val % n, Nat.mod_lt _ hk⟩).set := by
  have h1 : (y 0).val < 256 := (y 0).isLt
  refine (LoadRect.mem_set _).2 fun a => ?_
  match a with
  | ⟨0, _⟩ => exact ⟨(y 0).val / n, (Nat.div_lt_iff_lt_mul hk).2 (h1.trans_eq (hn.symm.trans (Nat.mul_comm n k))), (Nat.mod_add_div _ _).symm⟩
  | ⟨1, _⟩ => exact ⟨(y 1).val, (y 1).isLt, by show (y 1).val = 0 + 1 * (y 1).val; omega⟩

/-- Writes that agree with `G` at every index and reach every index leave `G`. -/
theorem read_writes_of {κ sp S e} (v : View sig κ sp S e) (f : v.ty.Contents (Elt Ideal)) (L : List (Piece (Elt Ideal) S e)) (G : S.Idx → Elt Ideal e)
    (hc : ∀ y, ∃ r ∈ L.map (fun p => p.1), y ∈ r.set) (ha : ∀ y, AllAt L y (G y)) : v.read (Elt Ideal) (v.writes (Elt Ideal) f L) = G := by
  have hc' : ∀ y, ∃ p ∈ L, y ∈ p.1.set := fun y => by
    obtain ⟨r, hr, hy⟩ := hc y
    obtain ⟨p, hp, rfl⟩ := List.mem_map.1 hr
    exact ⟨p, hp, hy⟩
  rw [read_writes_eq_canon v f L hc']
  exact funext fun y => canon_eq_of_allAt L y _ (hc' y) (ha y)

theorem slabs_cover (n k : ℕ) (hn : n * k = 256) (hk : 0 < n) (R : List (Rect S16x256x128))
    (hR : R = (List.range (n * 16)).map fun j => slabRect n k hn hk ⟨15 - j % 16, by omega⟩ ⟨n - 1 - j / 16, by omega⟩) (y : S16x256x128.Idx) :
    ∃ r ∈ R, y ∈ r.set := by
  have h0 : (y 0).val < 16 := (y 0).isLt
  have hm : (y 1).val % n < n := Nat.mod_lt _ hk
  refine ⟨_, ?_, mem_slabRect n k hn hk y⟩
  rw [hR]
  refine List.mem_map.2 ⟨16 * (n - 1 - (y 1).val % n) + (15 - (y 0).val), List.mem_range.2 (by omega), ?_⟩
  have e0 : (⟨15 - (16 * (n - 1 - (y 1).val % n) + (15 - (y 0).val)) % 16, by omega⟩ : Fin 16) = y 0 := Fin.ext (by show 15 - _ = (y 0).val; omega)
  have e1 : (⟨n - 1 - (16 * (n - 1 - (y 1).val % n) + (15 - (y 0).val)) / 16, by omega⟩ : Fin n) = ⟨(y 1).val % n, hm⟩ := Fin.ext (by show n - 1 - _ = (y 1).val % n; omega)
  rw [e0, e1]

theorem lines_cover (n k : ℕ) (hn : n * k = 256) (hk : 0 < n) (R : List (Rect S256x128))
    (hR : R = (List.range n).map fun j => lineRect n k hn hk ⟨n - 1 - j, by omega⟩) (y : S256x128.Idx) : ∃ r ∈ R, y ∈ r.set := by
  have hm : (y 0).val % n < n := Nat.mod_lt _ hk
  refine ⟨_, ?_, mem_lineRect n k hn hk y⟩
  rw [hR]
  refine List.mem_map.2 ⟨n - 1 - (y 0).val % n, List.mem_range.2 (by omega), ?_⟩
  have e1 : (⟨n - 1 - (n - 1 - (y 0).val % n), by omega⟩ : Fin n) = ⟨(y 0).val % n, hm⟩ := Fin.ext (by show n - 1 - _ = (y 0).val % n; omega)
  rw [e1]

/-- The stores of the four classes' rows, last first: the heads of each class in turn. -/
def slabs4 {κ sp} (w : View sig κ sp S1x4x64x2048 .bf16) (f : w.ty.Contents (Elt Ideal)) : List (Piece (Elt Ideal) S16x256x128 .f32) :=
  (List.range (4 * 16)).map fun j => ⟨slabRect 4 64 rfl (by decide) ⟨15 - j % 16, by omega⟩ ⟨3 - j / 16, by omega⟩,
    k0_pay70 (F := Ideal) (w.readAt (Elt Ideal) (Rect.unit (s := S1x4x64x2048) ![0, 3 - j / 16, 0, 128 * (15 - j % 16)] S1x1x64x128.size (by
      intro a
      match a with
      | ⟨0, _⟩ => show 0 + 1 ≤ 1; decide
      | ⟨1, _⟩ => show 3 - j / 16 + 1 ≤ 4; omega
      | ⟨2, _⟩ => show 0 + 64 ≤ 64; decide
      | ⟨3, _⟩ => show 128 * (15 - j % 16) + 128 ≤ 2048; omega)).toLoadRect f)⟩

/-- The stores of the sixteen classes' rows, last first: the heads of each class in turn. -/
def slabs16 {κ sp} (w : View sig κ sp S1x16x16x2048 .bf16) (f : w.ty.Contents (Elt Ideal)) : List (Piece (Elt Ideal) S16x256x128 .f32) :=
  (List.range (16 * 16)).map fun j => ⟨slabRect 16 16 rfl (by decide) ⟨15 - j % 16, by omega⟩ ⟨15 - j / 16, by omega⟩,
    k0_pay352 (F := Ideal) (w.readAt (Elt Ideal) (Rect.unit (s := S1x16x16x2048) ![0, 15 - j / 16, 0, 128 * (15 - j % 16)] S1x1x16x128.size (by
      intro a
      match a with
      | ⟨0, _⟩ => show 0 + 1 ≤ 1; decide
      | ⟨1, _⟩ => show 15 - j / 16 + 1 ≤ 16; omega
      | ⟨2, _⟩ => show 0 + 16 ≤ 16; decide
      | ⟨3, _⟩ => show 128 * (15 - j % 16) + 128 ≤ 2048; omega)).toLoadRect f)⟩

/-- The stores of the four classes' log-sum-exps, last first. -/
def lines4 {κ sp} (w : View sig κ sp S1x4x64x128 .f32) (f : w.ty.Contents (Elt Ideal)) : List (Piece (Elt Ideal) S256x128 .f32) :=
  (List.range 4).map fun j => ⟨lineRect 4 64 rfl (by decide) ⟨3 - j, by omega⟩,
    k0_pay356 (F := Ideal) (w.readAt (Elt Ideal) (Rect.unit (s := S1x4x64x128) ![0, 3 - j, 0, 0] S1x1x64x128.size (by
      intro a
      match a with
      | ⟨0, _⟩ => show 0 + 1 ≤ 1; decide
      | ⟨1, _⟩ => show 3 - j + 1 ≤ 4; omega
      | ⟨2, _⟩ => show 0 + 64 ≤ 64; decide
      | ⟨3, _⟩ => show 0 + 128 ≤ 128; decide)).toLoadRect f)⟩

/-- The stores of the sixteen classes' log-sum-exps, last first. -/
def lines16 {κ sp} (w : View sig κ sp S1x16x16x128 .f32) (f : w.ty.Contents (Elt Ideal)) : List (Piece (Elt Ideal) S256x128 .f32) :=
  (List.range 16).map fun j => ⟨lineRect 16 16 rfl (by decide) ⟨15 - j, by omega⟩,
    k0_pay376 (F := Ideal) (w.readAt (Elt Ideal) (Rect.unit (s := S1x16x16x128) ![0, 15 - j, 0, 0] S1x1x16x128.size (by
      intro a
      match a with
      | ⟨0, _⟩ => show 0 + 1 ≤ 1; decide
      | ⟨1, _⟩ => show 15 - j + 1 ≤ 16; omega
      | ⟨2, _⟩ => show 0 + 16 ≤ 16; decide
      | ⟨3, _⟩ => show 0 + 128 ≤ 128; decide)).toLoadRect f)⟩

theorem read_slabs4 {κ sp κ' sp'} (v : View sig κ' sp' S16x256x128 .f32) (f' : v.ty.Contents (Elt Ideal))
    (w : View sig κ sp S1x4x64x2048 .bf16) (f : w.ty.Contents (Elt Ideal)) (L) (hL : L = slabs4 w f) :
    v.read (Elt Ideal) (v.writes (Elt Ideal) f' L) = heads4 (w.read (Elt Ideal) f) := by
  subst hL
  refine read_writes_of v f' _ _ (slabs_cover 4 64 rfl (by decide) _ (by rw [slabs4, List.map_map]; rfl)) fun y p hp => ?_
  obtain ⟨j, hj, rfl⟩ := List.mem_map.1 hp
  exact store4 w f y _ _ _ _ _ _ rfl (by omega)

theorem read_slabs16 {κ sp κ' sp'} (v : View sig κ' sp' S16x256x128 .f32) (f' : v.ty.Contents (Elt Ideal))
    (w : View sig κ sp S1x16x16x2048 .bf16) (f : w.ty.Contents (Elt Ideal)) (L) (hL : L = slabs16 w f) :
    v.read (Elt Ideal) (v.writes (Elt Ideal) f' L) = heads16 (w.read (Elt Ideal) f) := by
  subst hL
  refine read_writes_of v f' _ _ (slabs_cover 16 16 rfl (by decide) _ (by rw [slabs16, List.map_map]; rfl)) fun y p hp => ?_
  obtain ⟨j, hj, rfl⟩ := List.mem_map.1 hp
  exact store16 w f y _ _ _ _ _ _ rfl (by omega)

theorem read_lines4 {κ sp κ' sp'} (v : View sig κ' sp' S256x128 .f32) (f' : v.ty.Contents (Elt Ideal))
    (w : View sig κ sp S1x4x64x128 .f32) (f : w.ty.Contents (Elt Ideal)) (L) (hL : L = lines4 w f) :
    v.read (Elt Ideal) (v.writes (Elt Ideal) f' L) = lanes4 (w.read (Elt Ideal) f) := by
  subst hL
  refine read_writes_of v f' _ _ (lines_cover 4 64 rfl (by decide) _ (by rw [lines4, List.map_map]; rfl)) fun y p hp => ?_
  obtain ⟨j, hj, rfl⟩ := List.mem_map.1 hp
  exact line4 w f y _ _ _ _ (by omega)

theorem read_lines16 {κ sp κ' sp'} (v : View sig κ' sp' S256x128 .f32) (f' : v.ty.Contents (Elt Ideal))
    (w : View sig κ sp S1x16x16x128 .f32) (f : w.ty.Contents (Elt Ideal)) (L) (hL : L = lines16 w f) :
    v.read (Elt Ideal) (v.writes (Elt Ideal) f' L) = lanes16 (w.read (Elt Ideal) f) := by
  subst hL
  refine read_writes_of v f' _ _ (lines_cover 16 16 rfl (by decide) _ (by rw [lines16, List.map_map]; rfl)) fun y p hp => ?_
  obtain ⟨j, hj, rfl⟩ := List.mem_map.1 hp
  exact line16 w f y _ _ _ _ (by omega)

/-- One store of the whole buffer leaves what was stored. -/
theorem read_whole {κ sp} (w : View sig κ sp S256x2048 .f32) (f : w.ty.Contents (Elt Ideal)) (p : Vec Ideal S256x2048 .f32) (hb) :
    w.read (Elt Ideal) (w.writes (Elt Ideal) f [⟨Rect.unit (s := S256x2048) ![0, 0] S256x2048.size hb, p⟩]) = p := by
  refine read_writes_of w f _ p (fun y => ⟨_, List.mem_singleton_self _, ?_⟩) fun y => View.allAt_cons _ _ _ (fun x hx => ?_) (View.allAt_nil _ _)
  · refine (LoadRect.mem_set _).2 fun a => ?_
    match a with
    | ⟨0, _⟩ => exact ⟨(y 0).val, (y 0).isLt, by show (y 0).val = 0 + 1 * (y 0).val; omega⟩
    | ⟨1, _⟩ => exact ⟨(y 1).val, (y 1).isLt, by show (y 1).val = 0 + 1 * (y 1).val; omega⟩
  · subst hx
    refine congrArg p (funext fun a => Fin.ext ?_)
    match a with
    | ⟨0, _⟩ => show (x 0).val = 0 + 1 * (x 0).val; omega
    | ⟨1, _⟩ => show (x 1).val = 0 + 1 * (x 1).val; omega

end Cert.MergeIdeal.Hand

end
-- ==== Proof.Merge.FrameIdeal.lean ====
/- The frame of `MergeIdeal`: fifteen inputs, three outputs and four scratch buffers filled and read at each point. The rows' window is named, the other two outputs are not. -/
module

public import proofs.«01_k».proof.Proof.Merge.Spread
public import proofs.«01_k».proof.Proof.Gen.MergeIdeal.Launch
public import proofs.«01_k».proof.Proof.Gen.MergeIdeal.Points
public import Idealize.ShloMosaic.Lib.Claim
public import Idealize.ShloMosaic.Lib.Pipeline.Frame
public import Idealize.ShloMosaic.Lib.Pipeline.FrameBody
public import Idealize.ShloMosaic.Lib.Pipeline.Regions
public import Idealize.ShloMosaic.Lib.Ring
public import Idealize.ShloMosaic.Lib.Exec
public import Idealize.ShloMosaic.Lib.Tactic

@[expose] public section

set_option maxRecDepth 65536

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

abbrev Buffer (S : Shape) (e : EltTy) := Memref sig .tc .vmem S e

variable (m : (ℓ : Loc nD τ sig) → Buf (Elt Ideal) ℓ) (ρ : Dev nD → PrngReg)

/-- A buffer as the region finds it: as launched. -/
abbrev V (c : Dev nD) (b : Ref sig .tc) : Buf (Elt Ideal) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := Ideal)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-! ## What the body leaves in the rows' window -/

/-- The rows of one class and head, weighted: the head's lane of the weights, by the head's rows. -/
abbrev weigh (h : ℕ) (hs : Shape.Slices S256x128 ![0, h] S256x1) (w u : FVec Ideal S256x128 .f32) : FVec Ideal S256x128 .f32 :=
  mulf (broadcastTo S256x128 (extractStridedSlice S256x1 ![0, h] w hs) broadcasts_S256x1_S256x128) u

/-- One head's rows: the three branches, weighted and added. -/
abbrev mixed (h : ℕ) (hs : Shape.Slices S256x128 ![0, h] S256x1) (w0 w1 w2 : FVec Ideal S256x128 .f32) (a : Vec Ideal S1x1x256x128 .bf16)
    (b c : Vec Ideal S1x256x128 .f32) : FVec Ideal S256x128 .bf16 :=
  truncf .bf16 (addf (addf (weigh h hs w0 (extf .f32 (shapeCast S256x128 a shapeCasts_S1x1x256x128_S256x128) bitsLt_bf16_f32))
    (weigh h hs w1 (shapeCast S256x128 b shapeCasts_S1x256x128_S256x128))) (weigh h hs w2 (shapeCast S256x128 c shapeCasts_S1x256x128_S256x128))) bitsLt_bf16_f32

theorem slices_head : ∀ h : Fin 16, Shape.Slices S256x128 ![0, h.val] S256x1 := by decide

theorem inb_chunk : ∀ (h : Fin 16) (a : Fin 4), (![0, 0, 0, 128 * h.val] : Fin 4 → ℕ) a + S1x1x256x128.size a ≤ S1x1x256x2048.size a := by decide

theorem inb_slab : ∀ (h : Fin 16) (a : Fin 3), (![h.val, 0, 0] : Fin 3 → ℕ) a + S1x256x128.size a ≤ S16x256x128.size a := by decide

/-- One head's rows. -/
def headRows (w0 w1 w2 : FVec Ideal S256x128 .f32) (a : Vec Ideal S1x1x256x2048 .bf16) (b c : Vec Ideal S16x256x128 .f32) (h : Fin 16) : S256x128.Idx → Ideal .bf16 :=
  mixed h.val (slices_head h) w0 w1 w2 (View.ld a (Rect.unit (s := S1x1x256x2048) ![0, 0, 0, 128 * h.val] S1x1x256x128.size (inb_chunk h)))
    (View.ld b (Rect.unit (s := S16x256x128) ![h.val, 0, 0] S1x256x128.size (inb_slab h)))
    (View.ld c (Rect.unit (s := S16x256x128) ![h.val, 0, 0] S1x256x128.size (inb_slab h)))

/-- The rows, from the weights and the branches' rows of every head. -/
def joinedRows (w0 w1 w2 : FVec Ideal S256x128 .f32) (a : Vec Ideal S1x1x256x2048 .bf16) (b c : Vec Ideal S16x256x128 .f32) : FVec Ideal S256x2048 .bf16 :=
  concatenate S256x2048 1 (List.ofFn fun h : Fin 16 => (⟨S256x128, headRows w0 w1 w2 a b c h⟩ : (s : Shape) × (s.Idx → Ideal .bf16)))
    concatenates_S256x128_S256x128_S256x128_S256x128_S256x128_S256x128_S256x128_S256x128_S256x128_S256x128_S256x128_S256x128_S256x128_S256x128_S256x128_S256x128_S256x2048_d1

/-- The sub-layer's rows, from what the scratch buffers hold. -/
def rowsOf (a : Vec Ideal S1x1x256x2048 .bf16) (b c : Vec Ideal S16x256x128 .f32) (l0 : Vec Ideal S1x1x256x128 .f32) (l1 l2 : Vec Ideal S256x128 .f32)
    (W : Vec Ideal S2048x2048 .bf16) (x : Vec Ideal S256x2048 .f32) (g : Vec Ideal S1x1x2048 .f32) (u v : Vec Ideal S1x2048 .f32) : FVec Ideal S256x2048 .f32 :=
  let m0 := (View.ld l0 (Rect.unit (s := S1x1x256x128) ![0, 0, 0, 0] S1x1x256x128.size inb_S1x1x256x128_S1x1x256x128_0_0_0_0))
  let m1 := (View.ld l1 (Rect.unit (s := S256x128) ![0, 0] S256x128.size inb_S256x128_S256x128_0_0))
  let m2 := (View.ld l2 (Rect.unit (s := S256x128) ![0, 0] S256x128.size inb_S256x128_S256x128_0_0))
  let e0 := k0_pay379 m0 m1 m2
  let e1 := k0_pay380 m0 m1 m2
  let e2 := k0_pay381 m0 m1 m2
  k0_pay413 (matmul (φ₂ := .bf16) dot_S256x2048_S2048x2048_S256x2048_1_0_0_1_n_n none (joinedRows (k0_pay384 e0 e1 e2) (k0_pay385 e0 e1 e2) (k0_pay386 e0 e1 e2) a b c) (View.ld W (Rect.unit (s := S2048x2048) ![0, 0] S2048x2048.size inb_S2048x2048_S2048x2048_0_0))
    (constant S256x2048 .f32 0x00000000#32)) (View.ld x (Rect.unit (s := S256x2048) ![0, 0] S256x2048.size inb_S256x2048_S256x2048_0_0)) (View.ld g (Rect.unit (s := S1x1x2048) ![0, 0, 0] S1x1x2048.size inb_S1x1x2048_S1x1x2048_0_0_0)) (View.ld u (Rect.unit (s := S1x2048) ![0, 0] S1x2048.size inb_S1x2048_S1x2048_0_0)) (View.ld v (Rect.unit (s := S1x2048) ![0, 0] S1x2048.size inb_S1x2048_S1x2048_0_0))

/-- The sub-layer's rows. -/
def rows (x0 : Vec Ideal S1x1x256x2048 .bf16) (x1 : Vec Ideal S1x4x64x2048 .bf16) (x2 : Vec Ideal S1x16x16x2048 .bf16) (x3 : Vec Ideal S1x1x256x128 .f32) (x4 : Vec Ideal S1x4x64x128 .f32) (x5 : Vec Ideal S1x16x16x128 .f32) (x6 : Vec Ideal S2048x2048 .bf16) (x7 : Vec Ideal S256x2048 .f32) (x8 : Vec Ideal S1x1x2048 .f32) (x9 : Vec Ideal S1x2048 .f32) (x10 : Vec Ideal S1x2048 .f32) : Vec Ideal S256x2048 .f32 :=
  rowsOf x0 (heads4 x1) (heads16 x2) x3 (lanes4 x4) (lanes16 x5) x6 x7 x8 x9 x10

/-! ## The body -/

set_option maxHeartbeats 40000000 in
/-- The body leaves the inputs as they were and the rows' window at the value above. -/
theorem sound_kernel (c : Dev nD) (E : Set ℕ) (i : grid0.Coords) (arg1 : Buffer S1x1x256x2048 .bf16) (harg1 : arg1.IsWhole) (arg2 : Buffer S1x4x64x2048 .bf16) (harg2 : arg2.IsWhole) (arg3 : Buffer S1x16x16x2048 .bf16) (harg3 : arg3.IsWhole) (arg4 : Buffer S1x1x256x128 .f32) (harg4 : arg4.IsWhole) (arg5 : Buffer S1x4x64x128 .f32) (harg5 : arg5.IsWhole) (arg6 : Buffer S1x16x16x128 .f32) (harg6 : arg6.IsWhole) (arg7 : Buffer S2048x2048 .bf16) (harg7 : arg7.IsWhole) (arg8 : Buffer S256x2048 .f32) (harg8 : arg8.IsWhole) (arg9 : Buffer S1x1x2048 .f32) (harg9 : arg9.IsWhole) (arg10 : Buffer S1x2048 .f32) (harg10 : arg10.IsWhole) (arg11 : Buffer S1x2048 .f32) (harg11 : arg11.IsWhole) (arg12 : Buffer S1x1x2048 .f32) (harg12 : arg12.IsWhole) (arg13 : Buffer S1x1x2048 .f32) (harg13 : arg13.IsWhole) (arg14 : Buffer S2048x128 .f32) (harg14 : arg14.IsWhole) (arg15 : Buffer S1x128 .f32) (harg15 : arg15.IsWhole) (arg16 : Buffer S256x2048 .f32) (harg16 : arg16.IsWhole) (arg17 : Buffer S2048x2x128 .bf16) (harg17 : arg17.IsWhole) (arg18 : Buffer S256x128 .f32) (harg18 : arg18.IsWhole) (arg19 : Buffer S16x256x128 .f32) (harg19 : arg19.IsWhole) (arg20 : Buffer S16x256x128 .f32) (harg20 : arg20.IsWhole) (arg21 : Buffer S256x128 .f32) (harg21 : arg21.IsWhole) (arg22 : Buffer S256x128 .f32) (harg22 : arg22.IsWhole)
    (x0 : Vec Ideal S1x1x256x2048 .bf16) (x1 : Vec Ideal S1x4x64x2048 .bf16) (x2 : Vec Ideal S1x16x16x2048 .bf16) (x3 : Vec Ideal S1x1x256x128 .f32) (x4 : Vec Ideal S1x4x64x128 .f32) (x5 : Vec Ideal S1x16x16x128 .f32) (x6 : Vec Ideal S2048x2048 .bf16) (x7 : Vec Ideal S256x2048 .f32) (x8 : Vec Ideal S1x1x2048 .f32) (x9 : Vec Ideal S1x2048 .f32) (x10 : Vec Ideal S1x2048 .f32) (x11 : Vec Ideal S1x1x2048 .f32) (x12 : Vec Ideal S1x1x2048 .f32) (x13 : Vec Ideal S2048x128 .f32) (x14 : Vec Ideal S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (rows x0 x1 x2 x3 x4 x5 x6 x7 x8 x9 x10) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := Ideal)) Variants.none c none) E (cc0_proj_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_proj_merge_eq_skeleton]; unfold cc0_proj_merge_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (read_whole _ _ _ _).trans ?_
    have h4 : View.read (Elt Ideal) arg19.view (arg19.view.writes (Elt Ideal) f18 (sound_kernel.sl.H18_64 c arg2 f1)) = heads4 (View.read (Elt Ideal) arg2.view f1) :=
      read_slabs4 _ _ _ _ _ rfl
    have h16 : View.read (Elt Ideal) arg20.view (arg20.view.writes (Elt Ideal) f19 (sound_kernel.sl.H19_256 c arg3 f2)) = heads16 (View.read (Elt Ideal) arg3.view f2) :=
      read_slabs16 _ _ _ _ _ rfl
    have l4 : View.read (Elt Ideal) arg21.view (arg21.view.writes (Elt Ideal) f20 (sound_kernel.sl.H20_4 c arg5 f4)) = lanes4 (View.read (Elt Ideal) arg5.view f4) :=
      read_lines4 _ _ _ _ _ rfl
    have l16 : View.read (Elt Ideal) arg22.view (arg22.view.writes (Elt Ideal) f21 (sound_kernel.sl.H21_16 c arg6 f5)) = lanes16 (View.read (Elt Ideal) arg6.view f5) :=
      read_lines16 _ _ _ _ _ rfl
    unfold rows
    rw [← h4, ← h16, ← l4, ← l16]
    rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  iexists _; iexists _; isplitr
  swap; · iexact H21
  ipureintro; rfl

/-! ## The pipeline's proof data -/

/-- Nothing is said of the packed rows' and the logits' windows. -/
def untold (w : Fin cfg0.W) : Bool := decide (16 ≤ w.val)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => rows (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, h⟩ => Dat.unnamed ⟨16, h⟩ t
    | ⟨17, h⟩ => Dat.unnamed ⟨17, h⟩ t
    | ⟨k + 18, h⟩ => absurd h (Nat.not_lt.2 (Nat.le_add_left 18 k))
  Φ _ := Pipeline.ΦA spec0 c
  q _ := fullShare
  owed _ := 0

theorem A_eq (c : Dev nD) (w : Fin cfg0.W) : (dats m 0 c).A w = V m c (Pipeline.arrRef spec0 w) := by
  dsimp only [dats]

/-- An input's staging buffer holds its block at every point. -/
theorem before_block (c : Dev nD) (w : Fin cfg0.W) (hw : (cfg0.win w).isOut = false) (hz : ∀ i, cfg0.idle w i = false)
    (hd : ∀ t t' : Fin cfg0.N, (cfg0.win w).index t = (cfg0.win w).index t' →
      (cfg0.win w).clip (cfg0.grid.coords t) = (cfg0.win w).clip (cfg0.grid.coords t'))
    (hk : ∀ t, (cfg0.win w).cut (cfg0.grid.coords t) ((dats m 0 c).after w t) = (dats m 0 c).blockOf w t) (t : Fin cfg0.N)
    (X : (cfg0.win w).block.Idx → Elt Ideal (cfg0.win w).elt) (hX : ∀ d, (dats m 0 c).fetched w t d = X) (d) : (dats m 0 c).before w t d = X :=
  ((dats m 0 c).before_in_eq_fetched w hw hz hd hk t d).trans (hX d)

abbrev sc0 : Buffer S16x256x128 .f32 := Memref.whole cc0_scratch0
abbrev sc1 : Buffer S16x256x128 .f32 := Memref.whole cc0_scratch1
abbrev sc2 : Buffer S256x128 .f32 := Memref.whole cc0_scratch2
abbrev sc3 : Buffer S256x128 .f32 := Memref.whole cc0_scratch3

/-- The launch's invariant, the scratch buffers owned at some contents. -/
theorem phi_eq (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare d) ∗ (∃ d, owns (c : Thread nD τ) (st0_17 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ (∃ d, owns (c : Thread nD τ) (st0_16 t) fullShare d) ∗ (∃ d, owns (c : Thread nD τ) (st0_17 t) fullShare d))

set_option maxHeartbeats 1000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_block m c 0 rfl (fun _ => rfl) (fun _ _ _ => rfl) (fun _ => rfl) t (iblk m c 0 t) (fun _ => rfl), before_block m c 1 rfl (fun _ => rfl) (fun _ _ _ => rfl) (fun _ => rfl) t (iblk m c 1 t) (fun _ => rfl), before_block m c 2 rfl (fun _ => rfl) (fun _ _ _ => rfl) (fun _ => rfl) t (iblk m c 2 t) (fun _ => rfl), before_block m c 3 rfl (fun _ => rfl) (fun _ _ _ => rfl) (fun _ => rfl) t (iblk m c 3 t) (fun _ => rfl), before_block m c 4 rfl (fun _ => rfl) (fun _ _ _ => rfl) (fun _ => rfl) t (iblk m c 4 t) (fun _ => rfl), before_block m c 5 rfl (fun _ => rfl) (fun _ _ _ => rfl) (fun _ => rfl) t (iblk m c 5 t) (fun _ => rfl), before_block m c 6 rfl (fun _ => rfl) (fun _ _ _ => rfl) (fun _ => rfl) t (iblk m c 6 t) (fun _ => rfl), before_block m c 7 rfl (fun _ => rfl) (fun _ _ _ => rfl) (fun _ => rfl) t (iblk m c 7 t) (fun _ => rfl), before_block m c 8 rfl (fun _ => rfl) (fun _ _ _ => rfl) (fun _ => rfl) t (iblk m c 8 t) (fun _ => rfl), before_block m c 9 rfl (fun _ => rfl) (fun _ _ _ => rfl) (fun _ => rfl) t (iblk m c 9 t) (fun _ => rfl), before_block m c 10 rfl (fun _ => rfl) (fun _ _ _ => rfl) (fun _ => rfl) t (iblk m c 10 t) (fun _ => rfl), before_block m c 11 rfl (fun _ => rfl) (fun _ _ _ => rfl) (fun _ => rfl) t (iblk m c 11 t) (fun _ => rfl), before_block m c 12 rfl (fun _ => rfl) (fun _ _ _ => rfl) (fun _ => rfl) t (iblk m c 12 t) (fun _ => rfl), before_block m c 13 rfl (fun _ => rfl) (fun _ _ _ => rfl) (fun _ => rfl) t (iblk m c 13 t) (fun _ => rfl), before_block m c 14 rfl (fun _ => rfl) (fun _ _ _ => rfl) (fun _ => rfl) t (iblk m c 14 t) (fun _ => rfl)]
  rw [show (dats m 0 c).Φ t.succ = Pipeline.ΦA spec0 c from rfl, show (dats m 0 c).Φ t.castSucc = Pipeline.ΦA spec0 c from rfl, phi_eq,
    show (dats m 0 c).owesAt () t.succ = (dats m 0 c).owesAt () t.castSucc from rfl,
    show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl, show (dats m 0 c).after 11 t = iblk m c 11 t from rfl, show (dats m 0 c).after 12 t = iblk m c 12 t from rfl, show (dats m 0 c).after 13 t = iblk m c 13 t from rfl, show (dats m 0 c).after 14 t = iblk m c 14 t from rfl, show (dats m 0 c).after 15 t = rows (iblk m c 0 t) (iblk m c 1 t) (iblk m c 2 t) (iblk m c 3 t) (iblk m c 4 t) (iblk m c 5 t) (iblk m c 6 t) (iblk m c 7 t) (iblk m c 8 t) (iblk m c 9 t) (iblk m c 10 t) from rfl]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, H17⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexact H16
  isplitl [H17]; · iexact H17
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, H16, H17, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ untold := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main : θ_run defs (onTc (τ := τ) (main (F := Ideal))) (s₀ m ρ)
    (fun r => (Pipeline.RDat.FramePost cfg0 (fun c => (dats m 0 c).toRForget untold) (V m)) r ∧ r.2.sem = fun _ => 0) :=
  Pipeline.θ_run_frame_forget (Q' := _) cfgs (dats m) (0 : Fin 1) launch0 defs₀ Variants.none untold m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run leaves the rows at what the points wrote, the arguments as launched, and every semaphore at zero. -/
theorem run_blocks : θ_run defs (onTc (τ := τ) (main (F := Ideal))) ⟨m, fun _ => 0, ρ⟩ (fun r => (∀ c : Dev nD,
      r.2.mem ((c.tc : Thread nD τ).loc main_v0_0) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  (θ_run defs _ _).mono (fun r h => ⟨fun c => by
    have key : ∀ w : Fin cfg0.W, (cfg0.win w).isOut = false → untold w = false →
        r.2.mem ((c.tc : Thread nD τ).loc (Pipeline.arrRef spec0 w)) = m ((c.tc : Thread nD τ).loc (Pipeline.arrRef spec0 w)) := fun w hw hu =>
      (((dats m 0 c).toRForget_arrAt_iff (fgt := untold) (w := w) hu _ _).1 ((h.1 c).1 w)).trans (((dats m 0 c).arrAt_in w hw _).trans (A_eq m c w))
    exact ⟨((dats m 0 c).toRForget_arrAt_iff (fgt := untold) (w := 15) rfl _ _).1 ((h.1 c).1 15),
      key 0 rfl rfl, key 1 rfl rfl, key 2 rfl rfl, key 3 rfl rfl, key 4 rfl rfl, key 5 rfl rfl, key 6 rfl rfl, key 7 rfl rfl, key 8 rfl rfl, key 9 rfl rfl, key 10 rfl rfl, key 11 rfl rfl, key 12 rfl rfl, key 13 rfl rfl, key 14 rfl rfl⟩, h.2⟩) (run_main m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  (θ_run defs _ _).mono (fun r h => ⟨fun c => (h.1 c).2, h.2⟩) (run_blocks m ρ)

end Cert.MergeIdeal.Hand

end
-- ==== Proof.Merge.Blend.lean ====
/- The groups' outputs weighted by the softmax of their log-sum-exps, as a function of the arrays. -/
module

public import proofs.«01_k».proof.Proof.Proj.Alg
public import Idealize.ShloMosaic.Lib.IdealHost

@[expose] public section

noncomputable section

namespace Cert.Merge.Value

open Idealize.ShloMosaic

/-- The greatest of the three log-sum-exps. -/
def top (a b c : EReal) : EReal := max (max a b) c

/-- The softmax's divisor. -/
def total (a b c : EReal) : EReal := Ideal.exp (a - top a b c) + Ideal.exp (b - top a b c) + Ideal.exp (c - top a b c)

/-- The three outputs, weighted by the softmax of the three log-sum-exps. -/
def blend (a b c u v w : EReal) : EReal :=
  Ideal.div (Ideal.exp (a - top a b c)) (total a b c) * u + Ideal.div (Ideal.exp (b - top a b c)) (total a b c) * v
    + Ideal.div (Ideal.exp (c - top a b c)) (total a b c) * w

/-- The divisor is not zero where the log-sum-exps are numbers. -/
theorem total_ne_zero (a b c : ℝ) : total a b c ≠ 0 := by
  obtain ⟨m, hm⟩ : ∃ m : ℝ, top a b c = m := by
    unfold top
    rcases max_choice (max (a : EReal) b) c with h | h
    · rcases max_choice (a : EReal) b with h' | h'
      · exact ⟨a, h.trans h'⟩
      · exact ⟨b, h.trans h'⟩
    · exact ⟨c, h⟩
  unfold total
  rw [hm, ← EReal.coe_sub, ← EReal.coe_sub, ← EReal.coe_sub]
  show ((Real.exp (a - m) : ℝ) : EReal) + ((Real.exp (b - m) : ℝ) : EReal) + ((Real.exp (c - m) : ℝ) : EReal) ≠ 0
  rw [← EReal.coe_add, ← EReal.coe_add]
  have h : Real.exp (a - m) + Real.exp (b - m) + Real.exp (c - m) ≠ 0 := by positivity
  exact fun h' => h (EReal.coe_eq_zero.1 h')

/-- The weights taken with the divisor's reciprocal. -/
theorem blend_of_product (a b c u v w : EReal) (ha : ∃ r : ℝ, a = r) (hb : ∃ r : ℝ, b = r) (hc : ∃ r : ℝ, c = r) :
    Ideal.exp (a - top a b c) * Ideal.div 1 (total a b c) * u + Ideal.exp (b - top a b c) * Ideal.div 1 (total a b c) * v
      + Ideal.exp (c - top a b c) * Ideal.div 1 (total a b c) * w = blend a b c u v w := by
  obtain ⟨a, rfl⟩ := ha
  obtain ⟨b, rfl⟩ := hb
  obtain ⟨c, rfl⟩ := hc
  have h := total_ne_zero a b c
  unfold blend
  rw [Ideal.mul_one_div h, Ideal.mul_one_div h, Ideal.mul_one_div h]

/-- Token `q`'s row of the first group's array: its positions are in the tokens' order. -/
def row1 {n : ℕ} (X : (⟨4, ![2, 1, 4096, n]⟩ : Shape).Idx → EReal) (q : Fin 8192) (k : Fin n) : EReal :=
  X (ix4 ⟨q.val / 4096, by omega⟩ 0 ⟨q.val % 4096, by omega⟩ k)

/-- Token `q`'s row of the second group's array: every fourth position is in one class. -/
def row4 {n : ℕ} (X : (⟨4, ![2, 4, 1024, n]⟩ : Shape).Idx → EReal) (q : Fin 8192) (k : Fin n) : EReal :=
  X (ix4 ⟨q.val / 4096, by omega⟩ ⟨q.val % 4, by omega⟩ ⟨q.val % 4096 / 4, by omega⟩ k)

/-- Token `q`'s row of the third group's array: every sixteenth position is in one class. -/
def row16 {n : ℕ} (X : (⟨4, ![2, 16, 256, n]⟩ : Shape).Idx → EReal) (q : Fin 8192) (k : Fin n) : EReal :=
  X (ix4 ⟨q.val / 4096, by omega⟩ ⟨q.val % 16, by omega⟩ ⟨q.val % 4096 / 16, by omega⟩ k)

/-- The lane of a channel's head among the log-sum-exps. -/
def lane (k : Fin 2048) : Fin 128 := ⟨k.val / 128, by omega⟩

variable (O0 : (⟨4, ![2, 1, 4096, 2048]⟩ : Shape).Idx → EReal) (O1 : (⟨4, ![2, 4, 1024, 2048]⟩ : Shape).Idx → EReal)
  (O2 : (⟨4, ![2, 16, 256, 2048]⟩ : Shape).Idx → EReal) (L0 : (⟨4, ![2, 1, 4096, 128]⟩ : Shape).Idx → EReal)
  (L1 : (⟨4, ![2, 4, 1024, 128]⟩ : Shape).Idx → EReal) (L2 : (⟨4, ![2, 16, 256, 128]⟩ : Shape).Idx → EReal)

/-- The whole blended array. -/
def blended (i : (⟨2, ![8192, 2048]⟩ : Shape).Idx) : EReal :=
  blend (row1 L0 (i 0) (lane (i 1))) (row4 L1 (i 0) (lane (i 1))) (row16 L2 (i 0) (lane (i 1)))
    (row1 O0 (i 0) (i 1)) (row4 O1 (i 0) (i 1)) (row16 O2 (i 0) (i 1))

/-- The heads' log-sum-exps are numbers. -/
def Finite : Prop := ∀ (q : Fin 8192) (h : Fin 128), h.val < 16 →
  (∃ r : ℝ, row1 L0 q h = r) ∧ (∃ r : ℝ, row4 L1 q h = r) ∧ (∃ r : ℝ, row16 L2 q h = r)

end Cert.Merge.Value

end
-- ==== Proof.Merge.Rows.lean ====
/- The merging kernel's rows, entry by entry. -/
module

public import proofs.«01_k».proof.Proof.Merge.FrameIdeal
public import proofs.«01_k».proof.Proof.Merge.Blend
public import Idealize.ShloMosaic.Lib.Pointwise
public import Idealize.ShloMosaic.Lib.Pipeline.ValueKit

@[expose] public section

set_option maxRecDepth 16384

noncomputable section

namespace Cert.MergeIdeal.Hand

open Cert.Merge.Value Cert.Proj.Value Cert.MergeIdeal Cert.MergeIdeal.Gen Idealize.ShloMosaic Idealize.ShloMosaic.TcCoe Idealize.SL Idealize.SL.Sem
open Idealize.ShloMosaic.View

section
variable (l0 : Vec Ideal S1x1x256x128 .f32) (l1 l2 : Vec Ideal S256x128 .f32) (r : Fin 256) (h : Fin 128)

theorem one_word : Ideal.ofBits FTy.f32 0x3F800000#32 = 1 := by pointwise []

theorem share0 : k0_pay384 (F := Ideal) (k0_pay379 l0 l1 l2) (k0_pay380 l0 l1 l2) (k0_pay381 l0 l1 l2) (ix2 r h) =
    Ideal.exp (l0 (ix4 0 0 r h) - top (l0 (ix4 0 0 r h)) (l1 (ix2 r h)) (l2 (ix2 r h))) *
      Ideal.div 1 (total (l0 (ix4 0 0 r h)) (l1 (ix2 r h)) (l2 (ix2 r h))) := by
  unfold total top
  pointwise [k0_pay384, k0_pay383, k0_pay382, k0_pay381, k0_pay380, k0_pay379, k0_pay378, k0_pay377]

theorem share1 : k0_pay385 (F := Ideal) (k0_pay379 l0 l1 l2) (k0_pay380 l0 l1 l2) (k0_pay381 l0 l1 l2) (ix2 r h) =
    Ideal.exp (l1 (ix2 r h) - top (l0 (ix4 0 0 r h)) (l1 (ix2 r h)) (l2 (ix2 r h))) *
      Ideal.div 1 (total (l0 (ix4 0 0 r h)) (l1 (ix2 r h)) (l2 (ix2 r h))) := by
  unfold total top
  pointwise [k0_pay385, k0_pay383, k0_pay382, k0_pay381, k0_pay380, k0_pay379, k0_pay378, k0_pay377]

theorem share2 : k0_pay386 (F := Ideal) (k0_pay379 l0 l1 l2) (k0_pay380 l0 l1 l2) (k0_pay381 l0 l1 l2) (ix2 r h) =
    Ideal.exp (l2 (ix2 r h) - top (l0 (ix4 0 0 r h)) (l1 (ix2 r h)) (l2 (ix2 r h))) *
      Ideal.div 1 (total (l0 (ix4 0 0 r h)) (l1 (ix2 r h)) (l2 (ix2 r h))) := by
  unfold total top
  pointwise [k0_pay386, k0_pay383, k0_pay382, k0_pay381, k0_pay380, k0_pay379, k0_pay378, k0_pay377]

end

theorem mixed_at (h : ℕ) (hh : h < 128) (hs : Shape.Slices S256x128 ![0, h] S256x1) (w0 w1 w2 : FVec Ideal S256x128 .f32)
    (a : Vec Ideal S1x1x256x128 .bf16) (b c : Vec Ideal S1x256x128 .f32) (r : Fin 256) (d : Fin 128) :
    mixed h hs w0 w1 w2 a b c (ix2 r d) =
      w0 (ix2 r ⟨h, hh⟩) * a (ix4 0 0 r d) + w1 (ix2 r ⟨h, hh⟩) * b (ix3 0 r d) + w2 (ix2 r ⟨h, hh⟩) * c (ix3 0 r d) := by
  pointwise [mixed, weigh]

section
variable (w0 w1 w2 : FVec Ideal S256x128 .f32) (a : Vec Ideal S1x1x256x2048 .bf16) (b c : Vec Ideal S16x256x128 .f32)

theorem joinedRows_eq : joinedRows w0 w1 w2 a b c =
    concatenate S256x2048 1 (List.ofFn fun h : Fin 16 => (⟨S256x128, headRows w0 w1 w2 a b c h⟩ : (s : Shape) × (s.Idx → Ideal .bf16)))
      concatenates_S256x128_S256x128_S256x128_S256x128_S256x128_S256x128_S256x128_S256x128_S256x128_S256x128_S256x128_S256x128_S256x128_S256x128_S256x128_S256x128_S256x2048_d1 :=
  rfl

/-- One entry of the joined rows. -/
theorem joined_at (r : Fin 256) (k : Fin 2048) : joinedRows w0 w1 w2 a b c (ix2 r k) =
    w0 (ix2 r (lane k)) * a (ix4 0 0 r k) + w1 (ix2 r (lane k)) * b (ix3 ⟨k.val / 128, by omega⟩ r ⟨k.val % 128, by omega⟩)
      + w2 (ix2 r (lane k)) * c (ix3 ⟨k.val / 128, by omega⟩ r ⟨k.val % 128, by omega⟩) := by
  rw [joinedRows_eq]
  refine (concatenate_ofFn_apply (t := S256x2048) (s₁ := S256x128) 1 (headRows w0 w1 w2 a b c) _ rfl 128 rfl (ix2 r k : S256x2048.Idx) ⟨k.val / 128, by omega⟩ rfl
    (ix2 r ⟨k.val % 128, by omega⟩ : S256x128.Idx) rfl (fun x hx => ?_)).trans ?_
  · match x with
    | ⟨0, _⟩ => rfl
    | ⟨1, _⟩ => exact absurd rfl hx
  · unfold headRows
    rw [mixed_at _ (by show k.val / 128 < 128; omega)]
    refine congrArg₂ (· + ·) (congrArg₂ (· + ·) (congrArg₂ (· * ·) rfl (congrArg a ?_)) (congrArg₂ (· * ·) rfl (congrArg b ?_)))
      (congrArg₂ (· * ·) rfl (congrArg c ?_))
    · funext x
      refine Fin.ext ?_
      match x with
      | ⟨0, _⟩ => rfl
      | ⟨1, _⟩ => rfl
      | ⟨2, _⟩ => show 0 + 1 * r.val = r.val; omega
      | ⟨3, _⟩ => show 128 * (k.val / 128) + 1 * (k.val % 128) = k.val; omega
    all_goals
      funext x
      refine Fin.ext ?_
      match x with
      | ⟨0, _⟩ => show k.val / 128 + 1 * 0 = k.val / 128; omega
      | ⟨1, _⟩ => show 0 + 1 * r.val = r.val; omega
      | ⟨2, _⟩ => show 0 + 1 * (k.val % 128) = k.val % 128; omega

end

/-- One entry of the gated, scaled and normalised rows. -/
theorem norm_at (Z X : FVec Ideal S256x2048 .f32) (G : Vec Ideal S1x1x2048 .f32) (g b : Vec Ideal S1x2048 .f32) (r : Fin 256) (col : Fin 2048) :
    k0_pay413 (F := Ideal) Z X G g b (ix2 r col) =
      normed (fun k => alpha * X (ix2 r k) + G (ix3 0 0 k) * Z (ix2 r k)) (fun k => g (ix2 0 k)) (fun k => b (ix2 0 k)) col := by
  unfold normed mean
  pointwise [k0_pay413]

theorem product_at (Y : FVec Ideal S256x2048 .bf16) (W : FVec Ideal S2048x2048 .bf16) (r : Fin 256) (col : Fin 2048) :
    matmul (F := Ideal) dot_S256x2048_S2048x2048_S256x2048_1_0_0_1_n_n none Y W (constant S256x2048 .f32 0x00000000#32) (ix2 r col) =
      ∑ k : Fin 2048, Y (ix2 r k) * W (ix2 k col) := by
  pointwise []

/-- One entry of a point's rows. -/
theorem rows_at (x0 : Vec Ideal S1x1x256x2048 .bf16) (x1 : Vec Ideal S1x4x64x2048 .bf16) (x2 : Vec Ideal S1x16x16x2048 .bf16)
    (x3 : Vec Ideal S1x1x256x128 .f32) (x4 : Vec Ideal S1x4x64x128 .f32) (x5 : Vec Ideal S1x16x16x128 .f32) (x6 : Vec Ideal S2048x2048 .bf16)
    (x7 : Vec Ideal S256x2048 .f32) (x8 : Vec Ideal S1x1x2048 .f32) (x9 x10 : Vec Ideal S1x2048 .f32) (r : Fin 256) (col : Fin 2048)
    (y : Fin 2048 → EReal)
    (hy : ∀ k : Fin 2048,
      Ideal.exp (x3 (ix4 0 0 r (lane k)) - top (x3 (ix4 0 0 r (lane k))) (lanes4 x4 (ix2 r (lane k))) (lanes16 x5 (ix2 r (lane k)))) *
          Ideal.div 1 (total (x3 (ix4 0 0 r (lane k))) (lanes4 x4 (ix2 r (lane k))) (lanes16 x5 (ix2 r (lane k)))) * x0 (ix4 0 0 r k)
        + Ideal.exp (lanes4 x4 (ix2 r (lane k)) - top (x3 (ix4 0 0 r (lane k))) (lanes4 x4 (ix2 r (lane k))) (lanes16 x5 (ix2 r (lane k)))) *
          Ideal.div 1 (total (x3 (ix4 0 0 r (lane k))) (lanes4 x4 (ix2 r (lane k))) (lanes16 x5 (ix2 r (lane k)))) *
            heads4 x1 (ix3 ⟨k.val / 128, by omega⟩ r ⟨k.val % 128, by omega⟩)
        + Ideal.exp (lanes16 x5 (ix2 r (lane k)) - top (x3 (ix4 0 0 r (lane k))) (lanes4 x4 (ix2 r (lane k))) (lanes16 x5 (ix2 r (lane k)))) *
          Ideal.div 1 (total (x3 (ix4 0 0 r (lane k))) (lanes4 x4 (ix2 r (lane k))) (lanes16 x5 (ix2 r (lane k)))) *
            heads16 x2 (ix3 ⟨k.val / 128, by omega⟩ r ⟨k.val % 128, by omega⟩) = y k) :
    rows x0 x1 x2 x3 x4 x5 x6 x7 x8 x9 x10 (ix2 r col) =
      normed (joined y (fun k => x7 (ix2 r k)) (fun k => x8 (ix3 0 0 k)) x6) (fun k => x9 (ix2 0 k)) (fun k => x10 (ix2 0 k)) col := by
  unfold rows rowsOf
  simp (disch := decide) only [View.ld_unit_lit']
  rw [norm_at]
  unfold joined
  refine congrArg (fun z => normed z (fun k => x9 (ix2 0 k)) (fun k => x10 (ix2 0 k)) col) (funext fun k => ?_)
  rw [product_at]
  refine congrArg (fun s => alpha * x7 (ix2 r k) + x8 (ix3 0 0 k) * s) (Finset.sum_congr rfl fun j _ => ?_)
  rw [joined_at, share0, share1, share2, hy j]

end Cert.MergeIdeal.Hand

end
-- ==== Proof.Merge.Final.lean ====
/- The array the merging kernel ends with. -/
module

public import proofs.«01_k».proof.Proof.Merge.Rows

@[expose] public section

set_option maxRecDepth 16384

noncomputable section

namespace Cert.MergeIdeal.Hand

open Cert.Merge.Value Cert.Proj.Value Cert.MergeIdeal Cert.MergeIdeal.Gen Idealize.ShloMosaic Idealize.ShloMosaic.TcCoe Idealize.SL Idealize.SL.Sem
open Idealize.ShloMosaic.View
variable (m : (ℓ : Loc nD τ sig) → Buf (Elt Ideal) ℓ)

abbrev arg0 (c : Dev nD) : S2x1x4096x2048.Idx → EReal := m ((c.tc : Thread nD τ).loc main_arg0)
abbrev arg1 (c : Dev nD) : S2x4x1024x2048.Idx → EReal := m ((c.tc : Thread nD τ).loc main_arg1)
abbrev arg2 (c : Dev nD) : S2x16x256x2048.Idx → EReal := m ((c.tc : Thread nD τ).loc main_arg2)
abbrev arg3 (c : Dev nD) : S2x1x4096x128.Idx → EReal := m ((c.tc : Thread nD τ).loc main_arg3)
abbrev arg4 (c : Dev nD) : S2x4x1024x128.Idx → EReal := m ((c.tc : Thread nD τ).loc main_arg4)
abbrev arg5 (c : Dev nD) : S2x16x256x128.Idx → EReal := m ((c.tc : Thread nD τ).loc main_arg5)
abbrev arg6 (c : Dev nD) : S2048x2048.Idx → EReal := m ((c.tc : Thread nD τ).loc main_arg6)
abbrev arg7 (c : Dev nD) : S8192x2048.Idx → EReal := m ((c.tc : Thread nD τ).loc main_arg7)
abbrev arg8 (c : Dev nD) : S2x1x2048.Idx → EReal := m ((c.tc : Thread nD τ).loc main_arg8)
abbrev arg9 (c : Dev nD) : S1x2048.Idx → EReal := m ((c.tc : Thread nD τ).loc main_arg9)
abbrev arg10 (c : Dev nD) : S1x2048.Idx → EReal := m ((c.tc : Thread nD τ).loc main_arg10)

/-- The grid points' tokens: 256 of one sequence. -/
abbrev token (t : Fin cfg0.N) (ht : t.val < 32) (r : Fin 256) : Fin 8192 := ⟨256 * t.val + r.val, by omega⟩

section
variable {n : ℕ} (t : Fin cfg0.N) (ht : t.val < 32) (r : Fin 256) (k : Fin n)

theorem row1_token (X : (⟨4, ![2, 1, 4096, n]⟩ : Shape).Idx → EReal) :
    row1 X (token t ht r) k = X (ix4 ⟨t.val / 16, by omega⟩ 0 ⟨256 * (t.val % 16) + r.val, by omega⟩ k) := by
  refine congrArg X (funext fun i => Fin.ext ?_)
  match i with
  | ⟨0, _⟩ => show (256 * t.val + r.val) / 4096 = t.val / 16; omega
  | ⟨1, _⟩ => rfl
  | ⟨2, _⟩ => show (256 * t.val + r.val) % 4096 = 256 * (t.val % 16) + r.val; omega
  | ⟨3, _⟩ => rfl

theorem row4_token (X : (⟨4, ![2, 4, 1024, n]⟩ : Shape).Idx → EReal) :
    row4 X (token t ht r) k = X (ix4 ⟨t.val / 16, by omega⟩ ⟨r.val % 4, by omega⟩ ⟨64 * (t.val % 16) + r.val / 4, by omega⟩ k) := by
  refine congrArg X (funext fun i => Fin.ext ?_)
  match i with
  | ⟨0, _⟩ => show (256 * t.val + r.val) / 4096 = t.val / 16; omega
  | ⟨1, _⟩ => show (256 * t.val + r.val) % 4 = r.val % 4; omega
  | ⟨2, _⟩ => show (256 * t.val + r.val) % 4096 / 4 = 64 * (t.val % 16) + r.val / 4; omega
  | ⟨3, _⟩ => rfl

theorem row16_token (X : (⟨4, ![2, 16, 256, n]⟩ : Shape).Idx → EReal) :
    row16 X (token t ht r) k = X (ix4 ⟨t.val / 16, by omega⟩ ⟨r.val % 16, by omega⟩ ⟨16 * (t.val % 16) + r.val / 16, by omega⟩ k) := by
  refine congrArg X (funext fun i => Fin.ext ?_)
  match i with
  | ⟨0, _⟩ => show (256 * t.val + r.val) / 4096 = t.val / 16; omega
  | ⟨1, _⟩ => show (256 * t.val + r.val) % 16 = r.val % 16; omega
  | ⟨2, _⟩ => show (256 * t.val + r.val) % 4096 / 16 = 16 * (t.val % 16) + r.val / 16; omega
  | ⟨3, _⟩ => rfl

end

theorem idx_0 : ∀ t : Fin cfg0.N, win0_0.index t = ![t.val / 16, 0, t.val % 16, 0] := (by decide +kernel : ∀ t : Fin grid0.N, win0_0.index t = ![t.val / 16, 0, t.val % 16, 0])
theorem idx_1 : ∀ t : Fin cfg0.N, win0_1.index t = ![t.val / 16, 0, t.val % 16, 0] := (by decide +kernel : ∀ t : Fin grid0.N, win0_1.index t = ![t.val / 16, 0, t.val % 16, 0])
theorem idx_2 : ∀ t : Fin cfg0.N, win0_2.index t = ![t.val / 16, 0, t.val % 16, 0] := (by decide +kernel : ∀ t : Fin grid0.N, win0_2.index t = ![t.val / 16, 0, t.val % 16, 0])
theorem idx_3 : ∀ t : Fin cfg0.N, win0_3.index t = ![t.val / 16, 0, t.val % 16, 0] := (by decide +kernel : ∀ t : Fin grid0.N, win0_3.index t = ![t.val / 16, 0, t.val % 16, 0])
theorem idx_4 : ∀ t : Fin cfg0.N, win0_4.index t = ![t.val / 16, 0, t.val % 16, 0] := (by decide +kernel : ∀ t : Fin grid0.N, win0_4.index t = ![t.val / 16, 0, t.val % 16, 0])
theorem idx_5 : ∀ t : Fin cfg0.N, win0_5.index t = ![t.val / 16, 0, t.val % 16, 0] := (by decide +kernel : ∀ t : Fin grid0.N, win0_5.index t = ![t.val / 16, 0, t.val % 16, 0])
theorem idx_6 : ∀ t : Fin cfg0.N, win0_6.index t = ![0, 0] := (by decide +kernel : ∀ t : Fin grid0.N, win0_6.index t = ![0, 0])
theorem idx_7 : ∀ t : Fin cfg0.N, win0_7.index t = ![t.val, 0] := (by decide +kernel : ∀ t : Fin grid0.N, win0_7.index t = ![t.val, 0])
theorem idx_8 : ∀ t : Fin cfg0.N, win0_8.index t = ![t.val / 16, 0, 0] := (by decide +kernel : ∀ t : Fin grid0.N, win0_8.index t = ![t.val / 16, 0, 0])
theorem idx_9 : ∀ t : Fin cfg0.N, win0_9.index t = ![0, 0] := (by decide +kernel : ∀ t : Fin grid0.N, win0_9.index t = ![0, 0])
theorem idx_10 : ∀ t : Fin cfg0.N, win0_10.index t = ![0, 0] := (by decide +kernel : ∀ t : Fin grid0.N, win0_10.index t = ![0, 0])
theorem idx_15 : ∀ t : Fin cfg0.N, win0_15.index t = ![t.val, 0] := (by decide +kernel : ∀ t : Fin grid0.N, win0_15.index t = ![t.val, 0])

section
variable (c : Dev nD) (t : Fin cfg0.N) (ht : t.val < 32) (r : Fin 256) (k : Fin 2048) (l : Fin 128)

theorem out1_read : iblk m c 0 t (ix4 0 0 r k : S1x1x256x2048.Idx) = row1 (arg0 m c) (token t ht r) k := by
  rw [row1_token]
  unfold arg0
  blk_ext [iblk, V, idx_0 t]

theorem out4_read (p : Fin 4) (s : Fin 64) : iblk m c 1 t (ix4 0 p s k : S1x4x64x2048.Idx) =
    arg1 m c (ix4 ⟨t.val / 16, by omega⟩ p ⟨64 * (t.val % 16) + s.val, by omega⟩ k) := by
  unfold arg1
  blk_ext [iblk, V, idx_1 t]

theorem out16_read (p s : Fin 16) : iblk m c 2 t (ix4 0 p s k : S1x16x16x2048.Idx) =
    arg2 m c (ix4 ⟨t.val / 16, by omega⟩ p ⟨16 * (t.val % 16) + s.val, by omega⟩ k) := by
  unfold arg2
  blk_ext [iblk, V, idx_2 t]

theorem lse1_read : iblk m c 3 t (ix4 0 0 r l : S1x1x256x128.Idx) = row1 (arg3 m c) (token t ht r) l := by
  rw [row1_token]
  unfold arg3
  blk_ext [iblk, V, idx_3 t]

theorem lse4_read (p : Fin 4) (s : Fin 64) : iblk m c 4 t (ix4 0 p s l : S1x4x64x128.Idx) =
    arg4 m c (ix4 ⟨t.val / 16, by omega⟩ p ⟨64 * (t.val % 16) + s.val, by omega⟩ l) := by
  unfold arg4
  blk_ext [iblk, V, idx_4 t]

theorem lse16_read (p s : Fin 16) : iblk m c 5 t (ix4 0 p s l : S1x16x16x128.Idx) =
    arg5 m c (ix4 ⟨t.val / 16, by omega⟩ p ⟨16 * (t.val % 16) + s.val, by omega⟩ l) := by
  unfold arg5
  blk_ext [iblk, V, idx_5 t]

theorem weights_read : iblk m c 6 t = arg6 m c := by
  funext y
  rw [eq_ix2 y]
  unfold arg6
  blk_ext [iblk, V, idx_6 t]

theorem residual_read : iblk m c 7 t (ix2 r k : S256x2048.Idx) = arg7 m c (ix2 (token t ht r) k) := by
  unfold arg7
  blk_ext [iblk, V, idx_7 t]

theorem gate_read : iblk m c 8 t (ix3 0 0 k : S1x1x2048.Idx) = arg8 m c (ix3 ⟨t.val / 16, by omega⟩ 0 k) := by
  unfold arg8
  blk_ext [iblk, V, idx_8 t]

theorem scale_read : iblk m c 9 t (ix2 0 k : S1x2048.Idx) = arg9 m c (ix2 0 k) := by
  unfold arg9
  blk_ext [iblk, V, idx_9 t]

theorem shift_read : iblk m c 10 t (ix2 0 k : S1x2048.Idx) = arg10 m c (ix2 0 k) := by
  unfold arg10
  blk_ext [iblk, V, idx_10 t]

theorem lanes4_at : lanes4 (iblk m c 4 t) (ix2 r l) = row4 (arg4 m c) (token t ht r) l :=
  (lse4_read m c t ht l _ _).trans (row4_token t ht r l _).symm

theorem lanes16_at : lanes16 (iblk m c 5 t) (ix2 r l) = row16 (arg5 m c) (token t ht r) l :=
  (lse16_read m c t ht l _ _).trans (row16_token t ht r l _).symm

theorem channel (k : Fin 2048) (h : 128 * (k.val / 128) + k.val % 128 < 2048) : (⟨128 * (k.val / 128) + k.val % 128, h⟩ : Fin 2048) = k :=
  Fin.ext (by show 128 * (k.val / 128) + k.val % 128 = k.val; omega)

theorem heads4_at : heads4 (iblk m c 1 t) (ix3 ⟨k.val / 128, by omega⟩ r ⟨k.val % 128, by omega⟩) = row4 (arg1 m c) (token t ht r) k := by
  refine (out4_read m c t ht _ _ _).trans (Eq.trans ?_ (row4_token t ht r k _).symm)
  exact congrArg (fun j => arg1 m c (ix4 _ _ _ j)) (channel k _)

theorem heads16_at : heads16 (iblk m c 2 t) (ix3 ⟨k.val / 128, by omega⟩ r ⟨k.val % 128, by omega⟩) = row16 (arg2 m c) (token t ht r) k := by
  refine (out16_read m c t ht _ _ _).trans (Eq.trans ?_ (row16_token t ht r k _).symm)
  exact congrArg (fun j => arg2 m c (ix4 _ _ _ j)) (channel k _)

end

theorem final (c : Dev nD) (hf : Finite (arg3 m c) (arg4 m c) (arg5 m c)) : (dats m 0 c).arrAt 15 cfg0.N =
    outArr (blended (arg0 m c) (arg1 m c) (arg2 m c) (arg3 m c) (arg4 m c) (arg5 m c)) (arg6 m c) (arg7 m c) (arg8 m c) (arg9 m c) (arg10 m c) := by
  refine (dats m 0 c).arrAt_eq_of_covers 15 _ (by decide +kernel) fun t hf' y => ?_
  have ht : t.val < 32 := t.isLt
  blk_simp
  obtain ⟨r, col, rfl⟩ : ∃ (r : Fin 256) (col : Fin 2048), y = ix2 r col := ⟨y 0, y 1, eq_ix2 y⟩
  have hy : (win0_15.blk t).view.emb (ix2 r col : S256x2048.Idx) = (ix2 (token t ht r) col : S8192x2048.Idx) := by
    blk_ext [idx_15 t]
  rw [hy]
  refine (rows_at _ _ _ _ _ _ _ _ _ _ _ r col
    (fun k => blended (arg0 m c) (arg1 m c) (arg2 m c) (arg3 m c) (arg4 m c) (arg5 m c) (ix2 (token t ht r) k)) fun k => ?_).trans ?_
  · rw [lse1_read m c t ht, lanes4_at m c t ht, lanes16_at m c t ht, out1_read m c t ht, heads4_at m c t ht, heads16_at m c t ht]
    obtain ⟨h0, h1, h2⟩ := hf (token t ht r) (lane k) (by show k.val / 128 < 16; omega)
    exact blend_of_product _ _ _ _ _ _ h0 h1 h2
  · show _ = normed (joined (fun k => blended _ _ _ _ _ _ (ix2 _ k)) (fun k => arg7 m c (ix2 _ k)) (fun k => arg8 m c (ix3 _ 0 k)) _) _ _ col
    rw [weights_read]
    congr 1
    · congr 1
      · funext k; exact residual_read m c t ht r k
      · funext k
        refine (gate_read m c t ht k).trans (congrArg (fun s => arg8 m c (ix3 s 0 k)) (Fin.ext ?_))
        show t.val / 16 = (256 * t.val + r.val) / 4096
        omega
    · funext k; exact scale_read m c t k
    · funext k; exact shift_read m c t k

end Cert.MergeIdeal.Hand

end
-- ==== Proof.Merge.Ref.lean ====
/- The merging projection's reference, read entry by entry. -/
module

public import proofs.«01_k».proof.Proof.Merge.Blend
public import proofs.«01_k».proof.Proof.Gen.MergeRefIdeal.Read
public import Idealize.ShloMosaic.Lib.Pointwise
public import Idealize.ShloMosaic.Lib.Pipeline.ValueKit

@[expose] public section

set_option maxRecDepth 16384

noncomputable section

namespace Cert.MergeRefIdeal.Hand

open Cert.Merge.Value Cert.Proj.Value Cert.MergeRefIdeal Cert.MergeRefIdeal.Gen Cert.MergeRefIdeal.Read Idealize.ShloMosaic Idealize.ShloMosaic.TcCoe
variable (O0 : (⟨S2x1x4096x2048, .bf16⟩ : BufTy).Contents (Elt Ideal)) (O1 : (⟨S2x4x1024x2048, .bf16⟩ : BufTy).Contents (Elt Ideal))
  (O2 : (⟨S2x16x256x2048, .bf16⟩ : BufTy).Contents (Elt Ideal)) (L0 : (⟨S2x1x4096x128, .f32⟩ : BufTy).Contents (Elt Ideal))
  (L1 : (⟨S2x4x1024x128, .f32⟩ : BufTy).Contents (Elt Ideal)) (L2 : (⟨S2x16x256x128, .f32⟩ : BufTy).Contents (Elt Ideal))
  (q : Fin 8192) (h : Fin 16) (d : Fin 128)

/-- Head `h`'s lane. -/
abbrev laneOf : Fin 128 := ⟨h.val, by omega⟩
/-- Channel `d` of head `h`. -/
abbrev chan : Fin 2048 := ⟨128 * h.val + d.val, by omega⟩

theorem lse1 : val_main_v5 (F := Ideal) L0 (ix2 q h) = row1 L0 q (laneOf h) := by
  rw [val_main_v5_apply, val_main_v4_apply, val_main_v3_apply]
  refine congrArg L0 (funext fun i => Fin.ext ?_)
  match i with
  | ⟨0, _⟩ => show (q.val * 128 + h.val) / 524288 = q.val / 4096; omega
  | ⟨1, _⟩ => rfl
  | ⟨2, _⟩ => show (q.val * 128 + h.val) / 128 % 4096 = q.val % 4096; omega
  | ⟨3, _⟩ => show (q.val * 128 + h.val) % 128 = h.val; omega

theorem lse4 : val_main_v11 (F := Ideal) L1 (ix2 q h) = row4 L1 q (laneOf h) := by
  rw [val_main_v11_apply, val_main_v10_apply, val_main_v9_apply]
  refine congrArg L1 (funext fun i => Fin.ext ?_)
  match i with
  | ⟨0, _⟩ => show (q.val * 128 + h.val) / 524288 = q.val / 4096; omega
  | ⟨1, _⟩ => show (q.val * 128 + h.val) / 128 % 4 = q.val % 4; omega
  | ⟨2, _⟩ => show (q.val * 128 + h.val) / 512 % 1024 = q.val % 4096 / 4; omega
  | ⟨3, _⟩ => show (q.val * 128 + h.val) % 128 = h.val; omega

theorem lse16 : val_main_v17 (F := Ideal) L2 (ix2 q h) = row16 L2 q (laneOf h) := by
  rw [val_main_v17_apply, val_main_v16_apply, val_main_v15_apply]
  refine congrArg L2 (funext fun i => Fin.ext ?_)
  match i with
  | ⟨0, _⟩ => show (q.val * 128 + h.val) / 524288 = q.val / 4096; omega
  | ⟨1, _⟩ => show (q.val * 128 + h.val) / 128 % 16 = q.val % 16; omega
  | ⟨2, _⟩ => show (q.val * 128 + h.val) / 2048 % 256 = q.val % 4096 / 16; omega
  | ⟨3, _⟩ => show (q.val * 128 + h.val) % 128 = h.val; omega

theorem out1 : val_main_v2 (F := Ideal) O0 (ix3 q h d) = row1 O0 q (chan h d) := by
  rw [val_main_v2_apply, val_main_v1_apply]
  refine congrArg O0 (funext fun i => Fin.ext ?_)
  match i with
  | ⟨0, _⟩ => show ((q.val * 16 + h.val) * 128 + d.val) / 8388608 = q.val / 4096; omega
  | ⟨1, _⟩ => rfl
  | ⟨2, _⟩ => show ((q.val * 16 + h.val) * 128 + d.val) / 2048 % 4096 = q.val % 4096; omega
  | ⟨3, _⟩ => show ((q.val * 16 + h.val) * 128 + d.val) % 2048 = 128 * h.val + d.val; omega

theorem out4 : val_main_v8 (F := Ideal) O1 (ix3 q h d) = row4 O1 q (chan h d) := by
  rw [val_main_v8_apply, val_main_v7_apply]
  refine congrArg O1 (funext fun i => Fin.ext ?_)
  match i with
  | ⟨0, _⟩ => show ((q.val * 16 + h.val) * 128 + d.val) / 8388608 = q.val / 4096; omega
  | ⟨1, _⟩ => show ((q.val * 16 + h.val) * 128 + d.val) / 2048 % 4 = q.val % 4; omega
  | ⟨2, _⟩ => show ((q.val * 16 + h.val) * 128 + d.val) / 8192 % 1024 = q.val % 4096 / 4; omega
  | ⟨3, _⟩ => show ((q.val * 16 + h.val) * 128 + d.val) % 2048 = 128 * h.val + d.val; omega

theorem out16 : val_main_v14 (F := Ideal) O2 (ix3 q h d) = row16 O2 q (chan h d) := by
  rw [val_main_v14_apply, val_main_v13_apply]
  refine congrArg O2 (funext fun i => Fin.ext ?_)
  match i with
  | ⟨0, _⟩ => show ((q.val * 16 + h.val) * 128 + d.val) / 8388608 = q.val / 4096; omega
  | ⟨1, _⟩ => show ((q.val * 16 + h.val) * 128 + d.val) / 2048 % 16 = q.val % 16; omega
  | ⟨2, _⟩ => show ((q.val * 16 + h.val) * 128 + d.val) / 32768 % 256 = q.val % 4096 / 16; omega
  | ⟨3, _⟩ => show ((q.val * 16 + h.val) * 128 + d.val) % 2048 = 128 * h.val + d.val; omega

/-- The three groups' log-sum-exps of a token's head. -/
abbrev lses : Fin 3 → EReal := ![row1 L0 q (laneOf h), row4 L1 q (laneOf h), row16 L2 q (laneOf h)]
/-- The three groups' outputs of a token's channel. -/
abbrev outs : Fin 3 → EReal := ![row1 O0 q (chan h d), row4 O1 q (chan h d), row16 O2 q (chan h d)]

theorem stack_lse (k : Fin 3) : val_main_v21 (F := Ideal) L0 L1 L2 (ix3 k q h) = lses L0 L1 L2 q h k := by
  have off : ∀ (b : Fin 3), b ≠ 0 → ((ix3 0 q h : S1x8192x16.Idx) b).val = ((ix3 k q h : S3x8192x16.Idx) b).val := fun b hb =>
    match b with
    | ⟨0, _⟩ => absurd rfl hb
    | ⟨1, _⟩ => rfl
    | ⟨2, _⟩ => rfl
  unfold val_main_v21
  match k with
  | ⟨0, _⟩ =>
    refine Eq.trans (concatenate_apply_piece (t := S3x8192x16) 0 _ _ _ 0 (by show _ < 3; decide) S1x8192x16 _ rfl rfl 0 rfl (ix3 0 q h) (fun b hb => off b hb) rfl) ?_
    rw [val_main_v18_apply]; exact lse1 L0 q h
  | ⟨1, _⟩ =>
    refine Eq.trans (concatenate_apply_piece (t := S3x8192x16) 0 _ _ _ 1 (by show _ < 3; decide) S1x8192x16 _ rfl rfl 1 rfl (ix3 0 q h) (fun b hb => off b hb) rfl) ?_
    rw [val_main_v19_apply]; exact lse4 L1 q h
  | ⟨2, _⟩ =>
    refine Eq.trans (concatenate_apply_piece (t := S3x8192x16) 0 _ _ _ 2 (by show _ < 3; decide) S1x8192x16 _ rfl rfl 2 rfl (ix3 0 q h) (fun b hb => off b hb) rfl) ?_
    rw [val_main_v20_apply]; exact lse16 L2 q h

theorem stack_out (k : Fin 3) : val_main_v35 (F := Ideal) O0 O1 O2 (ix4 k q h d) = outs O0 O1 O2 q h d k := by
  have off : ∀ (b : Fin 4), b ≠ 0 → ((ix4 0 q h d : S1x8192x16x128.Idx) b).val = ((ix4 k q h d : S3x8192x16x128.Idx) b).val := fun b hb =>
    match b with
    | ⟨0, _⟩ => absurd rfl hb
    | ⟨1, _⟩ => rfl
    | ⟨2, _⟩ => rfl
    | ⟨3, _⟩ => rfl
  unfold val_main_v35
  match k with
  | ⟨0, _⟩ =>
    refine Eq.trans (concatenate_apply_piece (t := S3x8192x16x128) 0 _ _ _ 0 (by show _ < 3; decide) S1x8192x16x128 _ rfl rfl 0 rfl (ix4 0 q h d) (fun b hb => off b hb) rfl) ?_
    rw [val_main_v32_apply]; exact out1 O0 q h d
  | ⟨1, _⟩ =>
    refine Eq.trans (concatenate_apply_piece (t := S3x8192x16x128) 0 _ _ _ 1 (by show _ < 3; decide) S1x8192x16x128 _ rfl rfl 1 rfl (ix4 0 q h d) (fun b hb => off b hb) rfl) ?_
    rw [val_main_v33_apply]; exact out4 O1 q h d
  | ⟨2, _⟩ =>
    refine Eq.trans (concatenate_apply_piece (t := S3x8192x16x128) 0 _ _ _ 2 (by show _ < 3; decide) S1x8192x16x128 _ rfl rfl 2 rfl (ix4 0 q h d) (fun b hb => off b hb) rfl) ?_
    rw [val_main_v34_apply]; exact out16 O2 q h d

/-- The greatest of three, folded from the least element. -/
theorem fold_three (f : Fin 3 → EReal) : Finset.univ.fold max ⊥ f = top (f 0) (f 1) (f 2) := by
  rw [show Finset.univ.fold max ⊥ f = Finset.univ.sup f from rfl]
  unfold top
  refine le_antisymm (Finset.sup_le fun k _ => ?_)
    (max_le (max_le (Finset.le_sup (Finset.mem_univ _)) (Finset.le_sup (Finset.mem_univ _))) (Finset.le_sup (Finset.mem_univ _)))
  match k with
  | ⟨0, _⟩ => exact (le_max_left _ _).trans (le_max_left _ _)
  | ⟨1, _⟩ => exact (le_max_right _ _).trans (le_max_left _ _)
  | ⟨2, _⟩ => exact le_max_right _ _

/-- The greatest log-sum-exp of a token's head. -/
abbrev topOf : EReal := top (lses L0 L1 L2 q h 0) (lses L0 L1 L2 q h 1) (lses L0 L1 L2 q h 2)
/-- The divisor of a token's head. -/
abbrev totalOf : EReal := total (lses L0 L1 L2 q h 0) (lses L0 L1 L2 q h 1) (lses L0 L1 L2 q h 2)

theorem top_at : val_main_v22 (F := Ideal) L0 L1 L2 (ix2 q h) = topOf L0 L1 L2 q h := by
  have e : val_main_v22 (F := Ideal) L0 L1 L2 (ix2 q h) = Finset.univ.fold max ⊥ fun k => val_main_v21 (F := Ideal) L0 L1 L2 (ix3 k q h) := by
    unfold val_main_v22
    generalize val_main_v21 (F := Ideal) L0 L1 L2 = s
    pointwise
    rw [val_main_cst_apply, show FloatOps.ofBits (F := Ideal) .f32 0xFF800000#32 = (⊥ : EReal) from by simp [FloatOps.ofBits, Ideal.ofBits, Ideal.ieee]]
  rw [e, fold_three, stack_lse, stack_lse, stack_lse]

theorem exp_at (k : Fin 3) : val_main_v26 (F := Ideal) L0 L1 L2 (ix3 k q h) = Ideal.exp (lses L0 L1 L2 q h k - topOf L0 L1 L2 q h) := by
  have e : idx_main_v23 (idx_main_v24 (ix3 k q h)) = ix2 q h := by
    funext i; match i with | ⟨0, _⟩ => rfl | ⟨1, _⟩ => rfl
  rw [val_main_v26_apply, val_main_v25_apply, val_main_v24_apply, val_main_v23_apply, e, top_at, stack_lse]
  rfl

theorem total_at : val_main_v27 (F := Ideal) L0 L1 L2 (ix2 q h) = totalOf L0 L1 L2 q h := by
  have e : ∀ k, idx_main_v27 (ix2 q h) k = ix3 k q h := fun k => by
    funext i; match i with | ⟨0, _⟩ => rfl | ⟨1, _⟩ => rfl | ⟨2, _⟩ => rfl
  rw [val_main_v27_apply, Fin.sum_univ_three, e, e, e, exp_at, exp_at, exp_at]
  exact (congrArg₂ (· + ·) Cert.ProjRefIdeal.Hand.zero_word rfl).trans (zero_add _)

theorem term_at (k : Fin 3) : val_main_v37 (F := Ideal) O0 O1 O2 L0 L1 L2 (ix4 k q h d) =
    Ideal.div (Ideal.exp (lses L0 L1 L2 q h k - topOf L0 L1 L2 q h)) (totalOf L0 L1 L2 q h) * outs O0 O1 O2 q h d k := by
  have e : idx_main_v31 (idx_main_v36 (ix4 k q h d)) = ix3 k q h := by
    funext i; match i with | ⟨0, _⟩ => rfl | ⟨1, _⟩ => rfl | ⟨2, _⟩ => rfl
  have e' : idx_main_v28 (idx_main_v29 (ix3 k q h)) = ix2 q h := by
    funext i; match i with | ⟨0, _⟩ => rfl | ⟨1, _⟩ => rfl
  rw [val_main_v37_apply, val_main_v36_apply, val_main_v31_apply, e, val_main_v30_apply, val_main_v29_apply, val_main_v28_apply, e', exp_at, total_at,
    stack_out]
  rfl

/-- The blended array, as the reference has it. -/
theorem blended_eq : val_main_v39 (F := Ideal) O0 O1 O2 L0 L1 L2 = blended O0 O1 O2 L0 L1 L2 := by
  funext y
  obtain ⟨q, k, rfl⟩ : ∃ (q : Fin 8192) (k : Fin 2048), y = ix2 q k := ⟨y 0, y 1, eq_ix2 y⟩
  have e : idx_main_v39 (ix2 q k) = ix3 q ⟨k.val / 128, by omega⟩ ⟨k.val % 128, by omega⟩ := by
    funext i
    refine Fin.ext ?_
    match i with
    | ⟨0, _⟩ => show (q.val * 2048 + k.val) / 2048 = q.val; omega
    | ⟨1, _⟩ => show (q.val * 2048 + k.val) / 128 % 16 = k.val / 128; omega
    | ⟨2, _⟩ => show (q.val * 2048 + k.val) % 128 = k.val % 128; omega
  have e' : ∀ (h : Fin 16) (d : Fin 128) (j : Fin 3), idx_main_v38 (ix3 q h d) j = ix4 j q h d := fun h d j => by
    funext i; match i with | ⟨0, _⟩ => rfl | ⟨1, _⟩ => rfl | ⟨2, _⟩ => rfl | ⟨3, _⟩ => rfl
  have ek : chan ⟨k.val / 128, by omega⟩ ⟨k.val % 128, by omega⟩ = k := Fin.ext (by show 128 * (k.val / 128) + k.val % 128 = k.val; omega)
  rw [val_main_v39_apply, e, val_main_v38_apply, Fin.sum_univ_three, e', e', e', term_at, term_at, term_at]
  refine ((congrArg₂ (· + ·) Cert.ProjRefIdeal.Hand.zero_word rfl).trans (zero_add _)).trans ?_
  unfold outs
  rw [ek]
  rfl

variable (W : (⟨S2048x2048, .bf16⟩ : BufTy).Contents (Elt Ideal)) (X : (⟨S8192x2048, .f32⟩ : BufTy).Contents (Elt Ideal))
  (G : (⟨S2x1x2048, .f32⟩ : BufTy).Contents (Elt Ideal)) (g b : (⟨S1x2048, .f32⟩ : BufTy).Contents (Elt Ideal))

/-- The reference's result. -/
theorem result : val_main_v71 (F := Ideal) O0 O1 O2 L0 L1 L2 W X G g b = outArr (blended O0 O1 O2 L0 L1 L2) W X G g b := by
  rw [← blended_eq]
  exact Cert.ProjRefIdeal.Hand.result (val_main_v39 (F := Ideal) O0 O1 O2 L0 L1 L2) W X G g b

end Cert.MergeRefIdeal.Hand

end
-- ==== Proof.Merge.Alg.lean ====
/- The merging kernel and its reference end with the same rows where the heads' log-sum-exps are numbers. -/
module

public import proofs.«01_k».proof.Proof.Gen.Pre_lse_finite
public import proofs.«01_k».proof.Proof.Merge.Final
public import proofs.«01_k».proof.Proof.Merge.Ref
public import Idealize.ShloMosaic.Lib.ReduceAll
public import Idealize.ShloMosaic.Lib.WordCmp
public import Idealize.ShloMosaic.Lib.Bf16PairInverse

@[expose] public section

set_option maxRecDepth 16384

noncomputable section

namespace Cert.Merge.Value

open Idealize.ShloMosaic Idealize.ShloMosaic.TcCoe Idealize.SL.Sem

/-- What is below +∞ in absolute value is a number. -/
theorem number_of_test (x : EReal) (h : FloatOps.cmpf (F := Ideal) (φ := .f32) .olt (max x (-x)) (FloatOps.ofBits .f32 0x7F800000#32) = 1#1) :
    ∃ r : ℝ, x = r := by
  have top_word : FloatOps.ofBits (F := Ideal) .f32 0x7F800000#32 = (⊤ : EReal) := by simp [FloatOps.ofBits, Ideal.ofBits, Ideal.ieee]
  rw [top_word] at h
  have hlt : max x (-x) < (⊤ : EReal) := by
    by_contra hn
    have h' : BitVec.ofBool (decide (max x (-x) < (⊤ : EReal))) = 1#1 := h
    rw [decide_eq_false hn] at h'
    exact absurd h' (by decide)
  induction x with
  | bot => simp at hlt
  | top => simp at hlt
  | coe r => exact ⟨r, rfl⟩

/-- A slice's test, read at one of its entries. -/
theorem number_at {s t u : Shape} [Subsingleton u.Idx] {axes : List (Fin t.rank)} {dims : Fin u.rank → Fin t.rank} (off : Fin s.rank → ℕ) (x : s.Idx → EReal)
    (hs : s.Slices off t) (hb : u.BroadcastsInDim t dims) (hr : t.ReducesTo axes u) (hu : 0 < u.numel) (j : u.Idx)
    (e : Host.reduce IntOp.andi (cmpf (F := Ideal) (φ := .f32) .olt (Host.absf (F := Ideal) (φ := .f32) (extractStridedSlice t off x hs))
      (broadcastInDim t dims hb (constant u .f32 0x7F800000#32))) (constantI u 1 1#1) hr hu j = 1#1)
    (i : t.Idx) (k : s.Idx) (hk : extractStridedSlice t off x hs i = x k) : ∃ r : ℝ, x k = r := by
  have h := Host.reduce_andi_all _ _ _ _ j e i
  rw [← hk]
  exact number_of_test _ h

/-- The printed precondition, as a statement about the arrays. -/
theorem finite_of_pre (m : (ℓ : Loc Cert.MergeIdeal.nD Cert.MergeIdeal.τ Cert.MergeIdeal.sig) → Buf (Elt Ideal) ℓ)
    (h : Cert.Pre_MergeIdeal_lse_finite m) (c : Dev Cert.MergeIdeal.nD) :
    Finite (Cert.MergeIdeal.Hand.arg3 m c) (Cert.MergeIdeal.Hand.arg4 m c) (Cert.MergeIdeal.Hand.arg5 m c) := by
  have e := congrFun (h c) ix0
  have split : ∀ a b : BitVec 1, IntOp.andi a b = 1#1 → a = 1#1 ∧ b = 1#1 := by decide
  obtain ⟨e', e2⟩ := split _ _ e
  obtain ⟨e0, e1⟩ := split _ _ e'
  intro q l hl
  refine ⟨?_, ?_, ?_⟩
  · exact number_at _ _ _ _ _ _ _ e0 (ix4 ⟨q.val / 4096, by omega⟩ 0 ⟨q.val % 4096, by omega⟩ ⟨l.val, hl⟩) _
      (congrArg (Cert.MergeIdeal.Hand.arg3 m c) (funext fun i => Fin.ext (by
        match i with
        | ⟨0, _⟩ => exact Nat.zero_add _
        | ⟨1, _⟩ => exact Nat.zero_add _
        | ⟨2, _⟩ => exact Nat.zero_add _
        | ⟨3, _⟩ => exact Nat.zero_add _)))
  · exact number_at _ _ _ _ _ _ _ e1 (ix4 ⟨q.val / 4096, by omega⟩ ⟨q.val % 4, by omega⟩ ⟨q.val % 4096 / 4, by omega⟩ ⟨l.val, hl⟩) _
      (congrArg (Cert.MergeIdeal.Hand.arg4 m c) (funext fun i => Fin.ext (by
        match i with
        | ⟨0, _⟩ => exact Nat.zero_add _
        | ⟨1, _⟩ => exact Nat.zero_add _
        | ⟨2, _⟩ => exact Nat.zero_add _
        | ⟨3, _⟩ => exact Nat.zero_add _)))
  · exact number_at _ _ _ _ _ _ _ e2 (ix4 ⟨q.val / 4096, by omega⟩ ⟨q.val % 16, by omega⟩ ⟨q.val % 4096 / 16, by omega⟩ ⟨l.val, hl⟩) _
      (congrArg (Cert.MergeIdeal.Hand.arg5 m c) (funext fun i => Fin.ext (by
        match i with
        | ⟨0, _⟩ => exact Nat.zero_add _
        | ⟨1, _⟩ => exact Nat.zero_add _
        | ⟨2, _⟩ => exact Nat.zero_add _
        | ⟨3, _⟩ => exact Nat.zero_add _)))

/-- From memories that agree on the arguments the kernel and the reference end with the same rows. -/
theorem algebraic : Cert.algebraic_MergeIdeal_MergeRefIdeal_pre_lse_finite := by
  intro m g m' g' hpre hagree
  refine ⟨fun c => Cert.Proj.Value.outArr (blended (Cert.MergeIdeal.Hand.arg0 m c) (Cert.MergeIdeal.Hand.arg1 m c) (Cert.MergeIdeal.Hand.arg2 m c)
    (Cert.MergeIdeal.Hand.arg3 m c) (Cert.MergeIdeal.Hand.arg4 m c) (Cert.MergeIdeal.Hand.arg5 m c)) (Cert.MergeIdeal.Hand.arg6 m c)
    (Cert.MergeIdeal.Hand.arg7 m c) (Cert.MergeIdeal.Hand.arg8 m c) (Cert.MergeIdeal.Hand.arg9 m c) (Cert.MergeIdeal.Hand.arg10 m c), ?_, ?_⟩
  · refine (θ_run _ _ _).mono (fun r h c => ?_) (Cert.MergeIdeal.Hand.run_blocks m g)
    exact ⟨(h.1 c).1.trans (Cert.MergeIdeal.Hand.final m c (finite_of_pre m hpre c)), (h.1 c).2⟩
  · refine (θ_run _ _ _).mono (fun r h c => ?_) (Cert.MergeRefIdeal.Value.run m' g')
    refine ⟨(h c).1.trans ?_, (h c).2⟩
    obtain ⟨h0, h1, h2, h3, h4, h5, h6, h7, h8, h9, h10, _⟩ := hagree c
    rw [Cert.MergeRefIdeal.Read.val_main_v71_eq, h0, h1, h2, h3, h4, h5, h6, h7, h8, h9, h10]
    exact Cert.MergeRefIdeal.Hand.result _ _ _ _ _ _ _ _ _ _ _

/-- The packed words' rewrites. -/
theorem preserves : Cert.preserves_Merge_MergeIdeal :=
  ⟨IdealRules.bf16_pair.bufferStatement _ _, IdealRules.bf16_pair.bufferStatement _ _, IdealRules.bf16_pair.statement _ _,
    IdealRules.bf16_pack.statement _⟩

end Cert.Merge.Value

end
-- ==== Proof.Qkv.Tile.lean ====
/- One tile of the projection over the extended reals: 1024 rows, modulated, times 512 columns of the weights, and
   each head's entries combined with the entries a quarter of a quarter head away by the coefficient tables. -/
module

public import Idealize.ShloMosaic.Lib.Pointwise
public import Idealize.ShloMosaic.Lib.Pipeline.ValueKit

@[expose] public section

noncomputable section

namespace Cert.Qkv

open Idealize.ShloMosaic Idealize.ShloMosaic.View

/-- Entry `l` of a head `v` turned by its three coefficients: its own, that of the entry 16 further, that of the
    entry 16 before. -/
def turn (v : Fin 128 → EReal) (c₀ c₁ c₂ : EReal) (l : Fin 128) : EReal :=
  v l * c₀ + v ⟨(l.val + 16) % 128, Nat.mod_lt _ (by decide)⟩ * c₁ + v ⟨(l.val + 112) % 128, Nat.mod_lt _ (by decide)⟩ * c₂

/-- The rows scaled and shifted. -/
def modulated (x : (⟨2, ![1024, 2048]⟩ : Shape).Idx → EReal) (sc sh : (⟨3, ![1, 1, 2048]⟩ : Shape).Idx → EReal) :
    (⟨2, ![1024, 2048]⟩ : Shape).Idx → EReal :=
  fun y => x (ix2 (y 0) (y 1)) * (1 + sc (ix3 0 0 (y 1))) + sh (ix3 0 0 (y 1))

/-- The tile's product, head by head. -/
def product (h : (⟨2, ![1024, 2048]⟩ : Shape).Idx → EReal) (w : (⟨3, ![1, 2048, 512]⟩ : Shape).Idx → EReal) :
    (⟨3, ![4, 1024, 128]⟩ : Shape).Idx → EReal :=
  fun y => ∑ k : Fin 2048, h (ix2 (y 1) k) * w (ix3 0 k ⟨128 * (y 0).val + (y 2).val, by
    have h0 : (y 0).val < 4 := (y 0).isLt
    have h2 : (y 2).val < 128 := (y 2).isLt
    omega⟩)

/-- Row `D j + r` of a tile of `D R` rows. -/
def rowOf {D R : ℕ} (h : D * R = 1024) (r : Fin D) (j : Fin R) : Fin 1024 :=
  ⟨D * j.val + r.val, by
    have : D * (j.val + 1) ≤ D * R := Nat.mul_le_mul_left _ j.isLt
    have := r.isLt
    rw [Nat.mul_add] at *
    omega⟩

/-- Row `R r + j`: where the tables keep the coefficients of row `D j + r`. -/
def placeOf {D R : ℕ} (h : D * R = 1024) (r : Fin D) (j : Fin R) : Fin 1024 :=
  ⟨R * r.val + j.val, by
    have : R * (r.val + 1) ≤ R * D := Nat.mul_le_mul_left _ r.isLt
    have := j.isLt
    rw [Nat.mul_comm] at h
    rw [Nat.mul_add] at *
    omega⟩

/-- The tile's block of the result: the rows split by residue class, every head turned. -/
def turned {D R : ℕ} (h : D * R = 1024) (A : (⟨3, ![4, 1024, 128]⟩ : Shape).Idx → EReal)
    (T : (⟨3, ![3, 1024, 128]⟩ : Shape).Idx → EReal) (r : Fin D) (j : Fin R) (col : Fin 512) : EReal :=
  turn (fun l => A (ix3 ⟨col.val / 128, by omega⟩ (rowOf h r j) l))
    (T (ix3 0 (placeOf h r j) ⟨col.val % 128, by omega⟩)) (T (ix3 1 (placeOf h r j) ⟨col.val % 128, by omega⟩))
    (T (ix3 2 (placeOf h r j) ⟨col.val % 128, by omega⟩)) ⟨col.val % 128, by omega⟩

/-- The block as an array. -/
def turnedBlock {D R : ℕ} (h : D * R = 1024) (A : (⟨3, ![4, 1024, 128]⟩ : Shape).Idx → EReal)
    (T : (⟨3, ![3, 1024, 128]⟩ : Shape).Idx → EReal) : (⟨4, ![1, D, R, 512]⟩ : Shape).Idx → EReal :=
  fun y => turned h A T (y 1) (y 2) (y 3)

/-- One head's store of one residue class agrees with `turned` where it lies. -/
theorem turned_piece {D R : ℕ} (h : D * R = 1024) (A : (⟨3, ![4, 1024, 128]⟩ : Shape).Idx → EReal)
    (T : (⟨3, ![3, 1024, 128]⟩ : Shape).Idx → EReal) (hc : Fin 4) (r : Fin D) (o q : ℕ) (ho : o = 128 * hc.val) (hq : q = r.val)
    (y : (⟨4, ![1, D, R, 512]⟩ : Shape).Idx) (w : (⟨4, ![1, 1, R, 128]⟩ : Shape).Idx → EReal)
    (hw : ∀ (j : Fin R) (l : Fin 128), w (ix4 0 0 j l) = turn (fun l => A (ix3 hc (rowOf h r j) l))
      (T (ix3 0 (placeOf h r j) l)) (T (ix3 1 (placeOf h r j) l)) (T (ix3 2 (placeOf h r j) l)) l) :
    TileAt (Val := Elt Ideal) (e := .bf16) (S := ⟨4, ![1, D, R, 512]⟩) y ![0, q, 0, o] ![1, 1, R, 128] w (turnedBlock h A T y) := by
  intro x hx
  have h3 : (y 3).val = o + (x 3).val := hx 3
  have h2 : (y 2).val = 0 + (x 2).val := hx 2
  have h1 : (y 1).val = q + (x 1).val := hx 1
  have x3 : (x 3).val < 128 := (x 3).isLt
  have x1 : (x 1).val < 1 := (x 1).isLt
  obtain ⟨a, b, j, l, rfl⟩ : ∃ (a : Fin 1) (b : Fin 1) (j : Fin R) (l : Fin 128), x = ix4 a b j l :=
    ⟨x 0, x 1, x 2, x 3, eq_ix4 x⟩
  obtain rfl : a = 0 := Subsingleton.elim _ _
  obtain rfl : b = 0 := Subsingleton.elim _ _
  refine (hw j l).trans ?_
  have e1 : (y 1 : Fin D) = r := Fin.ext (by rw [h1, hq]; rfl)
  have e2 : (y 2 : Fin R) = j := Fin.ext (by rw [h2]; exact Nat.zero_add _)
  have e3 : (y 3).val / 128 = hc.val := by rw [h3, ho]; show (128 * hc.val + l.val) / 128 = _; omega
  have e4 : (y 3).val % 128 = l.val := by rw [h3, ho]; show (128 * hc.val + l.val) % 128 = _; omega
  unfold turnedBlock turned
  rw [e1, e2]
  congr 1
  all_goals first
    | exact Fin.ext e4.symm
    | exact funext fun l => congrArg (fun i => A (ix3 i (rowOf h r j) l)) (Fin.ext e3.symm)
    | exact congrArg (fun i => T (ix3 _ (placeOf h r j) i)) (Fin.ext e4.symm)

/-- One head's store of the product agrees with `product` where it lies. -/
theorem product_piece (h : (⟨2, ![1024, 2048]⟩ : Shape).Idx → EReal) (W : (⟨3, ![1, 2048, 512]⟩ : Shape).Idx → EReal)
    (hc : Fin 4) (o : ℕ) (ho : o = hc.val)
    (y : (⟨3, ![4, 1024, 128]⟩ : Shape).Idx) (w : (⟨3, ![1, 1024, 128]⟩ : Shape).Idx → EReal)
    (hw : ∀ (j : Fin 1024) (l : Fin 128), w (ix3 0 j l) = ∑ k : Fin 2048, h (ix2 j k) * W (ix3 0 k ⟨128 * hc.val + l.val, by omega⟩)) :
    TileAt (Val := Elt Ideal) (e := .f32) (S := ⟨3, ![4, 1024, 128]⟩) y ![o, 0, 0] ![1, 1024, 128] w (product h W y) := by
  intro x hx
  have h2 : (y 2).val = 0 + (x 2).val := hx 2
  have h1 : (y 1).val = 0 + (x 1).val := hx 1
  have h0 : (y 0).val = o + (x 0).val := hx 0
  obtain ⟨a, j, l, rfl⟩ : ∃ (a : Fin 1) (j : Fin 1024) (l : Fin 128), x = ix3 a j l := ⟨x 0, x 1, x 2, eq_ix3 x⟩
  obtain rfl : a = 0 := Subsingleton.elim _ _
  refine (hw j l).trans ?_
  have e0 : (y 0).val = hc.val := by rw [h0, ho]; rfl
  have e1 : (y 1 : Fin 1024) = j := Fin.ext (by rw [h1]; exact Nat.zero_add _)
  have e2 : (y 2).val = l.val := by rw [h2]; exact Nat.zero_add _
  unfold product
  rw [e1]
  refine Finset.sum_congr rfl fun k _ => ?_
  congr 3
  exact Fin.ext (by show 128 * hc.val + l.val = 128 * (y 0).val + (y 2).val; omega)

end Cert.Qkv
-- ==== Proof.Qkv.Blk1.lean ====
/- What a grid point of the projection leaves in its output block and its scratch. -/
module

public import proofs.«01_k».proof.Proof.Gen.Qkv1Ideal.Value
public import proofs.«01_k».proof.Proof.Qkv.Tile
public import Idealize.ShloMosaic.Lib.Pipeline.ReadBack

@[expose] public section

set_option maxRecDepth 16384

noncomputable section

namespace Cert.Qkv1Ideal.Hand

open Cert.Qkv Cert.Qkv1Ideal Cert.Qkv1Ideal.Gen Idealize.ShloMosaic Idealize.ShloMosaic.TcCoe Idealize.SL Idealize.SL.Sem
open Idealize.ShloMosaic.View
variable (m : (ℓ : Loc nD τ sig) → Buf (Elt Ideal) ℓ)

/-- The tile of 1024 rows is not split: one residue class. -/
theorem one_class : 1 * 1024 = 1024 := by decide

theorem modulated_eq (x : Vec Ideal S1024x2048 .f32) (sc sh : Vec Ideal S1x1x2048 .f32) :
    k0_pay34 (F := Ideal) x sc sh = modulated x sc sh := by
  funext y
  rw [eq_ix2 y]
  unfold modulated
  pointwise [k0_pay34]

/-- What the point before left. -/
abbrev before (c : Dev nD) (t : Fin cfg0.N) := outsAt0 m c (t.val - 1) (Nat.lt_of_le_of_lt (Nat.sub_le _ _) t.isLt)

theorem row_one (j : Fin 1024) : rowOf one_class 0 j = j := Fin.ext (by show 1 * j.val + 0 = j.val; omega)
theorem place_one (j : Fin 1024) : placeOf one_class 0 j = j := Fin.ext (by show 1024 * 0 + j.val = j.val; omega)

/-- A head turned, with the two neighbours named as the kernel's rotations name them. -/
theorem turn_eq (A : Vec Ideal S4x1024x128 .f32) (T : Vec Ideal S3x1024x128 .f32) (hc : Fin 4) (j : Fin 1024) (l : Fin 128) :
    A (ix3 hc j l) * T (ix3 0 j l) +
        A (ix3 hc j ⟨(l.val + 128 - 112) % 128, Nat.mod_lt _ (by decide)⟩) * T (ix3 1 j l) +
      A (ix3 hc j ⟨(l.val + 128 - 16) % 128, Nat.mod_lt _ (by decide)⟩) * T (ix3 2 j l) =
    turn (fun l => A (ix3 hc (rowOf one_class 0 j) l)) (T (ix3 0 (placeOf one_class 0 j) l)) (T (ix3 1 (placeOf one_class 0 j) l))
      (T (ix3 2 (placeOf one_class 0 j) l)) l := by
  simp only [turn, row_one, place_one, show l.val + 128 - 112 = l.val + 16 by omega, show l.val + 128 - 16 = l.val + 112 by omega]

theorem rows_A (c : Dev nD) (t : Fin cfg0.N) (h0 : t.val % 12 = 0) (h1 : t.val % 97 = 0) (h2 : t.val % 2 = 0) (h3 : ¬t.val % 2 = 1) :
    (outsAt0 m c t.val t.isLt).2.1 = modulated (iblk m c 0 t) (iblk m c 1 t) (iblk m c 2 t) := by
  rw [outsAt0_A m c t h0 h1 h2 h3]
  dsimp only [before]
  frame_out
  exact modulated_eq _ _ _

theorem acc_A (c : Dev nD) (t : Fin cfg0.N) (h0 : t.val % 12 = 0) (h1 : t.val % 97 = 0) (h2 : t.val % 2 = 0) (h3 : ¬t.val % 2 = 1) :
    (outsAt0 m c t.val t.isLt).2.2.1 = product (modulated (iblk m c 0 t) (iblk m c 1 t) (iblk m c 2 t)) (iblk m c 3 t) := by
  rw [outsAt0_A m c t h0 h1 h2 h3]
  dsimp only [before]
  frame_out
  rw [modulated_eq]
  funext y
  refine canon_eq_of_allAt _ y _ (cover_of_tiled_head _ _ _ (by rfl) y) ?_
  refine allAt_cons_unit _ _ _ _ _ (product_piece _ _ 3 3 rfl _ _ fun j l => ?_) ?_
  · pointwise [k0_pay2, k0_pay6]
  refine allAt_cons_unit _ _ _ _ _ (product_piece _ _ 2 2 rfl _ _ fun j l => ?_) ?_
  · pointwise [k0_pay2, k0_pay5]
  refine allAt_cons_unit _ _ _ _ _ (product_piece _ _ 1 1 rfl _ _ fun j l => ?_) ?_
  · pointwise [k0_pay2, k0_pay4]
  refine allAt_cons_unit _ _ _ _ _ (product_piece _ _ 0 0 rfl _ _ fun j l => ?_) ?_
  · pointwise [k0_pay2, k0_pay3]
  exact allAt_nil _ _

theorem rows_B (c : Dev nD) (t : Fin cfg0.N) (h0 : ¬t.val % 12 = 0) (h1 : ¬t.val % 97 = 0) (h2 : ¬t.val % 2 = 0) (h3 : t.val % 2 = 1) :
    (outsAt0 m c t.val t.isLt).2.1 = (before m c t).2.1 := by
  rw [outsAt0_B m c t h0 h1 h2 h3]
  dsimp only [before]
  rfl

theorem acc_B (c : Dev nD) (t : Fin cfg0.N) (h0 : ¬t.val % 12 = 0) (h1 : ¬t.val % 97 = 0) (h2 : ¬t.val % 2 = 0) (h3 : t.val % 2 = 1) :
    (outsAt0 m c t.val t.isLt).2.2.2 = product ((before m c t).2.1) (iblk m c 3 t) := by
  rw [outsAt0_B m c t h0 h1 h2 h3]
  dsimp only [before]
  generalize (outsAt0 m c (t.val - 1) (Nat.lt_of_le_of_lt (Nat.sub_le _ _) t.isLt)) = X
  frame_out
  simp only [read_unread_whole]
  funext y
  refine canon_eq_of_allAt _ y _ (cover_of_tiled_head _ _ _ (by rfl) y) ?_
  refine allAt_cons_unit _ _ _ _ _ (product_piece _ _ 3 3 rfl _ _ fun j l => ?_) ?_
  · pointwise [k0_pay18, k0_pay22]
  refine allAt_cons_unit _ _ _ _ _ (product_piece _ _ 2 2 rfl _ _ fun j l => ?_) ?_
  · pointwise [k0_pay18, k0_pay21]
  refine allAt_cons_unit _ _ _ _ _ (product_piece _ _ 1 1 rfl _ _ fun j l => ?_) ?_
  · pointwise [k0_pay18, k0_pay20]
  refine allAt_cons_unit _ _ _ _ _ (product_piece _ _ 0 0 rfl _ _ fun j l => ?_) ?_
  · pointwise [k0_pay18, k0_pay19]
  exact allAt_nil _ _

theorem out_B (c : Dev nD) (t : Fin cfg0.N) (h0 : ¬t.val % 12 = 0) (h1 : ¬t.val % 97 = 0) (h2 : ¬t.val % 2 = 0) (h3 : t.val % 2 = 1) :
    (outsAt0 m c t.val t.isLt).1 = turnedBlock one_class (before m c t).2.2.1 (iblk m c 4 t) := by
  rw [outsAt0_B m c t h0 h1 h2 h3]
  dsimp only [before]
  generalize (outsAt0 m c (t.val - 1) (Nat.lt_of_le_of_lt (Nat.sub_le _ _) t.isLt)) = X
  frame_out
  simp only [read_unread_whole]
  funext y
  refine canon_eq_of_allAt _ y _ (cover_of_tiled_head _ _ _ (by rfl) y) ?_
  refine allAt_cons_unit _ _ _ _ _ (turned_piece one_class _ _ 3 0 384 0 rfl rfl _ _ fun j l => ?_) ?_
  · rw [← turn_eq]
    pointwise [k0_pay29, k0_pay30, k0_pay31, k0_pay32, k0_pay33, k0_pay2, k0_pay1, k0_pay36]
  refine allAt_cons_unit _ _ _ _ _ (turned_piece one_class _ _ 2 0 256 0 rfl rfl _ _ fun j l => ?_) ?_
  · rw [← turn_eq]
    pointwise [k0_pay28]
  refine allAt_cons_unit _ _ _ _ _ (turned_piece one_class _ _ 1 0 128 0 rfl rfl _ _ fun j l => ?_) ?_
  · rw [← turn_eq]
    pointwise [k0_pay27]
  refine allAt_cons_unit _ _ _ _ _ (turned_piece one_class _ _ 0 0 0 0 rfl rfl _ _ fun j l => ?_) ?_
  · rw [← turn_eq]
    pointwise [k0_pay23, k0_pay24, k0_pay25, k0_pay26]
  exact allAt_nil _ _

theorem rows_C (c : Dev nD) (t : Fin cfg0.N) (h0 : ¬t.val % 12 = 0) (h1 : ¬t.val % 97 = 0) (h2 : t.val % 2 = 0) (h3 : ¬t.val % 2 = 1) :
    (outsAt0 m c t.val t.isLt).2.1 = (before m c t).2.1 := by
  rw [outsAt0_C m c t h0 h1 h2 h3]
  dsimp only [before]
  rfl

theorem acc_C (c : Dev nD) (t : Fin cfg0.N) (h0 : ¬t.val % 12 = 0) (h1 : ¬t.val % 97 = 0) (h2 : t.val % 2 = 0) (h3 : ¬t.val % 2 = 1) :
    (outsAt0 m c t.val t.isLt).2.2.1 = product ((before m c t).2.1) (iblk m c 3 t) := by
  rw [outsAt0_C m c t h0 h1 h2 h3]
  dsimp only [before]
  generalize (outsAt0 m c (t.val - 1) (Nat.lt_of_le_of_lt (Nat.sub_le _ _) t.isLt)) = X
  frame_out
  simp only [read_unread_whole]
  funext y
  refine canon_eq_of_allAt _ y _ (cover_of_tiled_head _ _ _ (by rfl) y) ?_
  refine allAt_cons_unit _ _ _ _ _ (product_piece _ _ 3 3 rfl _ _ fun j l => ?_) ?_
  · pointwise [k0_pay2, k0_pay6]
  refine allAt_cons_unit _ _ _ _ _ (product_piece _ _ 2 2 rfl _ _ fun j l => ?_) ?_
  · pointwise [k0_pay2, k0_pay5]
  refine allAt_cons_unit _ _ _ _ _ (product_piece _ _ 1 1 rfl _ _ fun j l => ?_) ?_
  · pointwise [k0_pay2, k0_pay4]
  refine allAt_cons_unit _ _ _ _ _ (product_piece _ _ 0 0 rfl _ _ fun j l => ?_) ?_
  · pointwise [k0_pay2, k0_pay3]
  exact allAt_nil _ _

theorem out_C (c : Dev nD) (t : Fin cfg0.N) (h0 : ¬t.val % 12 = 0) (h1 : ¬t.val % 97 = 0) (h2 : t.val % 2 = 0) (h3 : ¬t.val % 2 = 1) :
    (outsAt0 m c t.val t.isLt).1 = turnedBlock one_class (before m c t).2.2.2 (iblk m c 4 t) := by
  rw [outsAt0_C m c t h0 h1 h2 h3]
  dsimp only [before]
  generalize (outsAt0 m c (t.val - 1) (Nat.lt_of_le_of_lt (Nat.sub_le _ _) t.isLt)) = X
  frame_out
  simp only [read_unread_whole]
  funext y
  refine canon_eq_of_allAt _ y _ (cover_of_tiled_head _ _ _ (by rfl) y) ?_
  refine allAt_cons_unit _ _ _ _ _ (turned_piece one_class _ _ 3 0 384 0 rfl rfl _ _ fun j l => ?_) ?_
  · rw [← turn_eq]
    pointwise [k0_pay13, k0_pay14, k0_pay15, k0_pay16, k0_pay17, k0_pay1, k0_pay36]
  refine allAt_cons_unit _ _ _ _ _ (turned_piece one_class _ _ 2 0 256 0 rfl rfl _ _ fun j l => ?_) ?_
  · rw [← turn_eq]
    pointwise [k0_pay12]
  refine allAt_cons_unit _ _ _ _ _ (turned_piece one_class _ _ 1 0 128 0 rfl rfl _ _ fun j l => ?_) ?_
  · rw [← turn_eq]
    pointwise [k0_pay11]
  refine allAt_cons_unit _ _ _ _ _ (turned_piece one_class _ _ 0 0 0 0 rfl rfl _ _ fun j l => ?_) ?_
  · rw [← turn_eq]
    pointwise [k0_pay7, k0_pay8, k0_pay9, k0_pay10]
  exact allAt_nil _ _

theorem rows_D (c : Dev nD) (t : Fin cfg0.N) (h0 : t.val % 12 = 0) (h1 : ¬t.val % 97 = 0) (h2 : t.val % 2 = 0) (h3 : ¬t.val % 2 = 1) :
    (outsAt0 m c t.val t.isLt).2.1 = modulated (iblk m c 0 t) (iblk m c 1 t) (iblk m c 2 t) := by
  rw [outsAt0_D m c t h0 h1 h2 h3]
  dsimp only [before]
  generalize (outsAt0 m c (t.val - 1) (Nat.lt_of_le_of_lt (Nat.sub_le _ _) t.isLt)) = X
  frame_out
  exact modulated_eq _ _ _

theorem acc_D (c : Dev nD) (t : Fin cfg0.N) (h0 : t.val % 12 = 0) (h1 : ¬t.val % 97 = 0) (h2 : t.val % 2 = 0) (h3 : ¬t.val % 2 = 1) :
    (outsAt0 m c t.val t.isLt).2.2.1 = product (modulated (iblk m c 0 t) (iblk m c 1 t) (iblk m c 2 t)) (iblk m c 3 t) := by
  rw [outsAt0_D m c t h0 h1 h2 h3]
  dsimp only [before]
  generalize (outsAt0 m c (t.val - 1) (Nat.lt_of_le_of_lt (Nat.sub_le _ _) t.isLt)) = X
  frame_out
  rw [modulated_eq]
  funext y
  refine canon_eq_of_allAt _ y _ (cover_of_tiled_head _ _ _ (by rfl) y) ?_
  refine allAt_cons_unit _ _ _ _ _ (product_piece _ _ 3 3 rfl _ _ fun j l => ?_) ?_
  · pointwise [k0_pay2, k0_pay6]
  refine allAt_cons_unit _ _ _ _ _ (product_piece _ _ 2 2 rfl _ _ fun j l => ?_) ?_
  · pointwise [k0_pay2, k0_pay5]
  refine allAt_cons_unit _ _ _ _ _ (product_piece _ _ 1 1 rfl _ _ fun j l => ?_) ?_
  · pointwise [k0_pay2, k0_pay4]
  refine allAt_cons_unit _ _ _ _ _ (product_piece _ _ 0 0 rfl _ _ fun j l => ?_) ?_
  · pointwise [k0_pay2, k0_pay3]
  exact allAt_nil _ _

theorem out_D (c : Dev nD) (t : Fin cfg0.N) (h0 : t.val % 12 = 0) (h1 : ¬t.val % 97 = 0) (h2 : t.val % 2 = 0) (h3 : ¬t.val % 2 = 1) :
    (outsAt0 m c t.val t.isLt).1 = turnedBlock one_class (before m c t).2.2.2 (iblk m c 4 t) := by
  rw [outsAt0_D m c t h0 h1 h2 h3]
  dsimp only [before]
  generalize (outsAt0 m c (t.val - 1) (Nat.lt_of_le_of_lt (Nat.sub_le _ _) t.isLt)) = X
  frame_out
  simp only [read_unread_whole]
  funext y
  refine canon_eq_of_allAt _ y _ (cover_of_tiled_head _ _ _ (by rfl) y) ?_
  refine allAt_cons_unit _ _ _ _ _ (turned_piece one_class _ _ 3 0 384 0 rfl rfl _ _ fun j l => ?_) ?_
  · rw [← turn_eq]
    pointwise [k0_pay13, k0_pay14, k0_pay15, k0_pay16, k0_pay17, k0_pay1, k0_pay36]
  refine allAt_cons_unit _ _ _ _ _ (turned_piece one_class _ _ 2 0 256 0 rfl rfl _ _ fun j l => ?_) ?_
  · rw [← turn_eq]
    pointwise [k0_pay12]
  refine allAt_cons_unit _ _ _ _ _ (turned_piece one_class _ _ 1 0 128 0 rfl rfl _ _ fun j l => ?_) ?_
  · rw [← turn_eq]
    pointwise [k0_pay11]
  refine allAt_cons_unit _ _ _ _ _ (turned_piece one_class _ _ 0 0 0 0 rfl rfl _ _ fun j l => ?_) ?_
  · rw [← turn_eq]
    pointwise [k0_pay7, k0_pay8, k0_pay9, k0_pay10]
  exact allAt_nil _ _

end Cert.Qkv1Ideal.Hand
-- ==== Proof.Qkv.Proj.lean ====
/- The projection's result array: tile by tile, from the rows, the modulation, the weights and the coefficient tables. -/
module

public import proofs.«01_k».proof.Proof.Qkv.Tile

@[expose] public section

noncomputable section

namespace Cert.Qkv

open Idealize.ShloMosaic Idealize.ShloMosaic.View

/-- The projection's rows, modulation, weights (three groups of queries, keys and values) and tables (three groups of three coefficients each). -/
abbrev Rows : Type := (⟨2, ![8192, 2048]⟩ : Shape).Idx → EReal
abbrev Mods : Type := (⟨3, ![2, 1, 2048]⟩ : Shape).Idx → EReal
abbrev Weights : Type := (⟨3, ![1, 2048, 18432]⟩ : Shape).Idx → EReal
abbrev Tables : Type := (⟨3, ![9, 24576, 128]⟩ : Shape).Idx → EReal

/-- The `i`-th 1024 rows, modulated by their batch's scale and shift. -/
def rowsTile (X : Rows) (C S : Mods) (i : Fin 8) : (⟨2, ![1024, 2048]⟩ : Shape).Idx → EReal :=
  fun y => X (ix2 ⟨1024 * i.val + (y 0).val, by have : (y 0).val < 1024 := (y 0).isLt; omega⟩ (y 1)) *
    (1 + C (ix3 ⟨i.val / 4, by omega⟩ 0 (y 1))) + S (ix3 ⟨i.val / 4, by omega⟩ 0 (y 1))

/-- The `j`-th 512 columns of group `g`. -/
def colsTile (W : Weights) (g : Fin 3) (j : Fin 12) : (⟨3, ![1, 2048, 512]⟩ : Shape).Idx → EReal :=
  fun y => W (ix3 0 (y 1) ⟨6144 * g.val + 512 * j.val + (y 2).val, by have : (y 2).val < 512 := (y 2).isLt; omega⟩)

/-- The coefficients of the `i`-th 1024 rows for queries, keys or values (`a`). -/
def tabsTile (T : Tables) (g : Fin 3) (i : Fin 8) (a : Fin 3) : (⟨3, ![3, 1024, 128]⟩ : Shape).Idx → EReal :=
  fun y => T (ix3 ⟨3 * a.val + (y 0).val, by have : (y 0).val < 3 := (y 0).isLt; omega⟩
    ⟨8192 * g.val + 1024 * i.val + (y 1).val, by have : (y 1).val < 1024 := (y 1).isLt; omega⟩ (y 2))

/-- The block the tile of rows `i` and columns `j` gives. -/
def tileBlock {D R : ℕ} (h : D * R = 1024) (X : Rows) (C S : Mods) (W : Weights) (T : Tables) (g : Fin 3) (i : Fin 8) (j : Fin 12) :
    (⟨4, ![1, D, R, 512]⟩ : Shape).Idx → EReal :=
  turnedBlock h (product (rowsTile X C S i) (colsTile W g j)) (tabsTile T g i ⟨j.val / 4, by omega⟩)

theorem div_lt {L R q : ℕ} (hL : L = 4 * R) (hq : q < L) : q / R < 4 := by
  rcases Nat.eq_zero_or_pos R with h | h
  · omega
  · exact (Nat.div_lt_iff_lt_mul h).mpr (by omega)

theorem mod_lt {L R q : ℕ} (hL : L = 4 * R) (hq : q < L) : q % R < R := Nat.mod_lt _ (by omega)

/-- The result: residue class `r` of batch `b`, position `q`, column. -/
def projEntry {D R L : ℕ} (h : D * R = 1024) (hL : L = 4 * R) (X : Rows) (C S : Mods) (W : Weights) (T : Tables) (g : Fin 3)
    (b : Fin 2) (r : Fin D) (q : Fin L) (col : Fin 6144) : EReal :=
  tileBlock h X C S W T g ⟨4 * b.val + q.val / R, by have := div_lt hL q.isLt; omega⟩ ⟨col.val / 512, by omega⟩
    (ix4 0 r ⟨q.val % R, mod_lt hL q.isLt⟩ ⟨col.val % 512, Nat.mod_lt _ (by decide)⟩)

def projArr {D R L : ℕ} (h : D * R = 1024) (hL : L = 4 * R) (X : Rows) (C S : Mods) (W : Weights) (T : Tables) (g : Fin 3) :
    (⟨4, ![2, D, L, 6144]⟩ : Shape).Idx → EReal :=
  fun y => projEntry h hL X C S W T g (y 0) (y 1) (y 2) (y 3)

/-- The result at an index of the block of rows `i` and columns `j`. -/
theorem projArr_tile {D R L : ℕ} (h : D * R = 1024) (hL : L = 4 * R) (X : Rows) (C S : Mods) (W : Weights) (T : Tables) (g : Fin 3)
    (i : Fin 8) (j : Fin 12) (r : Fin D) (x : Fin R) (k : Fin 512) (b : Fin 2) (q : Fin L) (col : Fin 6144)
    (hb : b.val = i.val / 4) (hq : q.val = R * (i.val % 4) + x.val) (hc : col.val = 512 * j.val + k.val) :
    projArr h hL X C S W T g (ix4 b r q col) = tileBlock h X C S W T g i j (ix4 0 r x k) := by
  show projEntry h hL X C S W T g b r q col = _
  have hR : 0 < R := by have := x.isLt; omega
  have ei : (⟨4 * b.val + q.val / R, by have := div_lt hL q.isLt; omega⟩ : Fin 8) = i := Fin.ext (by
    show 4 * b.val + q.val / R = i.val
    rw [hq, Nat.mul_add_div hR, Nat.div_eq_of_lt x.isLt]; omega)
  have ej : (⟨col.val / 512, by omega⟩ : Fin 12) = j := Fin.ext (by show col.val / 512 = _; omega)
  have ex : (⟨q.val % R, mod_lt hL q.isLt⟩ : Fin R) = x := Fin.ext (by
    show q.val % R = _
    rw [hq, Nat.mul_add_mod, Nat.mod_eq_of_lt x.isLt])
  have ek : (⟨col.val % 512, Nat.mod_lt _ (by decide)⟩ : Fin 512) = k := Fin.ext (by show col.val % 512 = _; omega)
  unfold projEntry
  rw [ei, ej, ex, ek]

/-- The result as one sum and one turn over the whole arrays. -/
theorem projEntry_eq {D R L : ℕ} (h : D * R = 1024) (hL : L = 4 * R) (X : Rows) (C S : Mods) (W : Weights) (T : Tables) (g : Fin 3)
    (b : Fin 2) (r : Fin D) (q : Fin L) (col : Fin 6144) (tok : Fin 8192) (a : Fin 3) (hd : Fin 16) (l : Fin 128) (place : Fin 24576)
    (ht : tok.val = 4096 * b.val + D * q.val + r.val) (hcol : col.val = 2048 * a.val + 128 * hd.val + l.val)
    (hp : place.val = 8192 * g.val + 1024 * (4 * b.val + q.val / R) + R * r.val + q.val % R) :
    projEntry h hL X C S W T g b r q col =
      turn (fun l => ∑ k : Fin 2048, (X (ix2 tok k) * (1 + C (ix3 b 0 k)) + S (ix3 b 0 k)) *
          W (ix3 0 k ⟨6144 * g.val + 2048 * a.val + 128 * hd.val + l.val, by omega⟩))
        (T (ix3 ⟨3 * a.val, by omega⟩ place l)) (T (ix3 ⟨3 * a.val + 1, by omega⟩ place l)) (T (ix3 ⟨3 * a.val + 2, by omega⟩ place l)) l := by
  have hd4 := div_lt hL q.isLt
  have hR : 0 < R := by have := q.isLt; omega
  have hqd : R * (q.val / R) + q.val % R = q.val := Nat.div_add_mod _ _
  have hDq : D * q.val = 1024 * (q.val / R) + D * (q.val % R) := by
    conv_lhs => rw [← hqd, Nat.mul_add, ← Nat.mul_assoc, h]
  unfold projEntry tileBlock turnedBlock turned product rowsTile colsTile tabsTile rowOf placeOf
  congr 1
  · funext l'
    refine Finset.sum_congr rfl fun k _ => ?_
    congr 1
    · congr 1
      · congr 1
        · refine congrArg X (congrArg (fun i => ix2 i k) (Fin.ext ?_))
          show 1024 * (4 * b.val + q.val / R) + (D * (q.val % R) + r.val) = tok.val
          omega
        · refine congrArg (1 + ·) (congrArg C (congrArg (fun i => ix3 i 0 k) (Fin.ext ?_)))
          show (4 * b.val + q.val / R) / 4 = b.val
          omega
      · refine congrArg S (congrArg (fun i => ix3 i 0 k) (Fin.ext ?_))
        show (4 * b.val + q.val / R) / 4 = b.val
        omega
    · refine congrArg W (congrArg (ix3 0 k) (Fin.ext ?_))
      show 6144 * g.val + 512 * (col.val / 512) + (128 * (col.val % 512 / 128) + l'.val) =
        6144 * g.val + 2048 * a.val + 128 * hd.val + l'.val
      omega
  all_goals try
    refine congrArg T ?_
    have e0 : col.val / 512 / 4 = a.val := by omega
    have e1 : 8192 * g.val + 1024 * (4 * b.val + q.val / R) + (R * r.val + q.val % R) = place.val := by omega
    have e2 : col.val % 512 % 128 = l.val := by omega
    funext i
    refine Fin.ext ?_
    match i with
    | ⟨0, _⟩ => exact congrArg (fun z => 3 * z + _) e0
    | ⟨1, _⟩ => exact e1
    | ⟨2, _⟩ => exact e2
  exact Fin.ext (by show col.val % 512 % 128 = l.val; omega)

theorem block_idx {D R : ℕ} (y : (⟨4, ![1, D, R, 512]⟩ : Shape).Idx) :
    ∃ (r : Fin D) (x : Fin R) (k : Fin 512), y = ix4 0 r x k :=
  ⟨y 1, y 2, y 3, (eq_ix4 y).trans (congrArg (fun i : Fin 1 => ix4 i (y 1) (y 2) (y 3)) (Subsingleton.elim _ _))⟩

end Cert.Qkv
-- ==== Proof.Qkv.Arr1.lean ====
/- The projection's result array, from its grid points: the rows, columns and tables each point reads, what its scratch
   carries, and the block it writes. -/
module

public import proofs.«01_k».proof.Proof.Qkv.Blk1
public import proofs.«01_k».proof.Proof.Qkv.Proj

@[expose] public section

set_option maxRecDepth 16384

noncomputable section

namespace Cert.Qkv1Ideal.Hand

open Cert.Qkv Cert.Qkv1Ideal Cert.Qkv1Ideal.Gen Idealize.ShloMosaic Idealize.ShloMosaic.TcCoe Idealize.SL Idealize.SL.Sem
open Idealize.ShloMosaic.View
variable (m : (ℓ : Loc nD τ sig) → Buf (Elt Ideal) ℓ)

/-- The arguments. -/
abbrev arg0 (c : Dev nD) : Rows := m ((c.tc : Thread nD τ).loc main_arg0)
abbrev arg1 (c : Dev nD) : Mods := m ((c.tc : Thread nD τ).loc main_arg1)
abbrev arg2 (c : Dev nD) : Mods := m ((c.tc : Thread nD τ).loc main_arg2)
abbrev arg3 (c : Dev nD) : Weights := m ((c.tc : Thread nD τ).loc main_arg3)
abbrev arg4 (c : Dev nD) : Tables := m ((c.tc : Thread nD τ).loc main_arg4)

theorem idx_0 : ∀ t : Fin cfg0.N, win0_0.index t = ![min t.val 95 / 12, 0] :=
  (by decide +kernel : ∀ t : Fin grid0.N, win0_0.index t = ![min t.val 95 / 12, 0])
theorem idx_1 : ∀ t : Fin cfg0.N, win0_1.index t = ![min t.val 95 / 12 / 4, 0, 0] :=
  (by decide +kernel : ∀ t : Fin grid0.N, win0_1.index t = ![min t.val 95 / 12 / 4, 0, 0])
theorem idx_2 : ∀ t : Fin cfg0.N, win0_2.index t = ![min t.val 95 / 12 / 4, 0, 0] :=
  (by decide +kernel : ∀ t : Fin grid0.N, win0_2.index t = ![min t.val 95 / 12 / 4, 0, 0])
theorem idx_3 : ∀ t : Fin cfg0.N, win0_3.index t = ![0, 0, min t.val 95 % 12] :=
  (by decide +kernel : ∀ t : Fin grid0.N, win0_3.index t = ![0, 0, min t.val 95 % 12])
theorem idx_4 : ∀ t : Fin cfg0.N, win0_4.index t = ![(t.val - 1) % 12 / 4, (t.val - 1) / 12, 0] :=
  (by decide +kernel : ∀ t : Fin grid0.N, win0_4.index t = ![(t.val - 1) % 12 / 4, (t.val - 1) / 12, 0])
theorem idx_5 : ∀ t : Fin cfg0.N, win0_5.index t = ![(t.val - 1) / 12 / 4, 0, (t.val - 1) / 12 % 4, (t.val - 1) % 12] :=
  (by decide +kernel : ∀ t : Fin grid0.N, win0_5.index t = ![(t.val - 1) / 12 / 4, 0, (t.val - 1) / 12 % 4, (t.val - 1) % 12])

/-- The result is first written back after the second point. -/
theorem flush_pos : ∀ t : Fin cfg0.N, win0_5.flush t = true → 1 ≤ t.val :=
  (by decide +kernel : ∀ t : Fin grid0.N, win0_5.flush t = true → 1 ≤ t.val)

theorem rows_read (c : Dev nD) (t : Fin cfg0.N) (i : Fin 8) (hi : i.val = t.val / 12) :
    modulated (iblk m c 0 t) (iblk m c 1 t) (iblk m c 2 t) = rowsTile (arg0 m c) (arg1 m c) (arg2 m c) i := by
  have ht : t.val < 96 := by omega
  funext y
  rw [eq_ix2 y]
  unfold modulated rowsTile arg0 arg1 arg2
  congr 1
  · congr 1
    · blk_ext [iblk, V, idx_0 t]
    · congr 1
      blk_ext [iblk, V, idx_1 t]
  · blk_ext [iblk, V, idx_2 t]

theorem cols_read (c : Dev nD) (t : Fin cfg0.N) (ht : t.val < 96) :
    iblk m c 3 t = colsTile (arg3 m c) 0 ⟨t.val % 12, by omega⟩ := by
  funext y
  rw [eq_ix3 y]
  unfold colsTile arg3
  blk_ext [iblk, V, idx_3 t]

theorem tabs_read (c : Dev nD) (t : Fin cfg0.N) (ht : 1 ≤ t.val) (hN : t.val < 97) :
    iblk m c 4 t = tabsTile (arg4 m c) 0 ⟨(t.val - 1) / 12, by omega⟩ ⟨(t.val - 1) % 12 / 4, by omega⟩ := by
  funext y
  rw [eq_ix3 y]
  unfold tabsTile arg4
  blk_ext [iblk, V, idx_4 t]

/-- The rows a point keeps are its tile's. -/
theorem rows_kept (c : Dev nD) : ∀ (n : ℕ) (hn : n < 96) (hN : n < cfg0.N),
    (outsAt0 m c n hN).2.1 = rowsTile (arg0 m c) (arg1 m c) (arg2 m c) ⟨n / 12, by omega⟩ := by
  intro n
  induction n with
  | zero =>
    intro hn hN
    rw [rows_A m c ⟨0, hN⟩ rfl rfl rfl (fun h => absurd h (by decide : ¬0 % 2 = 1))]
    exact rows_read m c ⟨0, hN⟩ _ rfl
  | succ n ih =>
    intro hn hN
    have h97 : ¬(n + 1) % 97 = 0 := by omega
    by_cases h12 : (n + 1) % 12 = 0
    · rw [rows_D m c ⟨n + 1, hN⟩ h12 h97 (by show (n + 1) % 2 = 0; omega) (by show ¬(n + 1) % 2 = 1; omega)]
      exact rows_read m c ⟨n + 1, hN⟩ _ rfl
    · have hp : (before m c ⟨n + 1, hN⟩).2.1 = rowsTile (arg0 m c) (arg1 m c) (arg2 m c) ⟨(n + 1) / 12, by omega⟩ :=
        (ih (by omega) (by omega)).trans (congrArg _ (Fin.ext (by show n / 12 = (n + 1) / 12; omega)))
      by_cases h2 : (n + 1) % 2 = 0
      · rw [rows_C m c ⟨n + 1, hN⟩ h12 h97 h2 (by show ¬(n + 1) % 2 = 1; omega)]
        exact hp
      · rw [rows_B m c ⟨n + 1, hN⟩ h12 h97 h2 (by show (n + 1) % 2 = 1; omega)]
        exact hp

/-- The product a point leaves for the next, in the scratch of its parity. -/
theorem acc_even (c : Dev nD) (t : Fin cfg0.N) (ht : t.val < 96) (h2 : t.val % 2 = 0) :
    (outsAt0 m c t.val t.isLt).2.2.1 = product (rowsTile (arg0 m c) (arg1 m c) (arg2 m c) ⟨t.val / 12, by omega⟩)
      (colsTile (arg3 m c) 0 ⟨t.val % 12, by omega⟩) := by
  rw [← cols_read m c t ht, ← rows_kept m c t.val ht t.isLt]
  have h2' : ¬t.val % 2 = 1 := by omega
  by_cases h12 : t.val % 12 = 0
  · by_cases h97 : t.val % 97 = 0
    · rw [acc_A m c t h12 h97 h2 h2', rows_A m c t h12 h97 h2 h2']
    · rw [acc_D m c t h12 h97 h2 h2', rows_D m c t h12 h97 h2 h2']
  · have h97 : ¬t.val % 97 = 0 := by omega
    rw [acc_C m c t h12 h97 h2 h2', rows_C m c t h12 h97 h2 h2']

theorem acc_odd (c : Dev nD) (t : Fin cfg0.N) (ht : t.val < 96) (h2 : t.val % 2 = 1) :
    (outsAt0 m c t.val t.isLt).2.2.2 = product (rowsTile (arg0 m c) (arg1 m c) (arg2 m c) ⟨t.val / 12, by omega⟩)
      (colsTile (arg3 m c) 0 ⟨t.val % 12, by omega⟩) := by
  rw [← cols_read m c t ht, ← rows_kept m c t.val ht t.isLt]
  have h2' : ¬t.val % 2 = 0 := by omega
  have h12 : ¬t.val % 12 = 0 := by omega
  have h97 : ¬t.val % 97 = 0 := by omega
  rw [acc_B m c t h12 h97 h2' h2, rows_B m c t h12 h97 h2' h2]

/-- The block a point writes: the tile of the point before. -/
theorem out_tile (c : Dev nD) (t : Fin cfg0.N) (ht : 1 ≤ t.val) (hN : t.val < 97) :
    (outsAt0 m c t.val t.isLt).1 = tileBlock one_class (arg0 m c) (arg1 m c) (arg2 m c) (arg3 m c) (arg4 m c) 0
      ⟨(t.val - 1) / 12, by omega⟩ ⟨(t.val - 1) % 12, by omega⟩ := by
  have h97 : ¬t.val % 97 = 0 := by omega
  unfold tileBlock
  by_cases h2 : t.val % 2 = 0
  · have h2' : ¬t.val % 2 = 1 := by omega
    have hp := acc_odd m c ⟨t.val - 1, by omega⟩ (by show t.val - 1 < 96; omega) (by show (t.val - 1) % 2 = 1; omega)
    by_cases h12 : t.val % 12 = 0
    · rw [out_D m c t h12 h97 h2 h2', tabs_read m c t ht hN]
      exact congrArg (fun A => turnedBlock one_class A _) hp
    · rw [out_C m c t h12 h97 h2 h2', tabs_read m c t ht hN]
      exact congrArg (fun A => turnedBlock one_class A _) hp
  · have hp := acc_even m c ⟨t.val - 1, by omega⟩ (by show t.val - 1 < 96; omega) (by show (t.val - 1) % 2 = 0; omega)
    rw [out_B m c t (by omega) h97 h2 (by omega), tabs_read m c t ht hN]
    exact congrArg (fun A => turnedBlock one_class A _) hp

theorem four_tiles : 4096 = 4 * 1024 := by decide

/-- The result array. -/
theorem final (c : Dev nD) : (dats m 0 c).arrAt 5 cfg0.N =
    projArr one_class four_tiles (arg0 m c) (arg1 m c) (arg2 m c) (arg3 m c) (arg4 m c) 0 := by
  refine (dats m 0 c).arrAt_eq_of_covers 5 _ (by decide +kernel) fun t hf y => ?_
  have hN : t.val < 97 := t.isLt
  have ht : 1 ≤ t.val := flush_pos t hf
  blk_simp
  rw [after0_5, out_tile m c t ht hN]
  obtain ⟨r, x, k, rfl⟩ := block_idx (D := 1) (R := 1024) y
  obtain rfl : r = 0 := Subsingleton.elim _ _
  have hy : (win0_5.blk t).view.emb (ix4 0 0 x k : S1x1x1024x512.Idx) =
      (ix4 (⟨(t.val - 1) / 12 / 4, by omega⟩ : Fin 2) (0 : Fin 1) (⟨1024 * ((t.val - 1) / 12 % 4) + x.val, by omega⟩ : Fin 4096)
        (⟨512 * ((t.val - 1) % 12) + k.val, by omega⟩ : Fin 6144) : S2x1x4096x6144.Idx) := by
    blk_ext [idx_5 t]
  rw [hy]
  exact (projArr_tile one_class four_tiles _ _ _ _ _ 0 _ _ 0 x k _ _ _ rfl rfl rfl).symm

end Cert.Qkv1Ideal.Hand
-- ==== Proof.Qkv.Ref1.lean ====
/- The projection's reference over undilated rows, read at an index: one sum over the model's width per entry, turned. -/
module

public import proofs.«01_k».proof.Proof.Gen.QkvRef1Ideal.Read
public import proofs.«01_k».proof.Proof.Qkv.Proj
public import Idealize.ShloMosaic.Lib.KernelVsHost

@[expose] public section

set_option maxRecDepth 16384

noncomputable section

namespace Cert.QkvRef1Ideal.Hand

open Cert.Qkv Cert.QkvRef1Ideal Cert.QkvRef1Ideal.Gen Cert.QkvRef1Ideal.Read Idealize.ShloMosaic Idealize.ShloMosaic.TcCoe
variable (X : Rows) (C S : Mods) (W : Weights) (T : Tables)
variable (tok : Fin 8192) (a : Fin 3) (hd : Fin 16) (l : Fin 128)

theorem one_bits : FloatOps.ofBits (F := Ideal) .f32 0x3F800000#32 = (1 : EReal) := by pointwise

theorem rows_apply (k : Fin 2048) : val_main_v7 (F := Ideal) X C S (ix2 tok k) =
    X (ix2 tok k) * (1 + C (ix3 ⟨tok.val / 4096, by omega⟩ 0 k)) + S (ix3 ⟨tok.val / 4096, by omega⟩ 0 k) := by
  rw [val_main_v7_apply, val_main_v6_apply, val_main_v4_apply, val_main_v0_apply, val_main_v3_apply, val_main_v2_apply,
    val_main_v1_apply, val_main_cst_apply, val_main_v5_apply, one_bits]
  have e7 : idx_main_v7 (ix2 tok k) = ix3 ⟨tok.val / 4096, by omega⟩ ⟨tok.val % 4096, by omega⟩ k := by
    funext i
    refine Fin.ext ?_
    match i with
    | ⟨0, _⟩ => show (tok.val * 2048 + k.val) / 8388608 = tok.val / 4096; omega
    | ⟨1, _⟩ => show (tok.val * 2048 + k.val) / 2048 % 4096 = tok.val % 4096; omega
    | ⟨2, _⟩ => show (tok.val * 2048 + k.val) % 2048 = k.val; omega
  have e0 : idx_main_v0 (ix3 (⟨tok.val / 4096, by omega⟩ : Fin 2) (⟨tok.val % 4096, by omega⟩ : Fin 4096) k) = ix2 tok k := by
    funext i
    refine Fin.ext ?_
    match i with
    | ⟨0, _⟩ => show ((tok.val / 4096 * 4096 + tok.val % 4096) * 2048 + k.val) / 2048 = tok.val; omega
    | ⟨1, _⟩ => show ((tok.val / 4096 * 4096 + tok.val % 4096) * 2048 + k.val) % 2048 = k.val; omega
  rw [e7, e0]
  show X _ * (1 + C _) + S _ = _
  congr 1
  · refine congrArg (fun z => X (ix2 tok k) * (1 + C z)) ?_
    funext i; match i with | ⟨0, _⟩ => rfl | ⟨1, _⟩ => rfl | ⟨2, _⟩ => rfl
  · refine congrArg S ?_
    funext i; match i with | ⟨0, _⟩ => rfl | ⟨1, _⟩ => rfl | ⟨2, _⟩ => rfl

/-- A head's entries before they are turned. -/
def plain (b : Fin 2) (l : Fin 128) : EReal := ∑ k : Fin 2048, (X (ix2 tok k) * (1 + C (ix3 b 0 k)) + S (ix3 b 0 k)) *
  W (ix3 0 k ⟨6144 * (0 : Fin 3).val + 2048 * a.val + 128 * hd.val + l.val, by show 6144 * 0 + 2048 * a.val + 128 * hd.val + l.val < _; omega⟩)

theorem plain_apply : val_main_v11 (F := Ideal) X C S W (ix4 tok a hd l) = plain X C S W tok a hd ⟨tok.val / 4096, by omega⟩ l := by
  rw [val_main_v11_apply, val_main_v10_apply]
  unfold plain
  refine Finset.sum_congr rfl fun k _ => ?_
  have el : lidx_main_v10 (idx_main_v11 (ix4 tok a hd l)) k = ix2 tok k := by
    funext i
    refine Fin.ext ?_
    match i with
    | ⟨0, _⟩ => show (((tok.val * 3 + a.val) * 16 + hd.val) * 128 + l.val) / 6144 = tok.val; omega
    | ⟨1, _⟩ => rfl
  rw [el, rows_apply, val_main_v9_apply, val_main_v8_apply]
  congr 1
  refine congrArg W (funext fun i => Fin.ext ?_)
  match i with
  | ⟨0, _⟩ => rfl
  | ⟨1, _⟩ =>
    show (k.val * 18432 + (((tok.val * 3 + a.val) * 16 + hd.val) * 128 + l.val) % 6144) / 18432 % 2048 = k.val
    omega
  | ⟨2, _⟩ =>
    show (k.val * 18432 + (((tok.val * 3 + a.val) * 16 + hd.val) * 128 + l.val) % 6144) % 18432 = 6144 * 0 + 2048 * a.val + 128 * hd.val + l.val
    omega

/-- The entry 16 further, round the head. -/
theorem after_apply : val_main_v22 (F := Ideal) X C S W (ix4 tok a hd l) =
    val_main_v11 (F := Ideal) X C S W (ix4 tok a hd ⟨(l.val + 16) % 128, Nat.mod_lt _ (by decide)⟩) := by
  unfold val_main_v22 val_main_call0_v0 val_main_call0_v1
  generalize val_main_v11 (F := Ideal) X C S W = v
  pointwise
  split
  all_goals
    refine congrArg (fun i => v (ix4 tok a hd i)) (Fin.ext ?_)
    dsimp only
    omega

/-- The entry 16 before, round the head. -/
theorem before_apply : val_main_v28 (F := Ideal) X C S W (ix4 tok a hd l) =
    val_main_v11 (F := Ideal) X C S W (ix4 tok a hd ⟨(l.val + 112) % 128, Nat.mod_lt _ (by decide)⟩) := by
  unfold val_main_v28 val_main_call1_v0 val_main_call1_v1
  generalize val_main_v11 (F := Ideal) X C S W = v
  pointwise
  split
  all_goals
    refine congrArg (fun i => v (ix4 tok a hd i)) (Fin.ext ?_)
    dsimp only
    omega

theorem tab_apply (u : Fin 3) : val_main_v16 (F := Ideal) T (ix4 tok a u l) =
    T (ix3 ⟨3 * a.val + u.val, by omega⟩ ⟨tok.val, by omega⟩ l) := by
  have e : idx_main_v14 (idx_main_v15 (idx_main_v16 (ix4 tok a u l))) =
      ix4 ⟨8 * (3 * a.val + u.val) + tok.val / 1024, by omega⟩ 0 ⟨tok.val % 1024, by omega⟩ l := by
    funext i
    refine Fin.ext ?_
    match i with
    | ⟨0, _⟩ => show (((a.val * 3 + u.val) * 8192 + tok.val) * 128 + l.val) / 131072 = _; simp [ix4]; omega
    | ⟨1, _⟩ => rfl
    | ⟨2, _⟩ => show (((a.val * 3 + u.val) * 8192 + tok.val) * 128 + l.val) / 128 % 1024 = _; simp [ix4]; omega
    | ⟨3, _⟩ => show (((a.val * 3 + u.val) * 8192 + tok.val) * 128 + l.val) % 128 = _; simp [ix4]
  rw [val_main_v16_apply, val_main_v15_apply, val_main_v14_apply, val_main_v13_apply, val_main_v12_apply, e]
  refine congrArg T (funext fun i => Fin.ext ?_)
  match i with
  | ⟨0, _⟩ => simp [ix4]; omega
  | ⟨1, _⟩ => simp [ix4]; omega
  | ⟨2, _⟩ => simp [ix4]

theorem coef_0 : val_main_v20 (F := Ideal) T (ix4 tok a hd l) = T (ix3 ⟨3 * a.val, by omega⟩ ⟨tok.val, by omega⟩ l) := by
  rw [val_main_v20_apply, val_main_v19_apply, val_main_v18_apply, val_main_v17_apply]
  refine Eq.trans (congrArg _ (funext fun i => Fin.ext ?_)) (tab_apply T tok a l 0)
  match i with
  | ⟨0, _⟩ => simp [ix4]; omega
  | ⟨1, _⟩ => simp [ix4]; omega
  | ⟨2, _⟩ => rfl
  | ⟨3, _⟩ => simp [ix4]

theorem coef_1 : val_main_v25 (F := Ideal) T (ix4 tok a hd l) = T (ix3 ⟨3 * a.val + 1, by omega⟩ ⟨tok.val, by omega⟩ l) := by
  rw [val_main_v25_apply, val_main_v24_apply, val_main_v23_apply, val_main_v17_apply]
  refine Eq.trans (congrArg _ (funext fun i => Fin.ext ?_)) (tab_apply T tok a l 1)
  match i with
  | ⟨0, _⟩ => simp [ix4]; omega
  | ⟨1, _⟩ => simp [ix4]; omega
  | ⟨2, _⟩ => rfl
  | ⟨3, _⟩ => simp [ix4]

theorem coef_2 : val_main_v31 (F := Ideal) T (ix4 tok a hd l) = T (ix3 ⟨3 * a.val + 2, by omega⟩ ⟨tok.val, by omega⟩ l) := by
  rw [val_main_v31_apply, val_main_v30_apply, val_main_v29_apply, val_main_v17_apply]
  refine Eq.trans (congrArg _ (funext fun i => Fin.ext ?_)) (tab_apply T tok a l 2)
  match i with
  | ⟨0, _⟩ => simp [ix4]; omega
  | ⟨1, _⟩ => simp [ix4]; omega
  | ⟨2, _⟩ => rfl
  | ⟨3, _⟩ => simp [ix4]

/-- The reference's result. -/
theorem result {h : 1 * 1024 = 1024} {hL : 4096 = 4 * 1024} : val_main_v36 (F := Ideal) X C S W T = projArr h hL X C S W T 0 := by
  funext y
  obtain ⟨b, r, q, col, rfl⟩ : ∃ (b : Fin 2) (r : Fin 1) (q : Fin 4096) (col : Fin 6144), y = ix4 b r q col :=
    ⟨y 0, y 1, y 2, y 3, eq_ix4 y⟩
  obtain rfl : r = 0 := Subsingleton.elim _ _
  show _ = projEntry h hL X C S W T 0 b 0 q col
  have ey : idx_main_v35 (idx_main_v36 (ix4 b (0 : Fin 1) q col)) = ix4 ⟨4096 * b.val + q.val, by omega⟩ ⟨col.val / 2048, by omega⟩
      ⟨col.val / 128 % 16, by omega⟩ ⟨col.val % 128, by omega⟩ := by
    funext i
    refine Fin.ext ?_
    match i with
    | ⟨0, _⟩ => simp [ix4]; omega
    | ⟨1, _⟩ => simp [ix4]; omega
    | ⟨2, _⟩ => simp [ix4]; omega
    | ⟨3, _⟩ => simp [ix4]; omega
  rw [projEntry_eq h hL X C S W T 0 b 0 q col ⟨4096 * b.val + q.val, by omega⟩ ⟨col.val / 2048, by omega⟩
      ⟨col.val / 128 % 16, by omega⟩ ⟨col.val % 128, by omega⟩ ⟨4096 * b.val + q.val, by omega⟩
      (by show 4096 * b.val + q.val = 4096 * b.val + 1 * q.val + 0; omega) (by show col.val = 2048 * (col.val / 2048) + 128 * (col.val / 128 % 16) + col.val % 128; omega)
      (by show 4096 * b.val + q.val = 8192 * 0 + 1024 * (4 * b.val + q.val / 1024) + 1024 * 0 + q.val % 1024; omega),
    val_main_v36_apply, val_main_v35_apply, ey, val_main_v34_apply, val_main_v33_apply, val_main_v27_apply, val_main_v21_apply,
    val_main_v26_apply, val_main_v32_apply, after_apply, before_apply, plain_apply, plain_apply, plain_apply, coef_0, coef_1, coef_2]
  have eb : (⟨(4096 * b.val + q.val) / 4096, by omega⟩ : Fin 2) = b := Fin.ext (by show (4096 * b.val + q.val) / 4096 = b.val; omega)
  dsimp only
  rw [eb]
  rfl

end Cert.QkvRef1Ideal.Hand
-- ==== Proof.Qkv.Alg1.lean ====
/- The projection of the undilated group is its reference. -/
module

public import proofs.«01_k».proof.Proof.Qkv.Arr1
public import proofs.«01_k».proof.Proof.Qkv.Ref1
public import proofs.«01_k».proof.Defs

@[expose] public section

set_option maxRecDepth 16384

noncomputable section

namespace Cert.Qkv

open Idealize.ShloMosaic Idealize.ShloMosaic.TcCoe Idealize.SL.Sem

/-- From memories that agree on the arguments the kernel and the reference end with the same result. -/
theorem algebraic1 : Cert.algebraic_Qkv1Ideal_QkvRef1Ideal := by
  intro m g m' g' _ hagree
  refine ⟨fun c => projArr Cert.Qkv1Ideal.Hand.one_class Cert.Qkv1Ideal.Hand.four_tiles (Cert.Qkv1Ideal.Hand.arg0 m c)
    (Cert.Qkv1Ideal.Hand.arg1 m c) (Cert.Qkv1Ideal.Hand.arg2 m c) (Cert.Qkv1Ideal.Hand.arg3 m c) (Cert.Qkv1Ideal.Hand.arg4 m c) 0, ?_, ?_⟩
  · refine (θ_run _ _ _).mono (fun r h c => ?_) (Cert.Qkv1Ideal.Value.run_blocks m g)
    exact ⟨(h c).1.trans (Cert.Qkv1Ideal.Hand.final m c), (h c).2⟩
  · refine (θ_run _ _ _).mono (fun r h c => ?_) (Cert.QkvRef1Ideal.Value.run m' g')
    refine ⟨(h c).1.trans ?_, (h c).2⟩
    rw [Cert.QkvRef1Ideal.Read.val_main_v36_eq, (hagree c).1, (hagree c).2.1, (hagree c).2.2.1, (hagree c).2.2.2.1, (hagree c).2.2.2.2]
    exact Cert.QkvRef1Ideal.Hand.result _ _ _ _ _

end Cert.Qkv
-- ==== Proof.Qkv4.Runs.lean ====
module

public import proofs.«01_k».proof.Proof.Gen.Qkv4Ideal.Launch
public import proofs.«01_k».proof.Proof.Gen.Qkv4Ideal.Skeleton
public import proofs.«01_k».proof.Proof.Gen.Qkv4Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Qkv4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging buffer in vector memory. -/
abbrev Buffer (s : Shape) (e : EltTy) := Memref sig .tc .vmem s e

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, if the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Qkv4Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 12#32 0#32) 1#32 12#32)) 0#32) (Scalar.cmpi .slt (Scalar.select (Scalar.cmpi .eq 12#32 0#32) 1#32 12#32) 0#32)) (Scalar.cmpi .ne (Scalar.remsi (BitVec.ofNat 32 (i 0).val) (Scalar.select (Scalar.cmpi .eq 12#32 0#32) 1#32 12#32)) 0#32)) (Scalar.addi (Scalar.remsi (BitVec.ofNat 32 (i 0).val) (Scalar.select (Scalar.cmpi .eq 12#32 0#32) 1#32 12#32)) (Scalar.select (Scalar.cmpi .eq 12#32 0#32) 1#32 12#32)) (Scalar.remsi (BitVec.ofNat 32 (i 0).val) (Scalar.select (Scalar.cmpi .eq 12#32 0#32) 1#32 12#32))) 0#32)) 0#32) = 1#1
/-- It holds at the points ≡ 0 (mod 12) — decided over the grid. -/
theorem hcond0_0 : ∀ t : Fin cfg0.N, cond0_0 (grid0.coords t) ↔ t.val % 12 = 0 :=
  (by decide +kernel : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 97 = 0 :=
  (fun t => by
    have ht : t.val < 97 := Nat.lt_of_lt_of_eq t.isLt N_0
    have e0 : (grid0.coords t 0).val = t.val / 1 % 97 := Pipeline.Grid.coords_val t 0 (by decide) rfl
    simp only [cond0_1, e0]
    word_cmp
   : ∀ t : Fin grid0.N, cond0_1 (grid0.coords t) ↔ t.val % 97 = 0)

/-- The condition of the body's `scf.if` 2 (`k0_h3`), from the grid coordinates (the skeleton's scalar
    chain substituted). -/
abbrev cond0_2 (i : grid0.Coords) : Prop := k0_cond3 i = 1#1
/-- It holds at the points ≡ 0 (mod 2) — decided over the grid. -/
theorem hcond0_2 : ∀ t : Fin cfg0.N, cond0_2 (grid0.coords t) ↔ t.val % 2 = 0 :=
  (by decide +kernel : ∀ t : Fin grid0.N, cond0_2 (grid0.coords t) ↔ t.val % 2 = 0)

/-- The condition of the body's `scf.if` 3 (`k0_h4`), from the grid coordinates (the skeleton's scalar
    chain substituted). -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ ¬cond0_2 i ∧ cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := cond0_0 i ∧ ¬cond0_1 i ∧ cond0_2 i ∧ ¬cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 5 live: the case stores into it. -/
theorem liveAt0_5_A : ∀ t : Fin cfg0.N, cond0_0 (grid0.coords t) → cond0_1 (grid0.coords t) → cond0_2 (grid0.coords t) → ¬cond0_3 (grid0.coords t) → cfg0.idle 5 (grid0.coords t) = false :=
  fun t h0 h1 h2 h3 => (by decide +kernel : ∀ t : Fin cfg0.N, conds0_A (grid0.coords t) → cfg0.idle 5 (grid0.coords t) = false) t ⟨h0, h1, h2, h3⟩
/-- At the points of case B the printed configuration (`Cfg.idle`) calls output 5 live: the case stores into it. -/
theorem liveAt0_5_B : ∀ t : Fin cfg0.N, ¬cond0_0 (grid0.coords t) → ¬cond0_1 (grid0.coords t) → ¬cond0_2 (grid0.coords t) → cond0_3 (grid0.coords t) → cfg0.idle 5 (grid0.coords t) = false :=
  fun t h0 h1 h2 h3 => (by decide +kernel : ∀ t : Fin cfg0.N, conds0_B (grid0.coords t) → cfg0.idle 5 (grid0.coords t) = false) t ⟨h0, h1, h2, h3⟩
/-- At the points of case C the printed configuration (`Cfg.idle`) calls output 5 live: the case stores into it. -/
theorem liveAt0_5_C : ∀ t : Fin cfg0.N, ¬cond0_0 (grid0.coords t) → ¬cond0_1 (grid0.coords t) → cond0_2 (grid0.coords t) → ¬cond0_3 (grid0.coords t) → cfg0.idle 5 (grid0.coords t) = false :=
  fun t h0 h1 h2 h3 => (by decide +kernel : ∀ t : Fin cfg0.N, conds0_C (grid0.coords t) → cfg0.idle 5 (grid0.coords t) = false) t ⟨h0, h1, h2, h3⟩
/-- At the points of case D the printed configuration (`Cfg.idle`) calls output 5 live: the case stores into it. -/
theorem liveAt0_5_D : ∀ t : Fin cfg0.N, cond0_0 (grid0.coords t) → ¬cond0_1 (grid0.coords t) → cond0_2 (grid0.coords t) → ¬cond0_3 (grid0.coords t) → cfg0.idle 5 (grid0.coords t) = false :=
  fun t h0 h1 h2 h3 => (by decide +kernel : ∀ t : Fin cfg0.N, conds0_D (grid0.coords t) → cfg0.idle 5 (grid0.coords t) = false) t ⟨h0, h1, h2, h3⟩

/-! ## The kernel body on any staging memrefs: a subtype the run finds -/

/-- One staging buffer of output window 5, through which its contents are stated (`View.read_writes_of_cover`: the
    choice does not matter). -/
abbrev VO0_5 : View sig .tc .vmem S1x4x256x512 .bf16 := (Memref.whole cc0_stg5_0 : Memref sig .tc .vmem S1x4x256x512 .bf16).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x256x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S4x1024x128 .f32 := Memref.whole cc0_scratch1
abbrev scM0_2 : Memref sig .tc .vmem S4x1024x128 .f32 := Memref.whole cc0_scratch2
/-- The scratch `arg7` the kernel carries between points, as a view: what it holds is stated through it. -/
abbrev VS0_0 : View sig .tc .vmem S1024x2048 .bf16 := scM0_0.view
/-- The scratch `arg8` the kernel carries between points, as a view: what it holds is stated through it. -/
abbrev VS0_1 : View sig .tc .vmem S4x1024x128 .f32 := scM0_1.view
/-- The scratch `arg9` the kernel carries between points, as a view: what it holds is stated through it. -/
abbrev VS0_2 : View sig .tc .vmem S4x1024x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Qkv4Ideal.Gen

end
-- ==== Proof.Qkv4.RunA.lean ====
module

public import proofs.«01_k».proof.Proof.Qkv4.Runs

@[expose] public section

-- membership in a rectangle of production extents (`View.cover_of_tiled`): the elaborator's structural look
-- recurses once per coordinate of the long axes
set_option maxRecDepth 16384

noncomputable section

namespace Cert.Qkv4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body in case A: the stores into the output's block and the scratch, with the proof that the body runs to them. -/
noncomputable def kernelRun0_A (c : Dev nD) (i : grid0.Coords) (arg1 : Buffer S1024x2048 .f32) (harg1 : arg1.IsWhole) (arg2 : Buffer S1x1x2048 .f32) (harg2 : arg2.IsWhole) (arg3 : Buffer S1x1x2048 .f32) (harg3 : arg3.IsWhole) (arg4 : Buffer S1x2048x512 .f32) (harg4 : arg4.IsWhole) (arg5 : Buffer S3x1024x128 .f32) (harg5 : arg5.IsWhole) (arg6 : Buffer S1x4x256x512 .bf16) (harg6 : arg6.IsWhole) (arg7 : Buffer S1024x2048 .bf16) (harg7 : arg7.IsWhole) (arg8 : Buffer S4x1024x128 .f32) (harg8 : arg8.IsWhole) (arg9 : Buffer S4x1024x128 .f32) (harg9 : arg9.IsWhole) (hc0 : cond0_0 i) (hc1 : cond0_1 i) (hc2 : cond0_2 i) (hc3 : ¬cond0_3 i)
    (x0 : Vec F S1024x2048 .f32) (x1 : Vec F S1x1x2048 .f32) (x2 : Vec F S1x1x2048 .f32) (x3 : Vec F S1x2048x512 .f32) (x4 : Vec F S3x1024x128 .f32) :
    Σ' (L5 : List (View.Piece (Elt F) S1x4x256x512 .bf16)), Σ' (LS0 : List (View.Piece (Elt F) S1024x2048 .bf16)), Σ' (LS1 : List (View.Piece (Elt F) S4x1024x128 .f32)), { LS2 : List (View.Piece (Elt F) S4x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_qkv_proj_dil4 i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_qkv_proj_dil4_eq_skeleton]; unfold cc0_qkv_proj_dil4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    isplitl [HS1]; · iexists _; iexact HS1
    iexists _; iexact HS2

end Cert.Qkv4Ideal.Gen

end
-- ==== Proof.Qkv4.RunB.lean ====
module

public import proofs.«01_k».proof.Proof.Qkv4.RunA

@[expose] public section

-- membership in a rectangle of production extents (`View.cover_of_tiled`): the elaborator's structural look
-- recurses once per coordinate of the long axes
set_option maxRecDepth 16384

noncomputable section

namespace Cert.Qkv4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body in case B: the stores into the output's block and the scratch, with the proof that the body runs to them. -/
noncomputable def kernelRun0_B (c : Dev nD) (i : grid0.Coords) (arg1 : Buffer S1024x2048 .f32) (harg1 : arg1.IsWhole) (arg2 : Buffer S1x1x2048 .f32) (harg2 : arg2.IsWhole) (arg3 : Buffer S1x1x2048 .f32) (harg3 : arg3.IsWhole) (arg4 : Buffer S1x2048x512 .f32) (harg4 : arg4.IsWhole) (arg5 : Buffer S3x1024x128 .f32) (harg5 : arg5.IsWhole) (arg6 : Buffer S1x4x256x512 .bf16) (harg6 : arg6.IsWhole) (arg7 : Buffer S1024x2048 .bf16) (harg7 : arg7.IsWhole) (arg8 : Buffer S4x1024x128 .f32) (harg8 : arg8.IsWhole) (arg9 : Buffer S4x1024x128 .f32) (harg9 : arg9.IsWhole) (hc0 : ¬cond0_0 i) (hc1 : ¬cond0_1 i) (hc2 : ¬cond0_2 i) (hc3 : cond0_3 i)
    (x0 : Vec F S1024x2048 .f32) (x1 : Vec F S1x1x2048 .f32) (x2 : Vec F S1x1x2048 .f32) (x3 : Vec F S1x2048x512 .f32) (x4 : Vec F S3x1024x128 .f32) (xs0 : Vec F S1024x2048 .bf16) (xs1 : Vec F S4x1024x128 .f32) :
    Σ' (L5 : List (View.Piece (Elt F) S1x4x256x512 .bf16)), Σ' (LS0 : List (View.Piece (Elt F) S1024x2048 .bf16)), Σ' (LS1 : List (View.Piece (Elt F) S4x1024x128 .f32)), { LS2 : List (View.Piece (Elt F) S4x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ owns (c : Thread nD τ) arg8 fullShare xs1 ∗ (∃ f, arg9.view.loc (c : Thread nD τ) ↦[arg9.view.set]{fullShare} arg9.view.writes (Elt F) f LS2)) -∗ K ⟨⟩))
          ⊢ wp frame (wpE (defs₀ (F := F)) Variants.none c none) E (cc0_qkv_proj_dil4 i arg1 harg1 arg2 harg2 arg3 harg3 arg4 harg4 arg5 harg5 arg6 harg6 arg7 harg7 arg8 harg8 arg9 harg9) K } := by
  refine ⟨?_, [], [], ?_, fun E K => ?run⟩
  case run =>
    simp only [cc0_qkv_proj_dil4_eq_skeleton]; unfold cc0_qkv_proj_dil4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]
    · iexists _; isplitr; · ipureintro; exact harg8.read_unread _
      iexact HS1
    iexists _; iexact HS2

end Cert.Qkv4Ideal.Gen

end
-- ==== Proof.Qkv4.RunC.lean ====
module

public import proofs.«01_k».proof.Proof.Qkv4.RunB

@[expose] public section

-- membership in a rectangle of production extents (`View.cover_of_tiled`): the elaborator's structural look
-- recurses once per coordinate of the long axes
set_option maxRecDepth 16384

noncomputable section

namespace Cert.Qkv4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body in case C: the stores into the output's block and the scratch, with the proof that the body runs to them. -/
noncomputable def kernelRun0_C (c : Dev nD) (i : grid0.Coords) (arg1 : Buffer S1024x2048 .f32) (harg1 : arg1.IsWhole) (arg2 : Buffer S1x1x2048 .f32) (harg2 : arg2.IsWhole) (arg3 : Buffer S1x1x2048 .f32) (harg3 : arg3.IsWhole) (arg4 : Buffer S1x2048x512 .f32) (harg4 : arg4.IsWhole) (arg5 : Buffer S3x1024x128 .f32) (harg5 : arg5.IsWhole) (arg6 : Buffer S1x4x256x512 .bf16) (harg6 : arg6.IsWhole) (arg7 : Buffer S1024x2048 .bf16) (harg7 : arg7.IsWhole) (arg8 : Buffer S4x1024x128 .f32) (harg8 : arg8.IsWhole) (arg9 : Buffer S4x1024x128 .f32) (harg9 : arg9.IsWhole) (hc0 : ¬cond0_0 i) (hc1 : ¬cond0_1 i) (hc2 : cond0_2 i) (hc3 : ¬cond0_3 i)
    (x0 : Vec F S1024x2048 .f32) (x1 : Vec F S1x1x2048 .f32) (x2 : Vec F S1x1x2048 .f32) (x3 : Vec F S1x2048x512 .f32) (x4 : Vec F S3x1024x128 .f32) (xs0 : Vec F S1024x2048 .bf16) (xs2 : Vec F S4x1024x128 .f32) :
    Σ' (L5 : List (View.Piece (Elt F) S1x4x256x512 .bf16)), Σ' (LS0 : List (View.Piece (Elt F) S1024x2048 .bf16)), Σ' (LS1 : List (View.Piece (Elt F) S4x1024x128 .f32)), { LS2 : List (View.Piece (Elt F) S4x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0_qkv_proj_dil4 i arg1 harg1 arg2 harg2 arg3 harg3 arg4 harg4 arg5 harg5 arg6 harg6 arg7 harg7 arg8 harg8 arg9 harg9) K } := by
  refine ⟨?_, [], ?_, [], fun E K => ?run⟩
  case run =>
    simp only [cc0_qkv_proj_dil4_eq_skeleton]; unfold cc0_qkv_proj_dil4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg9.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]; · iexists _; iexact HS1
    iexists _; isplitr; · ipureintro; exact harg9.read_unread _
    iexact HS2

end Cert.Qkv4Ideal.Gen

end
-- ==== Proof.Qkv4.RunD.lean ====
module

public import proofs.«01_k».proof.Proof.Qkv4.RunC

@[expose] public section

-- membership in a rectangle of production extents (`View.cover_of_tiled`): the elaborator's structural look
-- recurses once per coordinate of the long axes
set_option maxRecDepth 16384

noncomputable section

namespace Cert.Qkv4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body in case D: the stores into the output's block and the scratch, with the proof that the body runs to them. -/
noncomputable def kernelRun0_D (c : Dev nD) (i : grid0.Coords) (arg1 : Buffer S1024x2048 .f32) (harg1 : arg1.IsWhole) (arg2 : Buffer S1x1x2048 .f32) (harg2 : arg2.IsWhole) (arg3 : Buffer S1x1x2048 .f32) (harg3 : arg3.IsWhole) (arg4 : Buffer S1x2048x512 .f32) (harg4 : arg4.IsWhole) (arg5 : Buffer S3x1024x128 .f32) (harg5 : arg5.IsWhole) (arg6 : Buffer S1x4x256x512 .bf16) (harg6 : arg6.IsWhole) (arg7 : Buffer S1024x2048 .bf16) (harg7 : arg7.IsWhole) (arg8 : Buffer S4x1024x128 .f32) (harg8 : arg8.IsWhole) (arg9 : Buffer S4x1024x128 .f32) (harg9 : arg9.IsWhole) (hc0 : cond0_0 i) (hc1 : ¬cond0_1 i) (hc2 : cond0_2 i) (hc3 : ¬cond0_3 i)
    (x0 : Vec F S1024x2048 .f32) (x1 : Vec F S1x1x2048 .f32) (x2 : Vec F S1x1x2048 .f32) (x3 : Vec F S1x2048x512 .f32) (x4 : Vec F S3x1024x128 .f32) (xs2 : Vec F S4x1024x128 .f32) :
    Σ' (L5 : List (View.Piece (Elt F) S1x4x256x512 .bf16)), Σ' (LS0 : List (View.Piece (Elt F) S1024x2048 .bf16)), Σ' (LS1 : List (View.Piece (Elt F) S4x1024x128 .f32)), { LS2 : List (View.Piece (Elt F) S4x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0_qkv_proj_dil4 i arg1 harg1 arg2 harg2 arg3 harg3 arg4 harg4 arg5 harg5 arg6 harg6 arg7 harg7 arg8 harg8 arg9 harg9) K } := by
  refine ⟨?_, ?_, ?_, [], fun E K => ?run⟩
  case run =>
    simp only [cc0_qkv_proj_dil4_eq_skeleton]; unfold cc0_qkv_proj_dil4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    isplitl [HS1]; · iexists _; iexact HS1
    iexists _; isplitr; · ipureintro; exact harg9.read_unread _
    iexact HS2

end Cert.Qkv4Ideal.Gen

end
-- ==== Proof.Qkv4.Frame.lean ====
module

public import proofs.«01_k».proof.Proof.Qkv4.RunD
public import Idealize.ShloMosaic.Lib.Claim

@[expose] public section

-- membership in a rectangle of production extents (`View.cover_of_tiled`): the elaborator's structural look
-- recurses once per coordinate of the long axes
set_option maxRecDepth 16384

noncomputable section

namespace Cert.Qkv4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Buffer S1024x2048 .f32) (harg1 : arg1.IsWhole) (arg2 : Buffer S1x1x2048 .f32) (harg2 : arg2.IsWhole) (arg3 : Buffer S1x1x2048 .f32) (harg3 : arg3.IsWhole) (arg4 : Buffer S1x2048x512 .f32) (harg4 : arg4.IsWhole) (arg5 : Buffer S3x1024x128 .f32) (harg5 : arg5.IsWhole) (arg6 : Buffer S1x4x256x512 .bf16) (harg6 : arg6.IsWhole) (arg7 : Buffer S1024x2048 .bf16) (harg7 : arg7.IsWhole) (arg8 : Buffer S4x1024x128 .f32) (harg8 : arg8.IsWhole) (arg9 : Buffer S4x1024x128 .f32) (harg9 : arg9.IsWhole)

section
variable (hc0 : cond0_0 i) (hc1 : cond0_1 i) (hc2 : cond0_2 i) (hc3 : ¬cond0_3 i)
  (x0 : Vec F S1024x2048 .f32) (x1 : Vec F S1x1x2048 .f32) (x2 : Vec F S1x1x2048 .f32) (x3 : Vec F S1x2048x512 .f32) (x4 : Vec F S3x1024x128 .f32)

/-- Case A's pieces cover the output's block. -/
theorem cover0_A_5 (y : S1x4x256x512.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3 x4).1 S1x1x256x128.size (by sl_kernel_rfl) y

/-- Case A's pieces cover the scratch `arg7`. -/
theorem scover0_A_0 (y : S1024x2048.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3 x4).2.1 S1024x2048.size (by sl_kernel_rfl) y

/-- Case A's pieces cover the scratch `arg8`. -/
theorem scover0_A_1 (y : S4x1024x128.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3 x4).2.2.1 S1x1024x128.size (by sl_kernel_rfl) y

/-- Case A's pieces cover the scratch `arg9`. -/
theorem scover0_A_2 (y : S4x1024x128.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3 x4).2.2.2.1 S4x1024x128.size (by sl_kernel_rfl) y

end

section
variable (hc0 : ¬cond0_0 i) (hc1 : ¬cond0_1 i) (hc2 : ¬cond0_2 i) (hc3 : cond0_3 i)
  (x0 : Vec F S1024x2048 .f32) (x1 : Vec F S1x1x2048 .f32) (x2 : Vec F S1x1x2048 .f32) (x3 : Vec F S1x2048x512 .f32) (x4 : Vec F S3x1024x128 .f32)

/-- Case B's pieces cover the output's block. -/
theorem cover0_B_5 (xs0 : Vec F S1024x2048 .bf16) (xs1 : Vec F S4x1024x128 .f32) (y : S1x4x256x512.Idx) :
    ∃ pc ∈ (kernelRun0_B c i arg1 harg1 arg2 harg2 arg3 harg3 arg4 harg4 arg5 harg5 arg6 harg6 arg7 harg7 arg8 harg8 arg9 harg9 hc0 hc1 hc2 hc3 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 hc2 hc3 x0 x1 x2 x3 x4 xs0 xs1).1 S1x1x256x128.size (by sl_kernel_rfl) y

/-- Case B's pieces cover the scratch `arg9`. -/
theorem scover0_B_2 (xs0 : Vec F S1024x2048 .bf16) (xs1 : Vec F S4x1024x128 .f32) (y : S4x1024x128.Idx) :
    ∃ pc ∈ (kernelRun0_B c i arg1 harg1 arg2 harg2 arg3 harg3 arg4 harg4 arg5 harg5 arg6 harg6 arg7 harg7 arg8 harg8 arg9 harg9 hc0 hc1 hc2 hc3 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 hc2 hc3 x0 x1 x2 x3 x4 xs0 xs1).2.2.2.1 S1x1024x128.size (by sl_kernel_rfl) y

end

section
variable (hc0 : ¬cond0_0 i) (hc1 : ¬cond0_1 i) (hc2 : cond0_2 i) (hc3 : ¬cond0_3 i)
  (x0 : Vec F S1024x2048 .f32) (x1 : Vec F S1x1x2048 .f32) (x2 : Vec F S1x1x2048 .f32) (x3 : Vec F S1x2048x512 .f32) (x4 : Vec F S3x1024x128 .f32)

/-- Case C's pieces cover the output's block. -/
theorem cover0_C_5 (xs0 : Vec F S1024x2048 .bf16) (xs2 : Vec F S4x1024x128 .f32) (y : S1x4x256x512.Idx) :
    ∃ pc ∈ (kernelRun0_C c i arg1 harg1 arg2 harg2 arg3 harg3 arg4 harg4 arg5 harg5 arg6 harg6 arg7 harg7 arg8 harg8 arg9 harg9 hc0 hc1 hc2 hc3 x0 x1 x2 x3 x4 xs0 xs2).1, y ∈ pc.1.set :=
  View.cover_of_tiledL (kernelRun0_C c i arg1 harg1 arg2 harg2 arg3 harg3 arg4 harg4 arg5 harg5 arg6 harg6 arg7 harg7 arg8 harg8 arg9 harg9 hc0 hc1 hc2 hc3 x0 x1 x2 x3 x4 xs0 xs2).1 S1x1x256x128.size (by sl_kernel_rfl) y

/-- Case C's pieces cover the scratch `arg8`. -/
theorem scover0_C_1 (xs0 : Vec F S1024x2048 .bf16) (xs2 : Vec F S4x1024x128 .f32) (y : S4x1024x128.Idx) :
    ∃ pc ∈ (kernelRun0_C c i arg1 harg1 arg2 harg2 arg3 harg3 arg4 harg4 arg5 harg5 arg6 harg6 arg7 harg7 arg8 harg8 arg9 harg9 hc0 hc1 hc2 hc3 x0 x1 x2 x3 x4 xs0 xs2).2.2.1, y ∈ pc.1.set :=
  View.cover_of_tiledL (kernelRun0_C c i arg1 harg1 arg2 harg2 arg3 harg3 arg4 harg4 arg5 harg5 arg6 harg6 arg7 harg7 arg8 harg8 arg9 harg9 hc0 hc1 hc2 hc3 x0 x1 x2 x3 x4 xs0 xs2).2.2.1 S1x1024x128.size (by sl_kernel_rfl) y

end

section
variable (hc0 : cond0_0 i) (hc1 : ¬cond0_1 i) (hc2 : cond0_2 i) (hc3 : ¬cond0_3 i)
  (x0 : Vec F S1024x2048 .f32) (x1 : Vec F S1x1x2048 .f32) (x2 : Vec F S1x1x2048 .f32) (x3 : Vec F S1x2048x512 .f32) (x4 : Vec F S3x1024x128 .f32)

/-- Case D's pieces cover the output's block. -/
theorem cover0_D_5 (xs2 : Vec F S4x1024x128 .f32) (y : S1x4x256x512.Idx) :
    ∃ pc ∈ (kernelRun0_D c i arg1 harg1 arg2 harg2 arg3 harg3 arg4 harg4 arg5 harg5 arg6 harg6 arg7 harg7 arg8 harg8 arg9 harg9 hc0 hc1 hc2 hc3 x0 x1 x2 x3 x4 xs2).1, y ∈ pc.1.set :=
  View.cover_of_tiledL (kernelRun0_D c i arg1 harg1 arg2 harg2 arg3 harg3 arg4 harg4 arg5 harg5 arg6 harg6 arg7 harg7 arg8 harg8 arg9 harg9 hc0 hc1 hc2 hc3 x0 x1 x2 x3 x4 xs2).1 S1x1x256x128.size (by sl_kernel_rfl) y

/-- Case D's pieces cover the scratch `arg7`. -/
theorem scover0_D_0 (xs2 : Vec F S4x1024x128 .f32) (y : S1024x2048.Idx) :
    ∃ pc ∈ (kernelRun0_D c i arg1 harg1 arg2 harg2 arg3 harg3 arg4 harg4 arg5 harg5 arg6 harg6 arg7 harg7 arg8 harg8 arg9 harg9 hc0 hc1 hc2 hc3 x0 x1 x2 x3 x4 xs2).2.1, y ∈ pc.1.set :=
  View.cover_of_tiledL (kernelRun0_D c i arg1 harg1 arg2 harg2 arg3 harg3 arg4 harg4 arg5 harg5 arg6 harg6 arg7 harg7 arg8 harg8 arg9 harg9 hc0 hc1 hc2 hc3 x0 x1 x2 x3 x4 xs2).2.1 S1024x2048.size (by sl_kernel_rfl) y

/-- Case D's pieces cover the scratch `arg8`. -/
theorem scover0_D_1 (xs2 : Vec F S4x1024x128 .f32) (y : S4x1024x128.Idx) :
    ∃ pc ∈ (kernelRun0_D c i arg1 harg1 arg2 harg2 arg3 harg3 arg4 harg4 arg5 harg5 arg6 harg6 arg7 harg7 arg8 harg8 arg9 harg9 hc0 hc1 hc2 hc3 x0 x1 x2 x3 x4 xs2).2.2.1, y ∈ pc.1.set :=
  View.cover_of_tiledL (kernelRun0_D c i arg1 harg1 arg2 harg2 arg3 harg3 arg4 harg4 arg5 harg5 arg6 harg6 arg7 harg7 arg8 harg8 arg9 harg9 hc0 hc1 hc2 hc3 x0 x1 x2 x3 x4 xs2).2.2.1 S1x1024x128.size (by sl_kernel_rfl) y

end

end

/-! ## What the outputs hold after each point -/

/-- The stores of a point of case A. -/
abbrev runA (c : Dev nD) (t : Fin cfg0.N) (h0 : t.val % 12 = 0) (h1 : t.val % 97 = 0) (h2 : t.val % 2 = 0) (h3 : ¬t.val % 2 = 1) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t)

/-- What a point of case A leaves in the output's block and in the scratch. -/
abbrev atA (c : Dev nD) (t : Fin cfg0.N) (h0 : t.val % 12 = 0) (h1 : t.val % 97 = 0) (h2 : t.val % 2 = 0) (h3 : ¬t.val % 2 = 1) : Vec F S1x4x256x512 .bf16 × Vec F S1024x2048 .bf16 × Vec F S4x1024x128 .f32 × Vec F S4x1024x128 .f32 :=
  (VO0_5.read (Elt F) (VO0_5.writes (Elt F) VO0_5.junk (runA m c t h0 h1 h2 h3).1),
    VS0_0.read (Elt F) (VS0_0.writes (Elt F) VS0_0.junk (runA m c t h0 h1 h2 h3).2.1),
    VS0_1.read (Elt F) (VS0_1.writes (Elt F) VS0_1.junk (runA m c t h0 h1 h2 h3).2.2.1),
    VS0_2.read (Elt F) (VS0_2.writes (Elt F) VS0_2.junk (runA m c t h0 h1 h2 h3).2.2.2.1))

/-- The stores of a point of case B. -/
abbrev runB (c : Dev nD) (t : Fin cfg0.N) (h0 : ¬t.val % 12 = 0) (h1 : ¬t.val % 97 = 0) (h2 : ¬t.val % 2 = 0) (h3 : t.val % 2 = 1) (p : Vec F S1x4x256x512 .bf16 × Vec F S1024x2048 .bf16 × Vec F S4x1024x128 .f32 × Vec F S4x1024x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) p.2.1 p.2.2.1

/-- What a point of case B leaves in the output's block and in the scratch, from what the point before left. -/
abbrev atB (c : Dev nD) (t : Fin cfg0.N) (h0 : ¬t.val % 12 = 0) (h1 : ¬t.val % 97 = 0) (h2 : ¬t.val % 2 = 0) (h3 : t.val % 2 = 1) (p : Vec F S1x4x256x512 .bf16 × Vec F S1024x2048 .bf16 × Vec F S4x1024x128 .f32 × Vec F S4x1024x128 .f32) : Vec F S1x4x256x512 .bf16 × Vec F S1024x2048 .bf16 × Vec F S4x1024x128 .f32 × Vec F S4x1024x128 .f32 :=
  (VO0_5.read (Elt F) (VO0_5.writes (Elt F) VO0_5.junk (runB m c t h0 h1 h2 h3 p).1),
    p.2.1,
    p.2.2.1,
    VS0_2.read (Elt F) (VS0_2.writes (Elt F) VS0_2.junk (runB m c t h0 h1 h2 h3 p).2.2.2.1))

/-- The stores of a point of case C. -/
abbrev runC (c : Dev nD) (t : Fin cfg0.N) (h0 : ¬t.val % 12 = 0) (h1 : ¬t.val % 97 = 0) (h2 : t.val % 2 = 0) (h3 : ¬t.val % 2 = 1) (p : Vec F S1x4x256x512 .bf16 × Vec F S1024x2048 .bf16 × Vec F S4x1024x128 .f32 × Vec F S4x1024x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) p.2.1 p.2.2.2

/-- What a point of case C leaves in the output's block and in the scratch, from what the point before left. -/
abbrev atC (c : Dev nD) (t : Fin cfg0.N) (h0 : ¬t.val % 12 = 0) (h1 : ¬t.val % 97 = 0) (h2 : t.val % 2 = 0) (h3 : ¬t.val % 2 = 1) (p : Vec F S1x4x256x512 .bf16 × Vec F S1024x2048 .bf16 × Vec F S4x1024x128 .f32 × Vec F S4x1024x128 .f32) : Vec F S1x4x256x512 .bf16 × Vec F S1024x2048 .bf16 × Vec F S4x1024x128 .f32 × Vec F S4x1024x128 .f32 :=
  (VO0_5.read (Elt F) (VO0_5.writes (Elt F) VO0_5.junk (runC m c t h0 h1 h2 h3 p).1),
    p.2.1,
    VS0_1.read (Elt F) (VS0_1.writes (Elt F) VS0_1.junk (runC m c t h0 h1 h2 h3 p).2.2.1),
    p.2.2.2)

/-- The stores of a point of case D. -/
abbrev runD (c : Dev nD) (t : Fin cfg0.N) (h0 : t.val % 12 = 0) (h1 : ¬t.val % 97 = 0) (h2 : t.val % 2 = 0) (h3 : ¬t.val % 2 = 1) (p : Vec F S1x4x256x512 .bf16 × Vec F S1024x2048 .bf16 × Vec F S4x1024x128 .f32 × Vec F S4x1024x128 .f32) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) p.2.2.2

/-- What a point of case D leaves in the output's block and in the scratch, from what the point before left. -/
abbrev atD (c : Dev nD) (t : Fin cfg0.N) (h0 : t.val % 12 = 0) (h1 : ¬t.val % 97 = 0) (h2 : t.val % 2 = 0) (h3 : ¬t.val % 2 = 1) (p : Vec F S1x4x256x512 .bf16 × Vec F S1024x2048 .bf16 × Vec F S4x1024x128 .f32 × Vec F S4x1024x128 .f32) : Vec F S1x4x256x512 .bf16 × Vec F S1024x2048 .bf16 × Vec F S4x1024x128 .f32 × Vec F S4x1024x128 .f32 :=
  (VO0_5.read (Elt F) (VO0_5.writes (Elt F) VO0_5.junk (runD m c t h0 h1 h2 h3 p).1),
    VS0_0.read (Elt F) (VS0_0.writes (Elt F) VS0_0.junk (runD m c t h0 h1 h2 h3 p).2.1),
    VS0_1.read (Elt F) (VS0_1.writes (Elt F) VS0_1.junk (runD m c t h0 h1 h2 h3 p).2.2.1),
    p.2.2.2)

/-- What the output's block and the scratch hold after each point. -/
def outsAt0 (c : Dev nD) : (n : ℕ) → n < cfg0.N → Vec F S1x4x256x512 .bf16 × Vec F S1024x2048 .bf16 × Vec F S4x1024x128 .f32 × Vec F S4x1024x128 .f32
  | 0, hn => atA m c ⟨0, hn⟩ (Nat.zero_mod _) (Nat.zero_mod _) (Nat.zero_mod _) (by show ¬0 % 2 = 1; decide)
  | n + 1, hn =>
    if h0 : (n + 1) % 12 = 0 then
      if h1 : (n + 1) % 97 = 0 then
        if h2 : (n + 1) % 2 = 0 then
          if h3 : (n + 1) % 2 = 1 then
            False.elim (by have hN : n + 1 < 97 := lt_of_lt_of_eq hn (show cfg0.N = 97 from N_0); omega)
          else
            atA m c ⟨n + 1, hn⟩ h0 h1 h2 h3
        else
          False.elim (by have hN : n + 1 < 97 := lt_of_lt_of_eq hn (show cfg0.N = 97 from N_0); omega)
      else
        if h2 : (n + 1) % 2 = 0 then
          if h3 : (n + 1) % 2 = 1 then
            False.elim (by have hN : n + 1 < 97 := lt_of_lt_of_eq hn (show cfg0.N = 97 from N_0); omega)
          else
            atD m c ⟨n + 1, hn⟩ h0 h1 h2 h3 (outsAt0 c n (Nat.lt_of_succ_lt hn))
        else
          False.elim (by have hN : n + 1 < 97 := lt_of_lt_of_eq hn (show cfg0.N = 97 from N_0); omega)
    else
      if h1 : (n + 1) % 97 = 0 then
        False.elim (by have hN : n + 1 < 97 := lt_of_lt_of_eq hn (show cfg0.N = 97 from N_0); omega)
      else
        if h2 : (n + 1) % 2 = 0 then
          if h3 : (n + 1) % 2 = 1 then
            False.elim (by have hN : n + 1 < 97 := lt_of_lt_of_eq hn (show cfg0.N = 97 from N_0); omega)
          else
            atC m c ⟨n + 1, hn⟩ h0 h1 h2 h3 (outsAt0 c n (Nat.lt_of_succ_lt hn))
        else
          if h3 : (n + 1) % 2 = 1 then
            atB m c ⟨n + 1, hn⟩ h0 h1 h2 h3 (outsAt0 c n (Nat.lt_of_succ_lt hn))
          else
            False.elim (by have hN : n + 1 < 97 := lt_of_lt_of_eq hn (show cfg0.N = 97 from N_0); omega)

/-- `outsAt0` at a point of case A: that case's contents. -/
theorem outsAt0_A (c : Dev nD) (t : Fin cfg0.N) (h0 : t.val % 12 = 0) (h1 : t.val % 97 = 0) (h2 : t.val % 2 = 0) (h3 : ¬t.val % 2 = 1) :
    outsAt0 m c t.val t.isLt = atA m c t h0 h1 h2 h3 := by
  obtain ⟨n, hn⟩ := t
  cases n with
  | zero => exact rfl
  | succ n => exact (dif_pos h0).trans ((dif_pos h1).trans ((dif_pos h2).trans ((dif_neg h3).trans rfl)))

/-- `outsAt0` at a point of case B: that case's contents, over what the point before left. -/
theorem outsAt0_B (c : Dev nD) (t : Fin cfg0.N) (h0 : ¬t.val % 12 = 0) (h1 : ¬t.val % 97 = 0) (h2 : ¬t.val % 2 = 0) (h3 : t.val % 2 = 1) :
    outsAt0 m c t.val t.isLt = atB m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- `outsAt0` at a point of case C: that case's contents, over what the point before left. -/
theorem outsAt0_C (c : Dev nD) (t : Fin cfg0.N) (h0 : ¬t.val % 12 = 0) (h1 : ¬t.val % 97 = 0) (h2 : t.val % 2 = 0) (h3 : ¬t.val % 2 = 1) :
    outsAt0 m c t.val t.isLt = atC m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents, over what the point before left. -/
theorem outsAt0_D (c : Dev nD) (t : Fin cfg0.N) (h0 : t.val % 12 = 0) (h1 : ¬t.val % 97 = 0) (h2 : t.val % 2 = 0) (h3 : ¬t.val % 2 = 1) :
    outsAt0 m c t.val t.isLt = atD m c t h0 h1 h2 h3 (outsAt0 m c (t.val - 1) (Nat.lt_of_le_of_lt (Nat.sub_le _ _) t.isLt)) := by
  obtain ⟨n, hn⟩ := t
  cases n with
  | zero => exact (by exfalso; (try dsimp only at h1); exact absurd (Nat.zero_mod _) h1)
  | succ n => exact (dif_pos h0).trans ((dif_neg h1).trans ((dif_pos h2).trans ((dif_neg h3).trans rfl)))

/-- What is held before each point: at the first anything, later the scratch as the point before left it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data: arrays as found, inputs' blocks kept, the output and the scratch as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The arrays are as found. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body leaves of each input's staging buffer. -/
theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 12800000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 97 := lt_of_lt_of_eq t.isLt (show cfg0.N = 97 from N_0)
  by_cases h0 : t.val % 12 = 0
  · by_cases h1 : t.val % 97 = 0
    · by_cases h2 : t.val % 2 = 0
      · by_cases h3 : t.val % 2 = 1
        · exfalso; omega
        · rw [leaves0_0, leaves0_1, leaves0_2, leaves0_3, leaves0_4]
          rw [show (dats m 0 c).leavesExact 5 t = owns (c : Thread nD τ) (ms0_5 t) fullShare ((dats m 0 c).after 5 t) from by
      unfold Dat.leavesExact; rw [liveAt0_5_A t ((hcond0_0 t).mpr h0) ((hcond0_1 t).mpr h1) ((hcond0_2 t).mpr h2) (fun h => h3 ((hcond0_3 t).mp h))], after0_5]
          by_cases hz : t.val = 0
          · rw [PhiS_castSucc m c t, PhiS_zero m c _ _ hz, PhiA0_eq]
            rw [outsAt0_A m c t h0 h1 h2 h3]
            unfold atA runA; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t)).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            isplitl [HS1]; · iexact HS1
            isplitl [HS2]; · iexact HS2
            iintro ⟨H0, H1, H2, H3, H4, ⟨%e5, H5⟩, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_A_5 c _ _ _ _ _ _ _ _ _ _ _ _ _ _ _ _ _ _ _ _ _ _ _ _ _ _ _ _)
          · exfalso; have hN : t.val < 97 := lt_of_lt_of_eq t.isLt (show cfg0.N = 97 from N_0); omega
      · exfalso; omega
    · by_cases h2 : t.val % 2 = 0
      · by_cases h3 : t.val % 2 = 1
        · exfalso; omega
        · rw [leaves0_0, leaves0_1, leaves0_2, leaves0_3, leaves0_4]
          rw [show (dats m 0 c).leavesExact 5 t = owns (c : Thread nD τ) (ms0_5 t) fullShare ((dats m 0 c).after 5 t) from by
      unfold Dat.leavesExact; rw [liveAt0_5_D t ((hcond0_0 t).mpr h0) (fun h => h1 ((hcond0_1 t).mp h)) ((hcond0_2 t).mpr h2) (fun h => h3 ((hcond0_3 t).mp h))], after0_5]
          by_cases hz : t.val = 0
          · exfalso; have hN : t.val < 97 := lt_of_lt_of_eq t.isLt (show cfg0.N = 97 from N_0); omega
          · rw [PhiS_castSucc m c t, PhiS_pos m c _ _ hz]
            rw [outsAt0_D m c t h0 h1 h2 h3]
            unfold atD runD; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_D c (grid0.coords t) _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) _).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexists _; iexact HS0
            isplitl [HS1]; · iexists _; iexact HS1
            isplitl [HS2]; · iexact HS2
            iintro ⟨H0, H1, H2, H3, H4, ⟨%e5, H5⟩, ⟨%es0, HS0⟩, ⟨%es1, HS1⟩, HS2⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_D_0 c _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_D_1 c _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_D_5 c _ _ _ _ _ _ _ _ _ _ _ _ _ _ _ _ _ _ _ _ _ _ _ _ _ _ _ _ _)
      · exfalso; omega
  · by_cases h1 : t.val % 97 = 0
    · exfalso; omega
    · by_cases h2 : t.val % 2 = 0
      · by_cases h3 : t.val % 2 = 1
        · exfalso; omega
        · rw [leaves0_0, leaves0_1, leaves0_2, leaves0_3, leaves0_4]
          rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2) (fun h => h3 ((hcond0_3 t).mp h))], after0_5]
          by_cases hz : t.val = 0
          · exfalso; have hN : t.val < 97 := lt_of_lt_of_eq t.isLt (show cfg0.N = 97 from N_0); omega
          · rw [PhiS_castSucc m c t, PhiS_pos m c _ _ hz]
            rw [outsAt0_C m c t h0 h1 h2 h3]
            unfold atC runC; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_C c (grid0.coords t) _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) _ _).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            isplitl [HS1]; · iexists _; iexact HS1
            isplitl [HS2]; · iexact HS2
            iintro ⟨H0, H1, H2, H3, H4, ⟨%e5, H5⟩, HS0, ⟨%es1, HS1⟩, HS2⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_C_5 c _ _ _ _ _ _ _ _ _ _ _ _ _ _ _ _ _ _ _ _ _ _ _ _ _ _ _ _ _ _)
      · by_cases h3 : t.val % 2 = 1
        · rw [leaves0_0, leaves0_1, leaves0_2, leaves0_3, leaves0_4]
          rw [show (dats m 0 c).leavesExact 5 t = owns (c : Thread nD τ) (ms0_5 t) fullShare ((dats m 0 c).after 5 t) from by
      unfold Dat.leavesExact; rw [liveAt0_5_B t (fun h => h0 ((hcond0_0 t).mp h)) (fun h => h1 ((hcond0_1 t).mp h)) (fun h => h2 ((hcond0_2 t).mp h)) ((hcond0_3 t).mpr h3)], after0_5]
          by_cases hz : t.val = 0
          · exfalso; have hN : t.val < 97 := lt_of_lt_of_eq t.isLt (show cfg0.N = 97 from N_0); omega
          · rw [PhiS_castSucc m c t, PhiS_pos m c _ _ hz]
            rw [outsAt0_B m c t h0 h1 h2 h3]
            unfold atB runB; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_B c (grid0.coords t) _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) _ _).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            isplitl [HS1]; · iexact HS1
            isplitl [HS2]; · iexists _; iexact HS2
            iintro ⟨H0, H1, H2, H3, H4, ⟨%e5, H5⟩, HS0, HS1, ⟨%es2, HS2⟩⟩
            isplitl [HS0 HS1 HS2 Hg]
            · isplitl [HS0 HS1 HS2]
              · isplitl [HS0]
                · iexact HS0
                isplitl [HS1]
                · iexact HS1
                unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_B_5 c _ _ _ _ _ _ _ _ _ _ _ _ _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 97 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Qkv4Ideal`'s statement (Defs.lean) at any `F` — Proof.lean cites it at `Bits`:
    `theorem Cert.Proof.claim : Cert.Claim := ⟨Cert.Qkv4Ideal.Gen.facts, fun m ρ _ => Cert.Qkv4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Qkv4Ideal.Gen

end
-- ==== Proof.Qkv4.Same.lean ====
/- The projection over rows dilated four times is printed twice with one text; so the frame of one print is the frame of the other. -/
module

public import proofs.«01_k».proof.Proof.Qkv4.Frame
public import proofs.«01_k».proof.Proof.Gen.Qkv4
public import proofs.«01_k».proof.Defs

@[expose] public section

set_option maxRecDepth 16384

noncomputable section

namespace Cert.Qkv4.Hand

open Idealize.ShloMosaic Idealize.ShloMosaic.TcCoe Idealize.SL.Sem

variable {F : FTy → Type} [FloatOps F]

/-- The two prints have one body, -/
theorem body_eq : Cert.Qkv4.defs₀ (F := F) = Cert.Qkv4Ideal.defs₀ (F := F) := by
  refine congrArg (Defs.onTc (nD := Cert.Qkv4.nD) (τ := Cert.Qkv4.τ) (sig := Cert.Qkv4.sig) (Λ := Cert.Qkv4.Λ₀)) ?_
  funext l x
  match l, x with
  | ⟨0, _⟩, (t, s) => rfl

/-- one table of bodies, -/
theorem defs_eq : Cert.Qkv4.defs (F := F) = Cert.Qkv4Ideal.defs (F := F) := by
  unfold Cert.Qkv4.defs
  rw [body_eq]
  rfl

/-- and one program. -/
theorem frame : Cert.quiescent_Qkv4 := fun m g _ => by
  rw [defs_eq]
  exact Cert.Qkv4Ideal.Gen.frame (F := Bits) m g

end Cert.Qkv4.Hand
-- ==== Proof.Qkv.Split.lean ====
/- The stores of a projection's tile, each found by the place it is stored at. -/
module

public import proofs.«01_k».proof.Proof.Qkv.Tile

@[expose] public section

noncomputable section

namespace Cert.Qkv

open Idealize.ShloMosaic Idealize.ShloMosaic.View

/-- The store at residue class `q` and column `o` of a head. -/
theorem turned_at {D R : ℕ} (h : D * R = 1024) (A : (⟨3, ![4, 1024, 128]⟩ : Shape).Idx → EReal)
    (T : (⟨3, ![3, 1024, 128]⟩ : Shape).Idx → EReal) (o q : ℕ) (ho : o < 512) (ho' : 128 * (o / 128) = o) (hq : q < D)
    (y : (⟨4, ![1, D, R, 512]⟩ : Shape).Idx) (w : (⟨4, ![1, 1, R, 128]⟩ : Shape).Idx → EReal)
    (hw : ∀ (j : Fin R) (l : Fin 128), w (ix4 0 0 j l) =
      turn (fun l => A (ix3 ⟨o / 128, Nat.div_lt_of_lt_mul ho⟩ (rowOf h ⟨q, hq⟩ j) l))
        (T (ix3 0 (placeOf h ⟨q, hq⟩ j) l)) (T (ix3 1 (placeOf h ⟨q, hq⟩ j) l)) (T (ix3 2 (placeOf h ⟨q, hq⟩ j) l)) l) :
    TileAt (Val := Elt Ideal) (e := .bf16) (S := ⟨4, ![1, D, R, 512]⟩) y ![0, q, 0, o] ![1, 1, R, 128] w (turnedBlock h A T y) :=
  turned_piece h A T ⟨o / 128, Nat.div_lt_of_lt_mul ho⟩ ⟨q, hq⟩ o q ho'.symm rfl y w hw

/-- The store of head `o`'s columns of the product. -/
theorem product_at (h : (⟨2, ![1024, 2048]⟩ : Shape).Idx → EReal) (W : (⟨3, ![1, 2048, 512]⟩ : Shape).Idx → EReal)
    (o : ℕ) (ho : o < 4) (y : (⟨3, ![4, 1024, 128]⟩ : Shape).Idx) (w : (⟨3, ![1, 1024, 128]⟩ : Shape).Idx → EReal)
    (hw : ∀ (j : Fin 1024) (l : Fin 128), w (ix3 0 j l) = ∑ k : Fin 2048, h (ix2 j k) * W (ix3 0 k ⟨128 * o + l.val, by omega⟩)) :
    TileAt (Val := Elt Ideal) (e := .f32) (S := ⟨3, ![4, 1024, 128]⟩) y ![o, 0, 0] ![1, 1024, 128] w (product h W y) :=
  product_piece h W ⟨o, ho⟩ o rfl y w hw

/-- Every `D`-th row of a head, from row `q` on. -/
def everyRow {D R : ℕ} (h : D * R = 1024) (A : (⟨3, ![4, 1024, 128]⟩ : Shape).Idx → EReal) (o q : ℕ) (ho : o < 4) (hq : q < D) :
    (⟨3, ![1, R, 128]⟩ : Shape).Idx → EReal :=
  fun y => A (ix3 ⟨o, ho⟩ (rowOf h ⟨q, hq⟩ (y 1)) (y 2))

theorem everyRow_apply {D R : ℕ} (h : D * R = 1024) (A : (⟨3, ![4, 1024, 128]⟩ : Shape).Idx → EReal) (o q : ℕ) (ho : o < 4) (hq : q < D)
    (j : Fin R) (l : Fin 128) : everyRow h A o q ho hq (ix3 0 j l) = A (ix3 ⟨o, ho⟩ (rowOf h ⟨q, hq⟩ j) l) := rfl

/-- A load of every `D`-th row reads those rows. -/
theorem strided_idx {D R : ℕ} (h : D * R = 1024) (o q : ℕ) (ho : o < 4) (hq : q < D)
    (inb : ∀ a, (![1, R, 128] : Fin 3 → ℕ) a = 0 ∨ (![o, q, 0] : Fin 3 → ℕ) a + (![1, D, 1] : Fin 3 → ℕ) a * ((![1, R, 128] : Fin 3 → ℕ) a - 1) <
      (⟨3, ![4, 1024, 128]⟩ : Shape).size a) (A : (⟨3, ![4, 1024, 128]⟩ : Shape).Idx → EReal) :
    (fun y => A ((⟨![o, q, 0], ![1, R, 128], ![1, D, 1], inb⟩ : LoadRect ⟨3, ![4, 1024, 128]⟩).idx y)) = everyRow h A o q ho hq := by
  funext y
  obtain ⟨a, j, l, rfl⟩ : ∃ (a : Fin 1) (j : Fin R) (l : Fin 128), y = ix3 a j l := ⟨y 0, y 1, y 2, eq_ix3 y⟩
  obtain rfl : a = 0 := Subsingleton.elim _ _
  rw [everyRow_apply]
  refine congrArg A (funext fun i => Fin.ext ?_)
  match i with
  | ⟨0, _⟩ => show o + 1 * 0 = o; omega
  | ⟨1, _⟩ => show q + D * j.val = D * j.val + q; omega
  | ⟨2, _⟩ => show 0 + 1 * l.val = l.val; omega

/-- A head turned, with the neighbours named by how far the head is rolled. -/
theorem turn_rolled (v : Fin 128 → EReal) (c₀ c₁ c₂ : EReal) (l : Fin 128) :
    turn v c₀ c₁ c₂ l = v l * c₀ + v ⟨(l.val + 128 - 112) % 128, Nat.mod_lt _ (by decide)⟩ * c₁ +
      v ⟨(l.val + 128 - 16) % 128, Nat.mod_lt _ (by decide)⟩ * c₂ := by
  simp only [turn, show l.val + 128 - 112 = l.val + 16 by omega, show l.val + 128 - 16 = l.val + 112 by omega]

end Cert.Qkv
-- ==== Proof.Qkv4.Blk.lean ====
/- What a grid point of the projection over rows dilated four times leaves in its output block and its scratch. -/
module

public import proofs.«01_k».proof.Proof.Qkv4.Frame
public import proofs.«01_k».proof.Proof.Qkv.Split
public import Idealize.ShloMosaic.Lib.Pipeline.Value
public import Idealize.ShloMosaic.Lib.Pipeline.ReadBack

@[expose] public section

set_option maxRecDepth 16384

noncomputable section

namespace Cert.Qkv4Ideal.Hand

open Cert.Qkv Cert.Qkv4Ideal Cert.Qkv4Ideal.Gen Idealize.ShloMosaic Idealize.ShloMosaic.TcCoe Idealize.SL Idealize.SL.Sem
open Idealize.ShloMosaic.View
variable (m : (ℓ : Loc nD τ sig) → Buf (Elt Ideal) ℓ)

/-- The tile of 1024 rows is split into four residue classes. -/
theorem classes : 4 * 256 = 1024 := by decide

theorem modulated_eq (x : Vec Ideal S1024x2048 .f32) (sc sh : Vec Ideal S1x1x2048 .f32) :
    k0_pay81 (F := Ideal) x sc sh = modulated x sc sh := by
  funext y
  rw [eq_ix2 y]
  unfold modulated
  pointwise [k0_pay81]

/-- What the point before left. -/
abbrev before (c : Dev nD) (t : Fin cfg0.N) := outsAt0 m c (t.val - 1) (Nat.lt_of_le_of_lt (Nat.sub_le _ _) t.isLt)

/-- A load from the first of the two products' buffers. -/
theorem strided_1 (o q : ℕ) (ho : o < 4) (hq : q < 4) (inb) (h : (Memref.whole cc0_scratch1).IsWhole) (A : Vec Ideal S4x1024x128 .f32) :
    readAt (Elt Ideal) (whole cc0_scratch1) ⟨![o, q, 0], ![1, 256, 128], ![1, 4, 1], inb⟩ (h.unread A) = everyRow classes A o q ho hq := by
  rw [← strided_idx classes o q ho hq inb A]
  funext y
  rw [readAt_apply, read_unread_whole]

/-- A load from the second of the two products' buffers. -/
theorem strided_2 (o q : ℕ) (ho : o < 4) (hq : q < 4) (inb) (h : (Memref.whole cc0_scratch2).IsWhole) (A : Vec Ideal S4x1024x128 .f32) :
    readAt (Elt Ideal) (whole cc0_scratch2) ⟨![o, q, 0], ![1, 256, 128], ![1, 4, 1], inb⟩ (h.unread A) = everyRow classes A o q ho hq := by
  rw [← strided_idx classes o q ho hq inb A]
  funext y
  rw [readAt_apply, read_unread_whole]

theorem rows_A (c : Dev nD) (t : Fin cfg0.N) (h0 : t.val % 12 = 0) (h1 : t.val % 97 = 0) (h2 : t.val % 2 = 0) (h3 : ¬t.val % 2 = 1) :
    (outsAt0 m c t.val t.isLt).2.1 = modulated (iblk m c 0 t) (iblk m c 1 t) (iblk m c 2 t) := by
  rw [outsAt0_A m c t h0 h1 h2 h3]
  dsimp only [before, atA, runA]
  frame_out
  exact modulated_eq _ _ _

theorem acc_A (c : Dev nD) (t : Fin cfg0.N) (h0 : t.val % 12 = 0) (h1 : t.val % 97 = 0) (h2 : t.val % 2 = 0) (h3 : ¬t.val % 2 = 1) :
    (outsAt0 m c t.val t.isLt).2.2.1 = product (modulated (iblk m c 0 t) (iblk m c 1 t) (iblk m c 2 t)) (iblk m c 3 t) := by
  rw [outsAt0_A m c t h0 h1 h2 h3]
  dsimp only [before, atA, runA]
  frame_out
  rw [modulated_eq]
  funext y
  refine canon_eq_of_allAt _ y _ (cover_of_tiled_head _ _ _ (by rfl) y) ?_
  repeat' first
    | exact allAt_nil _ _
    | refine allAt_cons_unit _ _ _ _ _ (product_at _ _ _ (by decide) _ _ fun j l => ?_) ?_
  all_goals pointwise [k0_pay1, k0_pay2, k0_pay3, k0_pay4, k0_pay5]

theorem rows_B (c : Dev nD) (t : Fin cfg0.N) (h0 : ¬t.val % 12 = 0) (h1 : ¬t.val % 97 = 0) (h2 : ¬t.val % 2 = 0) (h3 : t.val % 2 = 1) :
    (outsAt0 m c t.val t.isLt).2.1 = (before m c t).2.1 := by
  rw [outsAt0_B m c t h0 h1 h2 h3]

theorem acc_B (c : Dev nD) (t : Fin cfg0.N) (h0 : ¬t.val % 12 = 0) (h1 : ¬t.val % 97 = 0) (h2 : ¬t.val % 2 = 0) (h3 : t.val % 2 = 1) :
    (outsAt0 m c t.val t.isLt).2.2.2 = product ((before m c t).2.1) (iblk m c 3 t) := by
  rw [outsAt0_B m c t h0 h1 h2 h3]
  dsimp only [before, atB, runB]
  generalize (outsAt0 m c (t.val - 1) (Nat.lt_of_le_of_lt (Nat.sub_le _ _) t.isLt)) = X
  frame_out
  simp only [read_unread_whole]
  funext y
  refine canon_eq_of_allAt _ y _ (cover_of_tiled_head _ _ _ (by rfl) y) ?_
  repeat' first
    | exact allAt_nil _ _
    | refine allAt_cons_unit _ _ _ _ _ (product_at _ _ _ (by decide) _ _ fun j l => ?_) ?_
  all_goals pointwise [k0_pay41, k0_pay42, k0_pay43, k0_pay44, k0_pay45]

theorem out_B (c : Dev nD) (t : Fin cfg0.N) (h0 : ¬t.val % 12 = 0) (h1 : ¬t.val % 97 = 0) (h2 : ¬t.val % 2 = 0) (h3 : t.val % 2 = 1) :
    (outsAt0 m c t.val t.isLt).1 = turnedBlock classes (before m c t).2.2.1 (iblk m c 4 t) := by
  rw [outsAt0_B m c t h0 h1 h2 h3]
  dsimp only [before, atB, runB]
  generalize (outsAt0 m c (t.val - 1) (Nat.lt_of_le_of_lt (Nat.sub_le _ _) t.isLt)) = X
  frame_out
  simp (discharger := decide) only [strided_1]
  funext y
  refine canon_eq_of_allAt _ y _ (cover_of_tiled_head _ _ _ (by rfl) y) ?_
  repeat' first
    | exact allAt_nil _ _
    | refine allAt_cons_unit _ _ _ _ _ (turned_at classes _ _ _ _ (by decide) (by decide) (by decide) _ _ fun j l => ?_) ?_
  all_goals
    rw [turn_rolled]
    simp only [placeOf]
    pointwise [everyRow_apply,
      k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay82]

theorem rows_C (c : Dev nD) (t : Fin cfg0.N) (h0 : ¬t.val % 12 = 0) (h1 : ¬t.val % 97 = 0) (h2 : t.val % 2 = 0) (h3 : ¬t.val % 2 = 1) :
    (outsAt0 m c t.val t.isLt).2.1 = (before m c t).2.1 := by
  rw [outsAt0_C m c t h0 h1 h2 h3]

theorem acc_C (c : Dev nD) (t : Fin cfg0.N) (h0 : ¬t.val % 12 = 0) (h1 : ¬t.val % 97 = 0) (h2 : t.val % 2 = 0) (h3 : ¬t.val % 2 = 1) :
    (outsAt0 m c t.val t.isLt).2.2.1 = product ((before m c t).2.1) (iblk m c 3 t) := by
  rw [outsAt0_C m c t h0 h1 h2 h3]
  dsimp only [before, atC, runC]
  generalize (outsAt0 m c (t.val - 1) (Nat.lt_of_le_of_lt (Nat.sub_le _ _) t.isLt)) = X
  frame_out
  simp only [read_unread_whole]
  funext y
  refine canon_eq_of_allAt _ y _ (cover_of_tiled_head _ _ _ (by rfl) y) ?_
  repeat' first
    | exact allAt_nil _ _
    | refine allAt_cons_unit _ _ _ _ _ (product_at _ _ _ (by decide) _ _ fun j l => ?_) ?_
  all_goals pointwise [k0_pay1, k0_pay2, k0_pay3, k0_pay4, k0_pay5]

theorem out_C (c : Dev nD) (t : Fin cfg0.N) (h0 : ¬t.val % 12 = 0) (h1 : ¬t.val % 97 = 0) (h2 : t.val % 2 = 0) (h3 : ¬t.val % 2 = 1) :
    (outsAt0 m c t.val t.isLt).1 = turnedBlock classes (before m c t).2.2.2 (iblk m c 4 t) := by
  rw [outsAt0_C m c t h0 h1 h2 h3]
  dsimp only [before, atC, runC]
  generalize (outsAt0 m c (t.val - 1) (Nat.lt_of_le_of_lt (Nat.sub_le _ _) t.isLt)) = X
  frame_out
  simp (discharger := decide) only [strided_2]
  funext y
  refine canon_eq_of_allAt _ y _ (cover_of_tiled_head _ _ _ (by rfl) y) ?_
  repeat' first
    | exact allAt_nil _ _
    | refine allAt_cons_unit _ _ _ _ _ (turned_at classes _ _ _ _ (by decide) (by decide) (by decide) _ _ fun j l => ?_) ?_
  all_goals
    rw [turn_rolled]
    simp only [placeOf]
    pointwise [everyRow_apply,
      k0_pay6, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay82]

theorem rows_D (c : Dev nD) (t : Fin cfg0.N) (h0 : t.val % 12 = 0) (h1 : ¬t.val % 97 = 0) (h2 : t.val % 2 = 0) (h3 : ¬t.val % 2 = 1) :
    (outsAt0 m c t.val t.isLt).2.1 = modulated (iblk m c 0 t) (iblk m c 1 t) (iblk m c 2 t) := by
  rw [outsAt0_D m c t h0 h1 h2 h3]
  dsimp only [before, atD, runD]
  generalize (outsAt0 m c (t.val - 1) (Nat.lt_of_le_of_lt (Nat.sub_le _ _) t.isLt)) = X
  frame_out
  exact modulated_eq _ _ _

theorem acc_D (c : Dev nD) (t : Fin cfg0.N) (h0 : t.val % 12 = 0) (h1 : ¬t.val % 97 = 0) (h2 : t.val % 2 = 0) (h3 : ¬t.val % 2 = 1) :
    (outsAt0 m c t.val t.isLt).2.2.1 = product (modulated (iblk m c 0 t) (iblk m c 1 t) (iblk m c 2 t)) (iblk m c 3 t) := by
  rw [outsAt0_D m c t h0 h1 h2 h3]
  dsimp only [before, atD, runD]
  generalize (outsAt0 m c (t.val - 1) (Nat.lt_of_le_of_lt (Nat.sub_le _ _) t.isLt)) = X
  frame_out
  rw [modulated_eq]
  funext y
  refine canon_eq_of_allAt _ y _ (cover_of_tiled_head _ _ _ (by rfl) y) ?_
  repeat' first
    | exact allAt_nil _ _
    | refine allAt_cons_unit _ _ _ _ _ (product_at _ _ _ (by decide) _ _ fun j l => ?_) ?_
  all_goals pointwise [k0_pay1, k0_pay2, k0_pay3, k0_pay4, k0_pay5]

theorem out_D (c : Dev nD) (t : Fin cfg0.N) (h0 : t.val % 12 = 0) (h1 : ¬t.val % 97 = 0) (h2 : t.val % 2 = 0) (h3 : ¬t.val % 2 = 1) :
    (outsAt0 m c t.val t.isLt).1 = turnedBlock classes (before m c t).2.2.2 (iblk m c 4 t) := by
  rw [outsAt0_D m c t h0 h1 h2 h3]
  dsimp only [before, atD, runD]
  generalize (outsAt0 m c (t.val - 1) (Nat.lt_of_le_of_lt (Nat.sub_le _ _) t.isLt)) = X
  frame_out
  simp (discharger := decide) only [strided_2]
  funext y
  refine canon_eq_of_allAt _ y _ (cover_of_tiled_head _ _ _ (by rfl) y) ?_
  repeat' first
    | exact allAt_nil _ _
    | refine allAt_cons_unit _ _ _ _ _ (turned_at classes _ _ _ _ (by decide) (by decide) (by decide) _ _ fun j l => ?_) ?_
  all_goals
    rw [turn_rolled]
    simp only [placeOf]
    pointwise [everyRow_apply,
      k0_pay6, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay82]

end Cert.Qkv4Ideal.Hand
-- ==== Proof.Qkv4.Arr.lean ====
/- The result array of the projection over rows dilated four times, from its grid points: the rows, columns and tables each point reads, what its scratch
   carries, and the block it writes. -/
module

public import proofs.«01_k».proof.Proof.Qkv4.Blk
public import proofs.«01_k».proof.Proof.Qkv.Proj

@[expose] public section

set_option maxRecDepth 16384

noncomputable section

namespace Cert.Qkv4Ideal.Hand

open Cert.Qkv Cert.Qkv4Ideal Cert.Qkv4Ideal.Gen Idealize.ShloMosaic Idealize.ShloMosaic.TcCoe Idealize.SL Idealize.SL.Sem
open Idealize.ShloMosaic.View
variable (m : (ℓ : Loc nD τ sig) → Buf (Elt Ideal) ℓ)

/-- The arguments. -/
abbrev arg0 (c : Dev nD) : Rows := m ((c.tc : Thread nD τ).loc main_arg0)
abbrev arg1 (c : Dev nD) : Mods := m ((c.tc : Thread nD τ).loc main_arg1)
abbrev arg2 (c : Dev nD) : Mods := m ((c.tc : Thread nD τ).loc main_arg2)
abbrev arg3 (c : Dev nD) : Weights := m ((c.tc : Thread nD τ).loc main_arg3)
abbrev arg4 (c : Dev nD) : Tables := m ((c.tc : Thread nD τ).loc main_arg4)

theorem idx_0 : ∀ t : Fin cfg0.N, win0_0.index t = ![min t.val 95 / 12, 0] :=
  (by decide +kernel : ∀ t : Fin grid0.N, win0_0.index t = ![min t.val 95 / 12, 0])
theorem idx_1 : ∀ t : Fin cfg0.N, win0_1.index t = ![min t.val 95 / 12 / 4, 0, 0] :=
  (by decide +kernel : ∀ t : Fin grid0.N, win0_1.index t = ![min t.val 95 / 12 / 4, 0, 0])
theorem idx_2 : ∀ t : Fin cfg0.N, win0_2.index t = ![min t.val 95 / 12 / 4, 0, 0] :=
  (by decide +kernel : ∀ t : Fin grid0.N, win0_2.index t = ![min t.val 95 / 12 / 4, 0, 0])
theorem idx_3 : ∀ t : Fin cfg0.N, win0_3.index t = ![0, 0, 12 + min t.val 95 % 12] :=
  (by decide +kernel : ∀ t : Fin grid0.N, win0_3.index t = ![0, 0, 12 + min t.val 95 % 12])
theorem idx_4 : ∀ t : Fin cfg0.N, win0_4.index t = ![(t.val - 1) % 12 / 4, 8 + (t.val - 1) / 12, 0] :=
  (by decide +kernel : ∀ t : Fin grid0.N, win0_4.index t = ![(t.val - 1) % 12 / 4, 8 + (t.val - 1) / 12, 0])
theorem idx_5 : ∀ t : Fin cfg0.N, win0_5.index t = ![(t.val - 1) / 12 / 4, 0, (t.val - 1) / 12 % 4, (t.val - 1) % 12] :=
  (by decide +kernel : ∀ t : Fin grid0.N, win0_5.index t = ![(t.val - 1) / 12 / 4, 0, (t.val - 1) / 12 % 4, (t.val - 1) % 12])

/-- The result is first written back after the second point. -/
theorem flush_pos : ∀ t : Fin cfg0.N, win0_5.flush t = true → 1 ≤ t.val :=
  (by decide +kernel : ∀ t : Fin grid0.N, win0_5.flush t = true → 1 ≤ t.val)

theorem rows_read (c : Dev nD) (t : Fin cfg0.N) (i : Fin 8) (hi : i.val = t.val / 12) :
    modulated (iblk m c 0 t) (iblk m c 1 t) (iblk m c 2 t) = rowsTile (arg0 m c) (arg1 m c) (arg2 m c) i := by
  have ht : t.val < 96 := by omega
  funext y
  rw [eq_ix2 y]
  unfold modulated rowsTile arg0 arg1 arg2
  congr 1
  · congr 1
    · blk_ext [iblk, V, idx_0 t]
    · congr 1
      blk_ext [iblk, V, idx_1 t]
  · blk_ext [iblk, V, idx_2 t]

theorem cols_read (c : Dev nD) (t : Fin cfg0.N) (ht : t.val < 96) :
    iblk m c 3 t = colsTile (arg3 m c) 1 ⟨t.val % 12, by omega⟩ := by
  funext y
  rw [eq_ix3 y]
  unfold colsTile arg3
  blk_ext [iblk, V, idx_3 t]

theorem tabs_read (c : Dev nD) (t : Fin cfg0.N) (ht : 1 ≤ t.val) (hN : t.val < 97) :
    iblk m c 4 t = tabsTile (arg4 m c) 1 ⟨(t.val - 1) / 12, by omega⟩ ⟨(t.val - 1) % 12 / 4, by omega⟩ := by
  funext y
  rw [eq_ix3 y]
  unfold tabsTile arg4
  blk_ext [iblk, V, idx_4 t]

/-- The rows a point keeps are its tile's. -/
theorem rows_kept (c : Dev nD) : ∀ (n : ℕ) (hn : n < 96) (hN : n < cfg0.N),
    (outsAt0 m c n hN).2.1 = rowsTile (arg0 m c) (arg1 m c) (arg2 m c) ⟨n / 12, by omega⟩ := by
  intro n
  induction n with
  | zero =>
    intro hn hN
    rw [rows_A m c ⟨0, hN⟩ rfl rfl rfl (fun h => absurd h (by decide : ¬0 % 2 = 1))]
    exact rows_read m c ⟨0, hN⟩ _ rfl
  | succ n ih =>
    intro hn hN
    have h97 : ¬(n + 1) % 97 = 0 := by omega
    by_cases h12 : (n + 1) % 12 = 0
    · rw [rows_D m c ⟨n + 1, hN⟩ h12 h97 (by show (n + 1) % 2 = 0; omega) (by show ¬(n + 1) % 2 = 1; omega)]
      exact rows_read m c ⟨n + 1, hN⟩ _ rfl
    · have hp : (before m c ⟨n + 1, hN⟩).2.1 = rowsTile (arg0 m c) (arg1 m c) (arg2 m c) ⟨(n + 1) / 12, by omega⟩ :=
        (ih (by omega) (by omega)).trans (congrArg _ (Fin.ext (by show n / 12 = (n + 1) / 12; omega)))
      by_cases h2 : (n + 1) % 2 = 0
      · rw [rows_C m c ⟨n + 1, hN⟩ h12 h97 h2 (by show ¬(n + 1) % 2 = 1; omega)]
        exact hp
      · rw [rows_B m c ⟨n + 1, hN⟩ h12 h97 h2 (by show (n + 1) % 2 = 1; omega)]
        exact hp

/-- The product a point leaves for the next, in the scratch of its parity. -/
theorem acc_even (c : Dev nD) (t : Fin cfg0.N) (ht : t.val < 96) (h2 : t.val % 2 = 0) :
    (outsAt0 m c t.val t.isLt).2.2.1 = product (rowsTile (arg0 m c) (arg1 m c) (arg2 m c) ⟨t.val / 12, by omega⟩)
      (colsTile (arg3 m c) 1 ⟨t.val % 12, by omega⟩) := by
  rw [← cols_read m c t ht, ← rows_kept m c t.val ht t.isLt]
  have h2' : ¬t.val % 2 = 1 := by omega
  by_cases h12 : t.val % 12 = 0
  · by_cases h97 : t.val % 97 = 0
    · rw [acc_A m c t h12 h97 h2 h2', rows_A m c t h12 h97 h2 h2']
    · rw [acc_D m c t h12 h97 h2 h2', rows_D m c t h12 h97 h2 h2']
  · have h97 : ¬t.val % 97 = 0 := by omega
    rw [acc_C m c t h12 h97 h2 h2', rows_C m c t h12 h97 h2 h2']

theorem acc_odd (c : Dev nD) (t : Fin cfg0.N) (ht : t.val < 96) (h2 : t.val % 2 = 1) :
    (outsAt0 m c t.val t.isLt).2.2.2 = product (rowsTile (arg0 m c) (arg1 m c) (arg2 m c) ⟨t.val / 12, by omega⟩)
      (colsTile (arg3 m c) 1 ⟨t.val % 12, by omega⟩) := by
  rw [← cols_read m c t ht, ← rows_kept m c t.val ht t.isLt]
  have h2' : ¬t.val % 2 = 0 := by omega
  have h12 : ¬t.val % 12 = 0 := by omega
  have h97 : ¬t.val % 97 = 0 := by omega
  rw [acc_B m c t h12 h97 h2' h2, rows_B m c t h12 h97 h2' h2]

/-- The block a point writes: the tile of the point before. -/
theorem out_tile (c : Dev nD) (t : Fin cfg0.N) (ht : 1 ≤ t.val) (hN : t.val < 97) :
    (outsAt0 m c t.val t.isLt).1 = tileBlock classes (arg0 m c) (arg1 m c) (arg2 m c) (arg3 m c) (arg4 m c) 1
      ⟨(t.val - 1) / 12, by omega⟩ ⟨(t.val - 1) % 12, by omega⟩ := by
  have h97 : ¬t.val % 97 = 0 := by omega
  unfold tileBlock
  by_cases h2 : t.val % 2 = 0
  · have h2' : ¬t.val % 2 = 1 := by omega
    have hp := acc_odd m c ⟨t.val - 1, by omega⟩ (by show t.val - 1 < 96; omega) (by show (t.val - 1) % 2 = 1; omega)
    by_cases h12 : t.val % 12 = 0
    · rw [out_D m c t h12 h97 h2 h2', tabs_read m c t ht hN]
      exact congrArg (fun A => turnedBlock classes A _) hp
    · rw [out_C m c t h12 h97 h2 h2', tabs_read m c t ht hN]
      exact congrArg (fun A => turnedBlock classes A _) hp
  · have hp := acc_even m c ⟨t.val - 1, by omega⟩ (by show t.val - 1 < 96; omega) (by show (t.val - 1) % 2 = 0; omega)
    rw [out_B m c t (by omega) h97 h2 (by omega), tabs_read m c t ht hN]
    exact congrArg (fun A => turnedBlock classes A _) hp

theorem four_tiles : 1024 = 4 * 256 := by decide

/-- The result array. -/
theorem final (c : Dev nD) : (dats m 0 c).arrAt 5 cfg0.N =
    projArr classes four_tiles (arg0 m c) (arg1 m c) (arg2 m c) (arg3 m c) (arg4 m c) 1 := by
  refine (dats m 0 c).arrAt_eq_of_covers 5 _ (by decide +kernel) fun t hf y => ?_
  have hN : t.val < 97 := t.isLt
  have ht : 1 ≤ t.val := flush_pos t hf
  blk_simp
  rw [after0_5, out_tile m c t ht hN]
  obtain ⟨r, x, k, rfl⟩ := block_idx (D := 4) (R := 256) y
  have hy : (win0_5.blk t).view.emb (ix4 0 r x k : S1x4x256x512.Idx) =
      (ix4 (⟨(t.val - 1) / 12 / 4, by omega⟩ : Fin 2) r (⟨256 * ((t.val - 1) / 12 % 4) + x.val, by omega⟩ : Fin 1024)
        (⟨512 * ((t.val - 1) % 12) + k.val, by omega⟩ : Fin 6144) : S2x4x1024x6144.Idx) := by
    blk_ext [idx_5 t]
  rw [hy]
  exact (projArr_tile classes four_tiles _ _ _ _ _ 1 _ _ r x k _ _ _ rfl rfl rfl).symm

variable (ρ : Dev nD → PrngReg)

/-- The run: the result array ends as `final` names it, the arguments as they were. -/
theorem run : θ_run defs (onTc (τ := τ) (main (F := Ideal))) ⟨m, fun _ => 0, ρ⟩ fun r => ∀ c : Dev nD,
      r.2.mem ((c.tc : Thread nD τ).loc main_v0) = projArr classes four_tiles (arg0 m c) (arg1 m c) (arg2 m c) (arg3 m c) (arg4 m c) 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Qkv4Ideal.Hand
-- ==== Proof.Qkv4.Ref.lean ====
/- The projection's reference over rows dilated four times, read at an index: one sum over the model's width per entry, turned. -/
module

public import proofs.«01_k».proof.Proof.Gen.QkvRef4Ideal.Read
public import proofs.«01_k».proof.Proof.Qkv.Proj
public import Idealize.ShloMosaic.Lib.KernelVsHost

@[expose] public section

set_option maxRecDepth 16384

noncomputable section

namespace Cert.QkvRef4Ideal.Hand

open Cert.Qkv Cert.QkvRef4Ideal Cert.QkvRef4Ideal.Gen Cert.QkvRef4Ideal.Read Idealize.ShloMosaic Idealize.ShloMosaic.TcCoe
variable (X : Rows) (C S : Mods) (W : Weights) (T : Tables)
variable (tok : Fin 8192) (a : Fin 3) (hd : Fin 16) (l : Fin 128)

theorem one_bits : FloatOps.ofBits (F := Ideal) .f32 0x3F800000#32 = (1 : EReal) := by pointwise

theorem rows_apply (k : Fin 2048) : val_main_v7 (F := Ideal) X C S (ix2 tok k) =
    X (ix2 tok k) * (1 + C (ix3 ⟨tok.val / 4096, by omega⟩ 0 k)) + S (ix3 ⟨tok.val / 4096, by omega⟩ 0 k) := by
  rw [val_main_v7_apply, val_main_v6_apply, val_main_v4_apply, val_main_v0_apply, val_main_v3_apply, val_main_v2_apply,
    val_main_v1_apply, val_main_cst_apply, val_main_v5_apply, one_bits]
  have e7 : idx_main_v7 (ix2 tok k) = ix3 ⟨tok.val / 4096, by omega⟩ ⟨tok.val % 4096, by omega⟩ k := by
    funext i
    refine Fin.ext ?_
    match i with
    | ⟨0, _⟩ => show (tok.val * 2048 + k.val) / 8388608 = tok.val / 4096; omega
    | ⟨1, _⟩ => show (tok.val * 2048 + k.val) / 2048 % 4096 = tok.val % 4096; omega
    | ⟨2, _⟩ => show (tok.val * 2048 + k.val) % 2048 = k.val; omega
  have e0 : idx_main_v0 (ix3 (⟨tok.val / 4096, by omega⟩ : Fin 2) (⟨tok.val % 4096, by omega⟩ : Fin 4096) k) = ix2 tok k := by
    funext i
    refine Fin.ext ?_
    match i with
    | ⟨0, _⟩ => show ((tok.val / 4096 * 4096 + tok.val % 4096) * 2048 + k.val) / 2048 = tok.val; omega
    | ⟨1, _⟩ => show ((tok.val / 4096 * 4096 + tok.val % 4096) * 2048 + k.val) % 2048 = k.val; omega
  rw [e7, e0]
  show X _ * (1 + C _) + S _ = _
  congr 1
  · refine congrArg (fun z => X (ix2 tok k) * (1 + C z)) ?_
    funext i; match i with | ⟨0, _⟩ => rfl | ⟨1, _⟩ => rfl | ⟨2, _⟩ => rfl
  · refine congrArg S ?_
    funext i; match i with | ⟨0, _⟩ => rfl | ⟨1, _⟩ => rfl | ⟨2, _⟩ => rfl

/-- A head's entries before they are turned. -/
def plain (b : Fin 2) (l : Fin 128) : EReal := ∑ k : Fin 2048, (X (ix2 tok k) * (1 + C (ix3 b 0 k)) + S (ix3 b 0 k)) *
  W (ix3 0 k ⟨6144 * (1 : Fin 3).val + 2048 * a.val + 128 * hd.val + l.val, by show 6144 * 1 + 2048 * a.val + 128 * hd.val + l.val < _; omega⟩)

theorem plain_apply : val_main_v11 (F := Ideal) X C S W (ix4 tok a hd l) = plain X C S W tok a hd ⟨tok.val / 4096, by omega⟩ l := by
  rw [val_main_v11_apply, val_main_v10_apply]
  unfold plain
  refine Finset.sum_congr rfl fun k _ => ?_
  have el : lidx_main_v10 (idx_main_v11 (ix4 tok a hd l)) k = ix2 tok k := by
    funext i
    refine Fin.ext ?_
    match i with
    | ⟨0, _⟩ => show (((tok.val * 3 + a.val) * 16 + hd.val) * 128 + l.val) / 6144 = tok.val; omega
    | ⟨1, _⟩ => rfl
  rw [el, rows_apply, val_main_v9_apply, val_main_v8_apply]
  congr 1
  refine congrArg W (funext fun i => Fin.ext ?_)
  match i with
  | ⟨0, _⟩ => rfl
  | ⟨1, _⟩ =>
    show (k.val * 18432 + (6144 + (((tok.val * 3 + a.val) * 16 + hd.val) * 128 + l.val) % 6144)) / 18432 % 2048 = k.val
    omega
  | ⟨2, _⟩ =>
    show (k.val * 18432 + (6144 + (((tok.val * 3 + a.val) * 16 + hd.val) * 128 + l.val) % 6144)) % 18432 = 6144 * 1 + 2048 * a.val + 128 * hd.val + l.val
    omega

/-- The entry 16 further, round the head. -/
theorem after_apply : val_main_v22 (F := Ideal) X C S W (ix4 tok a hd l) =
    val_main_v11 (F := Ideal) X C S W (ix4 tok a hd ⟨(l.val + 16) % 128, Nat.mod_lt _ (by decide)⟩) := by
  unfold val_main_v22 val_main_call0_v0 val_main_call0_v1
  generalize val_main_v11 (F := Ideal) X C S W = v
  pointwise
  split
  all_goals
    refine congrArg (fun i => v (ix4 tok a hd i)) (Fin.ext ?_)
    dsimp only
    omega

/-- The entry 16 before, round the head. -/
theorem before_apply : val_main_v28 (F := Ideal) X C S W (ix4 tok a hd l) =
    val_main_v11 (F := Ideal) X C S W (ix4 tok a hd ⟨(l.val + 112) % 128, Nat.mod_lt _ (by decide)⟩) := by
  unfold val_main_v28 val_main_call1_v0 val_main_call1_v1
  generalize val_main_v11 (F := Ideal) X C S W = v
  pointwise
  split
  all_goals
    refine congrArg (fun i => v (ix4 tok a hd i)) (Fin.ext ?_)
    dsimp only
    omega

/-- Where the tables keep the coefficients of row `tok`. -/
abbrev place : Fin 24576 := ⟨8192 + 1024 * (tok.val / 1024) + 256 * (tok.val % 4) + tok.val % 1024 / 4, by omega⟩

theorem tab_apply (u : Fin 3) : val_main_v16 (F := Ideal) T (ix4 tok a u l) =
    T (ix3 ⟨3 * a.val + u.val, by omega⟩ (place tok) l) := by
  have e : idx_main_v14 (idx_main_v15 (idx_main_v16 (ix4 tok a u l))) =
      ix4 ⟨8 * (3 * a.val + u.val) + tok.val / 1024, by omega⟩ ⟨tok.val % 4, by omega⟩ ⟨tok.val % 1024 / 4, by omega⟩ l := by
    funext i
    refine Fin.ext ?_
    match i with
    | ⟨0, _⟩ => show (((a.val * 3 + u.val) * 8192 + tok.val) * 128 + l.val) / 131072 = 8 * (3 * a.val + u.val) + tok.val / 1024; omega
    | ⟨1, _⟩ => show (((a.val * 3 + u.val) * 8192 + tok.val) * 128 + l.val) / 128 % 4 = tok.val % 4; omega
    | ⟨2, _⟩ => show (((a.val * 3 + u.val) * 8192 + tok.val) * 128 + l.val) / 512 % 256 = tok.val % 1024 / 4; omega
    | ⟨3, _⟩ => show (((a.val * 3 + u.val) * 8192 + tok.val) * 128 + l.val) % 128 = l.val; omega
  rw [val_main_v16_apply, val_main_v15_apply, val_main_v14_apply, val_main_v13_apply, val_main_v12_apply, e]
  refine congrArg T (funext fun i => Fin.ext ?_)
  match i with
  | ⟨0, _⟩ =>
    show ((((8 * (3 * a.val + u.val) + tok.val / 1024) * 4 + tok.val % 4) * 256 + tok.val % 1024 / 4) * 128 + l.val) / 1048576 = 3 * a.val + u.val
    omega
  | ⟨1, _⟩ =>
    show 8192 + ((((8 * (3 * a.val + u.val) + tok.val / 1024) * 4 + tok.val % 4) * 256 + tok.val % 1024 / 4) * 128 + l.val) / 128 % 8192 =
      8192 + 1024 * (tok.val / 1024) + 256 * (tok.val % 4) + tok.val % 1024 / 4
    omega
  | ⟨2, _⟩ =>
    show ((((8 * (3 * a.val + u.val) + tok.val / 1024) * 4 + tok.val % 4) * 256 + tok.val % 1024 / 4) * 128 + l.val) % 128 = l.val
    omega

theorem coef_0 : val_main_v20 (F := Ideal) T (ix4 tok a hd l) = T (ix3 ⟨3 * a.val, by omega⟩ (place tok) l) := by
  rw [val_main_v20_apply, val_main_v19_apply, val_main_v18_apply, val_main_v17_apply]
  refine Eq.trans (congrArg _ (funext fun i => Fin.ext ?_)) (tab_apply T tok a l 0)
  match i with
  | ⟨0, _⟩ => simp [ix4]; omega
  | ⟨1, _⟩ => simp [ix4]; omega
  | ⟨2, _⟩ => rfl
  | ⟨3, _⟩ => simp [ix4]

theorem coef_1 : val_main_v25 (F := Ideal) T (ix4 tok a hd l) = T (ix3 ⟨3 * a.val + 1, by omega⟩ (place tok) l) := by
  rw [val_main_v25_apply, val_main_v24_apply, val_main_v23_apply, val_main_v17_apply]
  refine Eq.trans (congrArg _ (funext fun i => Fin.ext ?_)) (tab_apply T tok a l 1)
  match i with
  | ⟨0, _⟩ => simp [ix4]; omega
  | ⟨1, _⟩ => simp [ix4]; omega
  | ⟨2, _⟩ => rfl
  | ⟨3, _⟩ => simp [ix4]

theorem coef_2 : val_main_v31 (F := Ideal) T (ix4 tok a hd l) = T (ix3 ⟨3 * a.val + 2, by omega⟩ (place tok) l) := by
  rw [val_main_v31_apply, val_main_v30_apply, val_main_v29_apply, val_main_v17_apply]
  refine Eq.trans (congrArg _ (funext fun i => Fin.ext ?_)) (tab_apply T tok a l 2)
  match i with
  | ⟨0, _⟩ => simp [ix4]; omega
  | ⟨1, _⟩ => simp [ix4]; omega
  | ⟨2, _⟩ => rfl
  | ⟨3, _⟩ => simp [ix4]

/-- The reference's result. -/
theorem result {h : 4 * 256 = 1024} {hL : 1024 = 4 * 256} : val_main_v36 (F := Ideal) X C S W T = projArr h hL X C S W T 1 := by
  funext y
  obtain ⟨b, r, q, col, rfl⟩ : ∃ (b : Fin 2) (r : Fin 4) (q : Fin 1024) (col : Fin 6144), y = ix4 b r q col :=
    ⟨y 0, y 1, y 2, y 3, eq_ix4 y⟩
  show _ = projEntry h hL X C S W T 1 b r q col
  have ey : idx_main_v35 (idx_main_v36 (ix4 b r q col)) = ix4 ⟨4096 * b.val + 4 * q.val + r.val, by omega⟩ ⟨col.val / 2048, by omega⟩
      ⟨col.val / 128 % 16, by omega⟩ ⟨col.val % 128, by omega⟩ := by
    funext i
    refine Fin.ext ?_
    match i with
    | ⟨0, _⟩ => show (((b.val * 1024 + q.val) * 4 + r.val) * 6144 + col.val) / 6144 = 4096 * b.val + 4 * q.val + r.val; omega
    | ⟨1, _⟩ => show (((b.val * 1024 + q.val) * 4 + r.val) * 6144 + col.val) / 2048 % 3 = col.val / 2048; omega
    | ⟨2, _⟩ => show (((b.val * 1024 + q.val) * 4 + r.val) * 6144 + col.val) / 128 % 16 = col.val / 128 % 16; omega
    | ⟨3, _⟩ => show (((b.val * 1024 + q.val) * 4 + r.val) * 6144 + col.val) % 128 = col.val % 128; omega
  rw [projEntry_eq h hL X C S W T 1 b r q col ⟨4096 * b.val + 4 * q.val + r.val, by omega⟩ ⟨col.val / 2048, by omega⟩
      ⟨col.val / 128 % 16, by omega⟩ ⟨col.val % 128, by omega⟩ (place ⟨4096 * b.val + 4 * q.val + r.val, by omega⟩)
      rfl (by show col.val = 2048 * (col.val / 2048) + 128 * (col.val / 128 % 16) + col.val % 128; omega)
      (by
        show 8192 + 1024 * ((4096 * b.val + 4 * q.val + r.val) / 1024) + 256 * ((4096 * b.val + 4 * q.val + r.val) % 4) +
          (4096 * b.val + 4 * q.val + r.val) % 1024 / 4 = 8192 * 1 + 1024 * (4 * b.val + q.val / 256) + 256 * r.val + q.val % 256
        omega),
    val_main_v36_apply, val_main_v35_apply, ey, val_main_v34_apply, val_main_v33_apply, val_main_v27_apply, val_main_v21_apply,
    val_main_v26_apply, val_main_v32_apply, after_apply, before_apply, plain_apply, plain_apply, plain_apply, coef_0, coef_1, coef_2]
  have eb : (⟨(4096 * b.val + 4 * q.val + r.val) / 4096, by omega⟩ : Fin 2) = b :=
    Fin.ext (by show (4096 * b.val + 4 * q.val + r.val) / 4096 = b.val; omega)
  dsimp only
  rw [eb]
  rfl

end Cert.QkvRef4Ideal.Hand
-- ==== Proof.Qkv4.Alg.lean ====
/- The projection over rows dilated four times is its reference. -/
module

public import proofs.«01_k».proof.Proof.Qkv4.Arr
public import proofs.«01_k».proof.Proof.Qkv4.Ref
public import proofs.«01_k».proof.Defs

@[expose] public section

set_option maxRecDepth 16384

noncomputable section

namespace Cert.Qkv

open Idealize.ShloMosaic Idealize.ShloMosaic.TcCoe Idealize.SL.Sem

/-- From memories that agree on the arguments the kernel and the reference end with the same result. -/
theorem algebraic4 : Cert.algebraic_Qkv4Ideal_QkvRef4Ideal := by
  intro m g m' g' _ hagree
  refine ⟨fun c => projArr Cert.Qkv4Ideal.Hand.classes Cert.Qkv4Ideal.Hand.four_tiles (Cert.Qkv4Ideal.Hand.arg0 m c)
    (Cert.Qkv4Ideal.Hand.arg1 m c) (Cert.Qkv4Ideal.Hand.arg2 m c) (Cert.Qkv4Ideal.Hand.arg3 m c) (Cert.Qkv4Ideal.Hand.arg4 m c) 1, ?_, ?_⟩
  · exact Cert.Qkv4Ideal.Hand.run m g
  · refine (θ_run _ _ _).mono (fun r h c => ?_) (Cert.QkvRef4Ideal.Value.run m' g')
    refine ⟨(h c).1.trans ?_, (h c).2⟩
    rw [Cert.QkvRef4Ideal.Read.val_main_v36_eq, (hagree c).1, (hagree c).2.1, (hagree c).2.2.1, (hagree c).2.2.2.1, (hagree c).2.2.2.2]
    exact Cert.QkvRef4Ideal.Hand.result _ _ _ _ _

end Cert.Qkv
-- ==== Proof.Qkv16.Runs.lean ====
module

public import proofs.«01_k».proof.Proof.Gen.Qkv16Ideal.Launch
public import proofs.«01_k».proof.Proof.Gen.Qkv16Ideal.Skeleton
public import proofs.«01_k».proof.Proof.Gen.Qkv16Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Qkv16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging buffer in vector memory. -/
abbrev Buffer (s : Shape) (e : EltTy) := Memref sig .tc .vmem s e

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, if the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Qkv16Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 12#32 0#32) 1#32 12#32)) 0#32) (Scalar.cmpi .slt (Scalar.select (Scalar.cmpi .eq 12#32 0#32) 1#32 12#32) 0#32)) (Scalar.cmpi .ne (Scalar.remsi (BitVec.ofNat 32 (i 0).val) (Scalar.select (Scalar.cmpi .eq 12#32 0#32) 1#32 12#32)) 0#32)) (Scalar.addi (Scalar.remsi (BitVec.ofNat 32 (i 0).val) (Scalar.select (Scalar.cmpi .eq 12#32 0#32) 1#32 12#32)) (Scalar.select (Scalar.cmpi .eq 12#32 0#32) 1#32 12#32)) (Scalar.remsi (BitVec.ofNat 32 (i 0).val) (Scalar.select (Scalar.cmpi .eq 12#32 0#32) 1#32 12#32))) 0#32)) 0#32) = 1#1
/-- It holds at the points ≡ 0 (mod 12) — decided over the grid. -/
theorem hcond0_0 : ∀ t : Fin cfg0.N, cond0_0 (grid0.coords t) ↔ t.val % 12 = 0 :=
  (by decide +kernel : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 97 = 0 :=
  (fun t => by
    have ht : t.val < 97 := Nat.lt_of_lt_of_eq t.isLt N_0
    have e0 : (grid0.coords t 0).val = t.val / 1 % 97 := Pipeline.Grid.coords_val t 0 (by decide) rfl
    simp only [cond0_1, e0]
    word_cmp
   : ∀ t : Fin grid0.N, cond0_1 (grid0.coords t) ↔ t.val % 97 = 0)

/-- The condition of the body's `scf.if` 2 (`k0_h3`), from the grid coordinates (the skeleton's scalar
    chain substituted). -/
abbrev cond0_2 (i : grid0.Coords) : Prop := k0_cond3 i = 1#1
/-- It holds at the points ≡ 0 (mod 2) — decided over the grid. -/
theorem hcond0_2 : ∀ t : Fin cfg0.N, cond0_2 (grid0.coords t) ↔ t.val % 2 = 0 :=
  (by decide +kernel : ∀ t : Fin grid0.N, cond0_2 (grid0.coords t) ↔ t.val % 2 = 0)

/-- The condition of the body's `scf.if` 3 (`k0_h4`), from the grid coordinates (the skeleton's scalar
    chain substituted). -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ ¬cond0_2 i ∧ cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := cond0_0 i ∧ ¬cond0_1 i ∧ cond0_2 i ∧ ¬cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 5 live: the case stores into it. -/
theorem liveAt0_5_A : ∀ t : Fin cfg0.N, cond0_0 (grid0.coords t) → cond0_1 (grid0.coords t) → cond0_2 (grid0.coords t) → ¬cond0_3 (grid0.coords t) → cfg0.idle 5 (grid0.coords t) = false :=
  fun t h0 h1 h2 h3 => (by decide +kernel : ∀ t : Fin cfg0.N, conds0_A (grid0.coords t) → cfg0.idle 5 (grid0.coords t) = false) t ⟨h0, h1, h2, h3⟩
/-- At the points of case B the printed configuration (`Cfg.idle`) calls output 5 live: the case stores into it. -/
theorem liveAt0_5_B : ∀ t : Fin cfg0.N, ¬cond0_0 (grid0.coords t) → ¬cond0_1 (grid0.coords t) → ¬cond0_2 (grid0.coords t) → cond0_3 (grid0.coords t) → cfg0.idle 5 (grid0.coords t) = false :=
  fun t h0 h1 h2 h3 => (by decide +kernel : ∀ t : Fin cfg0.N, conds0_B (grid0.coords t) → cfg0.idle 5 (grid0.coords t) = false) t ⟨h0, h1, h2, h3⟩
/-- At the points of case C the printed configuration (`Cfg.idle`) calls output 5 live: the case stores into it. -/
theorem liveAt0_5_C : ∀ t : Fin cfg0.N, ¬cond0_0 (grid0.coords t) → ¬cond0_1 (grid0.coords t) → cond0_2 (grid0.coords t) → ¬cond0_3 (grid0.coords t) → cfg0.idle 5 (grid0.coords t) = false :=
  fun t h0 h1 h2 h3 => (by decide +kernel : ∀ t : Fin cfg0.N, conds0_C (grid0.coords t) → cfg0.idle 5 (grid0.coords t) = false) t ⟨h0, h1, h2, h3⟩
/-- At the points of case D the printed configuration (`Cfg.idle`) calls output 5 live: the case stores into it. -/
theorem liveAt0_5_D : ∀ t : Fin cfg0.N, cond0_0 (grid0.coords t) → ¬cond0_1 (grid0.coords t) → cond0_2 (grid0.coords t) → ¬cond0_3 (grid0.coords t) → cfg0.idle 5 (grid0.coords t) = false :=
  fun t h0 h1 h2 h3 => (by decide +kernel : ∀ t : Fin cfg0.N, conds0_D (grid0.coords t) → cfg0.idle 5 (grid0.coords t) = false) t ⟨h0, h1, h2, h3⟩

/-! ## The kernel body on any staging memrefs: a subtype the run finds -/

/-- One staging buffer of output window 5, through which its contents are stated (`View.read_writes_of_cover`: the
    choice does not matter). -/
abbrev VO0_5 : View sig .tc .vmem S1x16x64x512 .bf16 := (Memref.whole cc0_stg5_0 : Memref sig .tc .vmem S1x16x64x512 .bf16).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x64x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S4x1024x128 .f32 := Memref.whole cc0_scratch1
abbrev scM0_2 : Memref sig .tc .vmem S4x1024x128 .f32 := Memref.whole cc0_scratch2
/-- The scratch `arg7` the kernel carries between points, as a view: what it holds is stated through it. -/
abbrev VS0_0 : View sig .tc .vmem S1024x2048 .bf16 := scM0_0.view
/-- The scratch `arg8` the kernel carries between points, as a view: what it holds is stated through it. -/
abbrev VS0_1 : View sig .tc .vmem S4x1024x128 .f32 := scM0_1.view
/-- The scratch `arg9` the kernel carries between points, as a view: what it holds is stated through it. -/
abbrev VS0_2 : View sig .tc .vmem S4x1024x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Qkv16Ideal.Gen

end
-- ==== Proof.Qkv16.RunA.lean ====
module

public import proofs.«01_k».proof.Proof.Qkv16.Runs

@[expose] public section

-- membership in a rectangle of production extents (`View.cover_of_tiled`): the elaborator's structural look
-- recurses once per coordinate of the long axes
set_option maxRecDepth 16384

noncomputable section

namespace Cert.Qkv16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body in case A: the stores into the output's block and the scratch, with the proof that the body runs to them. -/
noncomputable def kernelRun0_A (c : Dev nD) (i : grid0.Coords) (arg1 : Buffer S1024x2048 .f32) (harg1 : arg1.IsWhole) (arg2 : Buffer S1x1x2048 .f32) (harg2 : arg2.IsWhole) (arg3 : Buffer S1x1x2048 .f32) (harg3 : arg3.IsWhole) (arg4 : Buffer S1x2048x512 .f32) (harg4 : arg4.IsWhole) (arg5 : Buffer S3x1024x128 .f32) (harg5 : arg5.IsWhole) (arg6 : Buffer S1x16x64x512 .bf16) (harg6 : arg6.IsWhole) (arg7 : Buffer S1024x2048 .bf16) (harg7 : arg7.IsWhole) (arg8 : Buffer S4x1024x128 .f32) (harg8 : arg8.IsWhole) (arg9 : Buffer S4x1024x128 .f32) (harg9 : arg9.IsWhole) (hc0 : cond0_0 i) (hc1 : cond0_1 i) (hc2 : cond0_2 i) (hc3 : ¬cond0_3 i)
    (x0 : Vec F S1024x2048 .f32) (x1 : Vec F S1x1x2048 .f32) (x2 : Vec F S1x1x2048 .f32) (x3 : Vec F S1x2048x512 .f32) (x4 : Vec F S3x1024x128 .f32) :
    Σ' (L5 : List (View.Piece (Elt F) S1x16x64x512 .bf16)), Σ' (LS0 : List (View.Piece (Elt F) S1024x2048 .bf16)), Σ' (LS1 : List (View.Piece (Elt F) S4x1024x128 .f32)), { LS2 : List (View.Piece (Elt F) S4x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_qkv_proj_dil16 i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_qkv_proj_dil16_eq_skeleton]; unfold cc0_qkv_proj_dil16_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    isplitl [HS1]; · iexists _; iexact HS1
    iexists _; iexact HS2

end Cert.Qkv16Ideal.Gen

end
-- ==== Proof.Qkv16.RunB.lean ====
module

public import proofs.«01_k».proof.Proof.Qkv16.RunA

@[expose] public section

-- membership in a rectangle of production extents (`View.cover_of_tiled`): the elaborator's structural look
-- recurses once per coordinate of the long axes
set_option maxRecDepth 16384

noncomputable section

namespace Cert.Qkv16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body in case B: the stores into the output's block and the scratch, with the proof that the body runs to them. -/
noncomputable def kernelRun0_B (c : Dev nD) (i : grid0.Coords) (arg1 : Buffer S1024x2048 .f32) (harg1 : arg1.IsWhole) (arg2 : Buffer S1x1x2048 .f32) (harg2 : arg2.IsWhole) (arg3 : Buffer S1x1x2048 .f32) (harg3 : arg3.IsWhole) (arg4 : Buffer S1x2048x512 .f32) (harg4 : arg4.IsWhole) (arg5 : Buffer S3x1024x128 .f32) (harg5 : arg5.IsWhole) (arg6 : Buffer S1x16x64x512 .bf16) (harg6 : arg6.IsWhole) (arg7 : Buffer S1024x2048 .bf16) (harg7 : arg7.IsWhole) (arg8 : Buffer S4x1024x128 .f32) (harg8 : arg8.IsWhole) (arg9 : Buffer S4x1024x128 .f32) (harg9 : arg9.IsWhole) (hc0 : ¬cond0_0 i) (hc1 : ¬cond0_1 i) (hc2 : ¬cond0_2 i) (hc3 : cond0_3 i)
    (x0 : Vec F S1024x2048 .f32) (x1 : Vec F S1x1x2048 .f32) (x2 : Vec F S1x1x2048 .f32) (x3 : Vec F S1x2048x512 .f32) (x4 : Vec F S3x1024x128 .f32) (xs0 : Vec F S1024x2048 .bf16) (xs1 : Vec F S4x1024x128 .f32) :
    Σ' (L5 : List (View.Piece (Elt F) S1x16x64x512 .bf16)), Σ' (LS0 : List (View.Piece (Elt F) S1024x2048 .bf16)), Σ' (LS1 : List (View.Piece (Elt F) S4x1024x128 .f32)), { LS2 : List (View.Piece (Elt F) S4x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ owns (c : Thread nD τ) arg8 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ owns (c : Thread nD τ) arg8 fullShare xs1 ∗ (∃ f, arg9.view.loc (c : Thread nD τ) ↦[arg9.view.set]{fullShare} arg9.view.writes (Elt F) f LS2)) -∗ K ⟨⟩))
          ⊢ wp frame (wpE (defs₀ (F := F)) Variants.none c none) E (cc0_qkv_proj_dil16 i arg1 harg1 arg2 harg2 arg3 harg3 arg4 harg4 arg5 harg5 arg6 harg6 arg7 harg7 arg8 harg8 arg9 harg9) K } := by
  refine ⟨?_, [], [], ?_, fun E K => ?run⟩
  case run =>
    simp only [cc0_qkv_proj_dil16_eq_skeleton]; unfold cc0_qkv_proj_dil16_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg8.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]
    · iexists _; isplitr; · ipureintro; exact harg8.read_unread _
      iexact HS1
    iexists _; iexact HS2

end Cert.Qkv16Ideal.Gen

end
-- ==== Proof.Qkv16.RunC.lean ====
module

public import proofs.«01_k».proof.Proof.Qkv16.RunB

@[expose] public section

-- membership in a rectangle of production extents (`View.cover_of_tiled`): the elaborator's structural look
-- recurses once per coordinate of the long axes
set_option maxRecDepth 16384

noncomputable section

namespace Cert.Qkv16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body in case C: the stores into the output's block and the scratch, with the proof that the body runs to them. -/
noncomputable def kernelRun0_C (c : Dev nD) (i : grid0.Coords) (arg1 : Buffer S1024x2048 .f32) (harg1 : arg1.IsWhole) (arg2 : Buffer S1x1x2048 .f32) (harg2 : arg2.IsWhole) (arg3 : Buffer S1x1x2048 .f32) (harg3 : arg3.IsWhole) (arg4 : Buffer S1x2048x512 .f32) (harg4 : arg4.IsWhole) (arg5 : Buffer S3x1024x128 .f32) (harg5 : arg5.IsWhole) (arg6 : Buffer S1x16x64x512 .bf16) (harg6 : arg6.IsWhole) (arg7 : Buffer S1024x2048 .bf16) (harg7 : arg7.IsWhole) (arg8 : Buffer S4x1024x128 .f32) (harg8 : arg8.IsWhole) (arg9 : Buffer S4x1024x128 .f32) (harg9 : arg9.IsWhole) (hc0 : ¬cond0_0 i) (hc1 : ¬cond0_1 i) (hc2 : cond0_2 i) (hc3 : ¬cond0_3 i)
    (x0 : Vec F S1024x2048 .f32) (x1 : Vec F S1x1x2048 .f32) (x2 : Vec F S1x1x2048 .f32) (x3 : Vec F S1x2048x512 .f32) (x4 : Vec F S3x1024x128 .f32) (xs0 : Vec F S1024x2048 .bf16) (xs2 : Vec F S4x1024x128 .f32) :
    Σ' (L5 : List (View.Piece (Elt F) S1x16x64x512 .bf16)), Σ' (LS0 : List (View.Piece (Elt F) S1024x2048 .bf16)), Σ' (LS1 : List (View.Piece (Elt F) S4x1024x128 .f32)), { LS2 : List (View.Piece (Elt F) S4x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0_qkv_proj_dil16 i arg1 harg1 arg2 harg2 arg3 harg3 arg4 harg4 arg5 harg5 arg6 harg6 arg7 harg7 arg8 harg8 arg9 harg9) K } := by
  refine ⟨?_, [], ?_, [], fun E K => ?run⟩
  case run =>
    simp only [cc0_qkv_proj_dil16_eq_skeleton]; unfold cc0_qkv_proj_dil16_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg9.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]; · iexists _; iexact HS1
    iexists _; isplitr; · ipureintro; exact harg9.read_unread _
    iexact HS2

end Cert.Qkv16Ideal.Gen

end
-- ==== Proof.Qkv16.RunD.lean ====
module

public import proofs.«01_k».proof.Proof.Qkv16.RunC

@[expose] public section

-- membership in a rectangle of production extents (`View.cover_of_tiled`): the elaborator's structural look
-- recurses once per coordinate of the long axes
set_option maxRecDepth 16384

noncomputable section

namespace Cert.Qkv16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body in case D: the stores into the output's block and the scratch, with the proof that the body runs to them. -/
noncomputable def kernelRun0_D (c : Dev nD) (i : grid0.Coords) (arg1 : Buffer S1024x2048 .f32) (harg1 : arg1.IsWhole) (arg2 : Buffer S1x1x2048 .f32) (harg2 : arg2.IsWhole) (arg3 : Buffer S1x1x2048 .f32) (harg3 : arg3.IsWhole) (arg4 : Buffer S1x2048x512 .f32) (harg4 : arg4.IsWhole) (arg5 : Buffer S3x1024x128 .f32) (harg5 : arg5.IsWhole) (arg6 : Buffer S1x16x64x512 .bf16) (harg6 : arg6.IsWhole) (arg7 : Buffer S1024x2048 .bf16) (harg7 : arg7.IsWhole) (arg8 : Buffer S4x1024x128 .f32) (harg8 : arg8.IsWhole) (arg9 : Buffer S4x1024x128 .f32) (harg9 : arg9.IsWhole) (hc0 : cond0_0 i) (hc1 : ¬cond0_1 i) (hc2 : cond0_2 i) (hc3 : ¬cond0_3 i)
    (x0 : Vec F S1024x2048 .f32) (x1 : Vec F S1x1x2048 .f32) (x2 : Vec F S1x1x2048 .f32) (x3 : Vec F S1x2048x512 .f32) (x4 : Vec F S3x1024x128 .f32) (xs2 : Vec F S4x1024x128 .f32) :
    Σ' (L5 : List (View.Piece (Elt F) S1x16x64x512 .bf16)), Σ' (LS0 : List (View.Piece (Elt F) S1024x2048 .bf16)), Σ' (LS1 : List (View.Piece (Elt F) S4x1024x128 .f32)), { LS2 : List (View.Piece (Elt F) S4x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0_qkv_proj_dil16 i arg1 harg1 arg2 harg2 arg3 harg3 arg4 harg4 arg5 harg5 arg6 harg6 arg7 harg7 arg8 harg8 arg9 harg9) K } := by
  refine ⟨?_, ?_, ?_, [], fun E K => ?run⟩
  case run =>
    simp only [cc0_qkv_proj_dil16_eq_skeleton]; unfold cc0_qkv_proj_dil16_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    isplitl [HS1]; · iexists _; iexact HS1
    iexists _; isplitr; · ipureintro; exact harg9.read_unread _
    iexact HS2

end Cert.Qkv16Ideal.Gen

end
-- ==== Proof.Qkv16.Frame.lean ====
module

public import proofs.«01_k».proof.Proof.Qkv16.RunD
public import Idealize.ShloMosaic.Lib.Claim

@[expose] public section

-- membership in a rectangle of production extents (`View.cover_of_tiled`): the elaborator's structural look
-- recurses once per coordinate of the long axes
set_option maxRecDepth 16384

noncomputable section

namespace Cert.Qkv16Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Buffer S1024x2048 .f32) (harg1 : arg1.IsWhole) (arg2 : Buffer S1x1x2048 .f32) (harg2 : arg2.IsWhole) (arg3 : Buffer S1x1x2048 .f32) (harg3 : arg3.IsWhole) (arg4 : Buffer S1x2048x512 .f32) (harg4 : arg4.IsWhole) (arg5 : Buffer S3x1024x128 .f32) (harg5 : arg5.IsWhole) (arg6 : Buffer S1x16x64x512 .bf16) (harg6 : arg6.IsWhole) (arg7 : Buffer S1024x2048 .bf16) (harg7 : arg7.IsWhole) (arg8 : Buffer S4x1024x128 .f32) (harg8 : arg8.IsWhole) (arg9 : Buffer S4x1024x128 .f32) (harg9 : arg9.IsWhole)

section
variable (hc0 : cond0_0 i) (hc1 : cond0_1 i) (hc2 : cond0_2 i) (hc3 : ¬cond0_3 i)
  (x0 : Vec F S1024x2048 .f32) (x1 : Vec F S1x1x2048 .f32) (x2 : Vec F S1x1x2048 .f32) (x3 : Vec F S1x2048x512 .f32) (x4 : Vec F S3x1024x128 .f32)

/-- Case A's pieces cover the output's block. -/
theorem cover0_A_5 (y : S1x16x64x512.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3 x4).1 S1x1x64x128.size (by sl_kernel_rfl) y

/-- Case A's pieces cover the scratch `arg7`. -/
theorem scover0_A_0 (y : S1024x2048.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3 x4).2.1 S1024x2048.size (by sl_kernel_rfl) y

/-- Case A's pieces cover the scratch `arg8`. -/
theorem scover0_A_1 (y : S4x1024x128.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3 x4).2.2.1 S1x1024x128.size (by sl_kernel_rfl) y

/-- Case A's pieces cover the scratch `arg9`. -/
theorem scover0_A_2 (y : S4x1024x128.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3 x4).2.2.2.1 S4x1024x128.size (by sl_kernel_rfl) y

end

section
variable (hc0 : ¬cond0_0 i) (hc1 : ¬cond0_1 i) (hc2 : ¬cond0_2 i) (hc3 : cond0_3 i)
  (x0 : Vec F S1024x2048 .f32) (x1 : Vec F S1x1x2048 .f32) (x2 : Vec F S1x1x2048 .f32) (x3 : Vec F S1x2048x512 .f32) (x4 : Vec F S3x1024x128 .f32)

/-- Case B's pieces cover the output's block. -/
theorem cover0_B_5 (xs0 : Vec F S1024x2048 .bf16) (xs1 : Vec F S4x1024x128 .f32) (y : S1x16x64x512.Idx) :
    ∃ pc ∈ (kernelRun0_B c i arg1 harg1 arg2 harg2 arg3 harg3 arg4 harg4 arg5 harg5 arg6 harg6 arg7 harg7 arg8 harg8 arg9 harg9 hc0 hc1 hc2 hc3 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 hc2 hc3 x0 x1 x2 x3 x4 xs0 xs1).1 S1x1x64x128.size (by sl_kernel_rfl) y

/-- Case B's pieces cover the scratch `arg9`. -/
theorem scover0_B_2 (xs0 : Vec F S1024x2048 .bf16) (xs1 : Vec F S4x1024x128 .f32) (y : S4x1024x128.Idx) :
    ∃ pc ∈ (kernelRun0_B c i arg1 harg1 arg2 harg2 arg3 harg3 arg4 harg4 arg5 harg5 arg6 harg6 arg7 harg7 arg8 harg8 arg9 harg9 hc0 hc1 hc2 hc3 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 hc2 hc3 x0 x1 x2 x3 x4 xs0 xs1).2.2.2.1 S1x1024x128.size (by sl_kernel_rfl) y

end

section
variable (hc0 : ¬cond0_0 i) (hc1 : ¬cond0_1 i) (hc2 : cond0_2 i) (hc3 : ¬cond0_3 i)
  (x0 : Vec F S1024x2048 .f32) (x1 : Vec F S1x1x2048 .f32) (x2 : Vec F S1x1x2048 .f32) (x3 : Vec F S1x2048x512 .f32) (x4 : Vec F S3x1024x128 .f32)

/-- Case C's pieces cover the output's block. -/
theorem cover0_C_5 (xs0 : Vec F S1024x2048 .bf16) (xs2 : Vec F S4x1024x128 .f32) (y : S1x16x64x512.Idx) :
    ∃ pc ∈ (kernelRun0_C c i arg1 harg1 arg2 harg2 arg3 harg3 arg4 harg4 arg5 harg5 arg6 harg6 arg7 harg7 arg8 harg8 arg9 harg9 hc0 hc1 hc2 hc3 x0 x1 x2 x3 x4 xs0 xs2).1, y ∈ pc.1.set :=
  View.cover_of_tiledL (kernelRun0_C c i arg1 harg1 arg2 harg2 arg3 harg3 arg4 harg4 arg5 harg5 arg6 harg6 arg7 harg7 arg8 harg8 arg9 harg9 hc0 hc1 hc2 hc3 x0 x1 x2 x3 x4 xs0 xs2).1 S1x1x64x128.size (by sl_kernel_rfl) y

/-- Case C's pieces cover the scratch `arg8`. -/
theorem scover0_C_1 (xs0 : Vec F S1024x2048 .bf16) (xs2 : Vec F S4x1024x128 .f32) (y : S4x1024x128.Idx) :
    ∃ pc ∈ (kernelRun0_C c i arg1 harg1 arg2 harg2 arg3 harg3 arg4 harg4 arg5 harg5 arg6 harg6 arg7 harg7 arg8 harg8 arg9 harg9 hc0 hc1 hc2 hc3 x0 x1 x2 x3 x4 xs0 xs2).2.2.1, y ∈ pc.1.set :=
  View.cover_of_tiledL (kernelRun0_C c i arg1 harg1 arg2 harg2 arg3 harg3 arg4 harg4 arg5 harg5 arg6 harg6 arg7 harg7 arg8 harg8 arg9 harg9 hc0 hc1 hc2 hc3 x0 x1 x2 x3 x4 xs0 xs2).2.2.1 S1x1024x128.size (by sl_kernel_rfl) y

end

section
variable (hc0 : cond0_0 i) (hc1 : ¬cond0_1 i) (hc2 : cond0_2 i) (hc3 : ¬cond0_3 i)
  (x0 : Vec F S1024x2048 .f32) (x1 : Vec F S1x1x2048 .f32) (x2 : Vec F S1x1x2048 .f32) (x3 : Vec F S1x2048x512 .f32) (x4 : Vec F S3x1024x128 .f32)

/-- Case D's pieces cover the output's block. -/
theorem cover0_D_5 (xs2 : Vec F S4x1024x128 .f32) (y : S1x16x64x512.Idx) :
    ∃ pc ∈ (kernelRun0_D c i arg1 harg1 arg2 harg2 arg3 harg3 arg4 harg4 arg5 harg5 arg6 harg6 arg7 harg7 arg8 harg8 arg9 harg9 hc0 hc1 hc2 hc3 x0 x1 x2 x3 x4 xs2).1, y ∈ pc.1.set :=
  View.cover_of_tiledL (kernelRun0_D c i arg1 harg1 arg2 harg2 arg3 harg3 arg4 harg4 arg5 harg5 arg6 harg6 arg7 harg7 arg8 harg8 arg9 harg9 hc0 hc1 hc2 hc3 x0 x1 x2 x3 x4 xs2).1 S1x1x64x128.size (by sl_kernel_rfl) y

/-- Case D's pieces cover the scratch `arg7`. -/
theorem scover0_D_0 (xs2 : Vec F S4x1024x128 .f32) (y : S1024x2048.Idx) :
    ∃ pc ∈ (kernelRun0_D c i arg1 harg1 arg2 harg2 arg3 harg3 arg4 harg4 arg5 harg5 arg6 harg6 arg7 harg7 arg8 harg8 arg9 harg9 hc0 hc1 hc2 hc3 x0 x1 x2 x3 x4 xs2).2.1, y ∈ pc.1.set :=
  View.cover_of_tiledL (kernelRun0_D c i arg1 harg1 arg2 harg2 arg3 harg3 arg4 harg4 arg5 harg5 arg6 harg6 arg7 harg7 arg8 harg8 arg9 harg9 hc0 hc1 hc2 hc3 x0 x1 x2 x3 x4 xs2).2.1 S1024x2048.size (by sl_kernel_rfl) y

/-- Case D's pieces cover the scratch `arg8`. -/
theorem scover0_D_1 (xs2 : Vec F S4x1024x128 .f32) (y : S4x1024x128.Idx) :
    ∃ pc ∈ (kernelRun0_D c i arg1 harg1 arg2 harg2 arg3 harg3 arg4 harg4 arg5 harg5 arg6 harg6 arg7 harg7 arg8 harg8 arg9 harg9 hc0 hc1 hc2 hc3 x0 x1 x2 x3 x4 xs2).2.2.1, y ∈ pc.1.set :=
  View.cover_of_tiledL (kernelRun0_D c i arg1 harg1 arg2 harg2 arg3 harg3 arg4 harg4 arg5 harg5 arg6 harg6 arg7 harg7 arg8 harg8 arg9 harg9 hc0 hc1 hc2 hc3 x0 x1 x2 x3 x4 xs2).2.2.1 S1x1024x128.size (by sl_kernel_rfl) y

end

end

/-! ## What the outputs hold after each point -/

/-- The stores of a point of case A. -/
abbrev runA (c : Dev nD) (t : Fin cfg0.N) (h0 : t.val % 12 = 0) (h1 : t.val % 97 = 0) (h2 : t.val % 2 = 0) (h3 : ¬t.val % 2 = 1) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t)

/-- What a point of case A leaves in the output's block and in the scratch. -/
abbrev atA (c : Dev nD) (t : Fin cfg0.N) (h0 : t.val % 12 = 0) (h1 : t.val % 97 = 0) (h2 : t.val % 2 = 0) (h3 : ¬t.val % 2 = 1) : Vec F S1x16x64x512 .bf16 × Vec F S1024x2048 .bf16 × Vec F S4x1024x128 .f32 × Vec F S4x1024x128 .f32 :=
  (VO0_5.read (Elt F) (VO0_5.writes (Elt F) VO0_5.junk (runA m c t h0 h1 h2 h3).1),
    VS0_0.read (Elt F) (VS0_0.writes (Elt F) VS0_0.junk (runA m c t h0 h1 h2 h3).2.1),
    VS0_1.read (Elt F) (VS0_1.writes (Elt F) VS0_1.junk (runA m c t h0 h1 h2 h3).2.2.1),
    VS0_2.read (Elt F) (VS0_2.writes (Elt F) VS0_2.junk (runA m c t h0 h1 h2 h3).2.2.2.1))

/-- The stores of a point of case B. -/
abbrev runB (c : Dev nD) (t : Fin cfg0.N) (h0 : ¬t.val % 12 = 0) (h1 : ¬t.val % 97 = 0) (h2 : ¬t.val % 2 = 0) (h3 : t.val % 2 = 1) (p : Vec F S1x16x64x512 .bf16 × Vec F S1024x2048 .bf16 × Vec F S4x1024x128 .f32 × Vec F S4x1024x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) p.2.1 p.2.2.1

/-- What a point of case B leaves in the output's block and in the scratch, from what the point before left. -/
abbrev atB (c : Dev nD) (t : Fin cfg0.N) (h0 : ¬t.val % 12 = 0) (h1 : ¬t.val % 97 = 0) (h2 : ¬t.val % 2 = 0) (h3 : t.val % 2 = 1) (p : Vec F S1x16x64x512 .bf16 × Vec F S1024x2048 .bf16 × Vec F S4x1024x128 .f32 × Vec F S4x1024x128 .f32) : Vec F S1x16x64x512 .bf16 × Vec F S1024x2048 .bf16 × Vec F S4x1024x128 .f32 × Vec F S4x1024x128 .f32 :=
  (VO0_5.read (Elt F) (VO0_5.writes (Elt F) VO0_5.junk (runB m c t h0 h1 h2 h3 p).1),
    p.2.1,
    p.2.2.1,
    VS0_2.read (Elt F) (VS0_2.writes (Elt F) VS0_2.junk (runB m c t h0 h1 h2 h3 p).2.2.2.1))

/-- The stores of a point of case C. -/
abbrev runC (c : Dev nD) (t : Fin cfg0.N) (h0 : ¬t.val % 12 = 0) (h1 : ¬t.val % 97 = 0) (h2 : t.val % 2 = 0) (h3 : ¬t.val % 2 = 1) (p : Vec F S1x16x64x512 .bf16 × Vec F S1024x2048 .bf16 × Vec F S4x1024x128 .f32 × Vec F S4x1024x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) p.2.1 p.2.2.2

/-- What a point of case C leaves in the output's block and in the scratch, from what the point before left. -/
abbrev atC (c : Dev nD) (t : Fin cfg0.N) (h0 : ¬t.val % 12 = 0) (h1 : ¬t.val % 97 = 0) (h2 : t.val % 2 = 0) (h3 : ¬t.val % 2 = 1) (p : Vec F S1x16x64x512 .bf16 × Vec F S1024x2048 .bf16 × Vec F S4x1024x128 .f32 × Vec F S4x1024x128 .f32) : Vec F S1x16x64x512 .bf16 × Vec F S1024x2048 .bf16 × Vec F S4x1024x128 .f32 × Vec F S4x1024x128 .f32 :=
  (VO0_5.read (Elt F) (VO0_5.writes (Elt F) VO0_5.junk (runC m c t h0 h1 h2 h3 p).1),
    p.2.1,
    VS0_1.read (Elt F) (VS0_1.writes (Elt F) VS0_1.junk (runC m c t h0 h1 h2 h3 p).2.2.1),
    p.2.2.2)

/-- The stores of a point of case D. -/
abbrev runD (c : Dev nD) (t : Fin cfg0.N) (h0 : t.val % 12 = 0) (h1 : ¬t.val % 97 = 0) (h2 : t.val % 2 = 0) (h3 : ¬t.val % 2 = 1) (p : Vec F S1x16x64x512 .bf16 × Vec F S1024x2048 .bf16 × Vec F S4x1024x128 .f32 × Vec F S4x1024x128 .f32) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) p.2.2.2

/-- What a point of case D leaves in the output's block and in the scratch, from what the point before left. -/
abbrev atD (c : Dev nD) (t : Fin cfg0.N) (h0 : t.val % 12 = 0) (h1 : ¬t.val % 97 = 0) (h2 : t.val % 2 = 0) (h3 : ¬t.val % 2 = 1) (p : Vec F S1x16x64x512 .bf16 × Vec F S1024x2048 .bf16 × Vec F S4x1024x128 .f32 × Vec F S4x1024x128 .f32) : Vec F S1x16x64x512 .bf16 × Vec F S1024x2048 .bf16 × Vec F S4x1024x128 .f32 × Vec F S4x1024x128 .f32 :=
  (VO0_5.read (Elt F) (VO0_5.writes (Elt F) VO0_5.junk (runD m c t h0 h1 h2 h3 p).1),
    VS0_0.read (Elt F) (VS0_0.writes (Elt F) VS0_0.junk (runD m c t h0 h1 h2 h3 p).2.1),
    VS0_1.read (Elt F) (VS0_1.writes (Elt F) VS0_1.junk (runD m c t h0 h1 h2 h3 p).2.2.1),
    p.2.2.2)

/-- What the output's block and the scratch hold after each point. -/
def outsAt0 (c : Dev nD) : (n : ℕ) → n < cfg0.N → Vec F S1x16x64x512 .bf16 × Vec F S1024x2048 .bf16 × Vec F S4x1024x128 .f32 × Vec F S4x1024x128 .f32
  | 0, hn => atA m c ⟨0, hn⟩ (Nat.zero_mod _) (Nat.zero_mod _) (Nat.zero_mod _) (by show ¬0 % 2 = 1; decide)
  | n + 1, hn =>
    if h0 : (n + 1) % 12 = 0 then
      if h1 : (n + 1) % 97 = 0 then
        if h2 : (n + 1) % 2 = 0 then
          if h3 : (n + 1) % 2 = 1 then
            False.elim (by have hN : n + 1 < 97 := lt_of_lt_of_eq hn (show cfg0.N = 97 from N_0); omega)
          else
            atA m c ⟨n + 1, hn⟩ h0 h1 h2 h3
        else
          False.elim (by have hN : n + 1 < 97 := lt_of_lt_of_eq hn (show cfg0.N = 97 from N_0); omega)
      else
        if h2 : (n + 1) % 2 = 0 then
          if h3 : (n + 1) % 2 = 1 then
            False.elim (by have hN : n + 1 < 97 := lt_of_lt_of_eq hn (show cfg0.N = 97 from N_0); omega)
          else
            atD m c ⟨n + 1, hn⟩ h0 h1 h2 h3 (outsAt0 c n (Nat.lt_of_succ_lt hn))
        else
          False.elim (by have hN : n + 1 < 97 := lt_of_lt_of_eq hn (show cfg0.N = 97 from N_0); omega)
    else
      if h1 : (n + 1) % 97 = 0 then
        False.elim (by have hN : n + 1 < 97 := lt_of_lt_of_eq hn (show cfg0.N = 97 from N_0); omega)
      else
        if h2 : (n + 1) % 2 = 0 then
          if h3 : (n + 1) % 2 = 1 then
            False.elim (by have hN : n + 1 < 97 := lt_of_lt_of_eq hn (show cfg0.N = 97 from N_0); omega)
          else
            atC m c ⟨n + 1, hn⟩ h0 h1 h2 h3 (outsAt0 c n (Nat.lt_of_succ_lt hn))
        else
          if h3 : (n + 1) % 2 = 1 then
            atB m c ⟨n + 1, hn⟩ h0 h1 h2 h3 (outsAt0 c n (Nat.lt_of_succ_lt hn))
          else
            False.elim (by have hN : n + 1 < 97 := lt_of_lt_of_eq hn (show cfg0.N = 97 from N_0); omega)

/-- `outsAt0` at a point of case A: that case's contents. -/
theorem outsAt0_A (c : Dev nD) (t : Fin cfg0.N) (h0 : t.val % 12 = 0) (h1 : t.val % 97 = 0) (h2 : t.val % 2 = 0) (h3 : ¬t.val % 2 = 1) :
    outsAt0 m c t.val t.isLt = atA m c t h0 h1 h2 h3 := by
  obtain ⟨n, hn⟩ := t
  cases n with
  | zero => exact rfl
  | succ n => exact (dif_pos h0).trans ((dif_pos h1).trans ((dif_pos h2).trans ((dif_neg h3).trans rfl)))

/-- `outsAt0` at a point of case B: that case's contents, over what the point before left. -/
theorem outsAt0_B (c : Dev nD) (t : Fin cfg0.N) (h0 : ¬t.val % 12 = 0) (h1 : ¬t.val % 97 = 0) (h2 : ¬t.val % 2 = 0) (h3 : t.val % 2 = 1) :
    outsAt0 m c t.val t.isLt = atB m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- `outsAt0` at a point of case C: that case's contents, over what the point before left. -/
theorem outsAt0_C (c : Dev nD) (t : Fin cfg0.N) (h0 : ¬t.val % 12 = 0) (h1 : ¬t.val % 97 = 0) (h2 : t.val % 2 = 0) (h3 : ¬t.val % 2 = 1) :
    outsAt0 m c t.val t.isLt = atC m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D: that case's contents, over what the point before left. -/
theorem outsAt0_D (c : Dev nD) (t : Fin cfg0.N) (h0 : t.val % 12 = 0) (h1 : ¬t.val % 97 = 0) (h2 : t.val % 2 = 0) (h3 : ¬t.val % 2 = 1) :
    outsAt0 m c t.val t.isLt = atD m c t h0 h1 h2 h3 (outsAt0 m c (t.val - 1) (Nat.lt_of_le_of_lt (Nat.sub_le _ _) t.isLt)) := by
  obtain ⟨n, hn⟩ := t
  cases n with
  | zero => exact (by exfalso; (try dsimp only at h1); exact absurd (Nat.zero_mod _) h1)
  | succ n => exact (dif_pos h0).trans ((dif_neg h1).trans ((dif_pos h2).trans ((dif_neg h3).trans rfl)))

/-- What is held before each point: at the first anything, later the scratch as the point before left it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data: arrays as found, inputs' blocks kept, the output and the scratch as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The arrays are as found. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body leaves of each input's staging buffer. -/
theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 12800000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 97 := lt_of_lt_of_eq t.isLt (show cfg0.N = 97 from N_0)
  by_cases h0 : t.val % 12 = 0
  · by_cases h1 : t.val % 97 = 0
    · by_cases h2 : t.val % 2 = 0
      · by_cases h3 : t.val % 2 = 1
        · exfalso; omega
        · rw [leaves0_0, leaves0_1, leaves0_2, leaves0_3, leaves0_4]
          rw [show (dats m 0 c).leavesExact 5 t = owns (c : Thread nD τ) (ms0_5 t) fullShare ((dats m 0 c).after 5 t) from by
      unfold Dat.leavesExact; rw [liveAt0_5_A t ((hcond0_0 t).mpr h0) ((hcond0_1 t).mpr h1) ((hcond0_2 t).mpr h2) (fun h => h3 ((hcond0_3 t).mp h))], after0_5]
          by_cases hz : t.val = 0
          · rw [PhiS_castSucc m c t, PhiS_zero m c _ _ hz, PhiA0_eq]
            rw [outsAt0_A m c t h0 h1 h2 h3]
            unfold atA runA; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t)).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            isplitl [HS1]; · iexact HS1
            isplitl [HS2]; · iexact HS2
            iintro ⟨H0, H1, H2, H3, H4, ⟨%e5, H5⟩, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_A_5 c _ _ _ _ _ _ _ _ _ _ _ _ _ _ _ _ _ _ _ _ _ _ _ _ _ _ _ _)
          · exfalso; have hN : t.val < 97 := lt_of_lt_of_eq t.isLt (show cfg0.N = 97 from N_0); omega
      · exfalso; omega
    · by_cases h2 : t.val % 2 = 0
      · by_cases h3 : t.val % 2 = 1
        · exfalso; omega
        · rw [leaves0_0, leaves0_1, leaves0_2, leaves0_3, leaves0_4]
          rw [show (dats m 0 c).leavesExact 5 t = owns (c : Thread nD τ) (ms0_5 t) fullShare ((dats m 0 c).after 5 t) from by
      unfold Dat.leavesExact; rw [liveAt0_5_D t ((hcond0_0 t).mpr h0) (fun h => h1 ((hcond0_1 t).mp h)) ((hcond0_2 t).mpr h2) (fun h => h3 ((hcond0_3 t).mp h))], after0_5]
          by_cases hz : t.val = 0
          · exfalso; have hN : t.val < 97 := lt_of_lt_of_eq t.isLt (show cfg0.N = 97 from N_0); omega
          · rw [PhiS_castSucc m c t, PhiS_pos m c _ _ hz]
            rw [outsAt0_D m c t h0 h1 h2 h3]
            unfold atD runD; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_D c (grid0.coords t) _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) _).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexists _; iexact HS0
            isplitl [HS1]; · iexists _; iexact HS1
            isplitl [HS2]; · iexact HS2
            iintro ⟨H0, H1, H2, H3, H4, ⟨%e5, H5⟩, ⟨%es0, HS0⟩, ⟨%es1, HS1⟩, HS2⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_D_0 c _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_D_1 c _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_D_5 c _ _ _ _ _ _ _ _ _ _ _ _ _ _ _ _ _ _ _ _ _ _ _ _ _ _ _ _ _)
      · exfalso; omega
  · by_cases h1 : t.val % 97 = 0
    · exfalso; omega
    · by_cases h2 : t.val % 2 = 0
      · by_cases h3 : t.val % 2 = 1
        · exfalso; omega
        · rw [leaves0_0, leaves0_1, leaves0_2, leaves0_3, leaves0_4]
          rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2) (fun h => h3 ((hcond0_3 t).mp h))], after0_5]
          by_cases hz : t.val = 0
          · exfalso; have hN : t.val < 97 := lt_of_lt_of_eq t.isLt (show cfg0.N = 97 from N_0); omega
          · rw [PhiS_castSucc m c t, PhiS_pos m c _ _ hz]
            rw [outsAt0_C m c t h0 h1 h2 h3]
            unfold atC runC; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_C c (grid0.coords t) _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) _ _).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            isplitl [HS1]; · iexists _; iexact HS1
            isplitl [HS2]; · iexact HS2
            iintro ⟨H0, H1, H2, H3, H4, ⟨%e5, H5⟩, HS0, ⟨%es1, HS1⟩, HS2⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _)
                iexact HS2
              iexact Hg
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_C_5 c _ _ _ _ _ _ _ _ _ _ _ _ _ _ _ _ _ _ _ _ _ _ _ _ _ _ _ _ _ _)
      · by_cases h3 : t.val % 2 = 1
        · rw [leaves0_0, leaves0_1, leaves0_2, leaves0_3, leaves0_4]
          rw [show (dats m 0 c).leavesExact 5 t = owns (c : Thread nD τ) (ms0_5 t) fullShare ((dats m 0 c).after 5 t) from by
      unfold Dat.leavesExact; rw [liveAt0_5_B t (fun h => h0 ((hcond0_0 t).mp h)) (fun h => h1 ((hcond0_1 t).mp h)) (fun h => h2 ((hcond0_2 t).mp h)) ((hcond0_3 t).mpr h3)], after0_5]
          by_cases hz : t.val = 0
          · exfalso; have hN : t.val < 97 := lt_of_lt_of_eq t.isLt (show cfg0.N = 97 from N_0); omega
          · rw [PhiS_castSucc m c t, PhiS_pos m c _ _ hz]
            rw [outsAt0_B m c t h0 h1 h2 h3]
            unfold atB runB; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_B c (grid0.coords t) _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) _ _).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            isplitl [HS1]; · iexact HS1
            isplitl [HS2]; · iexists _; iexact HS2
            iintro ⟨H0, H1, H2, H3, H4, ⟨%e5, H5⟩, HS0, HS1, ⟨%es2, HS2⟩⟩
            isplitl [HS0 HS1 HS2 Hg]
            · isplitl [HS0 HS1 HS2]
              · isplitl [HS0]
                · iexact HS0
                isplitl [HS1]
                · iexact HS1
                unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_B_5 c _ _ _ _ _ _ _ _ _ _ _ _ _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 97 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Qkv16Ideal`'s statement (Defs.lean) at any `F` — Proof.lean cites it at `Bits`:
    `theorem Cert.Proof.claim : Cert.Claim := ⟨Cert.Qkv16Ideal.Gen.facts, fun m ρ _ => Cert.Qkv16Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Qkv16Ideal.Gen

end
-- ==== Proof.Qkv16.Same.lean ====
/- The projection over rows dilated sixteen times is printed twice with one text; so the frame of one print is the frame of the other. -/
module

public import proofs.«01_k».proof.Proof.Qkv16.Frame
public import proofs.«01_k».proof.Proof.Gen.Qkv16
public import proofs.«01_k».proof.Defs

@[expose] public section

set_option maxRecDepth 16384

noncomputable section

namespace Cert.Qkv16.Hand

open Idealize.ShloMosaic Idealize.ShloMosaic.TcCoe Idealize.SL.Sem

variable {F : FTy → Type} [FloatOps F]

/-- The two prints have one body, -/
theorem body_eq : Cert.Qkv16.defs₀ (F := F) = Cert.Qkv16Ideal.defs₀ (F := F) := by
  refine congrArg (Defs.onTc (nD := Cert.Qkv16.nD) (τ := Cert.Qkv16.τ) (sig := Cert.Qkv16.sig) (Λ := Cert.Qkv16.Λ₀)) ?_
  funext l x
  match l, x with
  | ⟨0, _⟩, (t, s) => rfl

/-- one table of bodies, -/
theorem defs_eq : Cert.Qkv16.defs (F := F) = Cert.Qkv16Ideal.defs (F := F) := by
  unfold Cert.Qkv16.defs
  rw [body_eq]
  rfl

/-- and one program. -/
theorem frame : Cert.quiescent_Qkv16 := fun m g _ => by
  rw [defs_eq]
  exact Cert.Qkv16Ideal.Gen.frame (F := Bits) m g

end Cert.Qkv16.Hand
-- ==== Proof.Qkv16.Blk.lean ====
/- What a grid point of the projection over rows dilated sixteen times leaves in its output block and its scratch. -/
module

public import proofs.«01_k».proof.Proof.Qkv16.Frame
public import proofs.«01_k».proof.Proof.Qkv.Split
public import Idealize.ShloMosaic.Lib.Pipeline.Value
public import Idealize.ShloMosaic.Lib.Pipeline.ReadBack

@[expose] public section

set_option maxRecDepth 16384
set_option maxHeartbeats 4000000

noncomputable section

namespace Cert.Qkv16Ideal.Hand

open Cert.Qkv Cert.Qkv16Ideal Cert.Qkv16Ideal.Gen Idealize.ShloMosaic Idealize.ShloMosaic.TcCoe Idealize.SL Idealize.SL.Sem
open Idealize.ShloMosaic.View
variable (m : (ℓ : Loc nD τ sig) → Buf (Elt Ideal) ℓ)

/-- The tile of 1024 rows is split into sixteen residue classes. -/
theorem classes : 16 * 64 = 1024 := by decide

theorem modulated_eq (x : Vec Ideal S1024x2048 .f32) (sc sh : Vec Ideal S1x1x2048 .f32) :
    k0_pay298 (F := Ideal) x sc sh = modulated x sc sh := by
  funext y
  rw [eq_ix2 y]
  unfold modulated
  pointwise [k0_pay298]

/-- What the point before left. -/
abbrev before (c : Dev nD) (t : Fin cfg0.N) := outsAt0 m c (t.val - 1) (Nat.lt_of_le_of_lt (Nat.sub_le _ _) t.isLt)

/-- A load from the first of the two products' buffers. -/
theorem strided_1 (o q : ℕ) (ho : o < 4) (hq : q < 16) (inb) (h : (Memref.whole cc0_scratch1).IsWhole) (A : Vec Ideal S4x1024x128 .f32) :
    readAt (Elt Ideal) (whole cc0_scratch1) ⟨![o, q, 0], ![1, 64, 128], ![1, 16, 1], inb⟩ (h.unread A) = everyRow classes A o q ho hq := by
  rw [← strided_idx classes o q ho hq inb A]
  funext y
  rw [readAt_apply, read_unread_whole]

/-- A load from the second of the two products' buffers. -/
theorem strided_2 (o q : ℕ) (ho : o < 4) (hq : q < 16) (inb) (h : (Memref.whole cc0_scratch2).IsWhole) (A : Vec Ideal S4x1024x128 .f32) :
    readAt (Elt Ideal) (whole cc0_scratch2) ⟨![o, q, 0], ![1, 64, 128], ![1, 16, 1], inb⟩ (h.unread A) = everyRow classes A o q ho hq := by
  rw [← strided_idx classes o q ho hq inb A]
  funext y
  rw [readAt_apply, read_unread_whole]

theorem rows_A (c : Dev nD) (t : Fin cfg0.N) (h0 : t.val % 12 = 0) (h1 : t.val % 97 = 0) (h2 : t.val % 2 = 0) (h3 : ¬t.val % 2 = 1) :
    (outsAt0 m c t.val t.isLt).2.1 = modulated (iblk m c 0 t) (iblk m c 1 t) (iblk m c 2 t) := by
  rw [outsAt0_A m c t h0 h1 h2 h3]
  dsimp only [before, atA, runA]
  frame_out
  exact modulated_eq _ _ _

theorem acc_A (c : Dev nD) (t : Fin cfg0.N) (h0 : t.val % 12 = 0) (h1 : t.val % 97 = 0) (h2 : t.val % 2 = 0) (h3 : ¬t.val % 2 = 1) :
    (outsAt0 m c t.val t.isLt).2.2.1 = product (modulated (iblk m c 0 t) (iblk m c 1 t) (iblk m c 2 t)) (iblk m c 3 t) := by
  rw [outsAt0_A m c t h0 h1 h2 h3]
  dsimp only [before, atA, runA]
  frame_out
  rw [modulated_eq]
  funext y
  refine canon_eq_of_allAt _ y _ (cover_of_tiled_head _ _ _ (by rfl) y) ?_
  repeat' first
    | exact allAt_nil _ _
    | refine allAt_cons_unit _ _ _ _ _ (product_at _ _ _ (by decide) _ _ fun j l => ?_) ?_
  all_goals pointwise [k0_pay2, k0_pay3, k0_pay4, k0_pay5, k0_pay6]

theorem rows_B (c : Dev nD) (t : Fin cfg0.N) (h0 : ¬t.val % 12 = 0) (h1 : ¬t.val % 97 = 0) (h2 : ¬t.val % 2 = 0) (h3 : t.val % 2 = 1) :
    (outsAt0 m c t.val t.isLt).2.1 = (before m c t).2.1 := by
  rw [outsAt0_B m c t h0 h1 h2 h3]

theorem acc_B (c : Dev nD) (t : Fin cfg0.N) (h0 : ¬t.val % 12 = 0) (h1 : ¬t.val % 97 = 0) (h2 : ¬t.val % 2 = 0) (h3 : t.val % 2 = 1) :
    (outsAt0 m c t.val t.isLt).2.2.2 = product ((before m c t).2.1) (iblk m c 3 t) := by
  rw [outsAt0_B m c t h0 h1 h2 h3]
  dsimp only [before, atB, runB]
  generalize (outsAt0 m c (t.val - 1) (Nat.lt_of_le_of_lt (Nat.sub_le _ _) t.isLt)) = X
  frame_out
  simp only [read_unread_whole]
  funext y
  refine canon_eq_of_allAt _ y _ (cover_of_tiled_head _ _ _ (by rfl) y) ?_
  repeat' first
    | exact allAt_nil _ _
    | refine allAt_cons_unit _ _ _ _ _ (product_at _ _ _ (by decide) _ _ fun j l => ?_) ?_
  all_goals pointwise [k0_pay150, k0_pay151, k0_pay152, k0_pay153, k0_pay154]

theorem out_B (c : Dev nD) (t : Fin cfg0.N) (h0 : ¬t.val % 12 = 0) (h1 : ¬t.val % 97 = 0) (h2 : ¬t.val % 2 = 0) (h3 : t.val % 2 = 1) :
    (outsAt0 m c t.val t.isLt).1 = turnedBlock classes (before m c t).2.2.1 (iblk m c 4 t) := by
  rw [outsAt0_B m c t h0 h1 h2 h3]
  dsimp only [before, atB, runB]
  generalize (outsAt0 m c (t.val - 1) (Nat.lt_of_le_of_lt (Nat.sub_le _ _) t.isLt)) = X
  frame_out
  simp (discharger := decide) only [strided_1]
  funext y
  refine canon_eq_of_allAt _ y _ (cover_of_tiled_head _ _ _ (by rfl) y) ?_
  repeat' first
    | exact allAt_nil _ _
    | refine allAt_cons_unit _ _ _ _ _ (turned_at classes _ _ _ _ (by decide) (by decide) (by decide) _ _ fun j l => ?_) ?_
  all_goals
    rw [turn_rolled]
    simp only [placeOf]
    pointwise [everyRow_apply,
      k0_pay1, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189,
      k0_pay190, k0_pay191, k0_pay192, k0_pay193, k0_pay194, k0_pay195, k0_pay196, k0_pay197, k0_pay198, k0_pay199, k0_pay200, k0_pay201,
      k0_pay202, k0_pay203, k0_pay204, k0_pay205, k0_pay206, k0_pay207, k0_pay208, k0_pay209, k0_pay210, k0_pay211, k0_pay212, k0_pay213,
      k0_pay214, k0_pay215, k0_pay216, k0_pay217, k0_pay218, k0_pay219, k0_pay220, k0_pay221, k0_pay222, k0_pay223, k0_pay224, k0_pay225,
      k0_pay226, k0_pay227, k0_pay228, k0_pay229, k0_pay230, k0_pay231, k0_pay232, k0_pay233, k0_pay234, k0_pay235, k0_pay236, k0_pay237,
      k0_pay238, k0_pay239, k0_pay240, k0_pay241, k0_pay242, k0_pay243, k0_pay244, k0_pay245, k0_pay246, k0_pay247, k0_pay248, k0_pay249,
      k0_pay250, k0_pay251, k0_pay252, k0_pay253, k0_pay254, k0_pay255, k0_pay256, k0_pay257, k0_pay258, k0_pay259, k0_pay260, k0_pay261,
      k0_pay262, k0_pay263, k0_pay264, k0_pay265, k0_pay266, k0_pay267, k0_pay268, k0_pay269, k0_pay270, k0_pay271, k0_pay272, k0_pay273,
      k0_pay274, k0_pay275, k0_pay276, k0_pay277, k0_pay278, k0_pay279, k0_pay280, k0_pay281, k0_pay282, k0_pay283, k0_pay284, k0_pay285,
      k0_pay286, k0_pay287, k0_pay288, k0_pay289, k0_pay290, k0_pay291, k0_pay292, k0_pay293, k0_pay294, k0_pay295, k0_pay296, k0_pay297,
      k0_pay299, k0_pay300]

theorem rows_C (c : Dev nD) (t : Fin cfg0.N) (h0 : ¬t.val % 12 = 0) (h1 : ¬t.val % 97 = 0) (h2 : t.val % 2 = 0) (h3 : ¬t.val % 2 = 1) :
    (outsAt0 m c t.val t.isLt).2.1 = (before m c t).2.1 := by
  rw [outsAt0_C m c t h0 h1 h2 h3]

theorem acc_C (c : Dev nD) (t : Fin cfg0.N) (h0 : ¬t.val % 12 = 0) (h1 : ¬t.val % 97 = 0) (h2 : t.val % 2 = 0) (h3 : ¬t.val % 2 = 1) :
    (outsAt0 m c t.val t.isLt).2.2.1 = product ((before m c t).2.1) (iblk m c 3 t) := by
  rw [outsAt0_C m c t h0 h1 h2 h3]
  dsimp only [before, atC, runC]
  generalize (outsAt0 m c (t.val - 1) (Nat.lt_of_le_of_lt (Nat.sub_le _ _) t.isLt)) = X
  frame_out
  simp only [read_unread_whole]
  funext y
  refine canon_eq_of_allAt _ y _ (cover_of_tiled_head _ _ _ (by rfl) y) ?_
  repeat' first
    | exact allAt_nil _ _
    | refine allAt_cons_unit _ _ _ _ _ (product_at _ _ _ (by decide) _ _ fun j l => ?_) ?_
  all_goals pointwise [k0_pay2, k0_pay3, k0_pay4, k0_pay5, k0_pay6]

theorem out_C (c : Dev nD) (t : Fin cfg0.N) (h0 : ¬t.val % 12 = 0) (h1 : ¬t.val % 97 = 0) (h2 : t.val % 2 = 0) (h3 : ¬t.val % 2 = 1) :
    (outsAt0 m c t.val t.isLt).1 = turnedBlock classes (before m c t).2.2.2 (iblk m c 4 t) := by
  rw [outsAt0_C m c t h0 h1 h2 h3]
  dsimp only [before, atC, runC]
  generalize (outsAt0 m c (t.val - 1) (Nat.lt_of_le_of_lt (Nat.sub_le _ _) t.isLt)) = X
  frame_out
  simp (discharger := decide) only [strided_2]
  funext y
  refine canon_eq_of_allAt _ y _ (cover_of_tiled_head _ _ _ (by rfl) y) ?_
  repeat' first
    | exact allAt_nil _ _
    | refine allAt_cons_unit _ _ _ _ _ (turned_at classes _ _ _ _ (by decide) (by decide) (by decide) _ _ fun j l => ?_) ?_
  all_goals
    rw [turn_rolled]
    simp only [placeOf]
    pointwise [everyRow_apply,
      k0_pay1, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144,
      k0_pay145, k0_pay146, k0_pay147, k0_pay148, k0_pay149, k0_pay299, k0_pay300]

theorem rows_D (c : Dev nD) (t : Fin cfg0.N) (h0 : t.val % 12 = 0) (h1 : ¬t.val % 97 = 0) (h2 : t.val % 2 = 0) (h3 : ¬t.val % 2 = 1) :
    (outsAt0 m c t.val t.isLt).2.1 = modulated (iblk m c 0 t) (iblk m c 1 t) (iblk m c 2 t) := by
  rw [outsAt0_D m c t h0 h1 h2 h3]
  dsimp only [before, atD, runD]
  generalize (outsAt0 m c (t.val - 1) (Nat.lt_of_le_of_lt (Nat.sub_le _ _) t.isLt)) = X
  frame_out
  exact modulated_eq _ _ _

theorem acc_D (c : Dev nD) (t : Fin cfg0.N) (h0 : t.val % 12 = 0) (h1 : ¬t.val % 97 = 0) (h2 : t.val % 2 = 0) (h3 : ¬t.val % 2 = 1) :
    (outsAt0 m c t.val t.isLt).2.2.1 = product (modulated (iblk m c 0 t) (iblk m c 1 t) (iblk m c 2 t)) (iblk m c 3 t) := by
  rw [outsAt0_D m c t h0 h1 h2 h3]
  dsimp only [before, atD, runD]
  generalize (outsAt0 m c (t.val - 1) (Nat.lt_of_le_of_lt (Nat.sub_le _ _) t.isLt)) = X
  frame_out
  rw [modulated_eq]
  funext y
  refine canon_eq_of_allAt _ y _ (cover_of_tiled_head _ _ _ (by rfl) y) ?_
  repeat' first
    | exact allAt_nil _ _
    | refine allAt_cons_unit _ _ _ _ _ (product_at _ _ _ (by decide) _ _ fun j l => ?_) ?_
  all_goals pointwise [k0_pay2, k0_pay3, k0_pay4, k0_pay5, k0_pay6]

theorem out_D (c : Dev nD) (t : Fin cfg0.N) (h0 : t.val % 12 = 0) (h1 : ¬t.val % 97 = 0) (h2 : t.val % 2 = 0) (h3 : ¬t.val % 2 = 1) :
    (outsAt0 m c t.val t.isLt).1 = turnedBlock classes (before m c t).2.2.2 (iblk m c 4 t) := by
  rw [outsAt0_D m c t h0 h1 h2 h3]
  dsimp only [before, atD, runD]
  generalize (outsAt0 m c (t.val - 1) (Nat.lt_of_le_of_lt (Nat.sub_le _ _) t.isLt)) = X
  frame_out
  simp (discharger := decide) only [strided_2]
  funext y
  refine canon_eq_of_allAt _ y _ (cover_of_tiled_head _ _ _ (by rfl) y) ?_
  repeat' first
    | exact allAt_nil _ _
    | refine allAt_cons_unit _ _ _ _ _ (turned_at classes _ _ _ _ (by decide) (by decide) (by decide) _ _ fun j l => ?_) ?_
  all_goals
    rw [turn_rolled]
    simp only [placeOf]
    pointwise [everyRow_apply,
      k0_pay1, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81, k0_pay82, k0_pay83,
      k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108,
      k0_pay109, k0_pay110, k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144,
      k0_pay145, k0_pay146, k0_pay147, k0_pay148, k0_pay149, k0_pay299, k0_pay300]

end Cert.Qkv16Ideal.Hand
-- ==== Proof.Qkv16.Arr.lean ====
/- The result array of the projection over rows dilated sixteen times, from its grid points: the rows, columns and tables each point reads, what its scratch
   carries, and the block it writes. -/
module

public import proofs.«01_k».proof.Proof.Qkv16.Blk
public import proofs.«01_k».proof.Proof.Qkv.Proj

@[expose] public section

set_option maxRecDepth 16384

noncomputable section

namespace Cert.Qkv16Ideal.Hand

open Cert.Qkv Cert.Qkv16Ideal Cert.Qkv16Ideal.Gen Idealize.ShloMosaic Idealize.ShloMosaic.TcCoe Idealize.SL Idealize.SL.Sem
open Idealize.ShloMosaic.View
variable (m : (ℓ : Loc nD τ sig) → Buf (Elt Ideal) ℓ)

/-- The arguments. -/
abbrev arg0 (c : Dev nD) : Rows := m ((c.tc : Thread nD τ).loc main_arg0)
abbrev arg1 (c : Dev nD) : Mods := m ((c.tc : Thread nD τ).loc main_arg1)
abbrev arg2 (c : Dev nD) : Mods := m ((c.tc : Thread nD τ).loc main_arg2)
abbrev arg3 (c : Dev nD) : Weights := m ((c.tc : Thread nD τ).loc main_arg3)
abbrev arg4 (c : Dev nD) : Tables := m ((c.tc : Thread nD τ).loc main_arg4)

theorem idx_0 : ∀ t : Fin cfg0.N, win0_0.index t = ![min t.val 95 / 12, 0] :=
  (by decide +kernel : ∀ t : Fin grid0.N, win0_0.index t = ![min t.val 95 / 12, 0])
theorem idx_1 : ∀ t : Fin cfg0.N, win0_1.index t = ![min t.val 95 / 12 / 4, 0, 0] :=
  (by decide +kernel : ∀ t : Fin grid0.N, win0_1.index t = ![min t.val 95 / 12 / 4, 0, 0])
theorem idx_2 : ∀ t : Fin cfg0.N, win0_2.index t = ![min t.val 95 / 12 / 4, 0, 0] :=
  (by decide +kernel : ∀ t : Fin grid0.N, win0_2.index t = ![min t.val 95 / 12 / 4, 0, 0])
theorem idx_3 : ∀ t : Fin cfg0.N, win0_3.index t = ![0, 0, 24 + min t.val 95 % 12] :=
  (by decide +kernel : ∀ t : Fin grid0.N, win0_3.index t = ![0, 0, 24 + min t.val 95 % 12])
theorem idx_4 : ∀ t : Fin cfg0.N, win0_4.index t = ![(t.val - 1) % 12 / 4, 16 + (t.val - 1) / 12, 0] :=
  (by decide +kernel : ∀ t : Fin grid0.N, win0_4.index t = ![(t.val - 1) % 12 / 4, 16 + (t.val - 1) / 12, 0])
theorem idx_5 : ∀ t : Fin cfg0.N, win0_5.index t = ![(t.val - 1) / 12 / 4, 0, (t.val - 1) / 12 % 4, (t.val - 1) % 12] :=
  (by decide +kernel : ∀ t : Fin grid0.N, win0_5.index t = ![(t.val - 1) / 12 / 4, 0, (t.val - 1) / 12 % 4, (t.val - 1) % 12])

/-- The result is first written back after the second point. -/
theorem flush_pos : ∀ t : Fin cfg0.N, win0_5.flush t = true → 1 ≤ t.val :=
  (by decide +kernel : ∀ t : Fin grid0.N, win0_5.flush t = true → 1 ≤ t.val)

theorem rows_read (c : Dev nD) (t : Fin cfg0.N) (i : Fin 8) (hi : i.val = t.val / 12) :
    modulated (iblk m c 0 t) (iblk m c 1 t) (iblk m c 2 t) = rowsTile (arg0 m c) (arg1 m c) (arg2 m c) i := by
  have ht : t.val < 96 := by omega
  funext y
  rw [eq_ix2 y]
  unfold modulated rowsTile arg0 arg1 arg2
  congr 1
  · congr 1
    · blk_ext [iblk, V, idx_0 t]
    · congr 1
      blk_ext [iblk, V, idx_1 t]
  · blk_ext [iblk, V, idx_2 t]

theorem cols_read (c : Dev nD) (t : Fin cfg0.N) (ht : t.val < 96) :
    iblk m c 3 t = colsTile (arg3 m c) 2 ⟨t.val % 12, by omega⟩ := by
  funext y
  rw [eq_ix3 y]
  unfold colsTile arg3
  blk_ext [iblk, V, idx_3 t]

theorem tabs_read (c : Dev nD) (t : Fin cfg0.N) (ht : 1 ≤ t.val) (hN : t.val < 97) :
    iblk m c 4 t = tabsTile (arg4 m c) 2 ⟨(t.val - 1) / 12, by omega⟩ ⟨(t.val - 1) % 12 / 4, by omega⟩ := by
  funext y
  rw [eq_ix3 y]
  unfold tabsTile arg4
  blk_ext [iblk, V, idx_4 t]

/-- The rows a point keeps are its tile's. -/
theorem rows_kept (c : Dev nD) : ∀ (n : ℕ) (hn : n < 96) (hN : n < cfg0.N),
    (outsAt0 m c n hN).2.1 = rowsTile (arg0 m c) (arg1 m c) (arg2 m c) ⟨n / 12, by omega⟩ := by
  intro n
  induction n with
  | zero =>
    intro hn hN
    rw [rows_A m c ⟨0, hN⟩ rfl rfl rfl (fun h => absurd h (by decide : ¬0 % 2 = 1))]
    exact rows_read m c ⟨0, hN⟩ _ rfl
  | succ n ih =>
    intro hn hN
    have h97 : ¬(n + 1) % 97 = 0 := by omega
    by_cases h12 : (n + 1) % 12 = 0
    · rw [rows_D m c ⟨n + 1, hN⟩ h12 h97 (by show (n + 1) % 2 = 0; omega) (by show ¬(n + 1) % 2 = 1; omega)]
      exact rows_read m c ⟨n + 1, hN⟩ _ rfl
    · have hp : (before m c ⟨n + 1, hN⟩).2.1 = rowsTile (arg0 m c) (arg1 m c) (arg2 m c) ⟨(n + 1) / 12, by omega⟩ :=
        (ih (by omega) (by omega)).trans (congrArg _ (Fin.ext (by show n / 12 = (n + 1) / 12; omega)))
      by_cases h2 : (n + 1) % 2 = 0
      · rw [rows_C m c ⟨n + 1, hN⟩ h12 h97 h2 (by show ¬(n + 1) % 2 = 1; omega)]
        exact hp
      · rw [rows_B m c ⟨n + 1, hN⟩ h12 h97 h2 (by show (n + 1) % 2 = 1; omega)]
        exact hp

/-- The product a point leaves for the next, in the scratch of its parity. -/
theorem acc_even (c : Dev nD) (t : Fin cfg0.N) (ht : t.val < 96) (h2 : t.val % 2 = 0) :
    (outsAt0 m c t.val t.isLt).2.2.1 = product (rowsTile (arg0 m c) (arg1 m c) (arg2 m c) ⟨t.val / 12, by omega⟩)
      (colsTile (arg3 m c) 2 ⟨t.val % 12, by omega⟩) := by
  rw [← cols_read m c t ht, ← rows_kept m c t.val ht t.isLt]
  have h2' : ¬t.val % 2 = 1 := by omega
  by_cases h12 : t.val % 12 = 0
  · by_cases h97 : t.val % 97 = 0
    · rw [acc_A m c t h12 h97 h2 h2', rows_A m c t h12 h97 h2 h2']
    · rw [acc_D m c t h12 h97 h2 h2', rows_D m c t h12 h97 h2 h2']
  · have h97 : ¬t.val % 97 = 0 := by omega
    rw [acc_C m c t h12 h97 h2 h2', rows_C m c t h12 h97 h2 h2']

theorem acc_odd (c : Dev nD) (t : Fin cfg0.N) (ht : t.val < 96) (h2 : t.val % 2 = 1) :
    (outsAt0 m c t.val t.isLt).2.2.2 = product (rowsTile (arg0 m c) (arg1 m c) (arg2 m c) ⟨t.val / 12, by omega⟩)
      (colsTile (arg3 m c) 2 ⟨t.val % 12, by omega⟩) := by
  rw [← cols_read m c t ht, ← rows_kept m c t.val ht t.isLt]
  have h2' : ¬t.val % 2 = 0 := by omega
  have h12 : ¬t.val % 12 = 0 := by omega
  have h97 : ¬t.val % 97 = 0 := by omega
  rw [acc_B m c t h12 h97 h2' h2, rows_B m c t h12 h97 h2' h2]

/-- The block a point writes: the tile of the point before. -/
theorem out_tile (c : Dev nD) (t : Fin cfg0.N) (ht : 1 ≤ t.val) (hN : t.val < 97) :
    (outsAt0 m c t.val t.isLt).1 = tileBlock classes (arg0 m c) (arg1 m c) (arg2 m c) (arg3 m c) (arg4 m c) 2
      ⟨(t.val - 1) / 12, by omega⟩ ⟨(t.val - 1) % 12, by omega⟩ := by
  have h97 : ¬t.val % 97 = 0 := by omega
  unfold tileBlock
  by_cases h2 : t.val % 2 = 0
  · have h2' : ¬t.val % 2 = 1 := by omega
    have hp := acc_odd m c ⟨t.val - 1, by omega⟩ (by show t.val - 1 < 96; omega) (by show (t.val - 1) % 2 = 1; omega)
    by_cases h12 : t.val % 12 = 0
    · rw [out_D m c t h12 h97 h2 h2', tabs_read m c t ht hN]
      exact congrArg (fun A => turnedBlock classes A _) hp
    · rw [out_C m c t h12 h97 h2 h2', tabs_read m c t ht hN]
      exact congrArg (fun A => turnedBlock classes A _) hp
  · have hp := acc_even m c ⟨t.val - 1, by omega⟩ (by show t.val - 1 < 96; omega) (by show (t.val - 1) % 2 = 0; omega)
    rw [out_B m c t (by omega) h97 h2 (by omega), tabs_read m c t ht hN]
    exact congrArg (fun A => turnedBlock classes A _) hp

theorem four_tiles : 256 = 4 * 64 := by decide

/-- The result array. -/
theorem final (c : Dev nD) : (dats m 0 c).arrAt 5 cfg0.N =
    projArr classes four_tiles (arg0 m c) (arg1 m c) (arg2 m c) (arg3 m c) (arg4 m c) 2 := by
  refine (dats m 0 c).arrAt_eq_of_covers 5 _ (by decide +kernel) fun t hf y => ?_
  have hN : t.val < 97 := t.isLt
  have ht : 1 ≤ t.val := flush_pos t hf
  blk_simp
  rw [after0_5, out_tile m c t ht hN]
  obtain ⟨r, x, k, rfl⟩ := block_idx (D := 16) (R := 64) y
  have hy : (win0_5.blk t).view.emb (ix4 0 r x k : S1x16x64x512.Idx) =
      (ix4 (⟨(t.val - 1) / 12 / 4, by omega⟩ : Fin 2) r (⟨64 * ((t.val - 1) / 12 % 4) + x.val, by omega⟩ : Fin 256)
        (⟨512 * ((t.val - 1) % 12) + k.val, by omega⟩ : Fin 6144) : S2x16x256x6144.Idx) := by
    blk_ext [idx_5 t]
  rw [hy]
  exact (projArr_tile classes four_tiles _ _ _ _ _ 2 _ _ r x k _ _ _ rfl rfl rfl).symm

variable (ρ : Dev nD → PrngReg)

/-- The run: the result array ends as `final` names it, the arguments as they were. -/
theorem run : θ_run defs (onTc (τ := τ) (main (F := Ideal))) ⟨m, fun _ => 0, ρ⟩ fun r => ∀ c : Dev nD,
      r.2.mem ((c.tc : Thread nD τ).loc main_v0) = projArr classes four_tiles (arg0 m c) (arg1 m c) (arg2 m c) (arg3 m c) (arg4 m c) 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Qkv16Ideal.Hand
-- ==== Proof.Qkv16.Ref.lean ====
/- The projection's reference over rows dilated sixteen times, read at an index: one sum over the model's width per entry, turned. -/
module

public import proofs.«01_k».proof.Proof.Gen.QkvRef16Ideal.Read
public import proofs.«01_k».proof.Proof.Qkv.Proj
public import Idealize.ShloMosaic.Lib.KernelVsHost

@[expose] public section

set_option maxRecDepth 16384

noncomputable section

namespace Cert.QkvRef16Ideal.Hand

open Cert.Qkv Cert.QkvRef16Ideal Cert.QkvRef16Ideal.Gen Cert.QkvRef16Ideal.Read Idealize.ShloMosaic Idealize.ShloMosaic.TcCoe
variable (X : Rows) (C S : Mods) (W : Weights) (T : Tables)
variable (tok : Fin 8192) (a : Fin 3) (hd : Fin 16) (l : Fin 128)

theorem one_bits : FloatOps.ofBits (F := Ideal) .f32 0x3F800000#32 = (1 : EReal) := by pointwise

theorem rows_apply (k : Fin 2048) : val_main_v7 (F := Ideal) X C S (ix2 tok k) =
    X (ix2 tok k) * (1 + C (ix3 ⟨tok.val / 4096, by omega⟩ 0 k)) + S (ix3 ⟨tok.val / 4096, by omega⟩ 0 k) := by
  rw [val_main_v7_apply, val_main_v6_apply, val_main_v4_apply, val_main_v0_apply, val_main_v3_apply, val_main_v2_apply,
    val_main_v1_apply, val_main_cst_apply, val_main_v5_apply, one_bits]
  have e7 : idx_main_v7 (ix2 tok k) = ix3 ⟨tok.val / 4096, by omega⟩ ⟨tok.val % 4096, by omega⟩ k := by
    funext i
    refine Fin.ext ?_
    match i with
    | ⟨0, _⟩ => show (tok.val * 2048 + k.val) / 8388608 = tok.val / 4096; omega
    | ⟨1, _⟩ => show (tok.val * 2048 + k.val) / 2048 % 4096 = tok.val % 4096; omega
    | ⟨2, _⟩ => show (tok.val * 2048 + k.val) % 2048 = k.val; omega
  have e0 : idx_main_v0 (ix3 (⟨tok.val / 4096, by omega⟩ : Fin 2) (⟨tok.val % 4096, by omega⟩ : Fin 4096) k) = ix2 tok k := by
    funext i
    refine Fin.ext ?_
    match i with
    | ⟨0, _⟩ => show ((tok.val / 4096 * 4096 + tok.val % 4096) * 2048 + k.val) / 2048 = tok.val; omega
    | ⟨1, _⟩ => show ((tok.val / 4096 * 4096 + tok.val % 4096) * 2048 + k.val) % 2048 = k.val; omega
  rw [e7, e0]
  show X _ * (1 + C _) + S _ = _
  congr 1
  · refine congrArg (fun z => X (ix2 tok k) * (1 + C z)) ?_
    funext i; match i with | ⟨0, _⟩ => rfl | ⟨1, _⟩ => rfl | ⟨2, _⟩ => rfl
  · refine congrArg S ?_
    funext i; match i with | ⟨0, _⟩ => rfl | ⟨1, _⟩ => rfl | ⟨2, _⟩ => rfl

/-- A head's entries before they are turned. -/
def plain (b : Fin 2) (l : Fin 128) : EReal := ∑ k : Fin 2048, (X (ix2 tok k) * (1 + C (ix3 b 0 k)) + S (ix3 b 0 k)) *
  W (ix3 0 k ⟨6144 * (2 : Fin 3).val + 2048 * a.val + 128 * hd.val + l.val, by show 6144 * 2 + 2048 * a.val + 128 * hd.val + l.val < _; omega⟩)

theorem plain_apply : val_main_v11 (F := Ideal) X C S W (ix4 tok a hd l) = plain X C S W tok a hd ⟨tok.val / 4096, by omega⟩ l := by
  rw [val_main_v11_apply, val_main_v10_apply]
  unfold plain
  refine Finset.sum_congr rfl fun k _ => ?_
  have el : lidx_main_v10 (idx_main_v11 (ix4 tok a hd l)) k = ix2 tok k := by
    funext i
    refine Fin.ext ?_
    match i with
    | ⟨0, _⟩ => show (((tok.val * 3 + a.val) * 16 + hd.val) * 128 + l.val) / 6144 = tok.val; omega
    | ⟨1, _⟩ => rfl
  rw [el, rows_apply, val_main_v9_apply, val_main_v8_apply]
  congr 1
  refine congrArg W (funext fun i => Fin.ext ?_)
  match i with
  | ⟨0, _⟩ => rfl
  | ⟨1, _⟩ =>
    show (k.val * 18432 + (12288 + (((tok.val * 3 + a.val) * 16 + hd.val) * 128 + l.val) % 6144)) / 18432 % 2048 = k.val
    omega
  | ⟨2, _⟩ =>
    show (k.val * 18432 + (12288 + (((tok.val * 3 + a.val) * 16 + hd.val) * 128 + l.val) % 6144)) % 18432 = 6144 * 2 + 2048 * a.val + 128 * hd.val + l.val
    omega

/-- The entry 16 further, round the head. -/
theorem after_apply : val_main_v22 (F := Ideal) X C S W (ix4 tok a hd l) =
    val_main_v11 (F := Ideal) X C S W (ix4 tok a hd ⟨(l.val + 16) % 128, Nat.mod_lt _ (by decide)⟩) := by
  unfold val_main_v22 val_main_call0_v0 val_main_call0_v1
  generalize val_main_v11 (F := Ideal) X C S W = v
  pointwise
  split
  all_goals
    refine congrArg (fun i => v (ix4 tok a hd i)) (Fin.ext ?_)
    dsimp only
    omega

/-- The entry 16 before, round the head. -/
theorem before_apply : val_main_v28 (F := Ideal) X C S W (ix4 tok a hd l) =
    val_main_v11 (F := Ideal) X C S W (ix4 tok a hd ⟨(l.val + 112) % 128, Nat.mod_lt _ (by decide)⟩) := by
  unfold val_main_v28 val_main_call1_v0 val_main_call1_v1
  generalize val_main_v11 (F := Ideal) X C S W = v
  pointwise
  split
  all_goals
    refine congrArg (fun i => v (ix4 tok a hd i)) (Fin.ext ?_)
    dsimp only
    omega

/-- Where the tables keep the coefficients of row `tok`. -/
abbrev place : Fin 24576 := ⟨16384 + 1024 * (tok.val / 1024) + 64 * (tok.val % 16) + tok.val % 1024 / 16, by omega⟩

theorem tab_apply (u : Fin 3) : val_main_v16 (F := Ideal) T (ix4 tok a u l) =
    T (ix3 ⟨3 * a.val + u.val, by omega⟩ (place tok) l) := by
  have e : idx_main_v14 (idx_main_v15 (idx_main_v16 (ix4 tok a u l))) =
      ix4 ⟨8 * (3 * a.val + u.val) + tok.val / 1024, by omega⟩ ⟨tok.val % 16, by omega⟩ ⟨tok.val % 1024 / 16, by omega⟩ l := by
    funext i
    refine Fin.ext ?_
    match i with
    | ⟨0, _⟩ => show (((a.val * 3 + u.val) * 8192 + tok.val) * 128 + l.val) / 131072 = 8 * (3 * a.val + u.val) + tok.val / 1024; omega
    | ⟨1, _⟩ => show (((a.val * 3 + u.val) * 8192 + tok.val) * 128 + l.val) / 128 % 16 = tok.val % 16; omega
    | ⟨2, _⟩ => show (((a.val * 3 + u.val) * 8192 + tok.val) * 128 + l.val) / 2048 % 64 = tok.val % 1024 / 16; omega
    | ⟨3, _⟩ => show (((a.val * 3 + u.val) * 8192 + tok.val) * 128 + l.val) % 128 = l.val; omega
  rw [val_main_v16_apply, val_main_v15_apply, val_main_v14_apply, val_main_v13_apply, val_main_v12_apply, e]
  refine congrArg T (funext fun i => Fin.ext ?_)
  match i with
  | ⟨0, _⟩ =>
    show ((((8 * (3 * a.val + u.val) + tok.val / 1024) * 16 + tok.val % 16) * 64 + tok.val % 1024 / 16) * 128 + l.val) / 1048576 = 3 * a.val + u.val
    omega
  | ⟨1, _⟩ =>
    show 16384 + ((((8 * (3 * a.val + u.val) + tok.val / 1024) * 16 + tok.val % 16) * 64 + tok.val % 1024 / 16) * 128 + l.val) / 128 % 8192 =
      16384 + 1024 * (tok.val / 1024) + 64 * (tok.val % 16) + tok.val % 1024 / 16
    omega
  | ⟨2, _⟩ =>
    show ((((8 * (3 * a.val + u.val) + tok.val / 1024) * 16 + tok.val % 16) * 64 + tok.val % 1024 / 16) * 128 + l.val) % 128 = l.val
    omega

theorem coef_0 : val_main_v20 (F := Ideal) T (ix4 tok a hd l) = T (ix3 ⟨3 * a.val, by omega⟩ (place tok) l) := by
  rw [val_main_v20_apply, val_main_v19_apply, val_main_v18_apply, val_main_v17_apply]
  refine Eq.trans (congrArg _ (funext fun i => Fin.ext ?_)) (tab_apply T tok a l 0)
  match i with
  | ⟨0, _⟩ => simp [ix4]; omega
  | ⟨1, _⟩ => simp [ix4]; omega
  | ⟨2, _⟩ => rfl
  | ⟨3, _⟩ => simp [ix4]

theorem coef_1 : val_main_v25 (F := Ideal) T (ix4 tok a hd l) = T (ix3 ⟨3 * a.val + 1, by omega⟩ (place tok) l) := by
  rw [val_main_v25_apply, val_main_v24_apply, val_main_v23_apply, val_main_v17_apply]
  refine Eq.trans (congrArg _ (funext fun i => Fin.ext ?_)) (tab_apply T tok a l 1)
  match i with
  | ⟨0, _⟩ => simp [ix4]; omega
  | ⟨1, _⟩ => simp [ix4]; omega
  | ⟨2, _⟩ => rfl
  | ⟨3, _⟩ => simp [ix4]

theorem coef_2 : val_main_v31 (F := Ideal) T (ix4 tok a hd l) = T (ix3 ⟨3 * a.val + 2, by omega⟩ (place tok) l) := by
  rw [val_main_v31_apply, val_main_v30_apply, val_main_v29_apply, val_main_v17_apply]
  refine Eq.trans (congrArg _ (funext fun i => Fin.ext ?_)) (tab_apply T tok a l 2)
  match i with
  | ⟨0, _⟩ => simp [ix4]; omega
  | ⟨1, _⟩ => simp [ix4]; omega
  | ⟨2, _⟩ => rfl
  | ⟨3, _⟩ => simp [ix4]

/-- The reference's result. -/
theorem result {h : 16 * 64 = 1024} {hL : 256 = 4 * 64} : val_main_v36 (F := Ideal) X C S W T = projArr h hL X C S W T 2 := by
  funext y
  obtain ⟨b, r, q, col, rfl⟩ : ∃ (b : Fin 2) (r : Fin 16) (q : Fin 256) (col : Fin 6144), y = ix4 b r q col :=
    ⟨y 0, y 1, y 2, y 3, eq_ix4 y⟩
  show _ = projEntry h hL X C S W T 2 b r q col
  have ey : idx_main_v35 (idx_main_v36 (ix4 b r q col)) = ix4 ⟨4096 * b.val + 16 * q.val + r.val, by omega⟩ ⟨col.val / 2048, by omega⟩
      ⟨col.val / 128 % 16, by omega⟩ ⟨col.val % 128, by omega⟩ := by
    funext i
    refine Fin.ext ?_
    match i with
    | ⟨0, _⟩ => show (((b.val * 256 + q.val) * 16 + r.val) * 6144 + col.val) / 6144 = 4096 * b.val + 16 * q.val + r.val; omega
    | ⟨1, _⟩ => show (((b.val * 256 + q.val) * 16 + r.val) * 6144 + col.val) / 2048 % 3 = col.val / 2048; omega
    | ⟨2, _⟩ => show (((b.val * 256 + q.val) * 16 + r.val) * 6144 + col.val) / 128 % 16 = col.val / 128 % 16; omega
    | ⟨3, _⟩ => show (((b.val * 256 + q.val) * 16 + r.val) * 6144 + col.val) % 128 = col.val % 128; omega
  rw [projEntry_eq h hL X C S W T 2 b r q col ⟨4096 * b.val + 16 * q.val + r.val, by omega⟩ ⟨col.val / 2048, by omega⟩
      ⟨col.val / 128 % 16, by omega⟩ ⟨col.val % 128, by omega⟩ (place ⟨4096 * b.val + 16 * q.val + r.val, by omega⟩)
      rfl (by show col.val = 2048 * (col.val / 2048) + 128 * (col.val / 128 % 16) + col.val % 128; omega)
      (by
        show 16384 + 1024 * ((4096 * b.val + 16 * q.val + r.val) / 1024) + 64 * ((4096 * b.val + 16 * q.val + r.val) % 16) +
          (4096 * b.val + 16 * q.val + r.val) % 1024 / 16 = 8192 * 2 + 1024 * (4 * b.val + q.val / 64) + 64 * r.val + q.val % 64
        omega),
    val_main_v36_apply, val_main_v35_apply, ey, val_main_v34_apply, val_main_v33_apply, val_main_v27_apply, val_main_v21_apply,
    val_main_v26_apply, val_main_v32_apply, after_apply, before_apply, plain_apply, plain_apply, plain_apply, coef_0, coef_1, coef_2]
  have eb : (⟨(4096 * b.val + 16 * q.val + r.val) / 4096, by omega⟩ : Fin 2) = b :=
    Fin.ext (by show (4096 * b.val + 16 * q.val + r.val) / 4096 = b.val; omega)
  dsimp only
  rw [eb]
  rfl

end Cert.QkvRef16Ideal.Hand
-- ==== Proof.Qkv16.Alg.lean ====
/- The projection over rows dilated sixteen times is its reference. -/
module

public import proofs.«01_k».proof.Proof.Qkv16.Arr
public import proofs.«01_k».proof.Proof.Qkv16.Ref
public import proofs.«01_k».proof.Defs

@[expose] public section

set_option maxRecDepth 16384

noncomputable section

namespace Cert.Qkv

open Idealize.ShloMosaic Idealize.ShloMosaic.TcCoe Idealize.SL.Sem

/-- From memories that agree on the arguments the kernel and the reference end with the same result. -/
theorem algebraic16 : Cert.algebraic_Qkv16Ideal_QkvRef16Ideal := by
  intro m g m' g' _ hagree
  refine ⟨fun c => projArr Cert.Qkv16Ideal.Hand.classes Cert.Qkv16Ideal.Hand.four_tiles (Cert.Qkv16Ideal.Hand.arg0 m c)
    (Cert.Qkv16Ideal.Hand.arg1 m c) (Cert.Qkv16Ideal.Hand.arg2 m c) (Cert.Qkv16Ideal.Hand.arg3 m c) (Cert.Qkv16Ideal.Hand.arg4 m c) 2, ?_, ?_⟩
  · exact Cert.Qkv16Ideal.Hand.run m g
  · refine (θ_run _ _ _).mono (fun r h c => ?_) (Cert.QkvRef16Ideal.Value.run m' g')
    refine ⟨(h c).1.trans ?_, (h c).2⟩
    rw [Cert.QkvRef16Ideal.Read.val_main_v36_eq, (hagree c).1, (hagree c).2.1, (hagree c).2.2.1, (hagree c).2.2.2.1, (hagree c).2.2.2.2]
    exact Cert.QkvRef16Ideal.Hand.result _ _ _ _ _

end Cert.Qkv
-- ==== Proof.lean ====
module

public import proofs.«01_k».proof.Defs
public import proofs.«01_k».proof.Proof.Gen.Attn1
public import proofs.«01_k».proof.Proof.Gen.Attn1.Skeleton
public import proofs.«01_k».proof.Proof.Gen.Attn1.Launch
public import proofs.«01_k».proof.Proof.Gen.Attn1.Points
public import proofs.«01_k».proof.Proof.Gen.Attn1.Frame
public import proofs.«01_k».proof.Proof.Gen.Attn1Ideal
public import proofs.«01_k».proof.Proof.Gen.Attn1Ideal.Skeleton
public import proofs.«01_k».proof.Proof.Gen.Attn1Ideal.Launch
public import proofs.«01_k».proof.Proof.Gen.Attn1Ideal.Points
public import proofs.«01_k».proof.Proof.Gen.Attn1Ideal.Frame
public import proofs.«01_k».proof.Proof.Gen.AttnRef1Ideal
public import proofs.«01_k».proof.Proof.Gen.AttnRef1Ideal.Run
public import proofs.«01_k».proof.Proof.Gen.AttnRef1Ideal.Read
public import proofs.«01_k».proof.Proof.Gen.Attn1Ideal.Value
public import proofs.«01_k».proof.Proof.Gen.Qkv1
public import proofs.«01_k».proof.Proof.Gen.Qkv1.Skeleton
public import proofs.«01_k».proof.Proof.Gen.Qkv1.Launch
public import proofs.«01_k».proof.Proof.Gen.Qkv1.Points
public import proofs.«01_k».proof.Proof.Gen.Qkv1.Frame
public import proofs.«01_k».proof.Proof.Gen.Qkv1Ideal
public import proofs.«01_k».proof.Proof.Gen.Qkv1Ideal.Skeleton
public import proofs.«01_k».proof.Proof.Gen.Qkv1Ideal.Launch
public import proofs.«01_k».proof.Proof.Gen.Qkv1Ideal.Points
public import proofs.«01_k».proof.Proof.Gen.Qkv1Ideal.Frame
public import proofs.«01_k».proof.Proof.Gen.QkvRef1Ideal
public import proofs.«01_k».proof.Proof.Gen.QkvRef1Ideal.Run
public import proofs.«01_k».proof.Proof.Gen.QkvRef1Ideal.Read
public import proofs.«01_k».proof.Proof.Gen.Qkv1Ideal.Value
public import proofs.«01_k».proof.Proof.Gen.Qkv4
public import proofs.«01_k».proof.Proof.Gen.Qkv4.Skeleton
public import proofs.«01_k».proof.Proof.Gen.Qkv4.Launch
public import proofs.«01_k».proof.Proof.Gen.Qkv4.Points
public import proofs.«01_k».proof.Proof.Gen.Qkv4Ideal
public import proofs.«01_k».proof.Proof.Gen.Qkv4Ideal.Skeleton
public import proofs.«01_k».proof.Proof.Gen.Qkv4Ideal.Launch
public import proofs.«01_k».proof.Proof.Gen.Qkv4Ideal.Points
public import proofs.«01_k».proof.Proof.Gen.Qkv16
public import proofs.«01_k».proof.Proof.Gen.Qkv16.Skeleton
public import proofs.«01_k».proof.Proof.Gen.Qkv16.Launch
public import proofs.«01_k».proof.Proof.Gen.Qkv16.Points
public import proofs.«01_k».proof.Proof.Gen.Qkv16Ideal
public import proofs.«01_k».proof.Proof.Gen.Qkv16Ideal.Skeleton
public import proofs.«01_k».proof.Proof.Gen.Qkv16Ideal.Launch
public import proofs.«01_k».proof.Proof.Gen.Qkv16Ideal.Points
public import proofs.«01_k».proof.Proof.Gen.QkvRef4Ideal
public import proofs.«01_k».proof.Proof.Gen.QkvRef4Ideal.Run
public import proofs.«01_k».proof.Proof.Gen.QkvRef4Ideal.Read
public import proofs.«01_k».proof.Proof.Gen.QkvRef16Ideal
public import proofs.«01_k».proof.Proof.Gen.QkvRef16Ideal.Run
public import proofs.«01_k».proof.Proof.Gen.QkvRef16Ideal.Read
public import proofs.«01_k».proof.Proof.Gen.Attn4
public import proofs.«01_k».proof.Proof.Gen.Attn4Ideal
public import proofs.«01_k».proof.Proof.Gen.Attn4.Skeleton
public import proofs.«01_k».proof.Proof.Gen.Attn4Ideal.Skeleton
public import proofs.«01_k».proof.Proof.Gen.Attn4.Launch
public import proofs.«01_k».proof.Proof.Gen.Attn4Ideal.Launch
public import proofs.«01_k».proof.Proof.Gen.Attn4.Points
public import proofs.«01_k».proof.Proof.Gen.Attn4Ideal.Points
public import proofs.«01_k».proof.Proof.Gen.Attn4.Frame
public import proofs.«01_k».proof.Proof.Gen.Attn4Ideal.Frame
public import proofs.«01_k».proof.Proof.Gen.Attn4Ideal.Value
public import proofs.«01_k».proof.Proof.Gen.Attn16
public import proofs.«01_k».proof.Proof.Gen.Attn16Ideal
public import proofs.«01_k».proof.Proof.Gen.Attn16.Skeleton
public import proofs.«01_k».proof.Proof.Gen.Attn16Ideal.Skeleton
public import proofs.«01_k».proof.Proof.Gen.Attn16.Launch
public import proofs.«01_k».proof.Proof.Gen.Attn16Ideal.Launch
public import proofs.«01_k».proof.Proof.Gen.Attn16.Points
public import proofs.«01_k».proof.Proof.Gen.Attn16Ideal.Points
public import proofs.«01_k».proof.Proof.Gen.Attn16.Frame
public import proofs.«01_k».proof.Proof.Gen.Attn16Ideal.Frame
public import proofs.«01_k».proof.Proof.Gen.Attn16Ideal.Value
public import proofs.«01_k».proof.Proof.Gen.Fnet
public import proofs.«01_k».proof.Proof.Gen.FnetIdeal
public import proofs.«01_k».proof.Proof.Gen.Fnet.Skeleton
public import proofs.«01_k».proof.Proof.Gen.FnetIdeal.Skeleton
public import proofs.«01_k».proof.Proof.Gen.Fnet.Launch
public import proofs.«01_k».proof.Proof.Gen.FnetIdeal.Launch
public import proofs.«01_k».proof.Proof.Gen.Fnet.Points
public import proofs.«01_k».proof.Proof.Gen.FnetIdeal.Points
public import proofs.«01_k».proof.Proof.Gen.Fnet.Frame
public import proofs.«01_k».proof.Proof.Gen.FnetIdeal.Frame
public import proofs.«01_k».proof.Proof.Gen.FnetIdeal.Value
public import proofs.«01_k».proof.Proof.Gen.AttnRef4Ideal
public import proofs.«01_k».proof.Proof.Gen.AttnRef4Ideal.Run
public import proofs.«01_k».proof.Proof.Gen.AttnRef4Ideal.Read
public import proofs.«01_k».proof.Proof.Gen.AttnRef16Ideal
public import proofs.«01_k».proof.Proof.Gen.AttnRef16Ideal.Run
public import proofs.«01_k».proof.Proof.Gen.AttnRef16Ideal.Read
public import proofs.«01_k».proof.Proof.Gen.FnetRefIdeal
public import proofs.«01_k».proof.Proof.Gen.FnetRefIdeal.Run
public import proofs.«01_k».proof.Proof.Gen.FnetRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeRefIdeal
public import proofs.«01_k».proof.Proof.Gen.MergeRefIdeal.Run
public import proofs.«01_k».proof.Proof.Gen.MergeRefIdeal.Read
public import proofs.«01_k».proof.Proof.Attn.Alg1
public import proofs.«01_k».proof.Proof.Attn.Alg4
public import proofs.«01_k».proof.Proof.Attn.Alg16
public import proofs.«01_k».proof.Proof.Fnet.Alg
public import proofs.«01_k».proof.Proof.Proj.Frame
public import proofs.«01_k».proof.Proof.Proj.FrameIdeal
public import proofs.«01_k».proof.Proof.Proj.Alg
public import proofs.«01_k».proof.Proof.Merge.Frame
public import proofs.«01_k».proof.Proof.Merge.Alg
public import proofs.«01_k».proof.Proof.Gen.Pre_lse_finite
public import proofs.«01_k».proof.Proof.Qkv.Alg1
public import proofs.«01_k».proof.Proof.Qkv4.Same
public import proofs.«01_k».proof.Proof.Qkv4.Alg
public import proofs.«01_k».proof.Proof.Qkv16.Same
public import proofs.«01_k».proof.Proof.Qkv16.Alg
public import Idealize.ShloMosaic.Adequacy
public import Idealize.ShloMosaic.Init

@[expose] public section

noncomputable section

namespace Cert.Proof

open Idealize.ShloMosaic Idealize.SL.Sem Cert.Attn1

theorem claim : Cert.Claim := ⟨Cert.Attn1.Gen.facts, Cert.Attn1Ideal.Gen.facts, Cert.AttnRef1Ideal.Gen.facts, Cert.Qkv1.Gen.facts, Cert.Qkv1Ideal.Gen.facts, Cert.QkvRef1Ideal.Gen.facts, Cert.Qkv4.Gen.facts, Cert.Qkv4Ideal.Gen.facts, Cert.QkvRef4Ideal.Gen.facts, Cert.Qkv16.Gen.facts, Cert.Qkv16Ideal.Gen.facts, Cert.QkvRef16Ideal.Gen.facts, Cert.Attn4.Gen.facts, Cert.Attn4Ideal.Gen.facts, Cert.AttnRef4Ideal.Gen.facts, Cert.Attn16.Gen.facts, Cert.Attn16Ideal.Gen.facts, Cert.AttnRef16Ideal.Gen.facts, Cert.Fnet.Gen.facts, Cert.FnetIdeal.Gen.facts, Cert.FnetRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Pre_lse_finite.Gen.facts,
  fun m g _ => Cert.Attn1.Gen.frame m g, fun m g _ => Cert.Attn1Ideal.Gen.frame m g,
  fun m g _ => (θ_run Cert.AttnRef1Ideal.defs _ _).mono
    (fun r h => ⟨fun c => (h c).2.2, Idealize.ShloMosaic.sem_eq_zero_of_no_sems (by decide) r.2⟩)
    (Cert.AttnRef1Ideal.Value.run (F := Ideal) m g),
  fun m g _ => Cert.Qkv1.Gen.frame m g, fun m g _ => Cert.Qkv1Ideal.Gen.frame m g,
  fun m g _ => (θ_run Cert.QkvRef1Ideal.defs _ _).mono
    (fun r h => ⟨fun c => (h c).2, Idealize.ShloMosaic.sem_eq_zero_of_no_sems (by decide) r.2⟩)
    (Cert.QkvRef1Ideal.Value.run (F := Ideal) m g),
  Cert.Qkv4.Hand.frame, fun m g _ => Cert.Qkv4Ideal.Gen.frame m g,
  fun m g _ => (θ_run Cert.QkvRef4Ideal.defs _ _).mono
    (fun r h => ⟨fun c => (h c).2, Idealize.ShloMosaic.sem_eq_zero_of_no_sems (by decide) r.2⟩)
    (Cert.QkvRef4Ideal.Value.run (F := Ideal) m g),
  Cert.Qkv16.Hand.frame, fun m g _ => Cert.Qkv16Ideal.Gen.frame m g,
  fun m g _ => (θ_run Cert.QkvRef16Ideal.defs _ _).mono
    (fun r h => ⟨fun c => (h c).2, Idealize.ShloMosaic.sem_eq_zero_of_no_sems (by decide) r.2⟩)
    (Cert.QkvRef16Ideal.Value.run (F := Ideal) m g),
  fun m g _ => Cert.Attn4.Gen.frame m g, fun m g _ => Cert.Attn4Ideal.Gen.frame m g,
  fun m g _ => (θ_run Cert.AttnRef4Ideal.defs _ _).mono
    (fun r h => ⟨fun c => (h c).2.2, Idealize.ShloMosaic.sem_eq_zero_of_no_sems (by decide) r.2⟩)
    (Cert.AttnRef4Ideal.Value.run (F := Ideal) m g),
  fun m g _ => Cert.Attn16.Gen.frame m g, fun m g _ => Cert.Attn16Ideal.Gen.frame m g,
  fun m g _ => (θ_run Cert.AttnRef16Ideal.defs _ _).mono
    (fun r h => ⟨fun c => (h c).2.2, Idealize.ShloMosaic.sem_eq_zero_of_no_sems (by decide) r.2⟩)
    (Cert.AttnRef16Ideal.Value.run (F := Ideal) m g),
  fun m g _ => Cert.Fnet.Gen.frame m g, fun m g _ => Cert.FnetIdeal.Gen.frame m g,
  fun m g _ => (θ_run Cert.FnetRefIdeal.defs _ _).mono
    (fun r h => ⟨fun c => (h c).2, Idealize.ShloMosaic.sem_eq_zero_of_no_sems (by decide) r.2⟩)
    (Cert.FnetRefIdeal.Value.run (F := Ideal) m g),
  fun m g _ => Cert.Proj.Hand.frame m g, fun m g _ => Cert.ProjIdeal.Hand.frame m g,
  fun m g _ => (θ_run Cert.ProjRefIdeal.defs _ _).mono
    (fun r h => ⟨fun c => (h c).2, Idealize.ShloMosaic.sem_eq_zero_of_no_sems (by decide) r.2⟩)
    (Cert.ProjRefIdeal.Value.run (F := Ideal) m g),
  fun m g _ => Cert.Merge.Hand.frame m g, fun m g _ => Cert.MergeIdeal.Hand.frame m g, fun m g _ => Cert.MergeIdeal.Hand.frame m g,
  fun m g _ => (θ_run Cert.MergeRefIdeal.defs _ _).mono
    (fun r h => ⟨fun c => (h c).2, Idealize.ShloMosaic.sem_eq_zero_of_no_sems (by decide) r.2⟩)
    (Cert.MergeRefIdeal.Value.run (F := Ideal) m g),
  fun m g _ => (θ_run Cert.MergeRefIdeal.defs _ _).mono
    (fun r h => ⟨fun c => (h c).2, Idealize.ShloMosaic.sem_eq_zero_of_no_sems (by decide) r.2⟩)
    (Cert.MergeRefIdeal.Value.run (F := Ideal) m g),
  IdealRules.named_const.statement _ _ _ _ _ rfl,
  Cert.Attn.algebraic1,
  trivial,
  Cert.Qkv.algebraic1,
  trivial,
  Cert.Qkv.algebraic4,
  trivial,
  Cert.Qkv.algebraic16,
  IdealRules.named_const.statement _ _ _ _ _ rfl,
  Cert.Attn.algebraic4,
  IdealRules.named_const.statement _ _ _ _ _ rfl,
  Cert.Attn.algebraic16,
  trivial,
  Cert.Fnet.Hand.algebraic,
  Cert.Proj.Value.preserves,
  Cert.Proj.Value.algebraic,
  Cert.Merge.Value.preserves,
  Cert.Merge.Value.algebraic⟩

end Cert.Proof

end
